-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite4 [hPre_finite4 : Cert.Pre_finite4.Facts] (m : (ℓ : Loc Cert.KernelIdeal.nD Cert.KernelIdeal.τ Cert.KernelIdeal.sig) → Buf (Elt Ideal) ℓ) : Prop :=
  ∀ c : Dev Cert.KernelIdeal.nD,
    (Cert.Pre_finite4.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite4.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite4.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite4.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite4 [hPre_finite4 : Cert.Pre_finite4.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite4.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite4.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite4.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite4.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite4 [hPre_finite4 : Cert.Pre_finite4.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite4.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite4.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite4.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite4.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite4 [hPre_finite4 : Cert.Pre_finite4.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite4.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite4.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite4.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite4.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite4 [hKernelIdeal : Cert.KernelIdeal.Facts] [hPre_finite4 : Cert.Pre_finite4.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite4 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite4 [hReferenceIdeal : Cert.ReferenceIdeal.Facts] [hPre_finite4 : Cert.Pre_finite4.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite4 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite4 [hKernel2Ideal : Cert.Kernel2Ideal.Facts] [hPre_finite4 : Cert.Pre_finite4.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite4 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite4 [hReference2Ideal : Cert.Reference2Ideal.Facts] [hPre_finite4 : Cert.Pre_finite4.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite4 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2)
      ∧ r.2.mem ((c.tc : Thread Cert.Kernel42.nD Cert.Kernel42.τ).loc Cert.Kernel42.main_arg3) = m ((c.tc : Thread Cert.Kernel42.nD Cert.Kernel42.τ).loc Cert.Kernel42.main_arg3)
      ∧ r.2.mem ((c.tc : Thread Cert.Kernel42.nD Cert.Kernel42.τ).loc Cert.Kernel42.main_arg4) = m ((c.tc : Thread Cert.Kernel42.nD Cert.Kernel42.τ).loc Cert.Kernel42.main_arg4))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
      ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3)
      ∧ r.2.mem ((c.tc : Thread Cert.Kernel42Ideal.nD Cert.Kernel42Ideal.τ).loc Cert.Kernel42Ideal.main_arg4) = m ((c.tc : Thread Cert.Kernel42Ideal.nD Cert.Kernel42Ideal.τ).loc Cert.Kernel42Ideal.main_arg4))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2)
      ∧ r.2.mem ((c.tc : Thread Cert.Reference42Ideal.nD Cert.Reference42Ideal.τ).loc Cert.Reference42Ideal.main_arg3) = m ((c.tc : Thread Cert.Reference42Ideal.nD Cert.Reference42Ideal.τ).loc Cert.Reference42Ideal.main_arg3)
      ∧ r.2.mem ((c.tc : Thread Cert.Reference42Ideal.nD Cert.Reference42Ideal.τ).loc Cert.Reference42Ideal.main_arg4) = m ((c.tc : Thread Cert.Reference42Ideal.nD Cert.Reference42Ideal.τ).loc Cert.Reference42Ideal.main_arg4))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1)
      ∧ r.2.mem ((c.tc : Thread Cert.Kernel44.nD Cert.Kernel44.τ).loc Cert.Kernel44.main_arg2) = m ((c.tc : Thread Cert.Kernel44.nD Cert.Kernel44.τ).loc Cert.Kernel44.main_arg2)
      ∧ r.2.mem ((c.tc : Thread Cert.Kernel44.nD Cert.Kernel44.τ).loc Cert.Kernel44.main_arg3) = m ((c.tc : Thread Cert.Kernel44.nD Cert.Kernel44.τ).loc Cert.Kernel44.main_arg3))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
      ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
      ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1)
      ∧ r.2.mem ((c.tc : Thread Cert.Reference44Ideal.nD Cert.Reference44Ideal.τ).loc Cert.Reference44Ideal.main_arg2) = m ((c.tc : Thread Cert.Reference44Ideal.nD Cert.Reference44Ideal.τ).loc Cert.Reference44Ideal.main_arg2)
      ∧ r.2.mem ((c.tc : Thread Cert.Reference44Ideal.nD Cert.Reference44Ideal.τ).loc Cert.Reference44Ideal.main_arg3) = m ((c.tc : Thread Cert.Reference44Ideal.nD Cert.Reference44Ideal.τ).loc Cert.Reference44Ideal.main_arg3))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1)
      ∧ r.2.mem ((c.tc : Thread Cert.Kernel45.nD Cert.Kernel45.τ).loc Cert.Kernel45.main_arg2) = m ((c.tc : Thread Cert.Kernel45.nD Cert.Kernel45.τ).loc Cert.Kernel45.main_arg2))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
      ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1)
      ∧ r.2.mem ((c.tc : Thread Cert.Reference45Ideal.nD Cert.Reference45Ideal.τ).loc Cert.Reference45Ideal.main_arg2) = m ((c.tc : Thread Cert.Reference45Ideal.nD Cert.Reference45Ideal.τ).loc Cert.Reference45Ideal.main_arg2))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite4 [hKernelIdeal : Cert.KernelIdeal.Facts] [hReferenceIdeal : Cert.ReferenceIdeal.Facts] [hPre_finite4 : Cert.Pre_finite4.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite4 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "scale_log2e" .f32 0x3DD53B95#32 (((Real.sqrt 192)⁻¹ * (Real.log 2)⁻¹ : ℝ) : EReal)
  ∧ IdealRules.named_const.Statement Cert.Kernel2Ideal.κ "ln2" .f32 0x3F317218#32 ((Real.log 2 : ℝ) : EReal)

def algebraic_Kernel2Ideal_Reference2Ideal_pre_finite4 [hKernel2Ideal : Cert.Kernel2Ideal.Facts] [hReference2Ideal : Cert.Reference2Ideal.Facts] [hPre_finite4 : Cert.Pre_finite4.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite4 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v53_0)) (v1 : (c : Dev Cert.Kernel2Ideal.nD) → Buf (Elt Ideal) ((c.tc : Thread Cert.Kernel2Ideal.nD Cert.Kernel2Ideal.τ).loc Cert.Kernel2Ideal.main_v53_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v53_0) = v0 c
          ∧ r.2.mem ((c.tc : Thread Cert.Kernel2Ideal.nD Cert.Kernel2Ideal.τ).loc Cert.Kernel2Ideal.main_v53_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_v73) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "scale_log2e" .f32 0x3DD53B95#32 (((Real.sqrt 192)⁻¹ * (Real.log 2)⁻¹ : ℝ) : EReal)
  ∧ IdealRules.named_const.Statement Cert.Kernel3Ideal.κ "log2e" .f32 0x3FB8AA3B#32 (((Real.log 2)⁻¹ : ℝ) : EReal)

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v77) = v0 c
          ∧ r.2.mem ((c.tc : Thread Cert.Reference25Ideal.nD Cert.Reference25Ideal.τ).loc Cert.Reference25Ideal.main_v72) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v29) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v5) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v4) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v2) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v5) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v4) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v2) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v2) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v7) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v8) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v2) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v3) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)) →
    ∃ (v0 : (c : Dev Cert.Kernel36Ideal.nD) → Buf (Elt Ideal) ((c.tc : Thread Cert.Kernel36Ideal.nD Cert.Kernel36Ideal.τ).loc Cert.Kernel36Ideal.main_v2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v2) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v7) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v8) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v2) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v3) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v7) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)) →
    ∃ (v0 : (c : Dev Cert.Kernel40Ideal.nD) → Buf (Elt Ideal) ((c.tc : Thread Cert.Kernel40Ideal.nD Cert.Kernel40Ideal.τ).loc Cert.Kernel40Ideal.main_v2)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v2) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v2) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)) →
    ∃ (v0 : (c : Dev Cert.Kernel41Ideal.nD) → Buf (Elt Ideal) ((c.tc : Thread Cert.Kernel41Ideal.nD Cert.Kernel41Ideal.τ).loc Cert.Kernel41Ideal.main_v1_0)) (v1 : (c : Dev Cert.Kernel41Ideal.nD) → Buf (Elt Ideal) ((c.tc : Thread Cert.Kernel41Ideal.nD Cert.Kernel41Ideal.τ).loc Cert.Kernel41Ideal.main_v1_1)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v1_0) = v0 c
          ∧ r.2.mem ((c.tc : Thread Cert.Kernel41Ideal.nD Cert.Kernel41Ideal.τ).loc Cert.Kernel41Ideal.main_v1_1) = v1 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v36) = v0 c
          ∧ r.2.mem ((c.tc : Thread Cert.Reference41Ideal.nD Cert.Reference41Ideal.τ).loc Cert.Reference41Ideal.main_v37) = v1 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)
      ∧ m' ((c.tc : Thread Cert.Reference42Ideal.nD Cert.Reference42Ideal.τ).loc Cert.Reference42Ideal.main_arg3) = m ((c.tc : Thread Cert.Kernel42Ideal.nD Cert.Kernel42Ideal.τ).loc Cert.Kernel42Ideal.main_arg3)
      ∧ m' ((c.tc : Thread Cert.Reference42Ideal.nD Cert.Reference42Ideal.τ).loc Cert.Reference42Ideal.main_arg4) = m ((c.tc : Thread Cert.Kernel42Ideal.nD Cert.Kernel42Ideal.τ).loc Cert.Kernel42Ideal.main_arg4)) →
    ∃ (v0 : (c : Dev Cert.Kernel42Ideal.nD) → Buf (Elt Ideal) ((c.tc : Thread Cert.Kernel42Ideal.nD Cert.Kernel42Ideal.τ).loc Cert.Kernel42Ideal.main_v0_0)) (v1 : (c : Dev Cert.Kernel42Ideal.nD) → Buf (Elt Ideal) ((c.tc : Thread Cert.Kernel42Ideal.nD Cert.Kernel42Ideal.τ).loc Cert.Kernel42Ideal.main_v0_1)) (v2 : (c : Dev Cert.Kernel42Ideal.nD) → Buf (Elt Ideal) ((c.tc : Thread Cert.Kernel42Ideal.nD Cert.Kernel42Ideal.τ).loc Cert.Kernel42Ideal.main_v0_2)) (v3 : (c : Dev Cert.Kernel42Ideal.nD) → Buf (Elt Ideal) ((c.tc : Thread Cert.Kernel42Ideal.nD Cert.Kernel42Ideal.τ).loc Cert.Kernel42Ideal.main_v0_3)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0_0) = v0 c
          ∧ r.2.mem ((c.tc : Thread Cert.Kernel42Ideal.nD Cert.Kernel42Ideal.τ).loc Cert.Kernel42Ideal.main_v0_1) = v1 c
          ∧ r.2.mem ((c.tc : Thread Cert.Kernel42Ideal.nD Cert.Kernel42Ideal.τ).loc Cert.Kernel42Ideal.main_v0_2) = v2 c
          ∧ r.2.mem ((c.tc : Thread Cert.Kernel42Ideal.nD Cert.Kernel42Ideal.τ).loc Cert.Kernel42Ideal.main_v0_3) = v3 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
          ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3)
          ∧ r.2.mem ((c.tc : Thread Cert.Kernel42Ideal.nD Cert.Kernel42Ideal.τ).loc Cert.Kernel42Ideal.main_arg4) = m ((c.tc : Thread Cert.Kernel42Ideal.nD Cert.Kernel42Ideal.τ).loc Cert.Kernel42Ideal.main_arg4))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v32) = v0 c
          ∧ r.2.mem ((c.tc : Thread Cert.Reference42Ideal.nD Cert.Reference42Ideal.τ).loc Cert.Reference42Ideal.main_v33) = v1 c
          ∧ r.2.mem ((c.tc : Thread Cert.Reference42Ideal.nD Cert.Reference42Ideal.τ).loc Cert.Reference42Ideal.main_v34) = v2 c
          ∧ r.2.mem ((c.tc : Thread Cert.Reference42Ideal.nD Cert.Reference42Ideal.τ).loc Cert.Reference42Ideal.main_v35) = v3 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2)
          ∧ r.2.mem ((c.tc : Thread Cert.Reference42Ideal.nD Cert.Reference42Ideal.τ).loc Cert.Reference42Ideal.main_arg3) = m' ((c.tc : Thread Cert.Reference42Ideal.nD Cert.Reference42Ideal.τ).loc Cert.Reference42Ideal.main_arg3)
          ∧ r.2.mem ((c.tc : Thread Cert.Reference42Ideal.nD Cert.Reference42Ideal.τ).loc Cert.Reference42Ideal.main_arg4) = m' ((c.tc : Thread Cert.Reference42Ideal.nD Cert.Reference42Ideal.τ).loc Cert.Reference42Ideal.main_arg4))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)) →
    ∃ (v0 : (c : Dev Cert.Kernel43Ideal.nD) → Buf (Elt Ideal) ((c.tc : Thread Cert.Kernel43Ideal.nD Cert.Kernel43Ideal.τ).loc Cert.Kernel43Ideal.main_v0)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0) = v0 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v12) = v0 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)
      ∧ m' ((c.tc : Thread Cert.Reference44Ideal.nD Cert.Reference44Ideal.τ).loc Cert.Reference44Ideal.main_arg2) = m ((c.tc : Thread Cert.Kernel44Ideal.nD Cert.Kernel44Ideal.τ).loc Cert.Kernel44Ideal.main_arg2)
      ∧ m' ((c.tc : Thread Cert.Reference44Ideal.nD Cert.Reference44Ideal.τ).loc Cert.Reference44Ideal.main_arg3) = m ((c.tc : Thread Cert.Kernel44Ideal.nD Cert.Kernel44Ideal.τ).loc Cert.Kernel44Ideal.main_arg3)) →
    ∃ (v0 : (c : Dev Cert.Kernel44Ideal.nD) → Buf (Elt Ideal) ((c.tc : Thread Cert.Kernel44Ideal.nD Cert.Kernel44Ideal.τ).loc Cert.Kernel44Ideal.main_v0_0)) (v1 : (c : Dev Cert.Kernel44Ideal.nD) → Buf (Elt Ideal) ((c.tc : Thread Cert.Kernel44Ideal.nD Cert.Kernel44Ideal.τ).loc Cert.Kernel44Ideal.main_v0_1)) (v2 : (c : Dev Cert.Kernel44Ideal.nD) → Buf (Elt Ideal) ((c.tc : Thread Cert.Kernel44Ideal.nD Cert.Kernel44Ideal.τ).loc Cert.Kernel44Ideal.main_v0_2)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0_0) = v0 c
          ∧ r.2.mem ((c.tc : Thread Cert.Kernel44Ideal.nD Cert.Kernel44Ideal.τ).loc Cert.Kernel44Ideal.main_v0_1) = v1 c
          ∧ r.2.mem ((c.tc : Thread Cert.Kernel44Ideal.nD Cert.Kernel44Ideal.τ).loc Cert.Kernel44Ideal.main_v0_2) = v2 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
          ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
          ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_arg3) = v0 c
          ∧ r.2.mem ((c.tc : Thread Cert.Reference44Ideal.nD Cert.Reference44Ideal.τ).loc Cert.Reference44Ideal.main_v17) = v1 c
          ∧ r.2.mem ((c.tc : Thread Cert.Reference44Ideal.nD Cert.Reference44Ideal.τ).loc Cert.Reference44Ideal.main_v18) = v2 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1)
          ∧ r.2.mem ((c.tc : Thread Cert.Reference44Ideal.nD Cert.Reference44Ideal.τ).loc Cert.Reference44Ideal.main_arg2) = m' ((c.tc : Thread Cert.Reference44Ideal.nD Cert.Reference44Ideal.τ).loc Cert.Reference44Ideal.main_arg2)
          ∧ r.2.mem ((c.tc : Thread Cert.Reference44Ideal.nD Cert.Reference44Ideal.τ).loc Cert.Reference44Ideal.main_arg3) = m' ((c.tc : Thread Cert.Reference44Ideal.nD Cert.Reference44Ideal.τ).loc Cert.Reference44Ideal.main_arg3))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)
      ∧ m' ((c.tc : Thread Cert.Reference45Ideal.nD Cert.Reference45Ideal.τ).loc Cert.Reference45Ideal.main_arg2) = m ((c.tc : Thread Cert.Kernel45Ideal.nD Cert.Kernel45Ideal.τ).loc Cert.Kernel45Ideal.main_arg2)) →
    ∃ (v0 : (c : Dev Cert.Kernel45Ideal.nD) → Buf (Elt Ideal) ((c.tc : Thread Cert.Kernel45Ideal.nD Cert.Kernel45Ideal.τ).loc Cert.Kernel45Ideal.main_v1_0)) (v1 : (c : Dev Cert.Kernel45Ideal.nD) → Buf (Elt Ideal) ((c.tc : Thread Cert.Kernel45Ideal.nD Cert.Kernel45Ideal.τ).loc Cert.Kernel45Ideal.main_v1_1)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v1_0) = v0 c
          ∧ r.2.mem ((c.tc : Thread Cert.Kernel45Ideal.nD Cert.Kernel45Ideal.τ).loc Cert.Kernel45Ideal.main_v1_1) = v1 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
          ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v4) = v0 c
          ∧ r.2.mem ((c.tc : Thread Cert.Reference45Ideal.nD Cert.Reference45Ideal.τ).loc Cert.Reference45Ideal.main_v8) = v1 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1)
          ∧ r.2.mem ((c.tc : Thread Cert.Reference45Ideal.nD Cert.Reference45Ideal.τ).loc Cert.Reference45Ideal.main_arg2) = m' ((c.tc : Thread Cert.Reference45Ideal.nD Cert.Reference45Ideal.τ).loc Cert.Reference45Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hPre_finite4 : Cert.Pre_finite4.Facts) (hPre_finite3 : Cert.Pre_finite3.Facts),
    quiescent_Kernel (hKernel := hKernel)
    ∧ quiescent_KernelIdeal (hKernelIdeal := hKernelIdeal)
    ∧ quiescent_KernelIdeal_pre_finite4 (hKernelIdeal := hKernelIdeal) (hPre_finite4 := hPre_finite4)
    ∧ quiescent_ReferenceIdeal (hReferenceIdeal := hReferenceIdeal)
    ∧ quiescent_ReferenceIdeal_pre_finite4 (hReferenceIdeal := hReferenceIdeal) (hPre_finite4 := hPre_finite4)
    ∧ quiescent_Kernel2 (hKernel2 := hKernel2)
    ∧ quiescent_Kernel2Ideal (hKernel2Ideal := hKernel2Ideal)
    ∧ quiescent_Kernel2Ideal_pre_finite4 (hKernel2Ideal := hKernel2Ideal) (hPre_finite4 := hPre_finite4)
    ∧ quiescent_Reference2Ideal (hReference2Ideal := hReference2Ideal)
    ∧ quiescent_Reference2Ideal_pre_finite4 (hReference2Ideal := hReference2Ideal) (hPre_finite4 := hPre_finite4)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ preserves_Kernel_KernelIdeal
    ∧ algebraic_KernelIdeal_ReferenceIdeal_pre_finite4 (hKernelIdeal := hKernelIdeal) (hReferenceIdeal := hReferenceIdeal) (hPre_finite4 := hPre_finite4)
    ∧ preserves_Kernel2_Kernel2Ideal
    ∧ algebraic_Kernel2Ideal_Reference2Ideal_pre_finite4 (hKernel2Ideal := hKernel2Ideal) (hReference2Ideal := hReference2Ideal) (hPre_finite4 := hPre_finite4)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
-- ==== Pre_finite3.lean ====
abbrev S4096x16x192 : Shape := ⟨3, ![4096, 16, 192]⟩
abbrev S4096x16x128 : Shape := ⟨3, ![4096, 16, 128]⟩
abbrev S_ : Shape := ⟨0, ![]⟩

class Facts : Prop where
  bitsLt_bf16_f32 : FTy.bits .bf16 < FTy.bits .f32
  bcast_S_S4096x16x192 : S_.BroadcastsInDim S4096x16x192 (![] : Fin 0 → Fin S4096x16x192.rank)
  bcast_S_S4096x16x128 : S_.BroadcastsInDim S4096x16x128 (![] : Fin 0 → Fin S4096x16x128.rank)

variable [Facts]

def fn {F : FTy → Type} [FloatOps F] (main_arg0 : FVec F S4096x16x192 .bf16) (main_arg1 : FVec F S4096x16x192 .bf16) (main_arg2 : FVec F S4096x16x128 .bf16) : IVec S4096x16x192 1 × IVec S4096x16x192 1 × IVec S4096x16x128 1 :=
  let main_v0 : FVec F S4096x16x192 .f32 := (extf .f32 · bitsLt_bf16_f32) main_arg0
  let main_v1 : FVec F S4096x16x192 .f32 := Host.absf main_v0
  let main_cst : FVec F S_ .f32 := constant S_ .f32 0x7F800000#32
  let main_v2 : FVec F S4096x16x192 .f32 := broadcastInDim S4096x16x192 ![] bcast_S_S4096x16x192 main_cst
  let main_v3 : IVec S4096x16x192 1 := cmpf .olt main_v1 main_v2
  let main_v4 : FVec F S4096x16x192 .f32 := (extf .f32 · bitsLt_bf16_f32) main_arg1
  let main_v5 : FVec F S4096x16x192 .f32 := Host.absf main_v4
  let main_cst_0 : FVec F S_ .f32 := constant S_ .f32 0x7F800000#32
  let main_v6 : FVec F S4096x16x192 .f32 := broadcastInDim S4096x16x192 ![] bcast_S_S4096x16x192 main_cst_0
  let main_v7 : IVec S4096x16x192 1 := cmpf .olt main_v5 main_v6
  let main_v8 : FVec F S4096x16x128 .f32 := (extf .f32 · bitsLt_bf16_f32) main_arg2
  let main_v9 : FVec F S4096x16x128 .f32 := Host.absf main_v8
  let main_cst_1 : FVec F S_ .f32 := constant S_ .f32 0x7F800000#32
  let main_v10 : FVec F S4096x16x128 .f32 := broadcastInDim S4096x16x128 ![] bcast_S_S4096x16x128 main_cst_1
  let main_v11 : IVec S4096x16x128 1 := cmpf .olt main_v9 main_v10
  (main_v3, main_v7, main_v11)
-- ==== Pre_finite4.lean ====
abbrev S4096x16x192 : Shape := ⟨3, ![4096, 16, 192]⟩
abbrev S4096x16x128 : Shape := ⟨3, ![4096, 16, 128]⟩
abbrev S_ : Shape := ⟨0, ![]⟩

class Facts : Prop where
  bitsLt_bf16_f32 : FTy.bits .bf16 < FTy.bits .f32
  bcast_S_S4096x16x192 : S_.BroadcastsInDim S4096x16x192 (![] : Fin 0 → Fin S4096x16x192.rank)
  bcast_S_S4096x16x128 : S_.BroadcastsInDim S4096x16x128 (![] : Fin 0 → Fin S4096x16x128.rank)

variable [Facts]

def fn {F : FTy → Type} [FloatOps F] (main_arg0 : FVec F S4096x16x192 .bf16) (main_arg1 : FVec F S4096x16x192 .bf16) (main_arg2 : FVec F S4096x16x128 .bf16) (main_arg3 : FVec F S4096x16x128 .bf16) : IVec S4096x16x192 1 × IVec S4096x16x192 1 × IVec S4096x16x128 1 × IVec S4096x16x128 1 :=
  let main_v0 : FVec F S4096x16x192 .f32 := (extf .f32 · bitsLt_bf16_f32) main_arg0
  let main_v1 : FVec F S4096x16x192 .f32 := Host.absf main_v0
  let main_cst : FVec F S_ .f32 := constant S_ .f32 0x7F800000#32
  let main_v2 : FVec F S4096x16x192 .f32 := broadcastInDim S4096x16x192 ![] bcast_S_S4096x16x192 main_cst
  let main_v3 : IVec S4096x16x192 1 := cmpf .olt main_v1 main_v2
  let main_v4 : FVec F S4096x16x192 .f32 := (extf .f32 · bitsLt_bf16_f32) main_arg1
  let main_v5 : FVec F S4096x16x192 .f32 := Host.absf main_v4
  let main_cst_0 : FVec F S_ .f32 := constant S_ .f32 0x7F800000#32
  let main_v6 : FVec F S4096x16x192 .f32 := broadcastInDim S4096x16x192 ![] bcast_S_S4096x16x192 main_cst_0
  let main_v7 : IVec S4096x16x192 1 := cmpf .olt main_v5 main_v6
  let main_v8 : FVec F S4096x16x128 .f32 := (extf .f32 · bitsLt_bf16_f32) main_arg2
  let main_v9 : FVec F S4096x16x128 .f32 := Host.absf main_v8
  let main_cst_1 : FVec F S_ .f32 := constant S_ .f32 0x7F800000#32
  let main_v10 : FVec F S4096x16x128 .f32 := broadcastInDim S4096x16x128 ![] bcast_S_S4096x16x128 main_cst_1
  let main_v11 : IVec S4096x16x128 1 := cmpf .olt main_v9 main_v10
  let main_v12 : FVec F S4096x16x128 .f32 := (extf .f32 · bitsLt_bf16_f32) main_arg3
  let main_v13 : FVec F S4096x16x128 .f32 := Host.absf main_v12
  let main_cst_2 : FVec F S_ .f32 := constant S_ .f32 0x7F800000#32
  let main_v14 : FVec F S4096x16x128 .f32 := broadcastInDim S4096x16x128 ![] bcast_S_S4096x16x128 main_cst_2
  let main_v15 : IVec S4096x16x128 1 := cmpf .olt main_v13 main_v14
  (main_v3, main_v7, main_v11, main_v15)
-- ==== Kernel.lean ====
abbrev S4096x16x192 : Shape := ⟨3, ![4096, 16, 192]⟩
abbrev S4096x16x128 : Shape := ⟨3, ![4096, 16, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S16x4096x128 : Shape := ⟨3, ![16, 4096, 128]⟩
abbrev S16x4096x192 : Shape := ⟨3, ![16, 4096, 192]⟩
abbrev S1x512x192 : Shape := ⟨3, ![1, 512, 192]⟩
abbrev S1x4096x192 : Shape := ⟨3, ![1, 4096, 192]⟩
abbrev S1x4096x128 : Shape := ⟨3, ![1, 4096, 128]⟩
abbrev S1x512x128 : Shape := ⟨3, ![1, 512, 128]⟩
abbrev S1x512x1 : Shape := ⟨3, ![1, 512, 1]⟩
abbrev S4096x192 : Shape := ⟨2, ![4096, 192]⟩
abbrev S4096x128 : Shape := ⟨2, ![4096, 128]⟩
abbrev S512x192 : Shape := ⟨2, ![512, 192]⟩
abbrev S512x128 : Shape := ⟨2, ![512, 128]⟩
abbrev S512x1 : Shape := ⟨2, ![512, 1]⟩
abbrev S512 : Shape := ⟨1, ![512]⟩
abbrev S512x512 : Shape := ⟨2, ![512, 512]⟩

abbrev nBuf : Space → Nat
  | .hbm => 81
  | .vmem => 18
  | .smem => 0
  | _ => 0

abbrev bufTy : (tb : Table) → Fin (tcTables nBuf tb) → BufTy
  | .hbm, ⟨0, _⟩ => ⟨S4096x16x192, .bf16⟩
  | .hbm, ⟨1, _⟩ => ⟨S4096x16x192, .bf16⟩
  | .hbm, ⟨2, _⟩ => ⟨S4096x16x128, .bf16⟩
  | .hbm, ⟨3, _⟩ => ⟨S4096x16x128, .bf16⟩
  | .hbm, ⟨4, _⟩ => ⟨S4096x16x192, .f32⟩
  | .hbm, ⟨5, _⟩ => ⟨S4096x16x192, .f32⟩
  | .hbm, ⟨6, _⟩ => ⟨S4096x16x128, .f32⟩
  | .hbm, ⟨7, _⟩ => ⟨S16x4096x4096, .f32⟩
  | .hbm, ⟨8, _⟩ => ⟨S_, .f32⟩
  | .hbm, ⟨9, _⟩ => ⟨S_, .f32⟩
  | .hbm, ⟨10, _⟩ => ⟨S16x4096x4096, .f32⟩
  | .hbm, ⟨11, _⟩ => ⟨S16x4096x4096, .f32⟩
  | .hbm, ⟨12, _⟩ => ⟨S4096, .i32⟩
  | .hbm, ⟨13, _⟩ => ⟨S_, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S1x4096, .i32⟩
  | .hbm, ⟨32, _⟩ => ⟨S4096x1, .i32⟩
  | .hbm, ⟨33, _⟩ => ⟨S4096x4096, .i32⟩
  | .hbm, ⟨34, _⟩ => ⟨S4096x4096, .i32⟩
  | .hbm, ⟨35, _⟩ => ⟨S4096x4096, .i1⟩
  | .hbm, ⟨36, _⟩ => ⟨S1x4096x4096, .i1⟩
  | .hbm, ⟨37, _⟩ => ⟨S_, .f32⟩
  | .hbm, ⟨38, _⟩ => ⟨S_, .f32⟩
  | .hbm, ⟨39, _⟩ => ⟨S16x4096x4096, .i1⟩
  | .hbm, ⟨40, _⟩ => ⟨S16x4096x4096, .f32⟩
  | .hbm, ⟨41, _⟩ => ⟨S16x4096x4096, .f32⟩
  | .hbm, ⟨42, _⟩ => ⟨S_, .f32⟩
  | .hbm, ⟨43, _⟩ => ⟨S16x4096, .f32⟩
  | .hbm, ⟨44, _⟩ => ⟨S16x4096x1, .f32⟩
  | .hbm, ⟨45, _⟩ => ⟨S16x4096x4096, .f32⟩
  | .hbm, ⟨46, _⟩ => ⟨S16x4096x4096, .f32⟩
  | .hbm, ⟨47, _⟩ => ⟨S16x4096x4096, .f32⟩
  | .hbm, ⟨48, _⟩ => ⟨S_, .f32⟩
  | .hbm, ⟨49, _⟩ => ⟨S16x4096, .f32⟩
  | .hbm, ⟨50, _⟩ => ⟨S16x4096, .f32⟩
  | .hbm, ⟨51, _⟩ => ⟨S16x4096, .f32⟩
  | .hbm, ⟨52, _⟩ => ⟨S_, .f32⟩
  | .hbm, ⟨53, _⟩ => ⟨S_, .f32⟩
  | .hbm, ⟨54, _⟩ => ⟨S16x4096, .f32⟩
  | .hbm, ⟨55, _⟩ => ⟨S16x4096, .f32⟩
  | .hbm, ⟨56, _⟩ => ⟨S_, .f32⟩
  | .hbm, ⟨57, _⟩ => ⟨S16x4096, .f32⟩
  | .hbm, ⟨58, _⟩ => ⟨S_, .f32⟩
  | .hbm, ⟨59, _⟩ => ⟨S16x4096, .f32⟩
  | .hbm, ⟨60, _⟩ => ⟨S16x4096, .f32⟩
  | .hbm, ⟨61, _⟩ => ⟨S16x4096x1, .f32⟩
  | .hbm, ⟨62, _⟩ => ⟨S16x4096x4096, .f32⟩
  | .hbm, ⟨63, _⟩ => ⟨S16x4096x4096, .f32⟩
  | .hbm, ⟨64, _⟩ => ⟨S16x4096x4096, .f32⟩
  | .hbm, ⟨65, _⟩ => ⟨S_, .f32⟩
  | .hbm, ⟨66, _⟩ => ⟨S16x4096, .f32⟩
  | .hbm, ⟨67, _⟩ => ⟨S16x4096x1, .f32⟩
  | .hbm, ⟨68, _⟩ => ⟨S16x4096x4096, .f32⟩
  | .hbm, ⟨69, _⟩ => ⟨S16x4096x4096, .f32⟩
  | .hbm, ⟨70, _⟩ => ⟨S16x128x4096, .f32⟩
  | .hbm, ⟨71, _⟩ => ⟨S4096x16x128, .f32⟩
  | .hbm, ⟨72, _⟩ => ⟨S16x4096x128, .f32⟩
  | .hbm, ⟨73, _⟩ => ⟨S16x4096x128, .bf16⟩
  | .hbm, ⟨74, _⟩ => ⟨S16x4096x1, .f32⟩
  | .hbm, ⟨75, _⟩ => ⟨S16x4096x192, .bf16⟩
  | .hbm, ⟨76, _⟩ => ⟨S16x4096x192, .bf16⟩
  | .hbm, ⟨77, _⟩ => ⟨S16x4096x128, .bf16⟩
  | .hbm, ⟨78, _⟩ => ⟨S16x4096x128, .bf16⟩
  | .hbm, ⟨79, _⟩ => ⟨S16x4096x192, .bf16⟩
  | .hbm, ⟨80, _⟩ => ⟨S16x4096x1, .f32⟩
  | .local _ .vmem, ⟨0, _⟩ => ⟨S1x512x192, .bf16⟩
  | .local _ .vmem, ⟨1, _⟩ => ⟨S1x512x192, .bf16⟩
  | .local _ .vmem, ⟨2, _⟩ => ⟨S1x4096x192, .bf16⟩
  | .local _ .vmem, ⟨3, _⟩ => ⟨S1x4096x192, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x1, .f32⟩
  | .local _ .vmem, ⟨9, _⟩ => ⟨S1x512x1, .f32⟩
  | .local _ .vmem, ⟨10, _⟩ => ⟨S1x512x128, .bf16⟩
  | .local _ .vmem, ⟨11, _⟩ => ⟨S1x512x128, .bf16⟩
  | .local _ .vmem, ⟨12, _⟩ => ⟨S1x512x192, .bf16⟩
  | .local _ .vmem, ⟨13, _⟩ => ⟨S1x512x192, .bf16⟩
  | .local _ .vmem, ⟨14, _⟩ => ⟨S1x512x1, .f32⟩
  | .local _ .vmem, ⟨15, _⟩ => ⟨S1x512x1, .f32⟩
  | .local _ .vmem, ⟨16, _⟩ => ⟨S4096x192, .bf16⟩
  | .local _ .vmem, ⟨17, _⟩ => ⟨S4096x128, .bf16⟩
  | _, _ => ⟨S4096x16x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v15 : Ref sig .tc := ⟨.hbm, 41, rfl⟩
abbrev main_cst_1 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_2 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_3 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_4 : Ref sig .tc := ⟨.hbm, 56, rfl⟩
abbrev main_v27 : Ref sig .tc := ⟨.hbm, 57, rfl⟩
abbrev main_cst_5 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_6 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47_0 : Ref sig .tc := ⟨.hbm, 79, rfl⟩
abbrev main_v47_1 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_19 : BitVec 32 := 1#32
  ⟨c0_i32, v27, c1_i32_19⟩
def k0_mult1 (i : grid0.Coords) (k0_t1 : Fin (k0_t1_loop i).trips) : BitVec 32 :=
  let c0_i32 : BitVec 32 := 0#32
  let c1_i32_19 : BitVec 32 := 1#32
  let arg12 : BitVec 32 := Scf.iv c0_i32 c1_i32_19 k0_t1
  let c512_i32_48 : BitVec 32 := 512#32
  let v114 : BitVec 32 := Scalar.muli arg12 c512_i32_48
  v114
def k0_off1 (i : grid0.Coords) (k0_t1 : Fin (k0_t1_loop i).trips) : Fin 3 → Nat :=
  let c0_49 : Index := 0#32
  let c0_i32 : BitVec 32 := 0#32
  let c1_i32_19 : BitVec 32 := 1#32
  let arg12 : BitVec 32 := Scf.iv c0_i32 c1_i32_19 k0_t1
  let c512_i32_48 : BitVec 32 := 512#32
  let v114 : BitVec 32 := Scalar.muli arg12 c512_i32_48
  let v115 : BitVec 32 := v114
  let v116 : Index := Scalar.indexCast v115
  let c0_50 : Index := 0#32
  ![0, v116.toNat, 0]
def k0_off2 (i : grid0.Coords) (k0_t1 : Fin (k0_t1_loop i).trips) : Fin 3 → Nat :=
  let c0_51 : Index := 0#32
  let c0_i32 : BitVec 32 := 0#32
  let c1_i32_19 : BitVec 32 := 1#32
  let arg12 : BitVec 32 := Scf.iv c0_i32 c1_i32_19 k0_t1
  let c512_i32_48 : BitVec 32 := 512#32
  let v114 : BitVec 32 := Scalar.muli arg12 c512_i32_48
  let v115 : BitVec 32 := v114
  let v119 : Index := Scalar.indexCast v115
  let c0_52 : Index := 0#32
  ![0, v119.toNat, 0]
@[reducible] def k0_t2_loop (i : grid0.Coords) : Scf.Loop 32 :=
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let v24 : BitVec 32 := Scalar.addi c0_i32 v23
  let c1_i32_20 : BitVec 32 := 1#32
  ⟨v27, v24, c1_i32_20⟩
def k0_mult2 (i : grid0.Coords) (k0_t2 : Fin (k0_t2_loop i).trips) : BitVec 32 :=
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_20 : BitVec 32 := 1#32
  let arg12 : BitVec 32 := Scf.iv v27 c1_i32_20 k0_t2
  let c512_i32_48 : BitVec 32 := 512#32
  let v114 : BitVec 32 := Scalar.muli arg12 c512_i32_48
  v114
def k0_off3 (i : grid0.Coords) (k0_t2 : Fin (k0_t2_loop i).trips) : Fin 3 → Nat :=
  let c0_49 : Index := 0#32
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_20 : BitVec 32 := 1#32
  let arg12 : BitVec 32 := Scf.iv v27 c1_i32_20 k0_t2
  let c512_i32_48 : BitVec 32 := 512#32
  let v114 : BitVec 32 := Scalar.muli arg12 c512_i32_48
  let v115 : BitVec 32 := v114
  let v116 : Index := Scalar.indexCast v115
  let c0_50 : Index := 0#32
  ![0, v116.toNat, 0]
def k0_off4 (i : grid0.Coords) (k0_t2 : Fin (k0_t2_loop i).trips) : Fin 3 → Nat :=
  let c0_51 : Index := 0#32
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_20 : BitVec 32 := 1#32
  let arg12 : BitVec 32 := Scf.iv v27 c1_i32_20 k0_t2
  let c512_i32_48 : BitVec 32 := 512#32
  let v114 : BitVec 32 := Scalar.muli arg12 c512_i32_48
  let v115 : BitVec 32 := v114
  let v119 : Index := Scalar.indexCast v115
  let c0_52 : Index := 0#32
  ![0, v119.toNat, 0]
def k0_mult3 (i : grid0.Coords) : BitVec 32 :=
  let arg1 : BitVec 32 := BitVec.ofNat 32 (i 1).val
  let c512_i32 : BitVec 32 := 512#32
  let v30 : BitVec 32 := Scalar.muli arg1 c512_i32
  v30
def k0_off5 (i : grid0.Coords) : Fin 3 → Nat :=
  let c0_21 : Index := 0#32
  let arg1 : BitVec 32 := BitVec.ofNat 32 (i 1).val
  let c512_i32 : BitVec 32 := 512#32
  let v30 : BitVec 32 := Scalar.muli arg1 c512_i32
  let v31 : BitVec 32 := v30
  let v32 : Index := Scalar.indexCast v31
  let c0_22 : Index := 0#32
  ![0, v32.toNat, 0]
def k0_off6 (i : grid0.Coords) : Fin 3 → Nat :=
  let c0_23 : Index := 0#32
  let arg1 : BitVec 32 := BitVec.ofNat 32 (i 1).val
  let c512_i32 : BitVec 32 := 512#32
  let v30 : BitVec 32 := Scalar.muli arg1 c512_i32
  let v31 : BitVec 32 := v30
  let v35 : Index := Scalar.indexCast v31
  let c0_24 : Index := 0#32
  ![0, v35.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S4096x16x192 : Shape := ⟨3, ![4096, 16, 192]⟩
abbrev S4096x16x128 : Shape := ⟨3, ![4096, 16, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S16x4096x192 : Shape := ⟨3, ![16, 4096, 192]⟩

abbrev nBuf : Space → Nat
  | .hbm => 114
  | .vmem => 0
  | .smem => 0
  | _ => 0

abbrev bufTy : (tb : Table) → Fin (tcTables nBuf tb) → BufTy
  | .hbm, ⟨0, _⟩ => ⟨S4096x16x192, .bf16⟩
  | .hbm, ⟨1, _⟩ => ⟨S4096x16x192, .bf16⟩
  | .hbm, ⟨2, _⟩ => ⟨S4096x16x128, .bf16⟩
  | .hbm, ⟨3, _⟩ => ⟨S4096x16x128, .bf16⟩
  | .hbm, ⟨4, _⟩ => ⟨S4096x16x192, .f32⟩
  | .hbm, ⟨5, _⟩ => ⟨S4096x16x192, .f32⟩
  | .hbm, ⟨6, _⟩ => ⟨S4096x16x128, .f32⟩
  | .hbm, ⟨7, _⟩ => ⟨S4096x16x128, .f32⟩
  | .hbm, ⟨8, _⟩ => ⟨S16x4096x4096, .f32⟩
  | .hbm, ⟨9, _⟩ => ⟨S_, .f32⟩
  | .hbm, ⟨10, _⟩ => ⟨S_, .f32⟩
  | .hbm, ⟨11, _⟩ => ⟨S16x4096x4096, .f32⟩
  | .hbm, ⟨12, _⟩ => ⟨S16x4096x4096, .f32⟩
  | .hbm, ⟨13, _⟩ => ⟨S4096, .i32⟩
  | .hbm, ⟨14, _⟩ => ⟨S_, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S1x4096, .i32⟩
  | .hbm, ⟨33, _⟩ => ⟨S4096x1, .i32⟩
  | .hbm, ⟨34, _⟩ => ⟨S4096x4096, .i32⟩
  | .hbm, ⟨35, _⟩ => ⟨S4096x4096, .i32⟩
  | .hbm, ⟨36, _⟩ => ⟨S4096x4096, .i1⟩
  | .hbm, ⟨37, _⟩ => ⟨S1x4096x4096, .i1⟩
  | .hbm, ⟨38, _⟩ => ⟨S_, .f32⟩
  | .hbm, ⟨39, _⟩ => ⟨S_, .f32⟩
  | .hbm, ⟨40, _⟩ => ⟨S16x4096x4096, .i1⟩
  | .hbm, ⟨41, _⟩ => ⟨S16x4096x4096, .f32⟩
  | .hbm, ⟨42, _⟩ => ⟨S16x4096x4096, .f32⟩
  | .hbm, ⟨43, _⟩ => ⟨S_, .f32⟩
  | .hbm, ⟨44, _⟩ => ⟨S16x4096x4096, .f32⟩
  | .hbm, ⟨45, _⟩ => ⟨S_, .f32⟩
  | .hbm, ⟨46, _⟩ => ⟨S16x4096, .f32⟩
  | .hbm, ⟨47, _⟩ => ⟨S16x4096x1, .f32⟩
  | .hbm, ⟨48, _⟩ => ⟨S16x4096x4096, .f32⟩
  | .hbm, ⟨49, _⟩ => ⟨S16x4096x4096, .i1⟩
  | .hbm, ⟨50, _⟩ => ⟨S16x4096x4096, .f32⟩
  | .hbm, ⟨51, _⟩ => ⟨S_, .f32⟩
  | .hbm, ⟨52, _⟩ => ⟨S16x4096, .f32⟩
  | .hbm, ⟨53, _⟩ => ⟨S_, .f32⟩
  | .hbm, ⟨54, _⟩ => ⟨S16x4096, .f32⟩
  | .hbm, ⟨55, _⟩ => ⟨S16x4096, .f32⟩
  | .hbm, ⟨56, _⟩ => ⟨S_, .f32⟩
  | .hbm, ⟨57, _⟩ => ⟨S16x4096, .f32⟩
  | .hbm, ⟨58, _⟩ => ⟨S16x4096, .i1⟩
  | .hbm, ⟨59, _⟩ => ⟨S_, .f32⟩
  | .hbm, ⟨60, _⟩ => ⟨S16x4096, .f32⟩
  | .hbm, ⟨61, _⟩ => ⟨S16x4096, .i1⟩
  | .hbm, ⟨62, _⟩ => ⟨S_, .f32⟩
  | .hbm, ⟨63, _⟩ => ⟨S16x4096, .f32⟩
  | .hbm, ⟨64, _⟩ => ⟨S_, .f32⟩
  | .hbm, ⟨65, _⟩ => ⟨S16x4096, .f32⟩
  | .hbm, ⟨66, _⟩ => ⟨S_, .f32⟩
  | .hbm, ⟨67, _⟩ => ⟨S16x4096, .f32⟩
  | .hbm, ⟨68, _⟩ => ⟨S16x4096, .f32⟩
  | .hbm, ⟨69, _⟩ => ⟨S16x4096, .f32⟩
  | .hbm, ⟨70, _⟩ => ⟨S16x4096x1, .f32⟩
  | .hbm, ⟨71, _⟩ => ⟨S16x4096x4096, .f32⟩
  | .hbm, ⟨72, _⟩ => ⟨S16x4096x4096, .f32⟩
  | .hbm, ⟨73, _⟩ => ⟨S16x4096x4096, .f32⟩
  | .hbm, ⟨74, _⟩ => ⟨S_, .f32⟩
  | .hbm, ⟨75, _⟩ => ⟨S16x4096, .f32⟩
  | .hbm, ⟨76, _⟩ => ⟨S16x4096x1, .f32⟩
  | .hbm, ⟨77, _⟩ => ⟨S16x4096x4096, .f32⟩
  | .hbm, ⟨78, _⟩ => ⟨S16x4096x4096, .f32⟩
  | .hbm, ⟨79, _⟩ => ⟨S16x4096x1, .f32⟩
  | .hbm, ⟨80, _⟩ => ⟨S_, .f32⟩
  | .hbm, ⟨81, _⟩ => ⟨S16x4096x1, .f32⟩
  | .hbm, ⟨82, _⟩ => ⟨S16x4096x1, .f32⟩
  | .hbm, ⟨83, _⟩ => ⟨S16x128x4096, .f32⟩
  | .hbm, ⟨84, _⟩ => ⟨S4096x16x128, .f32⟩
  | .hbm, ⟨85, _⟩ => ⟨S16x128x4096, .f32⟩
  | .hbm, ⟨86, _⟩ => ⟨S16x4096x4096, .f32⟩
  | .hbm, ⟨87, _⟩ => ⟨S16x128x4096, .f32⟩
  | .hbm, ⟨88, _⟩ => ⟨S4096x16x128, .f32⟩
  | .hbm, ⟨89, _⟩ => ⟨S16x4096x4096, .f32⟩
  | .hbm, ⟨90, _⟩ => ⟨S16x4096x4096, .f32⟩
  | .hbm, ⟨91, _⟩ => ⟨S16x4096x4096, .f32⟩
  | .hbm, ⟨92, _⟩ => ⟨S_, .f32⟩
  | .hbm, ⟨93, _⟩ => ⟨S16x4096, .f32⟩
  | .hbm, ⟨94, _⟩ => ⟨S16x4096x1, .f32⟩
  | .hbm, ⟨95, _⟩ => ⟨S16x4096x1, .f32⟩
  | .hbm, ⟨96, _⟩ => ⟨S16x4096x4096, .f32⟩
  | .hbm, ⟨97, _⟩ => ⟨S16x4096x4096, .f32⟩
  | .hbm, ⟨98, _⟩ => ⟨S_, .f32⟩
  | .hbm, ⟨99, _⟩ => ⟨S16x4096, .f32⟩
  | .hbm, ⟨100, _⟩ => ⟨S16x4096x4096, .f32⟩
  | .hbm, ⟨101, _⟩ => ⟨S16x4096x4096, .f32⟩
  | .hbm, ⟨102, _⟩ => ⟨S16x4096x4096, .f32⟩
  | .hbm, ⟨103, _⟩ => ⟨S_, .f32⟩
  | .hbm, ⟨104, _⟩ => ⟨S16x4096x4096, .f32⟩
  | .hbm, ⟨105, _⟩ => ⟨S16x4096x4096, .f32⟩
  | .hbm, ⟨106, _⟩ => ⟨S16x4096x4096, .f32⟩
  | .hbm, ⟨107, _⟩ => ⟨S16x4096x4096, .f32⟩
  | .hbm, ⟨108, _⟩ => ⟨S16x4096x192, .f32⟩
  | .hbm, ⟨109, _⟩ => ⟨S4096x16x192, .f32⟩
  | .hbm, ⟨110, _⟩ => ⟨S16x4096x192, .f32⟩
  | .hbm, ⟨111, _⟩ => ⟨S4096x16x192, .f32⟩
  | .hbm, ⟨112, _⟩ => ⟨S16x4096x192, .f32⟩
  | .hbm, ⟨113, _⟩ => ⟨S16x4096x192, .bf16⟩
  | _, _ => ⟨S4096x16x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_0 : Ref sig .tc := ⟨.hbm, 38, rfl⟩
abbrev main_call1_v0 : Ref sig .tc := ⟨.hbm, 39, rfl⟩
abbrev main_v16_1 : Ref sig .tc := ⟨.hbm, 40, rfl⟩
abbrev main_call1_v2 : Ref sig .tc := ⟨.hbm, 41, rfl⟩
abbrev main_v16_0 : Ref sig .tc := ⟨.hbm, 42, rfl⟩
abbrev main_call1_cst : Ref sig .tc := ⟨.hbm, 43, rfl⟩
abbrev main_v16_2 : Ref sig .tc := ⟨.hbm, 44, rfl⟩
abbrev main_cst_1 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_2 : Ref sig .tc := ⟨.hbm, 51, rfl⟩
abbrev main_v22 : Ref sig .tc := ⟨.hbm, 52, rfl⟩
abbrev main_cst_3 : Ref sig .tc := ⟨.hbm, 53, rfl⟩
abbrev main_v23 : Ref sig .tc := ⟨.hbm, 54, rfl⟩
abbrev main_v24 : Ref sig .tc := ⟨.hbm, 55, rfl⟩
abbrev main_cst_4 : Ref sig .tc := ⟨.hbm, 56, rfl⟩
abbrev main_v25 : Ref sig .tc := ⟨.hbm, 57, rfl⟩
abbrev main_v26 : Ref sig .tc := ⟨.hbm, 58, rfl⟩
abbrev main_cst_5 : Ref sig .tc := ⟨.hbm, 59, rfl⟩
abbrev main_v27 : Ref sig .tc := ⟨.hbm, 60, rfl⟩
abbrev main_v28 : Ref sig .tc := ⟨.hbm, 61, rfl⟩
abbrev main_cst_6 : Ref sig .tc := ⟨.hbm, 62, rfl⟩
abbrev main_v29 : Ref sig .tc := ⟨.hbm, 63, rfl⟩
abbrev main_cst_7 : Ref sig .tc := ⟨.hbm, 64, rfl⟩
abbrev main_v30 : Ref sig .tc := ⟨.hbm, 65, rfl⟩
abbrev main_cst_8 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_9 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_10 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_11 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_12 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_call2_cst : Ref sig .tc := ⟨.hbm, 103, rfl⟩
abbrev main_call2_v0 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩

abbrev nD : Nat := 1
abbrev τ : Topo := Topo.v7x

variable {F : FTy → Type} [FloatOps F]
-- ==== Kernel2.lean ====
abbrev S4096x16x192 : Shape := ⟨3, ![4096, 16, 192]⟩
abbrev S4096x16x128 : Shape := ⟨3, ![4096, 16, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S16x4096x128 : Shape := ⟨3, ![16, 4096, 128]⟩
abbrev S16x4096x192 : Shape := ⟨3, ![16, 4096, 192]⟩
abbrev S1x4096x192 : Shape := ⟨3, ![1, 4096, 192]⟩
abbrev S1x512x192 : Shape := ⟨3, ![1, 512, 192]⟩
abbrev S1x512x128 : Shape := ⟨3, ![1, 512, 128]⟩
abbrev S1x4096x1 : Shape := ⟨3, ![1, 4096, 1]⟩
abbrev S1x4096x128 : Shape := ⟨3, ![1, 4096, 128]⟩
abbrev S4096x192 : Shape := ⟨2, ![4096, 192]⟩
abbrev S4096x128 : Shape := ⟨2, ![4096, 128]⟩
abbrev S512x192 : Shape := ⟨2, ![512, 192]⟩
abbrev S512x128 : Shape := ⟨2, ![512, 128]⟩
abbrev S512x512 : Shape := ⟨2, ![512, 512]⟩
abbrev S1x512x1 : Shape := ⟨3, ![1, 512, 1]⟩
abbrev S512x1 : Shape := ⟨2, ![512, 1]⟩

abbrev nBuf : Space → Nat
  | .hbm => 88
  | .vmem => 18
  | .smem => 0
  | _ => 0

abbrev bufTy : (tb : Table) → Fin (tcTables nBuf tb) → BufTy
  | .hbm, ⟨0, _⟩ => ⟨S4096x16x192, .bf16⟩
  | .hbm, ⟨1, _⟩ => ⟨S4096x16x192, .bf16⟩
  | .hbm, ⟨2, _⟩ => ⟨S4096x16x128, .bf16⟩
  | .hbm, ⟨3, _⟩ => ⟨S4096x16x128, .bf16⟩
  | .hbm, ⟨4, _⟩ => ⟨S4096x16x192, .f32⟩
  | .hbm, ⟨5, _⟩ => ⟨S4096x16x192, .f32⟩
  | .hbm, ⟨6, _⟩ => ⟨S4096x16x128, .f32⟩
  | .hbm, ⟨7, _⟩ => ⟨S16x4096x4096, .f32⟩
  | .hbm, ⟨8, _⟩ => ⟨S_, .f32⟩
  | .hbm, ⟨9, _⟩ => ⟨S_, .f32⟩
  | .hbm, ⟨10, _⟩ => ⟨S16x4096x4096, .f32⟩
  | .hbm, ⟨11, _⟩ => ⟨S16x4096x4096, .f32⟩
  | .hbm, ⟨12, _⟩ => ⟨S4096, .i32⟩
  | .hbm, ⟨13, _⟩ => ⟨S_, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S1x4096, .i32⟩
  | .hbm, ⟨32, _⟩ => ⟨S4096x1, .i32⟩
  | .hbm, ⟨33, _⟩ => ⟨S4096x4096, .i32⟩
  | .hbm, ⟨34, _⟩ => ⟨S4096x4096, .i32⟩
  | .hbm, ⟨35, _⟩ => ⟨S4096x4096, .i1⟩
  | .hbm, ⟨36, _⟩ => ⟨S1x4096x4096, .i1⟩
  | .hbm, ⟨37, _⟩ => ⟨S_, .f32⟩
  | .hbm, ⟨38, _⟩ => ⟨S_, .f32⟩
  | .hbm, ⟨39, _⟩ => ⟨S16x4096x4096, .i1⟩
  | .hbm, ⟨40, _⟩ => ⟨S16x4096x4096, .f32⟩
  | .hbm, ⟨41, _⟩ => ⟨S16x4096x4096, .f32⟩
  | .hbm, ⟨42, _⟩ => ⟨S_, .f32⟩
  | .hbm, ⟨43, _⟩ => ⟨S16x4096, .f32⟩
  | .hbm, ⟨44, _⟩ => ⟨S16x4096x1, .f32⟩
  | .hbm, ⟨45, _⟩ => ⟨S16x4096x4096, .f32⟩
  | .hbm, ⟨46, _⟩ => ⟨S16x4096x4096, .f32⟩
  | .hbm, ⟨47, _⟩ => ⟨S16x4096x4096, .f32⟩
  | .hbm, ⟨48, _⟩ => ⟨S_, .f32⟩
  | .hbm, ⟨49, _⟩ => ⟨S16x4096, .f32⟩
  | .hbm, ⟨50, _⟩ => ⟨S16x4096, .f32⟩
  | .hbm, ⟨51, _⟩ => ⟨S16x4096, .f32⟩
  | .hbm, ⟨52, _⟩ => ⟨S_, .f32⟩
  | .hbm, ⟨53, _⟩ => ⟨S_, .f32⟩
  | .hbm, ⟨54, _⟩ => ⟨S16x4096, .f32⟩
  | .hbm, ⟨55, _⟩ => ⟨S16x4096, .f32⟩
  | .hbm, ⟨56, _⟩ => ⟨S_, .f32⟩
  | .hbm, ⟨57, _⟩ => ⟨S16x4096, .f32⟩
  | .hbm, ⟨58, _⟩ => ⟨S_, .f32⟩
  | .hbm, ⟨59, _⟩ => ⟨S16x4096, .f32⟩
  | .hbm, ⟨60, _⟩ => ⟨S16x4096, .f32⟩
  | .hbm, ⟨61, _⟩ => ⟨S16x4096x1, .f32⟩
  | .hbm, ⟨62, _⟩ => ⟨S16x4096x4096, .f32⟩
  | .hbm, ⟨63, _⟩ => ⟨S16x4096x4096, .f32⟩
  | .hbm, ⟨64, _⟩ => ⟨S16x4096x4096, .f32⟩
  | .hbm, ⟨65, _⟩ => ⟨S_, .f32⟩
  | .hbm, ⟨66, _⟩ => ⟨S16x4096, .f32⟩
  | .hbm, ⟨67, _⟩ => ⟨S16x4096x1, .f32⟩
  | .hbm, ⟨68, _⟩ => ⟨S16x4096x4096, .f32⟩
  | .hbm, ⟨69, _⟩ => ⟨S16x4096x4096, .f32⟩
  | .hbm, ⟨70, _⟩ => ⟨S16x128x4096, .f32⟩
  | .hbm, ⟨71, _⟩ => ⟨S4096x16x128, .f32⟩
  | .hbm, ⟨72, _⟩ => ⟨S16x4096x128, .f32⟩
  | .hbm, ⟨73, _⟩ => ⟨S16x4096x128, .bf16⟩
  | .hbm, ⟨74, _⟩ => ⟨S16x4096x1, .f32⟩
  | .hbm, ⟨75, _⟩ => ⟨S16x4096x128, .bf16⟩
  | .hbm, ⟨76, _⟩ => ⟨S16x4096x128, .f32⟩
  | .hbm, ⟨77, _⟩ => ⟨S16x4096x128, .f32⟩
  | .hbm, ⟨78, _⟩ => ⟨S16x4096x128, .f32⟩
  | .hbm, ⟨79, _⟩ => ⟨S_, .f32⟩
  | .hbm, ⟨80, _⟩ => ⟨S16x4096, .f32⟩
  | .hbm, ⟨81, _⟩ => ⟨S16x4096x1, .f32⟩
  | .hbm, ⟨82, _⟩ => ⟨S16x4096x192, .bf16⟩
  | .hbm, ⟨83, _⟩ => ⟨S16x4096x192, .bf16⟩
  | .hbm, ⟨84, _⟩ => ⟨S16x4096x128, .bf16⟩
  | .hbm, ⟨85, _⟩ => ⟨S16x4096x128, .bf16⟩
  | .hbm, ⟨86, _⟩ => ⟨S16x4096x192, .bf16⟩
  | .hbm, ⟨87, _⟩ => ⟨S16x4096x128, .bf16⟩
  | .local _ .vmem, ⟨0, _⟩ => ⟨S1x4096x192, .bf16⟩
  | .local _ .vmem, ⟨1, _⟩ => ⟨S1x4096x192, .bf16⟩
  | .local _ .vmem, ⟨2, _⟩ => ⟨S1x512x192, .bf16⟩
  | .local _ .vmem, ⟨3, _⟩ => ⟨S1x512x192, .bf16⟩
  | .local _ .vmem, ⟨4, _⟩ => ⟨S1x512x128, .bf16⟩
  | .local _ .vmem, ⟨5, _⟩ => ⟨S1x512x128, .bf16⟩
  | .local _ .vmem, ⟨6, _⟩ => ⟨S1x4096x1, .f32⟩
  | .local _ .vmem, ⟨7, _⟩ => ⟨S1x4096x1, .f32⟩
  | .local _ .vmem, ⟨8, _⟩ => ⟨S1x4096x1, .f32⟩
  | .local _ .vmem, ⟨9, _⟩ => ⟨S1x4096x1, .f32⟩
  | .local _ .vmem, ⟨10, _⟩ => ⟨S1x4096x128, .bf16⟩
  | .local _ .vmem, ⟨11, _⟩ => ⟨S1x4096x128, .bf16⟩
  | .local _ .vmem, ⟨12, _⟩ => ⟨S1x512x192, .bf16⟩
  | .local _ .vmem, ⟨13, _⟩ => ⟨S1x512x192, .bf16⟩
  | .local _ .vmem, ⟨14, _⟩ => ⟨S1x512x128, .bf16⟩
  | .local _ .vmem, ⟨15, _⟩ => ⟨S1x512x128, .bf16⟩
  | .local _ .vmem, ⟨16, _⟩ => ⟨S4096x192, .bf16⟩
  | .local _ .vmem, ⟨17, _⟩ => ⟨S4096x128, .bf16⟩
  | _, _ => ⟨S4096x16x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v15 : Ref sig .tc := ⟨.hbm, 41, rfl⟩
abbrev main_cst_1 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_2 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_3 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_4 : Ref sig .tc := ⟨.hbm, 56, rfl⟩
abbrev main_v27 : Ref sig .tc := ⟨.hbm, 57, rfl⟩
abbrev main_cst_5 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_6 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_7 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53_0 : Ref sig .tc := ⟨.hbm, 86, rfl⟩
abbrev main_v53_1 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c512_i32 : BitVec 32 := 512#32
  let v9 : BitVec 32 := Scalar.muli arg1 c512_i32
  v9
def k0_off1 (i : grid0.Coords) : Fin 2 → Nat :=
  let arg1 : BitVec 32 := BitVec.ofNat 32 (i 1).val
  let c512_i32 : BitVec 32 := 512#32
  let v9 : BitVec 32 := Scalar.muli arg1 c512_i32
  let v10 : BitVec 32 := v9
  let v11 : Index := Scalar.indexCast v10
  let c0_7 : Index := 0#32
  ![v11.toNat, 0]
def k0_off2 (i : grid0.Coords) : Fin 3 → Nat :=
  let c0_8 : Index := 0#32
  let arg1 : BitVec 32 := BitVec.ofNat 32 (i 1).val
  let c512_i32 : BitVec 32 := 512#32
  let v9 : BitVec 32 := Scalar.muli arg1 c512_i32
  let v10 : BitVec 32 := v9
  let v13 : Index := Scalar.indexCast v10
  let c0_9 : Index := 0#32
  ![0, v13.toNat, 0]
def k0_off3 (i : grid0.Coords) : Fin 3 → Nat :=
  let c0_11 : Index := 0#32
  let arg1 : BitVec 32 := BitVec.ofNat 32 (i 1).val
  let c512_i32 : BitVec 32 := 512#32
  let v9 : BitVec 32 := Scalar.muli arg1 c512_i32
  let v10 : BitVec 32 := v9
  let v17 : Index := Scalar.indexCast v10
  let c0_12 : Index := 0#32
  ![0, v17.toNat, 0]
@[reducible] def k0_t1_loop (i : grid0.Coords) : Scf.Loop 32 :=
  let arg1 : BitVec 32 := BitVec.ofNat 32 (i 1).val
  let c1_i32_33 : BitVec 32 := 1#32
  let v95 : BitVec 32 := Scalar.addi arg1 c1_i32_33
  let c8_i32 : BitVec 32 := 8#32
  let v96 : BitVec 32 := Scalar.subi c8_i32 v95
  let c1_i32_34 : BitVec 32 := 1#32
  let v98 : BitVec 32 := Scalar.divsi v96 c1_i32_34
  let v99 : BitVec 32 := Scalar.muli v98 c1_i32_34
  let v100 : BitVec 32 := Scalar.addi v95 v99
  let c1_i32_35 : BitVec 32 := 1#32
  ⟨v95, v100, c1_i32_35⟩
def k0_mult2 (i : grid0.Coords) (k0_t1 : Fin (k0_t1_loop i).trips) : BitVec 32 :=
  let arg1 : BitVec 32 := BitVec.ofNat 32 (i 1).val
  let c1_i32_33 : BitVec 32 := 1#32
  let v95 : BitVec 32 := Scalar.addi arg1 c1_i32_33
  let c1_i32_35 : BitVec 32 := 1#32
  let arg12 : BitVec 32 := Scf.iv v95 c1_i32_35 k0_t1
  let c512_i32_44 : BitVec 32 := 512#32
  let v113 : BitVec 32 := Scalar.muli arg12 c512_i32_44
  v113
def k0_off4 (i : grid0.Coords) (k0_t1 : Fin (k0_t1_loop i).trips) : Fin 2 → Nat :=
  let arg1 : BitVec 32 := BitVec.ofNat 32 (i 1).val
  let c1_i32_33 : BitVec 32 := 1#32
  let v95 : BitVec 32 := Scalar.addi arg1 c1_i32_33
  let c1_i32_35 : BitVec 32 := 1#32
  let arg12 : BitVec 32 := Scf.iv v95 c1_i32_35 k0_t1
  let c512_i32_44 : BitVec 32 := 512#32
  let v113 : BitVec 32 := Scalar.muli arg12 c512_i32_44
  let v114 : BitVec 32 := v113
  let v115 : Index := Scalar.indexCast v114
  let c0_45 : Index := 0#32
  ![v115.toNat, 0]
def k0_off5 (i : grid0.Coords) (k0_t1 : Fin (k0_t1_loop i).trips) : Fin 3 → Nat :=
  let c0_46 : Index := 0#32
  let arg1 : BitVec 32 := BitVec.ofNat 32 (i 1).val
  let c1_i32_33 : BitVec 32 := 1#32
  let v95 : BitVec 32 := Scalar.addi arg1 c1_i32_33
  let c1_i32_35 : BitVec 32 := 1#32
  let arg12 : BitVec 32 := Scf.iv v95 c1_i32_35 k0_t1
  let c512_i32_44 : BitVec 32 := 512#32
  let v113 : BitVec 32 := Scalar.muli arg12 c512_i32_44
  let v114 : BitVec 32 := v113
  let v117 : Index := Scalar.indexCast v114
  let c0_47 : Index := 0#32
  ![0, v117.toNat, 0]
def k0_off6 (i : grid0.Coords) (k0_t1 : Fin (k0_t1_loop i).trips) : Fin 3 → Nat :=
  let c0_49 : Index := 0#32
  let arg1 : BitVec 32 := BitVec.ofNat 32 (i 1).val
  let c1_i32_33 : BitVec 32 := 1#32
  let v95 : BitVec 32 := Scalar.addi arg1 c1_i32_33
  let c1_i32_35 : BitVec 32 := 1#32
  let arg12 : BitVec 32 := Scf.iv v95 c1_i32_35 k0_t1
  let c512_i32_44 : BitVec 32 := 512#32
  let v113 : BitVec 32 := Scalar.muli arg12 c512_i32_44
  let v114 : BitVec 32 := v113
  let v121 : Index := Scalar.indexCast v114
  let c0_50 : Index := 0#32
  ![0, v121.toNat, 0]
@[reducible] def k0_t2_loop (i : grid0.Coords) : Scf.Loop 32 :=
  let arg1 : BitVec 32 := BitVec.ofNat 32 (i 1).val
  let c1_i32_33 : BitVec 32 := 1#32
  let v95 : BitVec 32 := Scalar.addi arg1 c1_i32_33
  let c8_i32 : BitVec 32 := 8#32
  let v96 : BitVec 32 := Scalar.subi c8_i32 v95
  let c1_i32_34 : BitVec 32 := 1#32
  let v98 : BitVec 32 := Scalar.divsi v96 c1_i32_34
  let v99 : BitVec 32 := Scalar.muli v98 c1_i32_34
  let v100 : BitVec 32 := Scalar.addi v95 v99
  let v97 : BitVec 32 := Scalar.addi v95 v96
  let c1_i32_36 : BitVec 32 := 1#32
  ⟨v100, v97, c1_i32_36⟩
def k0_mult3 (i : grid0.Coords) (k0_t2 : Fin (k0_t2_loop i).trips) : BitVec 32 :=
  let arg1 : BitVec 32 := BitVec.ofNat 32 (i 1).val
  let c1_i32_33 : BitVec 32 := 1#32
  let v95 : BitVec 32 := Scalar.addi arg1 c1_i32_33
  let c8_i32 : BitVec 32 := 8#32
  let v96 : BitVec 32 := Scalar.subi c8_i32 v95
  let c1_i32_34 : BitVec 32 := 1#32
  let v98 : BitVec 32 := Scalar.divsi v96 c1_i32_34
  let v99 : BitVec 32 := Scalar.muli v98 c1_i32_34
  let v100 : BitVec 32 := Scalar.addi v95 v99
  let c1_i32_36 : BitVec 32 := 1#32
  let arg12 : BitVec 32 := Scf.iv v100 c1_i32_36 k0_t2
  let c512_i32_44 : BitVec 32 := 512#32
  let v113 : BitVec 32 := Scalar.muli arg12 c512_i32_44
  v113
def k0_off7 (i : grid0.Coords) (k0_t2 : Fin (k0_t2_loop i).trips) : Fin 2 → Nat :=
  let arg1 : BitVec 32 := BitVec.ofNat 32 (i 1).val
  let c1_i32_33 : BitVec 32 := 1#32
  let v95 : BitVec 32 := Scalar.addi arg1 c1_i32_33
  let c8_i32 : BitVec 32 := 8#32
  let v96 : BitVec 32 := Scalar.subi c8_i32 v95
  let c1_i32_34 : BitVec 32 := 1#32
  let v98 : BitVec 32 := Scalar.divsi v96 c1_i32_34
  let v99 : BitVec 32 := Scalar.muli v98 c1_i32_34
  let v100 : BitVec 32 := Scalar.addi v95 v99
  let c1_i32_36 : BitVec 32 := 1#32
  let arg12 : BitVec 32 := Scf.iv v100 c1_i32_36 k0_t2
  let c512_i32_44 : BitVec 32 := 512#32
  let v113 : BitVec 32 := Scalar.muli arg12 c512_i32_44
  let v114 : BitVec 32 := v113
  let v115 : Index := Scalar.indexCast v114
  let c0_45 : Index := 0#32
  ![v115.toNat, 0]
def k0_off8 (i : grid0.Coords) (k0_t2 : Fin (k0_t2_loop i).trips) : Fin 3 → Nat :=
  let c0_46 : Index := 0#32
  let arg1 : BitVec 32 := BitVec.ofNat 32 (i 1).val
  let c1_i32_33 : BitVec 32 := 1#32
  let v95 : BitVec 32 := Scalar.addi arg1 c1_i32_33
  let c8_i32 : BitVec 32 := 8#32
  let v96 : BitVec 32 := Scalar.subi c8_i32 v95
  let c1_i32_34 : BitVec 32 := 1#32
  let v98 : BitVec 32 := Scalar.divsi v96 c1_i32_34
  let v99 : BitVec 32 := Scalar.muli v98 c1_i32_34
  let v100 : BitVec 32 := Scalar.addi v95 v99
  let c1_i32_36 : BitVec 32 := 1#32
  let arg12 : BitVec 32 := Scf.iv v100 c1_i32_36 k0_t2
  let c512_i32_44 : BitVec 32 := 512#32
  let v113 : BitVec 32 := Scalar.muli arg12 c512_i32_44
  let v114 : BitVec 32 := v113
  let v117 : Index := Scalar.indexCast v114
  let c0_47 : Index := 0#32
  ![0, v117.toNat, 0]
def k0_off9 (i : grid0.Coords) (k0_t2 : Fin (k0_t2_loop i).trips) : Fin 3 → Nat :=
  let c0_49 : Index := 0#32
  let arg1 : BitVec 32 := BitVec.ofNat 32 (i 1).val
  let c1_i32_33 : BitVec 32 := 1#32
  let v95 : BitVec 32 := Scalar.addi arg1 c1_i32_33
  let c8_i32 : BitVec 32 := 8#32
  let v96 : BitVec 32 := Scalar.subi c8_i32 v95
  let c1_i32_34 : BitVec 32 := 1#32
  let v98 : BitVec 32 := Scalar.divsi v96 c1_i32_34
  let v99 : BitVec 32 := Scalar.muli v98 c1_i32_34
  let v100 : BitVec 32 := Scalar.addi v95 v99
  let c1_i32_36 : BitVec 32 := 1#32
  let arg12 : BitVec 32 := Scf.iv v100 c1_i32_36 k0_t2
  let c512_i32_44 : BitVec 32 := 512#32
  let v113 : BitVec 32 := Scalar.muli arg12 c512_i32_44
  let v114 : BitVec 32 := v113
  let v121 : Index := Scalar.indexCast v114
  let c0_50 : Index := 0#32
  ![0, v121.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2Ideal.lean ====
variable {F : FTy → Type} [FloatOps F] [Named F]
def κ : String → Option EReal := fun
  | "ln2" => some ((Real.log 2 : ℝ) : EReal)
  | "scale" => some (((Real.sqrt 192)⁻¹ : ℝ) : EReal)
  | "scale_log2e" => some (((Real.sqrt 192)⁻¹ * (Real.log 2)⁻¹ : ℝ) : EReal)
  | _ => none
-- ==== Reference2Ideal.lean ====
abbrev S4096x16x192 : Shape := ⟨3, ![4096, 16, 192]⟩
abbrev S4096x16x128 : Shape := ⟨3, ![4096, 16, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S16x4096x192 : Shape := ⟨3, ![16, 4096, 192]⟩
abbrev S16x4096x128 : Shape := ⟨3, ![16, 4096, 128]⟩

abbrev nBuf : Space → Nat
  | .hbm => 116
  | .vmem => 0
  | .smem => 0
  | _ => 0

abbrev bufTy : (tb : Table) → Fin (tcTables nBuf tb) → BufTy
  | .hbm, ⟨0, _⟩ => ⟨S4096x16x192, .bf16⟩
  | .hbm, ⟨1, _⟩ => ⟨S4096x16x192, .bf16⟩
  | .hbm, ⟨2, _⟩ => ⟨S4096x16x128, .bf16⟩
  | .hbm, ⟨3, _⟩ => ⟨S4096x16x128, .bf16⟩
  | .hbm, ⟨4, _⟩ => ⟨S4096x16x192, .f32⟩
  | .hbm, ⟨5, _⟩ => ⟨S4096x16x192, .f32⟩
  | .hbm, ⟨6, _⟩ => ⟨S4096x16x128, .f32⟩
  | .hbm, ⟨7, _⟩ => ⟨S4096x16x128, .f32⟩
  | .hbm, ⟨8, _⟩ => ⟨S16x4096x4096, .f32⟩
  | .hbm, ⟨9, _⟩ => ⟨S_, .f32⟩
  | .hbm, ⟨10, _⟩ => ⟨S_, .f32⟩
  | .hbm, ⟨11, _⟩ => ⟨S16x4096x4096, .f32⟩
  | .hbm, ⟨12, _⟩ => ⟨S16x4096x4096, .f32⟩
  | .hbm, ⟨13, _⟩ => ⟨S4096, .i32⟩
  | .hbm, ⟨14, _⟩ => ⟨S_, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S1x4096, .i32⟩
  | .hbm, ⟨33, _⟩ => ⟨S4096x1, .i32⟩
  | .hbm, ⟨34, _⟩ => ⟨S4096x4096, .i32⟩
  | .hbm, ⟨35, _⟩ => ⟨S4096x4096, .i32⟩
  | .hbm, ⟨36, _⟩ => ⟨S4096x4096, .i1⟩
  | .hbm, ⟨37, _⟩ => ⟨S1x4096x4096, .i1⟩
  | .hbm, ⟨38, _⟩ => ⟨S_, .f32⟩
  | .hbm, ⟨39, _⟩ => ⟨S_, .f32⟩
  | .hbm, ⟨40, _⟩ => ⟨S16x4096x4096, .i1⟩
  | .hbm, ⟨41, _⟩ => ⟨S16x4096x4096, .f32⟩
  | .hbm, ⟨42, _⟩ => ⟨S16x4096x4096, .f32⟩
  | .hbm, ⟨43, _⟩ => ⟨S_, .f32⟩
  | .hbm, ⟨44, _⟩ => ⟨S16x4096x4096, .f32⟩
  | .hbm, ⟨45, _⟩ => ⟨S_, .f32⟩
  | .hbm, ⟨46, _⟩ => ⟨S16x4096, .f32⟩
  | .hbm, ⟨47, _⟩ => ⟨S16x4096x1, .f32⟩
  | .hbm, ⟨48, _⟩ => ⟨S16x4096x4096, .f32⟩
  | .hbm, ⟨49, _⟩ => ⟨S16x4096x4096, .i1⟩
  | .hbm, ⟨50, _⟩ => ⟨S16x4096x4096, .f32⟩
  | .hbm, ⟨51, _⟩ => ⟨S_, .f32⟩
  | .hbm, ⟨52, _⟩ => ⟨S16x4096, .f32⟩
  | .hbm, ⟨53, _⟩ => ⟨S_, .f32⟩
  | .hbm, ⟨54, _⟩ => ⟨S16x4096, .f32⟩
  | .hbm, ⟨55, _⟩ => ⟨S16x4096, .f32⟩
  | .hbm, ⟨56, _⟩ => ⟨S_, .f32⟩
  | .hbm, ⟨57, _⟩ => ⟨S16x4096, .f32⟩
  | .hbm, ⟨58, _⟩ => ⟨S16x4096, .i1⟩
  | .hbm, ⟨59, _⟩ => ⟨S_, .f32⟩
  | .hbm, ⟨60, _⟩ => ⟨S16x4096, .f32⟩
  | .hbm, ⟨61, _⟩ => ⟨S16x4096, .i1⟩
  | .hbm, ⟨62, _⟩ => ⟨S_, .f32⟩
  | .hbm, ⟨63, _⟩ => ⟨S16x4096, .f32⟩
  | .hbm, ⟨64, _⟩ => ⟨S_, .f32⟩
  | .hbm, ⟨65, _⟩ => ⟨S16x4096, .f32⟩
  | .hbm, ⟨66, _⟩ => ⟨S_, .f32⟩
  | .hbm, ⟨67, _⟩ => ⟨S16x4096, .f32⟩
  | .hbm, ⟨68, _⟩ => ⟨S16x4096, .f32⟩
  | .hbm, ⟨69, _⟩ => ⟨S16x4096, .f32⟩
  | .hbm, ⟨70, _⟩ => ⟨S16x4096x1, .f32⟩
  | .hbm, ⟨71, _⟩ => ⟨S16x4096x4096, .f32⟩
  | .hbm, ⟨72, _⟩ => ⟨S16x4096x4096, .f32⟩
  | .hbm, ⟨73, _⟩ => ⟨S16x4096x4096, .f32⟩
  | .hbm, ⟨74, _⟩ => ⟨S_, .f32⟩
  | .hbm, ⟨75, _⟩ => ⟨S16x4096, .f32⟩
  | .hbm, ⟨76, _⟩ => ⟨S16x4096x1, .f32⟩
  | .hbm, ⟨77, _⟩ => ⟨S16x4096x4096, .f32⟩
  | .hbm, ⟨78, _⟩ => ⟨S16x4096x4096, .f32⟩
  | .hbm, ⟨79, _⟩ => ⟨S16x4096x1, .f32⟩
  | .hbm, ⟨80, _⟩ => ⟨S_, .f32⟩
  | .hbm, ⟨81, _⟩ => ⟨S16x4096x1, .f32⟩
  | .hbm, ⟨82, _⟩ => ⟨S16x4096x1, .f32⟩
  | .hbm, ⟨83, _⟩ => ⟨S16x128x4096, .f32⟩
  | .hbm, ⟨84, _⟩ => ⟨S4096x16x128, .f32⟩
  | .hbm, ⟨85, _⟩ => ⟨S16x128x4096, .f32⟩
  | .hbm, ⟨86, _⟩ => ⟨S16x4096x4096, .f32⟩
  | .hbm, ⟨87, _⟩ => ⟨S16x128x4096, .f32⟩
  | .hbm, ⟨88, _⟩ => ⟨S4096x16x128, .f32⟩
  | .hbm, ⟨89, _⟩ => ⟨S16x4096x4096, .f32⟩
  | .hbm, ⟨90, _⟩ => ⟨S16x4096x4096, .f32⟩
  | .hbm, ⟨91, _⟩ => ⟨S16x4096x4096, .f32⟩
  | .hbm, ⟨92, _⟩ => ⟨S_, .f32⟩
  | .hbm, ⟨93, _⟩ => ⟨S16x4096, .f32⟩
  | .hbm, ⟨94, _⟩ => ⟨S16x4096x1, .f32⟩
  | .hbm, ⟨95, _⟩ => ⟨S16x4096x1, .f32⟩
  | .hbm, ⟨96, _⟩ => ⟨S16x4096x4096, .f32⟩
  | .hbm, ⟨97, _⟩ => ⟨S16x4096x4096, .f32⟩
  | .hbm, ⟨98, _⟩ => ⟨S_, .f32⟩
  | .hbm, ⟨99, _⟩ => ⟨S16x4096, .f32⟩
  | .hbm, ⟨100, _⟩ => ⟨S16x4096x4096, .f32⟩
  | .hbm, ⟨101, _⟩ => ⟨S16x4096x4096, .f32⟩
  | .hbm, ⟨102, _⟩ => ⟨S16x4096x4096, .f32⟩
  | .hbm, ⟨103, _⟩ => ⟨S_, .f32⟩
  | .hbm, ⟨104, _⟩ => ⟨S16x4096x4096, .f32⟩
  | .hbm, ⟨105, _⟩ => ⟨S16x4096x4096, .f32⟩
  | .hbm, ⟨106, _⟩ => ⟨S16x4096x4096, .f32⟩
  | .hbm, ⟨107, _⟩ => ⟨S16x4096x4096, .f32⟩
  | .hbm, ⟨108, _⟩ => ⟨S16x4096x192, .f32⟩
  | .hbm, ⟨109, _⟩ => ⟨S4096x16x192, .f32⟩
  | .hbm, ⟨110, _⟩ => ⟨S16x4096x192, .f32⟩
  | .hbm, ⟨111, _⟩ => ⟨S4096x16x192, .f32⟩
  | .hbm, ⟨112, _⟩ => ⟨S16x4096x192, .f32⟩
  | .hbm, ⟨113, _⟩ => ⟨S16x4096x192, .bf16⟩
  | .hbm, ⟨114, _⟩ => ⟨S16x4096x128, .f32⟩
  | .hbm, ⟨115, _⟩ => ⟨S16x4096x128, .bf16⟩
  | _, _ => ⟨S4096x16x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_0 : Ref sig .tc := ⟨.hbm, 38, rfl⟩
abbrev main_call1_v0 : Ref sig .tc := ⟨.hbm, 39, rfl⟩
abbrev main_v16_1 : Ref sig .tc := ⟨.hbm, 40, rfl⟩
abbrev main_call1_v2 : Ref sig .tc := ⟨.hbm, 41, rfl⟩
abbrev main_v16_0 : Ref sig .tc := ⟨.hbm, 42, rfl⟩
abbrev main_call1_cst : Ref sig .tc := ⟨.hbm, 43, rfl⟩
abbrev main_v16_2 : Ref sig .tc := ⟨.hbm, 44, rfl⟩
abbrev main_cst_1 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_2 : Ref sig .tc := ⟨.hbm, 51, rfl⟩
abbrev main_v22 : Ref sig .tc := ⟨.hbm, 52, rfl⟩
abbrev main_cst_3 : Ref sig .tc := ⟨.hbm, 53, rfl⟩
abbrev main_v23 : Ref sig .tc := ⟨.hbm, 54, rfl⟩
abbrev main_v24 : Ref sig .tc := ⟨.hbm, 55, rfl⟩
abbrev main_cst_4 : Ref sig .tc := ⟨.hbm, 56, rfl⟩
abbrev main_v25 : Ref sig .tc := ⟨.hbm, 57, rfl⟩
abbrev main_v26 : Ref sig .tc := ⟨.hbm, 58, rfl⟩
abbrev main_cst_5 : Ref sig .tc := ⟨.hbm, 59, rfl⟩
abbrev main_v27 : Ref sig .tc := ⟨.hbm, 60, rfl⟩
abbrev main_v28 : Ref sig .tc := ⟨.hbm, 61, rfl⟩
abbrev main_cst_6 : Ref sig .tc := ⟨.hbm, 62, rfl⟩
abbrev main_v29 : Ref sig .tc := ⟨.hbm, 63, rfl⟩
abbrev main_cst_7 : Ref sig .tc := ⟨.hbm, 64, rfl⟩
abbrev main_v30 : Ref sig .tc := ⟨.hbm, 65, rfl⟩
abbrev main_cst_8 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_9 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_10 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_11 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_12 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_call2_cst : Ref sig .tc := ⟨.hbm, 103, rfl⟩
abbrev main_call2_v0 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩

abbrev nD : Nat := 1
abbrev τ : Topo := Topo.v7x

variable {F : FTy → Type} [FloatOps F]
-- ==== Kernel3.lean ====
abbrev S4096x16x192 : Shape := ⟨3, ![4096, 16, 192]⟩
abbrev S4096x16x128 : Shape := ⟨3, ![4096, 16, 128]⟩
abbrev S16x4096x192 : Shape := ⟨3, ![16, 4096, 192]⟩
abbrev S16x4096x128 : Shape := ⟨3, ![16, 4096, 128]⟩
abbrev S16x4096x1 : Shape := ⟨3, ![16, 4096, 1]⟩
abbrev S1x512x192 : Shape := ⟨3, ![1, 512, 192]⟩
abbrev S1x4096x192 : Shape := ⟨3, ![1, 4096, 192]⟩
abbrev S1x4096x128 : Shape := ⟨3, ![1, 4096, 128]⟩
abbrev S1x512x128 : Shape := ⟨3, ![1, 512, 128]⟩
abbrev S1x512x1 : Shape := ⟨3, ![1, 512, 1]⟩
abbrev S4096x192 : Shape := ⟨2, ![4096, 192]⟩
abbrev S4096x128 : Shape := ⟨2, ![4096, 128]⟩
abbrev S512x192 : Shape := ⟨2, ![512, 192]⟩
abbrev S512x1 : Shape := ⟨2, ![512, 1]⟩
abbrev S512x128 : Shape := ⟨2, ![512, 128]⟩
abbrev S512x512 : Shape := ⟨2, ![512, 512]⟩
abbrev S512 : Shape := ⟨1, ![512]⟩

abbrev nBuf : Space → Nat
  | .hbm => 8
  | .vmem => 12
  | .smem => 0
  | _ => 0

abbrev bufTy : (tb : Table) → Fin (tcTables nBuf tb) → BufTy
  | .hbm, ⟨0, _⟩ => ⟨S4096x16x192, .bf16⟩
  | .hbm, ⟨1, _⟩ => ⟨S4096x16x192, .bf16⟩
  | .hbm, ⟨2, _⟩ => ⟨S4096x16x128, .bf16⟩
  | .hbm, ⟨3, _⟩ => ⟨S16x4096x192, .bf16⟩
  | .hbm, ⟨4, _⟩ => ⟨S16x4096x192, .bf16⟩
  | .hbm, ⟨5, _⟩ => ⟨S16x4096x128, .bf16⟩
  | .hbm, ⟨6, _⟩ => ⟨S16x4096x128, .bf16⟩
  | .hbm, ⟨7, _⟩ => ⟨S16x4096x1, .f32⟩
  | .local _ .vmem, ⟨0, _⟩ => ⟨S1x512x192, .bf16⟩
  | .local _ .vmem, ⟨1, _⟩ => ⟨S1x512x192, .bf16⟩
  | .local _ .vmem, ⟨2, _⟩ => ⟨S1x4096x192, .bf16⟩
  | .local _ .vmem, ⟨3, _⟩ => ⟨S1x4096x192, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x1, .f32⟩
  | .local _ .vmem, ⟨9, _⟩ => ⟨S1x512x1, .f32⟩
  | .local _ .vmem, ⟨10, _⟩ => ⟨S4096x192, .bf16⟩
  | .local _ .vmem, ⟨11, _⟩ => ⟨S4096x128, .bf16⟩
  | _, _ => ⟨S4096x16x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_5 : BitVec 32 := 1#32
  ⟨c0_i32, v13, c1_i32_5⟩
def k0_mult1 (i : grid0.Coords) (k0_t1 : Fin (k0_t1_loop i).trips) : BitVec 32 :=
  let c0_i32 : BitVec 32 := 0#32
  let c1_i32_5 : BitVec 32 := 1#32
  let arg9 : BitVec 32 := Scf.iv c0_i32 c1_i32_5 k0_t1
  let c512_i32_38 : BitVec 32 := 512#32
  let v114 : BitVec 32 := Scalar.muli arg9 c512_i32_38
  v114
def k0_off1 (i : grid0.Coords) (k0_t1 : Fin (k0_t1_loop i).trips) : Fin 3 → Nat :=
  let c0_39 : Index := 0#32
  let c0_i32 : BitVec 32 := 0#32
  let c1_i32_5 : BitVec 32 := 1#32
  let arg9 : BitVec 32 := Scf.iv c0_i32 c1_i32_5 k0_t1
  let c512_i32_38 : BitVec 32 := 512#32
  let v114 : BitVec 32 := Scalar.muli arg9 c512_i32_38
  let v115 : BitVec 32 := v114
  let v116 : Index := Scalar.indexCast v115
  let c0_40 : Index := 0#32
  ![0, v116.toNat, 0]
def k0_off2 (i : grid0.Coords) (k0_t1 : Fin (k0_t1_loop i).trips) : Fin 3 → Nat :=
  let c0_41 : Index := 0#32
  let c0_i32 : BitVec 32 := 0#32
  let c1_i32_5 : BitVec 32 := 1#32
  let arg9 : BitVec 32 := Scf.iv c0_i32 c1_i32_5 k0_t1
  let c512_i32_38 : BitVec 32 := 512#32
  let v114 : BitVec 32 := Scalar.muli arg9 c512_i32_38
  let v115 : BitVec 32 := v114
  let v119 : Index := Scalar.indexCast v115
  let c0_42 : Index := 0#32
  ![0, v119.toNat, 0]
@[reducible] def k0_t2_loop (i : grid0.Coords) : Scf.Loop 32 :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let v10 : BitVec 32 := Scalar.addi c0_i32 v9
  let c1_i32_6 : BitVec 32 := 1#32
  ⟨v13, v10, c1_i32_6⟩
def k0_mult2 (i : grid0.Coords) (k0_t2 : Fin (k0_t2_loop i).trips) : BitVec 32 :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_6 : BitVec 32 := 1#32
  let arg9 : BitVec 32 := Scf.iv v13 c1_i32_6 k0_t2
  let c512_i32_38 : BitVec 32 := 512#32
  let v114 : BitVec 32 := Scalar.muli arg9 c512_i32_38
  v114
def k0_off3 (i : grid0.Coords) (k0_t2 : Fin (k0_t2_loop i).trips) : Fin 3 → Nat :=
  let c0_39 : Index := 0#32
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_6 : BitVec 32 := 1#32
  let arg9 : BitVec 32 := Scf.iv v13 c1_i32_6 k0_t2
  let c512_i32_38 : BitVec 32 := 512#32
  let v114 : BitVec 32 := Scalar.muli arg9 c512_i32_38
  let v115 : BitVec 32 := v114
  let v116 : Index := Scalar.indexCast v115
  let c0_40 : Index := 0#32
  ![0, v116.toNat, 0]
def k0_off4 (i : grid0.Coords) (k0_t2 : Fin (k0_t2_loop i).trips) : Fin 3 → Nat :=
  let c0_41 : Index := 0#32
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_6 : BitVec 32 := 1#32
  let arg9 : BitVec 32 := Scf.iv v13 c1_i32_6 k0_t2
  let c512_i32_38 : BitVec 32 := 512#32
  let v114 : BitVec 32 := Scalar.muli arg9 c512_i32_38
  let v115 : BitVec 32 := v114
  let v119 : Index := Scalar.indexCast v115
  let c0_42 : Index := 0#32
  ![0, v119.toNat, 0]
def k0_mult3 (i : grid0.Coords) : BitVec 32 :=
  let arg1 : BitVec 32 := BitVec.ofNat 32 (i 1).val
  let c512_i32 : BitVec 32 := 512#32
  let v16 : BitVec 32 := Scalar.muli arg1 c512_i32
  v16
def k0_off5 (i : grid0.Coords) : Fin 3 → Nat :=
  let c0_7 : Index := 0#32
  let arg1 : BitVec 32 := BitVec.ofNat 32 (i 1).val
  let c512_i32 : BitVec 32 := 512#32
  let v16 : BitVec 32 := Scalar.muli arg1 c512_i32
  let v17 : BitVec 32 := v16
  let v18 : Index := Scalar.indexCast v17
  let c0_8 : Index := 0#32
  ![0, v18.toNat, 0]
def k0_off6 (i : grid0.Coords) : Fin 3 → Nat :=
  let c0_9 : Index := 0#32
  let arg1 : BitVec 32 := BitVec.ofNat 32 (i 1).val
  let c512_i32 : BitVec 32 := 512#32
  let v16 : BitVec 32 := Scalar.muli arg1 c512_i32
  let v17 : BitVec 32 := v16
  let v21 : Index := Scalar.indexCast v17
  let c0_10 : Index := 0#32
  ![0, v21.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel3Ideal.lean ====
variable {F : FTy → Type} [FloatOps F] [Named F]
def κ : String → Option EReal := fun
  | "log2e" => some (((Real.log 2)⁻¹ : ℝ) : EReal)
  | "scale_log2e" => some (((Real.sqrt 192)⁻¹ * (Real.log 2)⁻¹ : ℝ) : EReal)
  | _ => none
-- ==== Reference3Ideal.lean ====
abbrev S4096x16x192 : Shape := ⟨3, ![4096, 16, 192]⟩
abbrev S4096x16x128 : Shape := ⟨3, ![4096, 16, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S16x4096x128 : Shape := ⟨3, ![16, 4096, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x16x192, .bf16⟩
  | .hbm, ⟨1, _⟩ => ⟨S4096x16x192, .bf16⟩
  | .hbm, ⟨2, _⟩ => ⟨S4096x16x128, .bf16⟩
  | .hbm, ⟨3, _⟩ => ⟨S4096x16x192, .f32⟩
  | .hbm, ⟨4, _⟩ => ⟨S4096x16x192, .f32⟩
  | .hbm, ⟨5, _⟩ => ⟨S4096x16x128, .f32⟩
  | .hbm, ⟨6, _⟩ => ⟨S16x4096x4096, .f32⟩
  | .hbm, ⟨7, _⟩ => ⟨S_, .f32⟩
  | .hbm, ⟨8, _⟩ => ⟨S_, .f32⟩
  | .hbm, ⟨9, _⟩ => ⟨S16x4096x4096, .f32⟩
  | .hbm, ⟨10, _⟩ => ⟨S16x4096x4096, .f32⟩
  | .hbm, ⟨11, _⟩ => ⟨S4096, .i32⟩
  | .hbm, ⟨12, _⟩ => ⟨S_, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S1x4096, .i32⟩
  | .hbm, ⟨31, _⟩ => ⟨S4096x1, .i32⟩
  | .hbm, ⟨32, _⟩ => ⟨S4096x4096, .i32⟩
  | .hbm, ⟨33, _⟩ => ⟨S4096x4096, .i32⟩
  | .hbm, ⟨34, _⟩ => ⟨S4096x4096, .i1⟩
  | .hbm, ⟨35, _⟩ => ⟨S1x4096x4096, .i1⟩
  | .hbm, ⟨36, _⟩ => ⟨S_, .f32⟩
  | .hbm, ⟨37, _⟩ => ⟨S_, .f32⟩
  | .hbm, ⟨38, _⟩ => ⟨S16x4096x4096, .i1⟩
  | .hbm, ⟨39, _⟩ => ⟨S16x4096x4096, .f32⟩
  | .hbm, ⟨40, _⟩ => ⟨S16x4096x4096, .f32⟩
  | .hbm, ⟨41, _⟩ => ⟨S_, .f32⟩
  | .hbm, ⟨42, _⟩ => ⟨S16x4096, .f32⟩
  | .hbm, ⟨43, _⟩ => ⟨S16x4096x1, .f32⟩
  | .hbm, ⟨44, _⟩ => ⟨S16x4096x4096, .f32⟩
  | .hbm, ⟨45, _⟩ => ⟨S16x4096x4096, .f32⟩
  | .hbm, ⟨46, _⟩ => ⟨S16x4096x4096, .f32⟩
  | .hbm, ⟨47, _⟩ => ⟨S_, .f32⟩
  | .hbm, ⟨48, _⟩ => ⟨S16x4096, .f32⟩
  | .hbm, ⟨49, _⟩ => ⟨S16x4096, .f32⟩
  | .hbm, ⟨50, _⟩ => ⟨S16x4096, .f32⟩
  | .hbm, ⟨51, _⟩ => ⟨S_, .f32⟩
  | .hbm, ⟨52, _⟩ => ⟨S_, .f32⟩
  | .hbm, ⟨53, _⟩ => ⟨S16x4096, .f32⟩
  | .hbm, ⟨54, _⟩ => ⟨S16x4096, .f32⟩
  | .hbm, ⟨55, _⟩ => ⟨S_, .f32⟩
  | .hbm, ⟨56, _⟩ => ⟨S16x4096, .f32⟩
  | .hbm, ⟨57, _⟩ => ⟨S_, .f32⟩
  | .hbm, ⟨58, _⟩ => ⟨S16x4096, .f32⟩
  | .hbm, ⟨59, _⟩ => ⟨S16x4096, .f32⟩
  | .hbm, ⟨60, _⟩ => ⟨S16x4096x1, .f32⟩
  | .hbm, ⟨61, _⟩ => ⟨S16x4096x4096, .f32⟩
  | .hbm, ⟨62, _⟩ => ⟨S16x4096x4096, .f32⟩
  | .hbm, ⟨63, _⟩ => ⟨S16x4096x4096, .f32⟩
  | .hbm, ⟨64, _⟩ => ⟨S_, .f32⟩
  | .hbm, ⟨65, _⟩ => ⟨S16x4096, .f32⟩
  | .hbm, ⟨66, _⟩ => ⟨S16x4096x1, .f32⟩
  | .hbm, ⟨67, _⟩ => ⟨S16x4096x4096, .f32⟩
  | .hbm, ⟨68, _⟩ => ⟨S16x4096x4096, .f32⟩
  | .hbm, ⟨69, _⟩ => ⟨S16x128x4096, .f32⟩
  | .hbm, ⟨70, _⟩ => ⟨S4096x16x128, .f32⟩
  | .hbm, ⟨71, _⟩ => ⟨S16x4096x128, .f32⟩
  | .hbm, ⟨72, _⟩ => ⟨S16x4096x128, .bf16⟩
  | .hbm, ⟨73, _⟩ => ⟨S16x4096x1, .f32⟩
  | _, _ => ⟨S4096x16x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_2 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_3 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_4 : Ref sig .tc := ⟨.hbm, 55, rfl⟩
abbrev main_v27 : Ref sig .tc := ⟨.hbm, 56, rfl⟩
abbrev main_cst_5 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_6 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩

abbrev nD : Nat := 1
abbrev τ : Topo := Topo.v7x

variable {F : FTy → Type} [FloatOps F]
-- ==== Kernel4.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel4Ideal.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x8192 : Shape := ⟨2, ![4096, 8192]⟩
abbrev S8192x2048 : Shape := ⟨2, ![8192, 2048]⟩
abbrev S4096x2048 : Shape := ⟨2, ![4096, 2048]⟩
abbrev S2048x8192 : Shape := ⟨2, ![2048, 8192]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .bf16⟩
  | .hbm, ⟨3, _⟩ => ⟨S4096x8192, .f32⟩
  | .hbm, ⟨4, _⟩ => ⟨S8192x2048, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S4096x8192, .f32⟩
  | .hbm, ⟨10, _⟩ => ⟨S4096x8192, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4096x8192 : Shape := ⟨2, ![4096, 8192]⟩
abbrev S8192x2048 : Shape := ⟨2, ![8192, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .bf16⟩
  | .hbm, ⟨3, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel5Ideal.lean ====
abbrev S4096x8192 : Shape := ⟨2, ![4096, 8192]⟩
abbrev S8192x2048 : Shape := ⟨2, ![8192, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .bf16⟩
  | .hbm, ⟨3, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x8192 : Shape := ⟨2, ![4096, 8192]⟩
abbrev S8192x2048 : Shape := ⟨2, ![8192, 2048]⟩
abbrev S4096x2048 : Shape := ⟨2, ![4096, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .bf16⟩
  | .hbm, ⟨3, _⟩ => ⟨S4096x8192, .f32⟩
  | .hbm, ⟨4, _⟩ => ⟨S8192x2048, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S4096x8192, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x2048 : Shape := ⟨2, ![4096, 2048]⟩
abbrev S2048x8192 : Shape := ⟨2, ![2048, 8192]⟩
abbrev S4096x8192 : Shape := ⟨2, ![4096, 8192]⟩
abbrev S2048x4x2048 : Shape := ⟨3, ![2048, 4, 2048]⟩
abbrev S4x2048x2048 : Shape := ⟨3, ![4, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S2048x4x2048, .bf16⟩
  | .hbm, ⟨4, _⟩ => ⟨S4x2048x2048, .bf16⟩
  | .hbm, ⟨5, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x8192 : Shape := ⟨2, ![2048, 8192]⟩
abbrev S4096x8192 : Shape := ⟨2, ![4096, 8192]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S4096x2048, .f32⟩
  | .hbm, ⟨10, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S4096x2048 : Shape := ⟨2, ![4096, 2048]⟩
abbrev S2048x8192 : Shape := ⟨2, ![2048, 8192]⟩
abbrev S4096x8192 : Shape := ⟨2, ![4096, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4x2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S2048x8192 : Shape := ⟨2, ![2048, 8192]⟩
abbrev S4096x8192 : Shape := ⟨2, ![4096, 8192]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S4096x2048, .f32⟩
  | .hbm, ⟨10, _⟩ => ⟨S2048x4x2048, .f32⟩
  | .hbm, ⟨11, _⟩ => ⟨S4x2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S4096x2048 : Shape := ⟨2, ![4096, 2048]⟩
abbrev S2048x6144 : Shape := ⟨2, ![2048, 6144]⟩
abbrev S4096x6144 : Shape := ⟨2, ![4096, 6144]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x6144, .bf16⟩
  | .hbm, ⟨2, _⟩ => ⟨S4096x6144, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel8Ideal.lean ====
abbrev S4096x2048 : Shape := ⟨2, ![4096, 2048]⟩
abbrev S2048x6144 : Shape := ⟨2, ![2048, 6144]⟩
abbrev S4096x6144 : Shape := ⟨2, ![4096, 6144]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x6144, .bf16⟩
  | .hbm, ⟨2, _⟩ => ⟨S4096x6144, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S2048x6144 : Shape := ⟨2, ![2048, 6144]⟩
abbrev S4096x6144 : Shape := ⟨2, ![4096, 6144]⟩
abbrev S6144x2048 : Shape := ⟨2, ![6144, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x6144, .bf16⟩
  | .hbm, ⟨2, _⟩ => ⟨S4096x6144, .bf16⟩
  | .hbm, ⟨3, _⟩ => ⟨S2048x6144, .f32⟩
  | .hbm, ⟨4, _⟩ => ⟨S4096x6144, .f32⟩
  | .hbm, ⟨5, _⟩ => ⟨S4096x6144, .f32⟩
  | .hbm, ⟨6, _⟩ => ⟨S6144x2048, .f32⟩
  | .hbm, ⟨7, _⟩ => ⟨S2048x6144, .f32⟩
  | .hbm, ⟨8, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x2048 : Shape := ⟨2, ![4096, 2048]⟩
abbrev S2048x6144 : Shape := ⟨2, ![2048, 6144]⟩
abbrev S4096x6144 : Shape := ⟨2, ![4096, 6144]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x6144, .bf16⟩
  | .hbm, ⟨2, _⟩ => ⟨S4096x6144, .bf16⟩
  | .hbm, ⟨3, _⟩ => ⟨S2048x6144, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel9Ideal.lean ====
abbrev S4096x2048 : Shape := ⟨2, ![4096, 2048]⟩
abbrev S2048x6144 : Shape := ⟨2, ![2048, 6144]⟩
abbrev S4096x6144 : Shape := ⟨2, ![4096, 6144]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x6144, .bf16⟩
  | .hbm, ⟨2, _⟩ => ⟨S4096x6144, .bf16⟩
  | .hbm, ⟨3, _⟩ => ⟨S2048x6144, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S2048x6144 : Shape := ⟨2, ![2048, 6144]⟩
abbrev S4096x6144 : Shape := ⟨2, ![4096, 6144]⟩
abbrev S6144x2048 : Shape := ⟨2, ![6144, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x6144, .bf16⟩
  | .hbm, ⟨2, _⟩ => ⟨S4096x6144, .bf16⟩
  | .hbm, ⟨3, _⟩ => ⟨S2048x6144, .f32⟩
  | .hbm, ⟨4, _⟩ => ⟨S4096x6144, .f32⟩
  | .hbm, ⟨5, _⟩ => ⟨S4096x6144, .f32⟩
  | .hbm, ⟨6, _⟩ => ⟨S6144x2048, .f32⟩
  | .hbm, ⟨7, _⟩ => ⟨S2048x6144, .f32⟩
  | .hbm, ⟨8, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x2048 : Shape := ⟨2, ![4096, 2048]⟩
abbrev S2048x4096 : Shape := ⟨2, ![2048, 4096]⟩
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x4096, .bf16⟩
  | .hbm, ⟨2, _⟩ => ⟨S4096x4096, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel10Ideal.lean ====
abbrev S4096x2048 : Shape := ⟨2, ![4096, 2048]⟩
abbrev S2048x4096 : Shape := ⟨2, ![2048, 4096]⟩
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x4096, .bf16⟩
  | .hbm, ⟨2, _⟩ => ⟨S4096x4096, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4096, .bf16⟩
  | .hbm, ⟨2, _⟩ => ⟨S4096x4096, .bf16⟩
  | .hbm, ⟨3, _⟩ => ⟨S2048x4096, .f32⟩
  | .hbm, ⟨4, _⟩ => ⟨S4096x4096, .f32⟩
  | .hbm, ⟨5, _⟩ => ⟨S4096x4096, .f32⟩
  | .hbm, ⟨6, _⟩ => ⟨S4096x2048, .f32⟩
  | .hbm, ⟨7, _⟩ => ⟨S2048x4096, .f32⟩
  | .hbm, ⟨8, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4096x2048 : Shape := ⟨2, ![4096, 2048]⟩
abbrev S2048x4096 : Shape := ⟨2, ![2048, 4096]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x4096, .bf16⟩
  | .hbm, ⟨2, _⟩ => ⟨S4096x4096, .bf16⟩
  | .hbm, ⟨3, _⟩ => ⟨S2048x4096, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel11Ideal.lean ====
abbrev S4096x2048 : Shape := ⟨2, ![4096, 2048]⟩
abbrev S2048x4096 : Shape := ⟨2, ![2048, 4096]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x4096, .bf16⟩
  | .hbm, ⟨2, _⟩ => ⟨S4096x4096, .bf16⟩
  | .hbm, ⟨3, _⟩ => ⟨S2048x4096, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4096, .bf16⟩
  | .hbm, ⟨2, _⟩ => ⟨S4096x4096, .bf16⟩
  | .hbm, ⟨3, _⟩ => ⟨S2048x4096, .f32⟩
  | .hbm, ⟨4, _⟩ => ⟨S4096x4096, .f32⟩
  | .hbm, ⟨5, _⟩ => ⟨S4096x4096, .f32⟩
  | .hbm, ⟨6, _⟩ => ⟨S4096x2048, .f32⟩
  | .hbm, ⟨7, _⟩ => ⟨S2048x4096, .f32⟩
  | .hbm, ⟨8, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4096x4096 : Shape := ⟨2, ![4096, 4096]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .hbm, ⟨3, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel12Ideal.lean ====
abbrev S4096x4096 : Shape := ⟨2, ![4096, 4096]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .hbm, ⟨3, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x4096 : Shape := ⟨2, ![4096, 4096]⟩
abbrev S4096x2048 : Shape := ⟨2, ![4096, 2048]⟩
abbrev S2048x4096 : Shape := ⟨2, ![2048, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x4096, .f32⟩
  | .hbm, ⟨8, _⟩ => ⟨S4096x2048, .f32⟩
  | .hbm, ⟨9, _⟩ => ⟨S4096x4096, .f32⟩
  | .hbm, ⟨10, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S4096x4096 : Shape := ⟨2, ![4096, 4096]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .hbm, ⟨3, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel13Ideal.lean ====
abbrev S4096x4096 : Shape := ⟨2, ![4096, 4096]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .hbm, ⟨3, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x4096 : Shape := ⟨2, ![4096, 4096]⟩
abbrev S4096x2048 : Shape := ⟨2, ![4096, 2048]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x4096, .f32⟩
  | .hbm, ⟨8, _⟩ => ⟨S4096x2048, .f32⟩
  | .hbm, ⟨9, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel14Ideal.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | .hbm, ⟨10, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel15.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel15Ideal.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel16Ideal.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .bf16⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .bf16⟩
  | .hbm, ⟨3, _⟩ => ⟨S2048x2048, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel17Ideal.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .bf16⟩
  | .hbm, ⟨3, _⟩ => ⟨S2048x2048, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x2048 : Shape := ⟨2, ![4096, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .bf16⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel18Ideal.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S4096x2048, .f32⟩
  | .hbm, ⟨5, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S4096x2048 : Shape := ⟨2, ![4096, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S2048x4x2048, .bf16⟩
  | .hbm, ⟨3, _⟩ => ⟨S4x2048x2048, .bf16⟩
  | .hbm, ⟨4, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x2048 : Shape := ⟨2, ![4096, 2048]⟩
abbrev S2048x8192 : Shape := ⟨2, ![2048, 8192]⟩
abbrev S4096x8192 : Shape := ⟨2, ![4096, 8192]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S4096x2048 : Shape := ⟨2, ![4096, 2048]⟩
abbrev S2048x6144 : Shape := ⟨2, ![2048, 6144]⟩
abbrev S4096x6144 : Shape := ⟨2, ![4096, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x6144, .bf16⟩
  | .hbm, ⟨2, _⟩ => ⟨S4096x6144, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel20Ideal.lean ====
abbrev S4096x2048 : Shape := ⟨2, ![4096, 2048]⟩
abbrev S2048x6144 : Shape := ⟨2, ![2048, 6144]⟩
abbrev S4096x6144 : Shape := ⟨2, ![4096, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x6144, .bf16⟩
  | .hbm, ⟨2, _⟩ => ⟨S4096x6144, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x2048 : Shape := ⟨2, ![4096, 2048]⟩
abbrev S2048x6144 : Shape := ⟨2, ![2048, 6144]⟩
abbrev S4096x6144 : Shape := ⟨2, ![4096, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x6144, .bf16⟩
  | .hbm, ⟨2, _⟩ => ⟨S2048x6144, .f32⟩
  | .hbm, ⟨3, _⟩ => ⟨S4096x6144, .f32⟩
  | .hbm, ⟨4, _⟩ => ⟨S4096x6144, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S4096x2048 : Shape := ⟨2, ![4096, 2048]⟩
abbrev S2048x4096 : Shape := ⟨2, ![2048, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x4096, .bf16⟩
  | .hbm, ⟨2, _⟩ => ⟨S4096x4096, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel21Ideal.lean ====
abbrev S4096x2048 : Shape := ⟨2, ![4096, 2048]⟩
abbrev S2048x4096 : Shape := ⟨2, ![2048, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x4096, .bf16⟩
  | .hbm, ⟨2, _⟩ => ⟨S4096x4096, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4096, .bf16⟩
  | .hbm, ⟨2, _⟩ => ⟨S2048x4096, .f32⟩
  | .hbm, ⟨3, _⟩ => ⟨S4096x4096, .f32⟩
  | .hbm, ⟨4, _⟩ => ⟨S4096x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S4096x4096 : Shape := ⟨2, ![4096, 4096]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel22Ideal.lean ====
abbrev S4096x4096 : Shape := ⟨2, ![4096, 4096]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x4096 : Shape := ⟨2, ![4096, 4096]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel23.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel23Ideal.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel24.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel24Ideal.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S2048x2048, .f32⟩
  | .hbm, ⟨3, _⟩ => ⟨S4096x2048, .f32⟩
  | .hbm, ⟨4, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel25.lean ====
abbrev S4096x6144 : Shape := ⟨2, ![4096, 6144]⟩
abbrev S4x6144 : Shape := ⟨2, ![4, 6144]⟩
abbrev S512x512 : Shape := ⟨2, ![512, 512]⟩
abbrev S16x512 : Shape := ⟨2, ![16, 512]⟩
abbrev S4x512 : Shape := ⟨2, ![4, 512]⟩
abbrev S528x512 : Shape := ⟨2, ![528, 512]⟩
abbrev S1x512 : Shape := ⟨2, ![1, 512]⟩
abbrev S512 : Shape := ⟨1, ![512]⟩

abbrev nBuf : Space → Nat
  | .hbm => 5
  | .vmem => 14
  | .smem => 0
  | _ => 0

abbrev bufTy : (tb : Table) → Fin (tcTables nBuf tb) → BufTy
  | .hbm, ⟨0, _⟩ => ⟨S4096x6144, .bf16⟩
  | .hbm, ⟨1, _⟩ => ⟨S4x6144, .f32⟩
  | .hbm, ⟨2, _⟩ => ⟨S4096x6144, .f32⟩
  | .hbm, ⟨3, _⟩ => ⟨S4096x6144, .bf16⟩
  | .hbm, ⟨4, _⟩ => ⟨S4x6144, .f32⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S4x512, .f32⟩
  | .local _ .vmem, ⟨5, _⟩ => ⟨S4x512, .f32⟩
  | .local _ .vmem, ⟨6, _⟩ => ⟨S512x512, .f32⟩
  | .local _ .vmem, ⟨7, _⟩ => ⟨S512x512, .f32⟩
  | .local _ .vmem, ⟨8, _⟩ => ⟨S16x512, .f32⟩
  | .local _ .vmem, ⟨9, _⟩ => ⟨S16x512, .f32⟩
  | .local _ .vmem, ⟨10, _⟩ => ⟨S512x512, .bf16⟩
  | .local _ .vmem, ⟨11, _⟩ => ⟨S512x512, .bf16⟩
  | .local _ .vmem, ⟨12, _⟩ => ⟨S4x512, .f32⟩
  | .local _ .vmem, ⟨13, _⟩ => ⟨S4x512, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![12, 8], ![false, false]⟩

def k0_cond1 (i : grid0.Coords) : BitVec 1 :=
  let arg1 : BitVec 32 := BitVec.ofNat 32 (i 1).val
  let c0_i32_22 : BitVec 32 := 0#32
  let v82 : BitVec 1 := Scalar.cmpi .eq arg1 c0_i32_22
  let v83 : BitVec 32 := Scalar.extui v82
  let c0_i32_23 : BitVec 32 := 0#32
  let v84 : BitVec 1 := Scalar.cmpi .ne v83 c0_i32_23
  v84

def k0_cond2 (i : grid0.Coords) : BitVec 1 :=
  let arg1 : BitVec 32 := BitVec.ofNat 32 (i 1).val
  let c0_i32_24 : BitVec 32 := 0#32
  let v85 : BitVec 1 := Scalar.cmpi .sgt arg1 c0_i32_24
  let v86 : BitVec 32 := Scalar.extui v85
  let c0_i32_25 : BitVec 32 := 0#32
  let v87 : BitVec 1 := Scalar.cmpi .ne v86 c0_i32_25
  v87

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference25Ideal.lean ====
abbrev S4096x6144 : Shape := ⟨2, ![4096, 6144]⟩
abbrev S4x6144 : Shape := ⟨2, ![4, 6144]⟩
abbrev S_ : Shape := ⟨0, ![]⟩
abbrev S3x6144 : Shape := ⟨2, ![3, 6144]⟩
abbrev S4099x6144 : Shape := ⟨2, ![4099, 6144]⟩
abbrev S1x6144 : Shape := ⟨2, ![1, 6144]⟩
abbrev S6144 : Shape := ⟨1, ![6144]⟩

abbrev nBuf : Space → Nat
  | .hbm => 99
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4x6144, .f32⟩
  | .hbm, ⟨2, _⟩ => ⟨S4096x6144, .f32⟩
  | .hbm, ⟨3, _⟩ => ⟨S4096x6144, .f32⟩
  | .hbm, ⟨4, _⟩ => ⟨S_, .f32⟩
  | .hbm, ⟨5, _⟩ => ⟨S3x6144, .f32⟩
  | .hbm, ⟨6, _⟩ => ⟨S4099x6144, .f32⟩
  | .hbm, ⟨7, _⟩ => ⟨S_, .f32⟩
  | .hbm, ⟨8, _⟩ => ⟨S3x6144, .f32⟩
  | .hbm, ⟨9, _⟩ => ⟨S4096x6144, .f32⟩
  | .hbm, ⟨10, _⟩ => ⟨S1x6144, .f32⟩
  | .hbm, ⟨11, _⟩ => ⟨S6144, .f32⟩
  | .hbm, ⟨12, _⟩ => ⟨S1x6144, .f32⟩
  | .hbm, ⟨13, _⟩ => ⟨S4096x6144, .f32⟩
  | .hbm, ⟨14, _⟩ => ⟨S4096x6144, .f32⟩
  | .hbm, ⟨15, _⟩ => ⟨S4096x6144, .f32⟩
  | .hbm, ⟨16, _⟩ => ⟨S1x6144, .f32⟩
  | .hbm, ⟨17, _⟩ => ⟨S6144, .f32⟩
  | .hbm, ⟨18, _⟩ => ⟨S1x6144, .f32⟩
  | .hbm, ⟨19, _⟩ => ⟨S4096x6144, .f32⟩
  | .hbm, ⟨20, _⟩ => ⟨S4096x6144, .f32⟩
  | .hbm, ⟨21, _⟩ => ⟨S4096x6144, .f32⟩
  | .hbm, ⟨22, _⟩ => ⟨S4096x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S4096x6144, .f32⟩
  | .hbm, ⟨27, _⟩ => ⟨S4096x6144, .f32⟩
  | .hbm, ⟨28, _⟩ => ⟨S4096x6144, .f32⟩
  | .hbm, ⟨29, _⟩ => ⟨S4096x6144, .f32⟩
  | .hbm, ⟨30, _⟩ => ⟨S1x6144, .f32⟩
  | .hbm, ⟨31, _⟩ => ⟨S6144, .f32⟩
  | .hbm, ⟨32, _⟩ => ⟨S1x6144, .f32⟩
  | .hbm, ⟨33, _⟩ => ⟨S4096x6144, .f32⟩
  | .hbm, ⟨34, _⟩ => ⟨S4096x6144, .f32⟩
  | .hbm, ⟨35, _⟩ => ⟨S4096x6144, .f32⟩
  | .hbm, ⟨36, _⟩ => ⟨S4096x6144, .f32⟩
  | .hbm, ⟨37, _⟩ => ⟨S4096x6144, .f32⟩
  | .hbm, ⟨38, _⟩ => ⟨S4096x6144, .f32⟩
  | .hbm, ⟨39, _⟩ => ⟨S_, .f32⟩
  | .hbm, ⟨40, _⟩ => ⟨S6144, .f32⟩
  | .hbm, ⟨41, _⟩ => ⟨S1x6144, .f32⟩
  | .hbm, ⟨42, _⟩ => ⟨S4096x6144, .f32⟩
  | .hbm, ⟨43, _⟩ => ⟨S4096x6144, .f32⟩
  | .hbm, ⟨44, _⟩ => ⟨S_, .f32⟩
  | .hbm, ⟨45, _⟩ => ⟨S6144, .f32⟩
  | .hbm, ⟨46, _⟩ => ⟨S1x6144, .f32⟩
  | .hbm, ⟨47, _⟩ => ⟨S_, .f32⟩
  | .hbm, ⟨48, _⟩ => ⟨S4x6144, .f32⟩
  | .hbm, ⟨49, _⟩ => ⟨S_, .f32⟩
  | .hbm, ⟨50, _⟩ => ⟨S4099x6144, .f32⟩
  | .hbm, ⟨51, _⟩ => ⟨S4096x6144, .f32⟩
  | .hbm, ⟨52, _⟩ => ⟨S_, .f32⟩
  | .hbm, ⟨53, _⟩ => ⟨S6144, .f32⟩
  | .hbm, ⟨54, _⟩ => ⟨S1x6144, .f32⟩
  | .hbm, ⟨55, _⟩ => ⟨S4096x6144, .f32⟩
  | .hbm, ⟨56, _⟩ => ⟨S4096x6144, .f32⟩
  | .hbm, ⟨57, _⟩ => ⟨S_, .f32⟩
  | .hbm, ⟨58, _⟩ => ⟨S6144, .f32⟩
  | .hbm, ⟨59, _⟩ => ⟨S1x6144, .f32⟩
  | .hbm, ⟨60, _⟩ => ⟨S_, .f32⟩
  | .hbm, ⟨61, _⟩ => ⟨S4x6144, .f32⟩
  | .hbm, ⟨62, _⟩ => ⟨S4x6144, .f32⟩
  | .hbm, ⟨63, _⟩ => ⟨S_, .f32⟩
  | .hbm, ⟨64, _⟩ => ⟨S4099x6144, .f32⟩
  | .hbm, ⟨65, _⟩ => ⟨S4099x6144, .f32⟩
  | .hbm, ⟨66, _⟩ => ⟨S4096x6144, .f32⟩
  | .hbm, ⟨67, _⟩ => ⟨S_, .f32⟩
  | .hbm, ⟨68, _⟩ => ⟨S6144, .f32⟩
  | .hbm, ⟨69, _⟩ => ⟨S1x6144, .f32⟩
  | .hbm, ⟨70, _⟩ => ⟨S4096x6144, .f32⟩
  | .hbm, ⟨71, _⟩ => ⟨S4096x6144, .f32⟩
  | .hbm, ⟨72, _⟩ => ⟨S_, .f32⟩
  | .hbm, ⟨73, _⟩ => ⟨S6144, .f32⟩
  | .hbm, ⟨74, _⟩ => ⟨S1x6144, .f32⟩
  | .hbm, ⟨75, _⟩ => ⟨S_, .f32⟩
  | .hbm, ⟨76, _⟩ => ⟨S4x6144, .f32⟩
  | .hbm, ⟨77, _⟩ => ⟨S4x6144, .f32⟩
  | .hbm, ⟨78, _⟩ => ⟨S_, .f32⟩
  | .hbm, ⟨79, _⟩ => ⟨S4099x6144, .f32⟩
  | .hbm, ⟨80, _⟩ => ⟨S4099x6144, .f32⟩
  | .hbm, ⟨81, _⟩ => ⟨S4096x6144, .f32⟩
  | .hbm, ⟨82, _⟩ => ⟨S_, .f32⟩
  | .hbm, ⟨83, _⟩ => ⟨S6144, .f32⟩
  | .hbm, ⟨84, _⟩ => ⟨S1x6144, .f32⟩
  | .hbm, ⟨85, _⟩ => ⟨S4096x6144, .f32⟩
  | .hbm, ⟨86, _⟩ => ⟨S4096x6144, .f32⟩
  | .hbm, ⟨87, _⟩ => ⟨S_, .f32⟩
  | .hbm, ⟨88, _⟩ => ⟨S6144, .f32⟩
  | .hbm, ⟨89, _⟩ => ⟨S1x6144, .f32⟩
  | .hbm, ⟨90, _⟩ => ⟨S_, .f32⟩
  | .hbm, ⟨91, _⟩ => ⟨S4x6144, .f32⟩
  | .hbm, ⟨92, _⟩ => ⟨S4x6144, .f32⟩
  | .hbm, ⟨93, _⟩ => ⟨S_, .f32⟩
  | .hbm, ⟨94, _⟩ => ⟨S4099x6144, .f32⟩
  | .hbm, ⟨95, _⟩ => ⟨S4099x6144, .f32⟩
  | .hbm, ⟨96, _⟩ => ⟨S3x6144, .f32⟩
  | .hbm, ⟨97, _⟩ => ⟨S4096x6144, .f32⟩
  | .hbm, ⟨98, _⟩ => ⟨S4096x6144, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_13 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_14 : Ref sig .tc := ⟨.hbm, 87, rfl⟩
abbrev main_v69 : Ref sig .tc := ⟨.hbm, 88, rfl⟩
abbrev main_v70 : Ref sig .tc := ⟨.hbm, 89, rfl⟩
abbrev main_cst_15 : Ref sig .tc := ⟨.hbm, 90, rfl⟩
abbrev main_v71 : Ref sig .tc := ⟨.hbm, 91, rfl⟩
abbrev main_v72 : Ref sig .tc := ⟨.hbm, 92, rfl⟩
abbrev main_cst_16 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩

abbrev nD : Nat := 1
abbrev τ : Topo := Topo.v7x

variable {F : FTy → Type} [FloatOps F]
-- ==== Kernel26.lean ====
abbrev S4096x6144 : Shape := ⟨2, ![4096, 6144]⟩
abbrev S4x6144 : Shape := ⟨2, ![4, 6144]⟩
abbrev S512x512 : Shape := ⟨2, ![512, 512]⟩
abbrev S16x512 : Shape := ⟨2, ![16, 512]⟩
abbrev S4x512 : Shape := ⟨2, ![4, 512]⟩
abbrev S528x512 : Shape := ⟨2, ![528, 512]⟩
abbrev S1x512 : Shape := ⟨2, ![1, 512]⟩

abbrev nBuf : Space → Nat
  | .hbm => 3
  | .vmem => 8
  | .smem => 0
  | _ => 0

abbrev bufTy : (tb : Table) → Fin (tcTables nBuf tb) → BufTy
  | .hbm, ⟨0, _⟩ => ⟨S4096x6144, .bf16⟩
  | .hbm, ⟨1, _⟩ => ⟨S4x6144, .f32⟩
  | .hbm, ⟨2, _⟩ => ⟨S4096x6144, .f32⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S4x512, .f32⟩
  | .local _ .vmem, ⟨5, _⟩ => ⟨S4x512, .f32⟩
  | .local _ .vmem, ⟨6, _⟩ => ⟨S512x512, .f32⟩
  | .local _ .vmem, ⟨7, _⟩ => ⟨S512x512, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference26Ideal.lean ====
abbrev S4096x6144 : Shape := ⟨2, ![4096, 6144]⟩
abbrev S4x6144 : Shape := ⟨2, ![4, 6144]⟩
abbrev S_ : Shape := ⟨0, ![]⟩
abbrev S3x6144 : Shape := ⟨2, ![3, 6144]⟩
abbrev S4099x6144 : Shape := ⟨2, ![4099, 6144]⟩
abbrev S1x6144 : Shape := ⟨2, ![1, 6144]⟩
abbrev S6144 : Shape := ⟨1, ![6144]⟩

abbrev nBuf : Space → Nat
  | .hbm => 33
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4x6144, .f32⟩
  | .hbm, ⟨2, _⟩ => ⟨S4096x6144, .f32⟩
  | .hbm, ⟨3, _⟩ => ⟨S_, .f32⟩
  | .hbm, ⟨4, _⟩ => ⟨S3x6144, .f32⟩
  | .hbm, ⟨5, _⟩ => ⟨S4099x6144, .f32⟩
  | .hbm, ⟨6, _⟩ => ⟨S4096x6144, .f32⟩
  | .hbm, ⟨7, _⟩ => ⟨S1x6144, .f32⟩
  | .hbm, ⟨8, _⟩ => ⟨S6144, .f32⟩
  | .hbm, ⟨9, _⟩ => ⟨S1x6144, .f32⟩
  | .hbm, ⟨10, _⟩ => ⟨S4096x6144, .f32⟩
  | .hbm, ⟨11, _⟩ => ⟨S4096x6144, .f32⟩
  | .hbm, ⟨12, _⟩ => ⟨S4096x6144, .f32⟩
  | .hbm, ⟨13, _⟩ => ⟨S1x6144, .f32⟩
  | .hbm, ⟨14, _⟩ => ⟨S6144, .f32⟩
  | .hbm, ⟨15, _⟩ => ⟨S1x6144, .f32⟩
  | .hbm, ⟨16, _⟩ => ⟨S4096x6144, .f32⟩
  | .hbm, ⟨17, _⟩ => ⟨S4096x6144, .f32⟩
  | .hbm, ⟨18, _⟩ => ⟨S4096x6144, .f32⟩
  | .hbm, ⟨19, _⟩ => ⟨S4096x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S4096x6144, .f32⟩
  | .hbm, ⟨24, _⟩ => ⟨S4096x6144, .f32⟩
  | .hbm, ⟨25, _⟩ => ⟨S4096x6144, .f32⟩
  | .hbm, ⟨26, _⟩ => ⟨S4096x6144, .f32⟩
  | .hbm, ⟨27, _⟩ => ⟨S1x6144, .f32⟩
  | .hbm, ⟨28, _⟩ => ⟨S6144, .f32⟩
  | .hbm, ⟨29, _⟩ => ⟨S1x6144, .f32⟩
  | .hbm, ⟨30, _⟩ => ⟨S4096x6144, .f32⟩
  | .hbm, ⟨31, _⟩ => ⟨S4096x6144, .f32⟩
  | .hbm, ⟨32, _⟩ => ⟨S4096x6144, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩

abbrev nD : Nat := 1
abbrev τ : Topo := Topo.v7x

variable {F : FTy → Type} [FloatOps F]
-- ==== Kernel27.lean ====
abbrev S4096x2048 : Shape := ⟨2, ![4096, 2048]⟩
abbrev S2048x512 : Shape := ⟨2, ![2048, 512]⟩
abbrev S4096x512 : Shape := ⟨2, ![4096, 512]⟩
abbrev S1024x512 : Shape := ⟨2, ![1024, 512]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x512, .bf16⟩
  | .hbm, ⟨2, _⟩ => ⟨S4096x512, .bf16⟩
  | .hbm, ⟨3, _⟩ => ⟨S4096x2048, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S2048x1024, .f32⟩
  | .local _ .vmem, ⟨5, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel27Ideal.lean ====
abbrev S4096x2048 : Shape := ⟨2, ![4096, 2048]⟩
abbrev S2048x512 : Shape := ⟨2, ![2048, 512]⟩
abbrev S4096x512 : Shape := ⟨2, ![4096, 512]⟩
abbrev S1024x512 : Shape := ⟨2, ![1024, 512]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x512, .bf16⟩
  | .hbm, ⟨2, _⟩ => ⟨S4096x512, .bf16⟩
  | .hbm, ⟨3, _⟩ => ⟨S4096x2048, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S2048x1024, .f32⟩
  | .local _ .vmem, ⟨5, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S4096x2048 : Shape := ⟨2, ![4096, 2048]⟩
abbrev S2048x512 : Shape := ⟨2, ![2048, 512]⟩
abbrev S4096x512 : Shape := ⟨2, ![4096, 512]⟩
abbrev S512x2048 : Shape := ⟨2, ![512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x512, .bf16⟩
  | .hbm, ⟨2, _⟩ => ⟨S4096x512, .bf16⟩
  | .hbm, ⟨3, _⟩ => ⟨S2048x512, .f32⟩
  | .hbm, ⟨4, _⟩ => ⟨S4096x512, .f32⟩
  | .hbm, ⟨5, _⟩ => ⟨S4096x512, .f32⟩
  | .hbm, ⟨6, _⟩ => ⟨S512x2048, .f32⟩
  | .hbm, ⟨7, _⟩ => ⟨S2048x512, .f32⟩
  | .hbm, ⟨8, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel28.lean ====
abbrev S4096x2048 : Shape := ⟨2, ![4096, 2048]⟩
abbrev S2048x512 : Shape := ⟨2, ![2048, 512]⟩
abbrev S4096x512 : Shape := ⟨2, ![4096, 512]⟩
abbrev S2048x1024 : Shape := ⟨2, ![2048, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x512, .bf16⟩
  | .hbm, ⟨2, _⟩ => ⟨S4096x512, .bf16⟩
  | .hbm, ⟨3, _⟩ => ⟨S2048x512, .f32⟩
  | .local _ .vmem, ⟨0, _⟩ => ⟨S2048x1024, .f32⟩
  | .local _ .vmem, ⟨1, _⟩ => ⟨S2048x1024, .f32⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel28Ideal.lean ====
abbrev S4096x2048 : Shape := ⟨2, ![4096, 2048]⟩
abbrev S2048x512 : Shape := ⟨2, ![2048, 512]⟩
abbrev S4096x512 : Shape := ⟨2, ![4096, 512]⟩
abbrev S2048x1024 : Shape := ⟨2, ![2048, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x512, .bf16⟩
  | .hbm, ⟨2, _⟩ => ⟨S4096x512, .bf16⟩
  | .hbm, ⟨3, _⟩ => ⟨S2048x512, .f32⟩
  | .local _ .vmem, ⟨0, _⟩ => ⟨S2048x1024, .f32⟩
  | .local _ .vmem, ⟨1, _⟩ => ⟨S2048x1024, .f32⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S4096x2048 : Shape := ⟨2, ![4096, 2048]⟩
abbrev S2048x512 : Shape := ⟨2, ![2048, 512]⟩
abbrev S4096x512 : Shape := ⟨2, ![4096, 512]⟩
abbrev S512x2048 : Shape := ⟨2, ![512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x512, .bf16⟩
  | .hbm, ⟨2, _⟩ => ⟨S4096x512, .bf16⟩
  | .hbm, ⟨3, _⟩ => ⟨S2048x512, .f32⟩
  | .hbm, ⟨4, _⟩ => ⟨S4096x512, .f32⟩
  | .hbm, ⟨5, _⟩ => ⟨S4096x512, .f32⟩
  | .hbm, ⟨6, _⟩ => ⟨S512x2048, .f32⟩
  | .hbm, ⟨7, _⟩ => ⟨S2048x512, .f32⟩
  | .hbm, ⟨8, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel29.lean ====
abbrev S4096x2048 : Shape := ⟨2, ![4096, 2048]⟩
abbrev S2048x512 : Shape := ⟨2, ![2048, 512]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x512, .bf16⟩
  | .hbm, ⟨2, _⟩ => ⟨S4096x512, .bf16⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel29Ideal.lean ====
abbrev S4096x2048 : Shape := ⟨2, ![4096, 2048]⟩
abbrev S2048x512 : Shape := ⟨2, ![2048, 512]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x512, .bf16⟩
  | .hbm, ⟨2, _⟩ => ⟨S4096x512, .bf16⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S4096x2048 : Shape := ⟨2, ![4096, 2048]⟩
abbrev S2048x512 : Shape := ⟨2, ![2048, 512]⟩
abbrev S4096x512 : Shape := ⟨2, ![4096, 512]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x512, .bf16⟩
  | .hbm, ⟨2, _⟩ => ⟨S2048x512, .f32⟩
  | .hbm, ⟨3, _⟩ => ⟨S4096x512, .f32⟩
  | .hbm, ⟨4, _⟩ => ⟨S4096x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel30.lean ====
abbrev S4096x2048 : Shape := ⟨2, ![4096, 2048]⟩
abbrev S2048x128 : Shape := ⟨2, ![2048, 128]⟩
abbrev S4096x128 : Shape := ⟨2, ![4096, 128]⟩
abbrev S1024x128 : Shape := ⟨2, ![1024, 128]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x128, .bf16⟩
  | .hbm, ⟨2, _⟩ => ⟨S4096x128, .bf16⟩
  | .hbm, ⟨3, _⟩ => ⟨S4096x2048, .f32⟩
  | .local _ .vmem, ⟨0, _⟩ => ⟨S2048x128, .bf16⟩
  | .local _ .vmem, ⟨1, _⟩ => ⟨S2048x128, .bf16⟩
  | .local _ .vmem, ⟨2, _⟩ => ⟨S1024x128, .bf16⟩
  | .local _ .vmem, ⟨3, _⟩ => ⟨S1024x128, .bf16⟩
  | .local _ .vmem, ⟨4, _⟩ => ⟨S2048x1024, .f32⟩
  | .local _ .vmem, ⟨5, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel30Ideal.lean ====
abbrev S4096x2048 : Shape := ⟨2, ![4096, 2048]⟩
abbrev S2048x128 : Shape := ⟨2, ![2048, 128]⟩
abbrev S4096x128 : Shape := ⟨2, ![4096, 128]⟩
abbrev S1024x128 : Shape := ⟨2, ![1024, 128]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x128, .bf16⟩
  | .hbm, ⟨2, _⟩ => ⟨S4096x128, .bf16⟩
  | .hbm, ⟨3, _⟩ => ⟨S4096x2048, .f32⟩
  | .local _ .vmem, ⟨0, _⟩ => ⟨S2048x128, .bf16⟩
  | .local _ .vmem, ⟨1, _⟩ => ⟨S2048x128, .bf16⟩
  | .local _ .vmem, ⟨2, _⟩ => ⟨S1024x128, .bf16⟩
  | .local _ .vmem, ⟨3, _⟩ => ⟨S1024x128, .bf16⟩
  | .local _ .vmem, ⟨4, _⟩ => ⟨S2048x1024, .f32⟩
  | .local _ .vmem, ⟨5, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S4096x2048 : Shape := ⟨2, ![4096, 2048]⟩
abbrev S2048x128 : Shape := ⟨2, ![2048, 128]⟩
abbrev S4096x128 : Shape := ⟨2, ![4096, 128]⟩
abbrev S128x2048 : Shape := ⟨2, ![128, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x128, .bf16⟩
  | .hbm, ⟨2, _⟩ => ⟨S4096x128, .bf16⟩
  | .hbm, ⟨3, _⟩ => ⟨S2048x128, .f32⟩
  | .hbm, ⟨4, _⟩ => ⟨S4096x128, .f32⟩
  | .hbm, ⟨5, _⟩ => ⟨S4096x128, .f32⟩
  | .hbm, ⟨6, _⟩ => ⟨S128x2048, .f32⟩
  | .hbm, ⟨7, _⟩ => ⟨S2048x128, .f32⟩
  | .hbm, ⟨8, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel31.lean ====
abbrev S4096x2048 : Shape := ⟨2, ![4096, 2048]⟩
abbrev S2048x128 : Shape := ⟨2, ![2048, 128]⟩
abbrev S4096x128 : Shape := ⟨2, ![4096, 128]⟩
abbrev S2048x1024 : Shape := ⟨2, ![2048, 1024]⟩
abbrev S1024x128 : Shape := ⟨2, ![1024, 128]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x128, .bf16⟩
  | .hbm, ⟨2, _⟩ => ⟨S4096x128, .bf16⟩
  | .hbm, ⟨3, _⟩ => ⟨S2048x128, .f32⟩
  | .local _ .vmem, ⟨0, _⟩ => ⟨S2048x1024, .f32⟩
  | .local _ .vmem, ⟨1, _⟩ => ⟨S2048x1024, .f32⟩
  | .local _ .vmem, ⟨2, _⟩ => ⟨S2048x128, .bf16⟩
  | .local _ .vmem, ⟨3, _⟩ => ⟨S2048x128, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel31Ideal.lean ====
abbrev S4096x2048 : Shape := ⟨2, ![4096, 2048]⟩
abbrev S2048x128 : Shape := ⟨2, ![2048, 128]⟩
abbrev S4096x128 : Shape := ⟨2, ![4096, 128]⟩
abbrev S2048x1024 : Shape := ⟨2, ![2048, 1024]⟩
abbrev S1024x128 : Shape := ⟨2, ![1024, 128]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x128, .bf16⟩
  | .hbm, ⟨2, _⟩ => ⟨S4096x128, .bf16⟩
  | .hbm, ⟨3, _⟩ => ⟨S2048x128, .f32⟩
  | .local _ .vmem, ⟨0, _⟩ => ⟨S2048x1024, .f32⟩
  | .local _ .vmem, ⟨1, _⟩ => ⟨S2048x1024, .f32⟩
  | .local _ .vmem, ⟨2, _⟩ => ⟨S2048x128, .bf16⟩
  | .local _ .vmem, ⟨3, _⟩ => ⟨S2048x128, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference31Ideal.lean ====
abbrev S4096x2048 : Shape := ⟨2, ![4096, 2048]⟩
abbrev S2048x128 : Shape := ⟨2, ![2048, 128]⟩
abbrev S4096x128 : Shape := ⟨2, ![4096, 128]⟩
abbrev S128x2048 : Shape := ⟨2, ![128, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x128, .bf16⟩
  | .hbm, ⟨2, _⟩ => ⟨S4096x128, .bf16⟩
  | .hbm, ⟨3, _⟩ => ⟨S2048x128, .f32⟩
  | .hbm, ⟨4, _⟩ => ⟨S4096x128, .f32⟩
  | .hbm, ⟨5, _⟩ => ⟨S4096x128, .f32⟩
  | .hbm, ⟨6, _⟩ => ⟨S128x2048, .f32⟩
  | .hbm, ⟨7, _⟩ => ⟨S2048x128, .f32⟩
  | .hbm, ⟨8, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel32.lean ====
abbrev S4096x2048 : Shape := ⟨2, ![4096, 2048]⟩
abbrev S2048x128 : Shape := ⟨2, ![2048, 128]⟩
abbrev S4096x128 : Shape := ⟨2, ![4096, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x128, .bf16⟩
  | .hbm, ⟨2, _⟩ => ⟨S4096x128, .bf16⟩
  | .local _ .vmem, ⟨0, _⟩ => ⟨S1024x2048, .f32⟩
  | .local _ .vmem, ⟨1, _⟩ => ⟨S1024x2048, .f32⟩
  | .local _ .vmem, ⟨2, _⟩ => ⟨S2048x128, .bf16⟩
  | .local _ .vmem, ⟨3, _⟩ => ⟨S1024x128, .bf16⟩
  | .local _ .vmem, ⟨4, _⟩ => ⟨S1024x128, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel32Ideal.lean ====
abbrev S4096x2048 : Shape := ⟨2, ![4096, 2048]⟩
abbrev S2048x128 : Shape := ⟨2, ![2048, 128]⟩
abbrev S4096x128 : Shape := ⟨2, ![4096, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x128, .bf16⟩
  | .hbm, ⟨2, _⟩ => ⟨S4096x128, .bf16⟩
  | .local _ .vmem, ⟨0, _⟩ => ⟨S1024x2048, .f32⟩
  | .local _ .vmem, ⟨1, _⟩ => ⟨S1024x2048, .f32⟩
  | .local _ .vmem, ⟨2, _⟩ => ⟨S2048x128, .bf16⟩
  | .local _ .vmem, ⟨3, _⟩ => ⟨S1024x128, .bf16⟩
  | .local _ .vmem, ⟨4, _⟩ => ⟨S1024x128, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference32Ideal.lean ====
abbrev S4096x2048 : Shape := ⟨2, ![4096, 2048]⟩
abbrev S2048x128 : Shape := ⟨2, ![2048, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x128, .bf16⟩
  | .hbm, ⟨2, _⟩ => ⟨S2048x128, .f32⟩
  | .hbm, ⟨3, _⟩ => ⟨S4096x128, .f32⟩
  | .hbm, ⟨4, _⟩ => ⟨S4096x128, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel33.lean ====
abbrev S4096x512 : Shape := ⟨2, ![4096, 512]⟩
abbrev S512x3072 : Shape := ⟨2, ![512, 3072]⟩
abbrev S4096x3072 : Shape := ⟨2, ![4096, 3072]⟩
abbrev S512x4x768 : Shape := ⟨3, ![512, 4, 768]⟩
abbrev S4x512x768 : Shape := ⟨3, ![4, 512, 768]⟩
abbrev S1024x768 : Shape := ⟨2, ![1024, 768]⟩
abbrev S1x512x768 : Shape := ⟨3, ![1, 512, 768]⟩
abbrev S1024x512 : Shape := ⟨2, ![1024, 512]⟩
abbrev S512x768 : Shape := ⟨2, ![512, 768]⟩

abbrev nBuf : Space → Nat
  | .hbm => 6
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x3072, .bf16⟩
  | .hbm, ⟨2, _⟩ => ⟨S4096x3072, .bf16⟩
  | .hbm, ⟨3, _⟩ => ⟨S512x4x768, .bf16⟩
  | .hbm, ⟨4, _⟩ => ⟨S4x512x768, .bf16⟩
  | .hbm, ⟨5, _⟩ => ⟨S4096x512, .bf16⟩
  | .local _ .vmem, ⟨0, _⟩ => ⟨S1024x768, .bf16⟩
  | .local _ .vmem, ⟨1, _⟩ => ⟨S1024x768, .bf16⟩
  | .local _ .vmem, ⟨2, _⟩ => ⟨S1x512x768, .bf16⟩
  | .local _ .vmem, ⟨3, _⟩ => ⟨S1x512x768, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel33Ideal.lean ====
abbrev S4096x512 : Shape := ⟨2, ![4096, 512]⟩
abbrev S512x3072 : Shape := ⟨2, ![512, 3072]⟩
abbrev S4096x3072 : Shape := ⟨2, ![4096, 3072]⟩
abbrev S512x4x768 : Shape := ⟨3, ![512, 4, 768]⟩
abbrev S4x512x768 : Shape := ⟨3, ![4, 512, 768]⟩
abbrev S1024x768 : Shape := ⟨2, ![1024, 768]⟩
abbrev S1x512x768 : Shape := ⟨3, ![1, 512, 768]⟩
abbrev S1024x512 : Shape := ⟨2, ![1024, 512]⟩
abbrev S512x768 : Shape := ⟨2, ![512, 768]⟩

abbrev nBuf : Space → Nat
  | .hbm => 6
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x3072, .bf16⟩
  | .hbm, ⟨2, _⟩ => ⟨S4096x3072, .bf16⟩
  | .hbm, ⟨3, _⟩ => ⟨S512x4x768, .bf16⟩
  | .hbm, ⟨4, _⟩ => ⟨S4x512x768, .bf16⟩
  | .hbm, ⟨5, _⟩ => ⟨S4096x512, .bf16⟩
  | .local _ .vmem, ⟨0, _⟩ => ⟨S1024x768, .bf16⟩
  | .local _ .vmem, ⟨1, _⟩ => ⟨S1024x768, .bf16⟩
  | .local _ .vmem, ⟨2, _⟩ => ⟨S1x512x768, .bf16⟩
  | .local _ .vmem, ⟨3, _⟩ => ⟨S1x512x768, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference33Ideal.lean ====
abbrev S4096x512 : Shape := ⟨2, ![4096, 512]⟩
abbrev S512x3072 : Shape := ⟨2, ![512, 3072]⟩
abbrev S4096x3072 : Shape := ⟨2, ![4096, 3072]⟩
abbrev S3072x512 : Shape := ⟨2, ![3072, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x3072, .bf16⟩
  | .hbm, ⟨2, _⟩ => ⟨S4096x3072, .bf16⟩
  | .hbm, ⟨3, _⟩ => ⟨S4096x512, .f32⟩
  | .hbm, ⟨4, _⟩ => ⟨S512x3072, .f32⟩
  | .hbm, ⟨5, _⟩ => ⟨S4096x3072, .f32⟩
  | .hbm, ⟨6, _⟩ => ⟨S4096x3072, .f32⟩
  | .hbm, ⟨7, _⟩ => ⟨S3072x512, .f32⟩
  | .hbm, ⟨8, _⟩ => ⟨S512x3072, .f32⟩
  | .hbm, ⟨9, _⟩ => ⟨S4096x512, .f32⟩
  | .hbm, ⟨10, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel34.lean ====
abbrev S4096x512 : Shape := ⟨2, ![4096, 512]⟩
abbrev S512x3072 : Shape := ⟨2, ![512, 3072]⟩
abbrev S4096x3072 : Shape := ⟨2, ![4096, 3072]⟩
abbrev S4x512x768 : Shape := ⟨3, ![4, 512, 768]⟩
abbrev S2048x512 : Shape := ⟨2, ![2048, 512]⟩
abbrev S2048x768 : Shape := ⟨2, ![2048, 768]⟩
abbrev S1x512x768 : Shape := ⟨3, ![1, 512, 768]⟩
abbrev S512x768 : Shape := ⟨2, ![512, 768]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x3072, .bf16⟩
  | .hbm, ⟨2, _⟩ => ⟨S4096x3072, .bf16⟩
  | .hbm, ⟨3, _⟩ => ⟨S4x512x768, .f32⟩
  | .local _ .vmem, ⟨0, _⟩ => ⟨S2048x512, .bf16⟩
  | .local _ .vmem, ⟨1, _⟩ => ⟨S2048x512, .bf16⟩
  | .local _ .vmem, ⟨2, _⟩ => ⟨S2048x768, .bf16⟩
  | .local _ .vmem, ⟨3, _⟩ => ⟨S2048x768, .bf16⟩
  | .local _ .vmem, ⟨4, _⟩ => ⟨S1x512x768, .f32⟩
  | .local _ .vmem, ⟨5, _⟩ => ⟨S1x512x768, .f32⟩
  | .local _ .vmem, ⟨6, _⟩ => ⟨S512x768, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel34Ideal.lean ====
abbrev S4096x512 : Shape := ⟨2, ![4096, 512]⟩
abbrev S512x3072 : Shape := ⟨2, ![512, 3072]⟩
abbrev S4096x3072 : Shape := ⟨2, ![4096, 3072]⟩
abbrev S4x512x768 : Shape := ⟨3, ![4, 512, 768]⟩
abbrev S2048x512 : Shape := ⟨2, ![2048, 512]⟩
abbrev S2048x768 : Shape := ⟨2, ![2048, 768]⟩
abbrev S1x512x768 : Shape := ⟨3, ![1, 512, 768]⟩
abbrev S512x768 : Shape := ⟨2, ![512, 768]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x3072, .bf16⟩
  | .hbm, ⟨2, _⟩ => ⟨S4096x3072, .bf16⟩
  | .hbm, ⟨3, _⟩ => ⟨S4x512x768, .f32⟩
  | .local _ .vmem, ⟨0, _⟩ => ⟨S2048x512, .bf16⟩
  | .local _ .vmem, ⟨1, _⟩ => ⟨S2048x512, .bf16⟩
  | .local _ .vmem, ⟨2, _⟩ => ⟨S2048x768, .bf16⟩
  | .local _ .vmem, ⟨3, _⟩ => ⟨S2048x768, .bf16⟩
  | .local _ .vmem, ⟨4, _⟩ => ⟨S1x512x768, .f32⟩
  | .local _ .vmem, ⟨5, _⟩ => ⟨S1x512x768, .f32⟩
  | .local _ .vmem, ⟨6, _⟩ => ⟨S512x768, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference34Ideal.lean ====
abbrev S4096x512 : Shape := ⟨2, ![4096, 512]⟩
abbrev S512x3072 : Shape := ⟨2, ![512, 3072]⟩
abbrev S4096x3072 : Shape := ⟨2, ![4096, 3072]⟩
abbrev S3072x512 : Shape := ⟨2, ![3072, 512]⟩
abbrev S512x4x768 : Shape := ⟨3, ![512, 4, 768]⟩
abbrev S4x512x768 : Shape := ⟨3, ![4, 512, 768]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x3072, .bf16⟩
  | .hbm, ⟨2, _⟩ => ⟨S4096x3072, .bf16⟩
  | .hbm, ⟨3, _⟩ => ⟨S4096x512, .f32⟩
  | .hbm, ⟨4, _⟩ => ⟨S512x3072, .f32⟩
  | .hbm, ⟨5, _⟩ => ⟨S4096x3072, .f32⟩
  | .hbm, ⟨6, _⟩ => ⟨S4096x3072, .f32⟩
  | .hbm, ⟨7, _⟩ => ⟨S3072x512, .f32⟩
  | .hbm, ⟨8, _⟩ => ⟨S512x3072, .f32⟩
  | .hbm, ⟨9, _⟩ => ⟨S4096x512, .f32⟩
  | .hbm, ⟨10, _⟩ => ⟨S512x4x768, .f32⟩
  | .hbm, ⟨11, _⟩ => ⟨S4x512x768, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel35.lean ====
abbrev S4096x512 : Shape := ⟨2, ![4096, 512]⟩
abbrev S512x3072 : Shape := ⟨2, ![512, 3072]⟩
abbrev S512x4x768 : Shape := ⟨3, ![512, 4, 768]⟩
abbrev S4x512x768 : Shape := ⟨3, ![4, 512, 768]⟩
abbrev S4096x3072 : Shape := ⟨2, ![4096, 3072]⟩
abbrev S2048x512 : Shape := ⟨2, ![2048, 512]⟩
abbrev S1x512x768 : Shape := ⟨3, ![1, 512, 768]⟩
abbrev S2048x768 : Shape := ⟨2, ![2048, 768]⟩
abbrev S512x768 : Shape := ⟨2, ![512, 768]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x3072, .bf16⟩
  | .hbm, ⟨2, _⟩ => ⟨S512x4x768, .bf16⟩
  | .hbm, ⟨3, _⟩ => ⟨S4x512x768, .bf16⟩
  | .hbm, ⟨4, _⟩ => ⟨S4096x3072, .bf16⟩
  | .local _ .vmem, ⟨0, _⟩ => ⟨S2048x512, .bf16⟩
  | .local _ .vmem, ⟨1, _⟩ => ⟨S2048x512, .bf16⟩
  | .local _ .vmem, ⟨2, _⟩ => ⟨S1x512x768, .bf16⟩
  | .local _ .vmem, ⟨3, _⟩ => ⟨S1x512x768, .bf16⟩
  | .local _ .vmem, ⟨4, _⟩ => ⟨S2048x768, .bf16⟩
  | .local _ .vmem, ⟨5, _⟩ => ⟨S2048x768, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel35Ideal.lean ====
abbrev S4096x512 : Shape := ⟨2, ![4096, 512]⟩
abbrev S512x3072 : Shape := ⟨2, ![512, 3072]⟩
abbrev S512x4x768 : Shape := ⟨3, ![512, 4, 768]⟩
abbrev S4x512x768 : Shape := ⟨3, ![4, 512, 768]⟩
abbrev S4096x3072 : Shape := ⟨2, ![4096, 3072]⟩
abbrev S2048x512 : Shape := ⟨2, ![2048, 512]⟩
abbrev S1x512x768 : Shape := ⟨3, ![1, 512, 768]⟩
abbrev S2048x768 : Shape := ⟨2, ![2048, 768]⟩
abbrev S512x768 : Shape := ⟨2, ![512, 768]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x3072, .bf16⟩
  | .hbm, ⟨2, _⟩ => ⟨S512x4x768, .bf16⟩
  | .hbm, ⟨3, _⟩ => ⟨S4x512x768, .bf16⟩
  | .hbm, ⟨4, _⟩ => ⟨S4096x3072, .bf16⟩
  | .local _ .vmem, ⟨0, _⟩ => ⟨S2048x512, .bf16⟩
  | .local _ .vmem, ⟨1, _⟩ => ⟨S2048x512, .bf16⟩
  | .local _ .vmem, ⟨2, _⟩ => ⟨S1x512x768, .bf16⟩
  | .local _ .vmem, ⟨3, _⟩ => ⟨S1x512x768, .bf16⟩
  | .local _ .vmem, ⟨4, _⟩ => ⟨S2048x768, .bf16⟩
  | .local _ .vmem, ⟨5, _⟩ => ⟨S2048x768, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference35Ideal.lean ====
abbrev S4096x512 : Shape := ⟨2, ![4096, 512]⟩
abbrev S512x3072 : Shape := ⟨2, ![512, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x3072, .bf16⟩
  | .hbm, ⟨2, _⟩ => ⟨S4096x512, .f32⟩
  | .hbm, ⟨3, _⟩ => ⟨S512x3072, .f32⟩
  | .hbm, ⟨4, _⟩ => ⟨S4096x3072, .f32⟩
  | .hbm, ⟨5, _⟩ => ⟨S4096x3072, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel36.lean ====
abbrev S4096x512 : Shape := ⟨2, ![4096, 512]⟩
abbrev S512x4096 : Shape := ⟨2, ![512, 4096]⟩
abbrev S4096x4096 : Shape := ⟨2, ![4096, 4096]⟩
abbrev S512x4x1024 : Shape := ⟨3, ![512, 4, 1024]⟩
abbrev S4x512x1024 : Shape := ⟨3, ![4, 512, 1024]⟩
abbrev S1024x1024 : Shape := ⟨2, ![1024, 1024]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x4096, .bf16⟩
  | .hbm, ⟨3, _⟩ => ⟨S512x4x1024, .bf16⟩
  | .hbm, ⟨4, _⟩ => ⟨S4x512x1024, .bf16⟩
  | .hbm, ⟨5, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel36Ideal.lean ====
abbrev S4096x512 : Shape := ⟨2, ![4096, 512]⟩
abbrev S512x4096 : Shape := ⟨2, ![512, 4096]⟩
abbrev S4096x4096 : Shape := ⟨2, ![4096, 4096]⟩
abbrev S512x4x1024 : Shape := ⟨3, ![512, 4, 1024]⟩
abbrev S4x512x1024 : Shape := ⟨3, ![4, 512, 1024]⟩
abbrev S1024x1024 : Shape := ⟨2, ![1024, 1024]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x4096, .bf16⟩
  | .hbm, ⟨3, _⟩ => ⟨S512x4x1024, .bf16⟩
  | .hbm, ⟨4, _⟩ => ⟨S4x512x1024, .bf16⟩
  | .hbm, ⟨5, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference36Ideal.lean ====
abbrev S4096x512 : Shape := ⟨2, ![4096, 512]⟩
abbrev S512x4096 : Shape := ⟨2, ![512, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x4096, .bf16⟩
  | .hbm, ⟨3, _⟩ => ⟨S4096x512, .f32⟩
  | .hbm, ⟨4, _⟩ => ⟨S512x4096, .f32⟩
  | .hbm, ⟨5, _⟩ => ⟨S4096x4096, .f32⟩
  | .hbm, ⟨6, _⟩ => ⟨S4096x4096, .f32⟩
  | .hbm, ⟨7, _⟩ => ⟨S4096x512, .f32⟩
  | .hbm, ⟨8, _⟩ => ⟨S512x4096, .f32⟩
  | .hbm, ⟨9, _⟩ => ⟨S4096x512, .f32⟩
  | .hbm, ⟨10, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel37.lean ====
abbrev S4096x512 : Shape := ⟨2, ![4096, 512]⟩
abbrev S512x4096 : Shape := ⟨2, ![512, 4096]⟩
abbrev S4096x4096 : Shape := ⟨2, ![4096, 4096]⟩
abbrev S4x512x1024 : Shape := ⟨3, ![4, 512, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x4096, .bf16⟩
  | .hbm, ⟨3, _⟩ => ⟨S4x512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel37Ideal.lean ====
abbrev S4096x512 : Shape := ⟨2, ![4096, 512]⟩
abbrev S512x4096 : Shape := ⟨2, ![512, 4096]⟩
abbrev S4096x4096 : Shape := ⟨2, ![4096, 4096]⟩
abbrev S4x512x1024 : Shape := ⟨3, ![4, 512, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x4096, .bf16⟩
  | .hbm, ⟨3, _⟩ => ⟨S4x512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference37Ideal.lean ====
abbrev S4096x512 : Shape := ⟨2, ![4096, 512]⟩
abbrev S512x4096 : Shape := ⟨2, ![512, 4096]⟩
abbrev S4096x4096 : Shape := ⟨2, ![4096, 4096]⟩
abbrev S512x4x1024 : Shape := ⟨3, ![512, 4, 1024]⟩
abbrev S4x512x1024 : Shape := ⟨3, ![4, 512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x4096, .bf16⟩
  | .hbm, ⟨3, _⟩ => ⟨S4096x512, .f32⟩
  | .hbm, ⟨4, _⟩ => ⟨S512x4096, .f32⟩
  | .hbm, ⟨5, _⟩ => ⟨S4096x4096, .f32⟩
  | .hbm, ⟨6, _⟩ => ⟨S4096x4096, .f32⟩
  | .hbm, ⟨7, _⟩ => ⟨S4096x512, .f32⟩
  | .hbm, ⟨8, _⟩ => ⟨S512x4096, .f32⟩
  | .hbm, ⟨9, _⟩ => ⟨S4096x512, .f32⟩
  | .hbm, ⟨10, _⟩ => ⟨S512x4x1024, .f32⟩
  | .hbm, ⟨11, _⟩ => ⟨S4x512x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel38.lean ====
abbrev S4096x512 : Shape := ⟨2, ![4096, 512]⟩
abbrev S512x4096 : Shape := ⟨2, ![512, 4096]⟩
abbrev S512x4x1024 : Shape := ⟨3, ![512, 4, 1024]⟩
abbrev S4x512x1024 : Shape := ⟨3, ![4, 512, 1024]⟩
abbrev S4096x4096 : Shape := ⟨2, ![4096, 4096]⟩
abbrev S2048x512 : Shape := ⟨2, ![2048, 512]⟩
abbrev S1x512x1024 : Shape := ⟨3, ![1, 512, 1024]⟩
abbrev S2048x1024 : Shape := ⟨2, ![2048, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S512x4x1024, .bf16⟩
  | .hbm, ⟨3, _⟩ => ⟨S4x512x1024, .bf16⟩
  | .hbm, ⟨4, _⟩ => ⟨S4096x4096, .bf16⟩
  | .local _ .vmem, ⟨0, _⟩ => ⟨S2048x512, .bf16⟩
  | .local _ .vmem, ⟨1, _⟩ => ⟨S2048x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S2048x1024, .bf16⟩
  | .local _ .vmem, ⟨5, _⟩ => ⟨S2048x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel38Ideal.lean ====
abbrev S4096x512 : Shape := ⟨2, ![4096, 512]⟩
abbrev S512x4096 : Shape := ⟨2, ![512, 4096]⟩
abbrev S512x4x1024 : Shape := ⟨3, ![512, 4, 1024]⟩
abbrev S4x512x1024 : Shape := ⟨3, ![4, 512, 1024]⟩
abbrev S4096x4096 : Shape := ⟨2, ![4096, 4096]⟩
abbrev S2048x512 : Shape := ⟨2, ![2048, 512]⟩
abbrev S1x512x1024 : Shape := ⟨3, ![1, 512, 1024]⟩
abbrev S2048x1024 : Shape := ⟨2, ![2048, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S512x4x1024, .bf16⟩
  | .hbm, ⟨3, _⟩ => ⟨S4x512x1024, .bf16⟩
  | .hbm, ⟨4, _⟩ => ⟨S4096x4096, .bf16⟩
  | .local _ .vmem, ⟨0, _⟩ => ⟨S2048x512, .bf16⟩
  | .local _ .vmem, ⟨1, _⟩ => ⟨S2048x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S2048x1024, .bf16⟩
  | .local _ .vmem, ⟨5, _⟩ => ⟨S2048x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference38Ideal.lean ====
abbrev S4096x512 : Shape := ⟨2, ![4096, 512]⟩
abbrev S512x4096 : Shape := ⟨2, ![512, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x512, .f32⟩
  | .hbm, ⟨3, _⟩ => ⟨S512x4096, .f32⟩
  | .hbm, ⟨4, _⟩ => ⟨S4096x4096, .f32⟩
  | .hbm, ⟨5, _⟩ => ⟨S4096x4096, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel39.lean ====
abbrev S4096x256 : Shape := ⟨2, ![4096, 256]⟩
abbrev S256x2048 : Shape := ⟨2, ![256, 2048]⟩
abbrev S4096x2048 : Shape := ⟨2, ![4096, 2048]⟩
abbrev S4x256x512 : Shape := ⟨3, ![4, 256, 512]⟩
abbrev S2048x256 : Shape := ⟨2, ![2048, 256]⟩
abbrev S2048x512 : Shape := ⟨2, ![2048, 512]⟩
abbrev S1x256x512 : Shape := ⟨3, ![1, 256, 512]⟩
abbrev S256x512 : Shape := ⟨2, ![256, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S4096x2048, .bf16⟩
  | .hbm, ⟨3, _⟩ => ⟨S4x256x512, .f32⟩
  | .local _ .vmem, ⟨0, _⟩ => ⟨S2048x256, .f32⟩
  | .local _ .vmem, ⟨1, _⟩ => ⟨S2048x256, .f32⟩
  | .local _ .vmem, ⟨2, _⟩ => ⟨S2048x512, .bf16⟩
  | .local _ .vmem, ⟨3, _⟩ => ⟨S2048x512, .bf16⟩
  | .local _ .vmem, ⟨4, _⟩ => ⟨S1x256x512, .f32⟩
  | .local _ .vmem, ⟨5, _⟩ => ⟨S1x256x512, .f32⟩
  | .local _ .vmem, ⟨6, _⟩ => ⟨S256x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel39Ideal.lean ====
abbrev S4096x256 : Shape := ⟨2, ![4096, 256]⟩
abbrev S256x2048 : Shape := ⟨2, ![256, 2048]⟩
abbrev S4096x2048 : Shape := ⟨2, ![4096, 2048]⟩
abbrev S4x256x512 : Shape := ⟨3, ![4, 256, 512]⟩
abbrev S2048x256 : Shape := ⟨2, ![2048, 256]⟩
abbrev S2048x512 : Shape := ⟨2, ![2048, 512]⟩
abbrev S1x256x512 : Shape := ⟨3, ![1, 256, 512]⟩
abbrev S256x512 : Shape := ⟨2, ![256, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S4096x2048, .bf16⟩
  | .hbm, ⟨3, _⟩ => ⟨S4x256x512, .f32⟩
  | .local _ .vmem, ⟨0, _⟩ => ⟨S2048x256, .f32⟩
  | .local _ .vmem, ⟨1, _⟩ => ⟨S2048x256, .f32⟩
  | .local _ .vmem, ⟨2, _⟩ => ⟨S2048x512, .bf16⟩
  | .local _ .vmem, ⟨3, _⟩ => ⟨S2048x512, .bf16⟩
  | .local _ .vmem, ⟨4, _⟩ => ⟨S1x256x512, .f32⟩
  | .local _ .vmem, ⟨5, _⟩ => ⟨S1x256x512, .f32⟩
  | .local _ .vmem, ⟨6, _⟩ => ⟨S256x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference39Ideal.lean ====
abbrev S4096x256 : Shape := ⟨2, ![4096, 256]⟩
abbrev S256x2048 : Shape := ⟨2, ![256, 2048]⟩
abbrev S4096x2048 : Shape := ⟨2, ![4096, 2048]⟩
abbrev S2048x256 : Shape := ⟨2, ![2048, 256]⟩
abbrev S256x4x512 : Shape := ⟨3, ![256, 4, 512]⟩
abbrev S4x256x512 : Shape := ⟨3, ![4, 256, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S4096x2048, .bf16⟩
  | .hbm, ⟨3, _⟩ => ⟨S256x2048, .f32⟩
  | .hbm, ⟨4, _⟩ => ⟨S4096x2048, .f32⟩
  | .hbm, ⟨5, _⟩ => ⟨S4096x2048, .f32⟩
  | .hbm, ⟨6, _⟩ => ⟨S2048x256, .f32⟩
  | .hbm, ⟨7, _⟩ => ⟨S256x2048, .f32⟩
  | .hbm, ⟨8, _⟩ => ⟨S4096x256, .f32⟩
  | .hbm, ⟨9, _⟩ => ⟨S256x4x512, .f32⟩
  | .hbm, ⟨10, _⟩ => ⟨S4x256x512, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel40.lean ====
abbrev S4096x256 : Shape := ⟨2, ![4096, 256]⟩
abbrev S256x2048 : Shape := ⟨2, ![256, 2048]⟩
abbrev S256x4x512 : Shape := ⟨3, ![256, 4, 512]⟩
abbrev S4x256x512 : Shape := ⟨3, ![4, 256, 512]⟩
abbrev S4096x2048 : Shape := ⟨2, ![4096, 2048]⟩
abbrev S2048x256 : Shape := ⟨2, ![2048, 256]⟩
abbrev S1x256x512 : Shape := ⟨3, ![1, 256, 512]⟩
abbrev S2048x512 : Shape := ⟨2, ![2048, 512]⟩
abbrev S256x512 : Shape := ⟨2, ![256, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S256x4x512, .bf16⟩
  | .hbm, ⟨3, _⟩ => ⟨S4x256x512, .bf16⟩
  | .hbm, ⟨4, _⟩ => ⟨S4096x2048, .bf16⟩
  | .local _ .vmem, ⟨0, _⟩ => ⟨S2048x256, .f32⟩
  | .local _ .vmem, ⟨1, _⟩ => ⟨S2048x256, .f32⟩
  | .local _ .vmem, ⟨2, _⟩ => ⟨S1x256x512, .bf16⟩
  | .local _ .vmem, ⟨3, _⟩ => ⟨S1x256x512, .bf16⟩
  | .local _ .vmem, ⟨4, _⟩ => ⟨S2048x512, .bf16⟩
  | .local _ .vmem, ⟨5, _⟩ => ⟨S2048x512, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference40Ideal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S256x2048, .f32⟩
  | .hbm, ⟨3, _⟩ => ⟨S4096x2048, .f32⟩
  | .hbm, ⟨4, _⟩ => ⟨S4096x2048, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel41.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .bf16⟩
  | .hbm, ⟨3, _⟩ => ⟨S1x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_14 : BitVec 32 := 0#32
  let v41 : BitVec 1 := Scalar.cmpi .ne v40 c0_i32_14
  v41

def k0_cond2 (i : grid0.Coords) : BitVec 1 :=
  let arg0 : BitVec 32 := BitVec.ofNat 32 (i 0).val
  let c0_i32 : BitVec 32 := 0#32
  let v39 : BitVec 1 := Scalar.cmpi .eq arg0 c0_i32
  let v_true : BitVec 1 := 1#1
  let v42 : BitVec 1 := Scalar.xori v39 v_true
  let v43 : BitVec 32 := Scalar.extui v42
  let c0_i32_15 : BitVec 32 := 0#32
  let v44 : BitVec 1 := Scalar.cmpi .ne v43 c0_i32_15
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference41Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .bf16⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel42.lean ====
abbrev S4096x2048 : Shape := ⟨2, ![4096, 2048]⟩
abbrev S256x2048 : Shape := ⟨2, ![256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference42Ideal.lean ====
abbrev S4096x2048 : Shape := ⟨2, ![4096, 2048]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .bf16⟩
  | .hbm, ⟨44, _⟩ => ⟨S4096x2048, .bf16⟩
  | .hbm, ⟨45, _⟩ => ⟨S4096x2048, .bf16⟩
  | .hbm, ⟨46, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel43.lean ====
abbrev S4096x8192 : Shape := ⟨2, ![4096, 8192]⟩
abbrev S256x8192 : Shape := ⟨2, ![256, 8192]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S4096x8192, .bf16⟩
  | .hbm, ⟨2, _⟩ => ⟨S4096x8192, .bf16⟩
  | .local _ .vmem, ⟨0, _⟩ => ⟨S256x8192, .bf16⟩
  | .local _ .vmem, ⟨1, _⟩ => ⟨S256x8192, .bf16⟩
  | .local _ .vmem, ⟨2, _⟩ => ⟨S256x8192, .bf16⟩
  | .local _ .vmem, ⟨3, _⟩ => ⟨S256x8192, .bf16⟩
  | .local _ .vmem, ⟨4, _⟩ => ⟨S256x8192, .bf16⟩
  | .local _ .vmem, ⟨5, _⟩ => ⟨S256x8192, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference43Ideal.lean ====
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x8192, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S4096x8192, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Kernel44.lean ====
abbrev S4096x2048 : Shape := ⟨2, ![4096, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference44Ideal.lean ====
abbrev S4096x2048 : Shape := ⟨2, ![4096, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .bf16⟩
  | .hbm, ⟨25, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel45.lean ====
abbrev S4096x6144 : Shape := ⟨2, ![4096, 6144]⟩
abbrev S6144 : Shape := ⟨1, ![6144]⟩
abbrev S1x6144 : Shape := ⟨2, ![1, 6144]⟩
abbrev S256x6144 : Shape := ⟨2, ![256, 6144]⟩

abbrev nBuf : Space → Nat
  | .hbm => 6
  | .vmem => 8
  | .smem => 0
  | _ => 0

abbrev bufTy : (tb : Table) → Fin (tcTables nBuf tb) → BufTy
  | .hbm, ⟨0, _⟩ => ⟨S4096x6144, .f32⟩
  | .hbm, ⟨1, _⟩ => ⟨S6144, .f32⟩
  | .hbm, ⟨2, _⟩ => ⟨S4096x6144, .f32⟩
  | .hbm, ⟨3, _⟩ => ⟨S1x6144, .f32⟩
  | .hbm, ⟨4, _⟩ => ⟨S4096x6144, .f32⟩
  | .hbm, ⟨5, _⟩ => ⟨S1x6144, .f32⟩
  | .local _ .vmem, ⟨0, _⟩ => ⟨S256x6144, .f32⟩
  | .local _ .vmem, ⟨1, _⟩ => ⟨S256x6144, .f32⟩
  | .local _ .vmem, ⟨2, _⟩ => ⟨S256x6144, .f32⟩
  | .local _ .vmem, ⟨3, _⟩ => ⟨S256x6144, .f32⟩
  | .local _ .vmem, ⟨4, _⟩ => ⟨S1x6144, .f32⟩
  | .local _ .vmem, ⟨5, _⟩ => ⟨S256x6144, .f32⟩
  | .local _ .vmem, ⟨6, _⟩ => ⟨S256x6144, .f32⟩
  | .local _ .vmem, ⟨7, _⟩ => ⟨S1x6144, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v22 : BitVec 1 := Scalar.cmpi .eq arg0 c0_i32
  let v23 : BitVec 32 := Scalar.extui v22
  let c0_i32_9 : BitVec 32 := 0#32
  let v24 : BitVec 1 := Scalar.cmpi .ne v23 c0_i32_9
  v24

def k0_cond2 (i : grid0.Coords) : BitVec 1 :=
  let arg0 : BitVec 32 := BitVec.ofNat 32 (i 0).val
  let c0_i32 : BitVec 32 := 0#32
  let v22 : BitVec 1 := Scalar.cmpi .eq arg0 c0_i32
  let v_true : BitVec 1 := 1#1
  let v25 : BitVec 1 := Scalar.xori v22 v_true
  let v26 : BitVec 32 := Scalar.extui v25
  let c0_i32_10 : BitVec 32 := 0#32
  let v27 : BitVec 1 := Scalar.cmpi .ne v26 c0_i32_10
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference45Ideal.lean ====
abbrev S4096x6144 : Shape := ⟨2, ![4096, 6144]⟩
abbrev S6144 : Shape := ⟨1, ![6144]⟩
abbrev S1x6144 : Shape := ⟨2, ![1, 6144]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S6144, .f32⟩
  | .hbm, ⟨2, _⟩ => ⟨S4096x6144, .f32⟩
  | .hbm, ⟨3, _⟩ => ⟨S1x6144, .f32⟩
  | .hbm, ⟨4, _⟩ => ⟨S4096x6144, .f32⟩
  | .hbm, ⟨5, _⟩ => ⟨S4096x6144, .f32⟩
  | .hbm, ⟨6, _⟩ => ⟨S4096x6144, .f32⟩
  | .hbm, ⟨7, _⟩ => ⟨S4096x6144, .f32⟩
  | .hbm, ⟨8, _⟩ => ⟨S_, .f32⟩
  | .hbm, ⟨9, _⟩ => ⟨S4096x6144, .f32⟩
  | .hbm, ⟨10, _⟩ => ⟨S4096x6144, .f32⟩
  | .hbm, ⟨11, _⟩ => ⟨S_, .f32⟩
  | .hbm, ⟨12, _⟩ => ⟨S4096x6144, .f32⟩
  | .hbm, ⟨13, _⟩ => ⟨S4096x6144, .f32⟩
  | .hbm, ⟨14, _⟩ => ⟨S_, .f32⟩
  | .hbm, ⟨15, _⟩ => ⟨S4096x6144, .f32⟩
  | .hbm, ⟨16, _⟩ => ⟨S4096x6144, .f32⟩
  | .hbm, ⟨17, _⟩ => ⟨S4096x6144, .f32⟩
  | .hbm, ⟨18, _⟩ => ⟨S4096x6144, .f32⟩
  | .hbm, ⟨19, _⟩ => ⟨S4096x6144, .f32⟩
  | .hbm, ⟨20, _⟩ => ⟨S4096x6144, .f32⟩
  | .hbm, ⟨21, _⟩ => ⟨S4096x6144, .f32⟩
  | .hbm, ⟨22, _⟩ => ⟨S4096x6144, .f32⟩
  | .hbm, ⟨23, _⟩ => ⟨S_, .f32⟩
  | .hbm, ⟨24, _⟩ => ⟨S6144, .f32⟩
  | .hbm, ⟨25, _⟩ => ⟨S1x6144, .f32⟩
  | .hbm, ⟨26, _⟩ => ⟨S_, .f32⟩
  | .hbm, ⟨27, _⟩ => ⟨S6144, .f32⟩
  | .hbm, ⟨28, _⟩ => ⟨S1x6144, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩

abbrev nD : Nat := 1
abbrev τ : Topo := Topo.v7x

variable {F : FTy → Type} [FloatOps F]
-- ==== Proof.Frames.lean ====
/-
  The claims that need no arithmetic, for the three calls: every program runs and leaves its arguments as they were
  (each run is the generated one, stated for any float values, read at the printed floats and at the exact ones), and the
  idealised kernels differ from the printed ones only in constants that are given the real number they round.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run

@[expose] public section

noncomputable section

namespace Cert.Frames

open Idealize.ShloMosaic Idealize.SL.Sem

/-! ### The shape relations of the two preconditions -/

instance facts_finite4 : Cert.Pre_finite4.Facts where
  bitsLt_bf16_f32 := by decide
  bcast_S_S4096x16x192 := by decide
  bcast_S_S4096x16x128 := by decide

instance facts_finite3 : Cert.Pre_finite3.Facts where
  bitsLt_bf16_f32 := by decide
  bcast_S_S4096x16x192 := by decide
  bcast_S_S4096x16x128 := by decide

/-! ### The gradient of the queries -/

theorem kernel : Cert.quiescent_Kernel := fun m ρ _ => Cert.Kernel.Gen.frame m ρ
theorem kernelIdeal : Cert.quiescent_KernelIdeal := fun m ρ _ => Cert.KernelIdeal.Gen.frame m ρ
theorem kernelIdeal_pre : Cert.quiescent_KernelIdeal_pre_finite4 := fun m ρ _ => Cert.KernelIdeal.Gen.frame m ρ

/-- The reference's run, from any memory: its arguments stay and it has no semaphore to leave set. -/
theorem reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem reference_pre : Cert.quiescent_ReferenceIdeal_pre_finite4 := fun m ρ _ => reference m ρ trivial

/-- Both named constants are the reals they round: `(√192)⁻¹ (log 2)⁻¹` and `(√192)⁻¹`. -/
theorem preserves : Cert.preserves_Kernel_KernelIdeal :=
  ⟨IdealRules.named_const.statement Cert.KernelIdeal.κ "scale_log2e" .f32 0x3DD53B95#32 _ rfl,
    IdealRules.named_const.statement Cert.KernelIdeal.κ "scale" .f32 0x3D93CD3A#32 _ rfl⟩

/-! ### The gradients of the keys and of the values -/

theorem kernel2 : Cert.quiescent_Kernel2 := fun m ρ _ => Cert.Kernel2.Gen.frame m ρ
theorem kernel2Ideal : Cert.quiescent_Kernel2Ideal := fun m ρ _ => Cert.Kernel2Ideal.Gen.frame m ρ
theorem kernel2Ideal_pre : Cert.quiescent_Kernel2Ideal_pre_finite4 := fun m ρ _ => Cert.Kernel2Ideal.Gen.frame m ρ

/-- The reference's run, from any memory. -/
theorem reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)
theorem reference2_pre : Cert.quiescent_Reference2Ideal_pre_finite4 := fun m ρ _ => reference2 m ρ trivial

/-- Both named constants are the reals they round: `(√192)⁻¹ (log 2)⁻¹` and `log 2`. -/
theorem preserves2 : Cert.preserves_Kernel2_Kernel2Ideal :=
  ⟨IdealRules.named_const.statement Cert.Kernel2Ideal.κ "scale_log2e" .f32 0x3DD53B95#32 _ rfl,
    IdealRules.named_const.statement Cert.Kernel2Ideal.κ "ln2" .f32 0x3F317218#32 _ rfl⟩

/-! ### The attention itself -/

theorem kernel3 : Cert.quiescent_Kernel3 := fun m ρ _ => Cert.Kernel3.Gen.frame m ρ
theorem kernel3Ideal : Cert.quiescent_Kernel3Ideal := fun m ρ _ => Cert.Kernel3Ideal.Gen.frame m ρ
theorem kernel3Ideal_pre : Cert.quiescent_Kernel3Ideal_pre_finite3 := fun m ρ _ => Cert.Kernel3Ideal.Gen.frame m ρ

/-- The reference's run, from any memory. -/
theorem reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)
theorem reference3_pre : Cert.quiescent_Reference3Ideal_pre_finite3 := fun m ρ _ => reference3 m ρ trivial

/-- Both named constants are the reals they round: `(√192)⁻¹ (log 2)⁻¹` and `(log 2)⁻¹`. -/
theorem preserves3 : Cert.preserves_Kernel3_Kernel3Ideal :=
  ⟨IdealRules.named_const.statement Cert.Kernel3Ideal.κ "scale_log2e" .f32 0x3DD53B95#32 _ rfl,
    IdealRules.named_const.statement Cert.Kernel3Ideal.κ "log2e" .f32 0x3FB8AA3B#32 _ rfl⟩

end Cert.Frames

end
-- ==== Proof.Spec.lean ====
/-
  The attention of one head as real arithmetic: a block-causal softmax of scaled products, its output, its row sums, and
  the gradients of its queries, keys and values. Rows and columns are natural numbers below 4096; every sum is a
  `Finset.range` sum, so that a sum over blocks is a sum over a longer range.
-/
module

public import Idealize.ShloMosaic.PureOps.Ideal.Laws
public import Mathlib.Tactic.Ring
public import Mathlib.Tactic.FieldSimp

@[expose] public section

noncomputable section

namespace Cert.Attn

open Finset

/-- `192^(-1/2)`: the scale of the scores. -/
def sigma : ℝ := (Real.sqrt 192)⁻¹

/-- The score of query row `r` against key row `c`. -/
def score (q k : ℕ → ℕ → ℝ) (r c : ℕ) : ℝ := (∑ d ∈ range 192, q r d * k c d) * sigma

/-- The unnormalised weight: a key of a later chunk of 64 rows weighs nothing. -/
def wt (q k : ℕ → ℕ → ℝ) (r c : ℕ) : ℝ := if c / 64 ≤ r / 64 then Real.exp (score q k r c) else 0

/-- The sum of a row's weights. -/
def den (q k : ℕ → ℕ → ℝ) (r : ℕ) : ℝ := ∑ c ∈ range 4096, wt q k r c

/-- The softmax. -/
def prob (q k : ℕ → ℕ → ℝ) (r c : ℕ) : ℝ := wt q k r c / den q k r

/-- The attention's output. -/
def att (q k v : ℕ → ℕ → ℝ) (r d : ℕ) : ℝ := ∑ c ∈ range 4096, prob q k r c * v c d

/-- The logarithm, of base 2, of a row's sum of weights. -/
def lse (q k : ℕ → ℕ → ℝ) (r : ℕ) : ℝ := Real.log (den q k r) / Real.log 2

/-- The gradient of the softmax's result, from the output's gradient `g`. -/
def dprob (v g : ℕ → ℕ → ℝ) (r c : ℕ) : ℝ := ∑ d ∈ range 128, g r d * v c d

/-- The row sums of the output's gradient times the output. -/
def delta (q k v g : ℕ → ℕ → ℝ) (r : ℕ) : ℝ := ∑ d ∈ range 128, g r d * att q k v r d

/-- The gradient of the scores. -/
def dscore (q k v g : ℕ → ℕ → ℝ) (r c : ℕ) : ℝ := prob q k r c * (dprob v g r c - delta q k v g r)

/-- The gradient of the queries. -/
def gradQ (q k v g : ℕ → ℕ → ℝ) (r d : ℕ) : ℝ := (∑ c ∈ range 4096, dscore q k v g r c * k c d) * sigma

/-- The gradient of the keys. -/
def gradK (q k v g : ℕ → ℕ → ℝ) (c d : ℕ) : ℝ := (∑ r ∈ range 4096, dscore q k v g r c * q r d) * sigma

/-- The gradient of the values. -/
def gradV (q k g : ℕ → ℕ → ℝ) (c d : ℕ) : ℝ := ∑ r ∈ range 4096, prob q k r c * g r d

variable (q k v g : ℕ → ℕ → ℝ)

theorem wt_nonneg (r c : ℕ) : 0 ≤ wt q k r c := by
  unfold wt; split
  · exact (Real.exp_pos _).le
  · exact le_rfl

/-- A row's own key weighs something, so its sum is positive. -/
theorem den_pos {r : ℕ} (hr : r < 4096) : 0 < den q k r :=
  lt_of_lt_of_le (by unfold wt; rw [if_pos le_rfl]; exact Real.exp_pos _)
    (single_le_sum (f := wt q k r) (fun c _ => wt_nonneg q k r c) (mem_range.2 hr))

/-- The softmax's own average of `dprob` is `delta`: the two ways of writing the softmax's gradient agree. -/
theorem sum_prob_dprob (r : ℕ) : ∑ c ∈ range 4096, prob q k r c * dprob v g r c = delta q k v g r := by
  unfold delta dprob att
  simp only [mul_sum]
  rw [sum_comm]
  exact sum_congr rfl fun d _ => sum_congr rfl fun c _ => by ring

/-- Softmax with weights shifted by any factor `e`, differentiated as quotient and sum: the gradient of the scores. -/
theorem dscore_of_shift {r : ℕ} (hr : r < 4096) (c : ℕ) (e : ℝ) (he : e ≠ 0) :
    (dprob v g r c / (∑ c ∈ range 4096, wt q k r c * e)
        + -(∑ c' ∈ range 4096, dprob v g r c' * (1 / ((∑ c ∈ range 4096, wt q k r c * e) * (∑ c ∈ range 4096, wt q k r c * e))) * (wt q k r c' * e)))
      * (wt q k r c * e) = dscore q k v g r c := by
  have hd := (den_pos q k hr).ne'
  rw [← sum_mul]
  change (dprob v g r c / (den q k r * e) + -(∑ c' ∈ range 4096, dprob v g r c' * (1 / ((den q k r * e) * (den q k r * e))) * (wt q k r c' * e))) * (wt q k r c * e) = _
  have h : ∀ c', dprob v g r c' * (1 / ((den q k r * e) * (den q k r * e))) * (wt q k r c' * e)
      = (prob q k r c' * dprob v g r c') * (1 / (den q k r * e)) := fun c' => by
    unfold prob; field_simp
  rw [sum_congr rfl fun c' _ => h c', ← sum_mul, sum_prob_dprob]
  unfold dscore prob
  field_simp
  ring

theorem prob_of_shift (r c : ℕ) (e : ℝ) (he : e ≠ 0) :
    (wt q k r c * e) / (∑ c ∈ range 4096, wt q k r c * e) = prob q k r c := by
  rw [← sum_mul]; exact mul_div_mul_right _ _ he

/-- A masked column carries no weight, no probability and no gradient. -/
theorem wt_masked {r c : ℕ} (h : ¬ c / 64 ≤ r / 64) : wt q k r c = 0 := if_neg h
theorem prob_masked {r c : ℕ} (h : ¬ c / 64 ≤ r / 64) : prob q k r c = 0 := by
  unfold prob; rw [wt_masked q k h, zero_div]
theorem dscore_masked {r c : ℕ} (h : ¬ c / 64 ≤ r / 64) : dscore q k v g r c = 0 := by
  unfold dscore; rw [prob_masked q k h, zero_mul]

theorem log_two_pos : 0 < Real.log 2 := Real.log_pos (by norm_num)

theorem sigma_pos : 0 < sigma := inv_pos.2 (Real.sqrt_pos.2 (by norm_num))

/-- The score as the calls compute it: the query scaled by `192^(-1/2) / log 2` first. -/
theorem sum_scaled (a b : ℕ → ℝ) :
    ∑ d ∈ range 192, a d * (sigma * (Real.log 2)⁻¹) * b d = (∑ d ∈ range 192, a d * b d) * sigma / Real.log 2 := by
  rw [sum_mul, div_eq_mul_inv, sum_mul]
  exact sum_congr rfl fun d _ => by ring

/-- Two to the power `s / log 2 - lse` is `e^s` over the row's sum. -/
theorem exp2_sub_lse {r : ℕ} (hr : r < 4096) (s : ℝ) :
    (2 : ℝ) ^ (s / Real.log 2 - lse q k r) = Real.exp s / den q k r := by
  have h2 := log_two_pos.ne'
  rw [Real.rpow_def_of_pos (by norm_num)]
  have : Real.log 2 * (s / Real.log 2 - lse q k r) = s - Real.log (den q k r) := by
    unfold lse; field_simp
  rw [this, Real.exp_sub, Real.exp_log (den_pos q k hr)]

/-- The softmax as the backward calls recompute it, from the scaled query and the saved logarithm. -/
theorem exp2_score {r : ℕ} (hr : r < 4096) (c : ℕ) :
    (2 : ℝ) ^ ((∑ d ∈ range 192, q r d * (sigma * (Real.log 2)⁻¹) * k c d) - lse q k r)
      = Real.exp (score q k r c) / den q k r := by
  rw [sum_scaled, exp2_sub_lse q k hr]; rfl

theorem exp2_score_of_le {r : ℕ} (hr : r < 4096) {c : ℕ} (h : c / 64 ≤ r / 64) :
    (2 : ℝ) ^ ((∑ d ∈ range 192, q r d * (sigma * (Real.log 2)⁻¹) * k c d) - lse q k r) = prob q k r c := by
  rw [exp2_score q k hr]; unfold prob wt; rw [if_pos h]

/-- With the mask as a choice. -/
theorem exp2_score_ite {r : ℕ} (hr : r < 4096) (c : ℕ) :
    (if c / 64 ≤ r / 64 then
      (2 : ℝ) ^ ((∑ d ∈ range 192, q r d * (sigma * (Real.log 2)⁻¹) * k c d) - lse q k r) else 0) = prob q k r c := by
  split
  · exact exp2_score_of_le q k hr ‹_›
  · exact (prob_masked q k ‹_›).symm

/-- A sum over the tiles before `j` and over tile `j`. -/
theorem sum_tile (f : ℕ → ℝ) (j : ℕ) :
    ∑ c ∈ range (512 * (j + 1)), f c = ∑ c ∈ range (512 * j), f c + ∑ c ∈ range 512, f (512 * j + c) := by
  rw [Nat.mul_add, Nat.mul_one, sum_range_add]

/-- A sum whose terms vanish past tile `j`. -/
theorem sum_upto (f : ℕ → ℝ) {j : ℕ} (hj : j < 8) (h : ∀ c, 512 * (j + 1) ≤ c → f c = 0) :
    ∑ c ∈ range (512 * (j + 1)), f c = ∑ c ∈ range 4096, f c :=
  sum_subset (range_subset_range.2 (by omega)) fun c _ hc => h c (by simpa using hc)

end Cert.Attn

end
-- ==== Proof.Exact.lean ====
/-
  Exact arithmetic on real numbers among the extended reals: sums, powers, logarithms and quotients of reals are reals,
  and the largest of finitely many values that are real or `⊥`, one of them real, is real.
-/
module

public import Idealize.ShloMosaic.PureOps.Ideal.Laws
public import Idealize.ShloMosaic.Lib.Pointwise

@[expose] public section

noncomputable section

namespace Cert.Exact

open Idealize.ShloMosaic

/-- A finite sum of reals is a real. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- … and over `Fin n` it is the real sum over `range n`. -/
theorem sum_fin_coe (n : ℕ) (f : ℕ → ℝ) : ∑ i : Fin n, ((f i.val : ℝ) : EReal) = ((∑ i ∈ Finset.range n, f i : ℝ) : EReal) := by
  rw [sum_coe, Fin.sum_univ_eq_sum_range]

/-- Terms that are reals, named by their position. -/
theorem sum_fin_eq {n : ℕ} (x : Fin n → EReal) (f : ℕ → ℝ) (h : ∀ i : Fin n, x i = ((f i.val : ℝ) : EReal)) :
    ∑ i, x i = ((∑ i ∈ Finset.range n, f i : ℝ) : EReal) := by
  rw [← sum_fin_coe]; exact Finset.sum_congr rfl fun i _ => h i

/-- The largest of finitely many values, each real or `⊥`, is real or `⊥`. -/
theorem fold_max_real_or_bot {ι : Type*} (s : Finset ι) (x : ι → EReal) (h : ∀ i ∈ s, x i = ⊥ ∨ ∃ r : ℝ, x i = (r : EReal)) :
    s.fold max ⊥ x = ⊥ ∨ ∃ r : ℝ, s.fold max ⊥ x = (r : EReal) := by
  classical
  induction s using Finset.induction_on with
  | empty => exact .inl rfl
  | insert a s ha ih =>
    rw [Finset.fold_insert ha]
    rcases le_total (x a) (s.fold max ⊥ x) with hle | hle
    · rw [max_eq_right hle]; exact ih fun i hi => h i (Finset.mem_insert_of_mem hi)
    · rw [max_eq_left hle]; exact h a (Finset.mem_insert_self a s)

/-- … and real when one of them is. -/
theorem fold_max_real {ι : Type*} (s : Finset ι) (x : ι → EReal) (h : ∀ i ∈ s, x i = ⊥ ∨ ∃ r : ℝ, x i = (r : EReal))
    {i : ι} (hi : i ∈ s) (hr : ∃ r : ℝ, x i = (r : EReal)) : ∃ r : ℝ, s.fold max ⊥ x = (r : EReal) := by
  rcases fold_max_real_or_bot s x h with hb | hb
  · obtain ⟨r, hr⟩ := hr
    have : x i ≤ s.fold max ⊥ x := (Finset.le_fold_max _).2 (.inr ⟨i, hi, le_rfl⟩)
    rw [hb, hr] at this
    exact absurd (le_bot_iff.1 this) (EReal.coe_ne_bot r)
  · exact hb

/-- A value smaller than `⊤` in absolute value is real. -/
theorem eq_coe_of_abs_lt_top (x : EReal) (h : max x (-x) < ⊤) : x = ((x.toReal : ℝ) : EReal) := by
  refine (EReal.coe_toReal ?_ ?_).symm
  · rintro rfl; simp at h
  · rintro rfl; simp at h

/-- A quotient of reals. -/
theorem div_coe' {x y : ℝ} (h : y ≠ 0) : Ideal.div (x : EReal) (y : EReal) = ((x / y : ℝ) : EReal) := by
  rw [Ideal.div_coe h, ← EReal.coe_mul, mul_one_div]

/-- A logarithm of a positive real. -/
theorem log_coe' {x : ℝ} (h : 0 < x) : Ideal.log (x : EReal) = ((Real.log x : ℝ) : EReal) := by
  rw [Ideal.log_coe, if_neg (not_le.2 h)]

/-! ### An array of reals as a function of row and column -/

/-- Every element is real. -/
def Real {s : Shape} (x : s.Idx → EReal) : Prop := ∀ i, x i = (((x i).toReal : ℝ) : EReal)

/-- Head `h`'s matrix of an array of rows, heads and columns, `0` outside. -/
def rows {D : ℕ} (x : (⟨3, ![4096, 16, D]⟩ : Shape).Idx → EReal) (h : Fin 16) (r d : ℕ) : ℝ :=
  if hr : r < 4096 then if hd : d < D then (x (ix3 ⟨r, hr⟩ h ⟨d, hd⟩)).toReal else 0 else 0

theorem Real.at_rows {D : ℕ} {x : (⟨3, ![4096, 16, D]⟩ : Shape).Idx → EReal} (hx : Real x) (r : Fin 4096) (h : Fin 16) (d : Fin D) :
    x (ix3 r h d) = ((rows x h r.val d.val : ℝ) : EReal) := by
  rw [hx, rows, dif_pos r.isLt, dif_pos d.isLt]

end Cert.Exact

end
-- ==== Proof.Words.lean ====
/-
  The chunk of 64 rows a row lies in, as the programs compute it on words: a division rounding towards zero, corrected
  where the operands' signs differ and the remainder is not zero. On the row numbers, none of them negative, it is `n / 64`.
-/
module

public import Idealize.ShloMosaic.Lib.Pointwise

@[expose] public section

noncomputable section

namespace Cert.Words

open Idealize.ShloMosaic

/-- A comparison of small numbers as words is the comparison of the numbers. -/
theorem sle_ofNat {a b : ℕ} (ha : a < 4096) (hb : b < 4096) :
    ((BitVec.ofNat 32 a).sle (BitVec.ofNat 32 b)) = decide (a ≤ b) := by
  have h : ∀ n, n < 4096 → (BitVec.ofNat 32 n).toInt = n := fun n hn => by
    rw [BitVec.toInt_ofNat']; exact Int.bmod_eq_of_le (by omega) (by omega)
  simp only [BitVec.sle, h a ha, h b hb, Nat.cast_le]

/-- The chunk of a row number, as the calls compute it inside a kernel body. -/
def chunk (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32) (IntOp.divsi .vector w 64#32)

theorem chunk_ofNat (n : Fin 4096) : chunk (BitVec.ofNat 32 n) = BitVec.ofNat 32 (n / 64) := by
  revert n; decide +kernel

/-- Row `r` of the tile of 512 rows number `j`. -/
theorem row_word (j r : ℕ) :
    IntOp.addi (Scalar.muli (BitVec.ofNat 32 j) 512#32) (BitVec.ofNat 32 r) = BitVec.ofNat 32 (512 * j + r) := by
  show BitVec.ofNat 32 j * 512#32 + BitVec.ofNat 32 r = _
  rw [BitVec.ofNat_add, Nat.mul_comm, BitVec.ofNat_mul]

/-- The mask's bit: key row `c` against query row `r`. -/
theorem mask_bit {r c : ℕ} (hr : r < 4096) (hc : c < 4096) :
    IntOp.cmpi .sle (chunk (BitVec.ofNat 32 c)) (chunk (BitVec.ofNat 32 r)) = if c / 64 ≤ r / 64 then 1#1 else 0#1 := by
  rw [chunk_ofNat ⟨c, hc⟩, chunk_ofNat ⟨r, hr⟩]
  simp only [IntOp.cmpi, sle_ofNat (show c / 64 < 4096 by omega) (show r / 64 < 4096 by omega)]
  by_cases h : c / 64 ≤ r / 64 <;> simp [h]

/-- A choice by such a bit. -/
theorem select_bit {α : Type} (p : Prop) [Decidable p] (a b : α) : Scalar.select (if p then 1#1 else 0#1) a b = if p then a else b := by
  by_cases h : p <;> simp [h, Scalar.select]

/-- The first row of a tile, as an offset. -/
theorem offset (j : Fin 8) : BitVec.toNat (Scalar.indexCast (Scalar.muli (BitVec.ofNat 32 j) 512#32)) = 512 * j := by
  revert j; decide +kernel

end Cert.Words

end
-- ==== Proof.Blocks.lean ====
/-
  Where a block's element sits in its array: arrays of 16 heads by 4096 rows, in blocks of one head's 512 rows or of one
  head's whole rows; and an array whose entries are below infinity is an array of reals.
-/
module

public import proofs.«01_k».proof.Proof.Exact
public import Idealize.ShloMosaic.Lib.ValueIdx
public import Idealize.ShloMosaic.Lib.Pipeline.ValueKit

@[expose] public section

noncomputable section

namespace Cert.Blocks

open Idealize.ShloMosaic Idealize.ShloMosaic.View Idealize.ShloMosaic.Pipeline Cert.Exact

/-- Row `r` of tile `b`. -/
def row (b : Fin 8) (r : Fin 512) : Fin 4096 := ⟨512 * b.val + r.val, by omega⟩

theorem at_ix3 {A B C : ℕ} {a : Fin A} {b : Fin B} {c : Fin C} (i : (⟨3, ![A, B, C]⟩ : Shape).Idx)
    (h0 : (i 0).val = a.val) (h1 : (i 1).val = b.val) (h2 : (i 2).val = c.val) : i = ix3 a b c := by
  funext x
  match x with
  | ⟨0, _⟩ => exact Fin.ext h0
  | ⟨1, _⟩ => exact Fin.ext h1
  | ⟨2, _⟩ => exact Fin.ext h2

/-- In a block of one head's 512 rows. -/
theorem spot (r d D : ℕ) {h b : ℕ} {i : Fin 3 → ℕ} (hi : i = ![h, b, 0]) :
    i 0 * 1 + 1 * 0 = h ∧ i 1 * 512 + 1 * r = 512 * b + r ∧ i 2 * D + 1 * d = d := by
  subst hi; refine ⟨?_, ?_, ?_⟩ <;> simp; omega

/-- In a block of one head's rows. -/
theorem spot_whole (r d D : ℕ) {h : ℕ} {i : Fin 3 → ℕ} (hi : i = ![h, 0, 0]) :
    i 0 * 1 + 1 * 0 = h ∧ i 1 * 4096 + 1 * r = r ∧ i 2 * D + 1 * d = d := by
  subst hi; refine ⟨?_, ?_, ?_⟩ <;> simp

/-- The rows of a head, after the transposition that puts the heads first. -/
theorem heads_first {D : ℕ} (x : (⟨3, ![4096, 16, D]⟩ : Shape).Idx → EReal) (hx : Real x)
    (hs : (⟨3, ![4096, 16, D]⟩ : Shape).Transposes [1, 0, 2] ⟨3, ![16, 4096, D]⟩) (h : Fin 16) (r : Fin 4096) (d : Fin D) :
    (transpose ⟨3, ![16, 4096, D]⟩ [1, 0, 2] x hs : (⟨3, ![16, 4096, D]⟩ : Shape).Idx → EReal) (ix3 h r d) = ((rows x h r d : ℝ) : EReal) :=
  (congrArg x ((eq_ix3 _).trans rfl)).trans (hx.at_rows r h d)

theorem reals {D : ℕ} (x : (⟨3, ![4096, 16, D]⟩ : Shape).Idx → EReal) (hb : (⟨0, ![]⟩ : Shape).BroadcastsInDim ⟨3, ![4096, 16, D]⟩ ![])
    (he : FTy.bits .bf16 < FTy.bits .f32)
    (hx : cmpf (F := Ideal) .olt (Host.absf (extf (F := Ideal) (φ := .bf16) .f32 x he)) (broadcastInDim ⟨3, ![4096, 16, D]⟩ ![] hb (constant (F := Ideal) ⟨0, ![]⟩ .f32 0x7F800000#32)) = fun _ => 1#1) : Real x := by
  intro i
  have h := congrFun hx i
  change FloatOps.cmpf (F := Ideal) (φ := .f32) .olt (FloatOps.hostAbsf (F := Ideal) (φ := .f32) (x i)) (Ideal.ofBits .f32 0x7F800000#32) = 1#1 at h
  rw [show Ideal.ofBits .f32 0x7F800000#32 = (⊤ : EReal) by simp [Ideal.ofBits, Ideal.ieee]] at h
  refine eq_coe_of_abs_lt_top _ ?_
  by_contra hn
  change Ideal.cmp .olt (max (x i) (-x i)) ⊤ = 1#1 at h
  simp [Ideal.cmp, hn] at h

/-- Tile `b` of an array of rows: its row `r` is row `512 b + r`. -/
def Tile {D : ℕ} (x : (⟨3, ![1, 512, D]⟩ : Shape).Idx → EReal) (a : ℕ → ℕ → ℝ) (b : ℕ) : Prop :=
  ∀ (r : Fin 512) (d : Fin D), x (ix3 (0 : Fin 1) r d) = ((a (512 * b + r) d : ℝ) : EReal)

/-- 512 rows loaded from row `512 j` of an array of 4096 rows are its tile `j`. -/
theorem tile_of_load {D : ℕ} (x : (⟨3, ![1, 4096, D]⟩ : Shape).Idx → EReal) (a : ℕ → ℕ → ℝ)
    (hx : ∀ (r : Fin 4096) (d : Fin D), x (ix3 (0 : Fin 1) r d) = ((a r d : ℝ) : EReal)) {j : ℕ} (off : Fin 3 → ℕ)
    (ho : off = ![0, 512 * j, 0]) (inb : ∀ i, off i + (![1, 512, D] : Fin 3 → ℕ) i ≤ (⟨3, ![1, 4096, D]⟩ : Shape).size i) :
    Tile (View.ld (Val := Elt Ideal) (e' := .bf16) x (Rect.unit off ![1, 512, D] inb)) a j := fun r d => by
  subst ho
  have hj : 512 * j + 512 ≤ 4096 := inb 1
  exact (ld_unit_apply_of (Val := Elt Ideal) (e := .bf16) x _ _ inb (ix3 (0 : Fin 1) r d) (ix3 (0 : Fin 1) ⟨512 * j + r.val, by omega⟩ d)
    (fun i => by match i with | ⟨0, _⟩ => rfl | ⟨1, _⟩ => rfl | ⟨2, _⟩ => exact (Nat.zero_add _).symm)).trans (hx _ _)

/-- The same for an array without the leading dimension. -/
theorem tile_of_load2 {D : ℕ} (x : (⟨2, ![4096, D]⟩ : Shape).Idx → EReal) (a : ℕ → ℕ → ℝ)
    (hx : ∀ (r : Fin 4096) (d : Fin D), x (ix2 r d) = ((a r d : ℝ) : EReal)) {j : ℕ} (off : Fin 2 → ℕ)
    (ho : off = ![512 * j, 0]) (inb : ∀ i, off i + (![512, D] : Fin 2 → ℕ) i ≤ (⟨2, ![4096, D]⟩ : Shape).size i) (r : Fin 512) (d : Fin D) :
    (View.ld (Val := Elt Ideal) (e' := .bf16) x (Rect.unit off ![512, D] inb) : (⟨2, ![512, D]⟩ : Shape).Idx → EReal) (ix2 r d)
      = ((a (512 * j + r) d : ℝ) : EReal) := by
  subst ho
  have hj : 512 * j + 512 ≤ 4096 := inb 0
  exact (ld_unit_apply_of (Val := Elt Ideal) (e := .bf16) x _ _ inb (ix2 r d) (ix2 ⟨512 * j + r.val, by omega⟩ d)
    (fun i => by match i with | ⟨0, _⟩ => rfl | ⟨1, _⟩ => exact (Nat.zero_add _).symm)).trans (hx _ _)

/-- A buffer stored over whole reads as what was stored. -/
theorem read_stored {sig : RefSig} {κ : Kind} {sp : Space} {S : Shape} {e : EltTy} {off : Fin S.rank → ℕ} (h : off = fun _ => 0)
    (v : View sig κ sp S e) (inb : ∀ a, off a + S.size a ≤ S.size a) (w : S.Idx → Elt Ideal e) :
    v.read (Elt Ideal) (v.writes (Elt Ideal) v.junk [⟨Rect.unit off S.size inb, w⟩]) = w := by
  rw [View.read_writes_eq_canon _ _ _ (fun y => ⟨_, List.mem_singleton_self _, mem_set_unit_zero h inb y⟩), canon_unit_zero h]

end Cert.Blocks

end
-- ==== Proof.Dq.lean ====
/-
  The query gradient's call on one tile of 512 query rows: the loop over the key tiles before the diagonal, the masked
  diagonal tile, and the gradient they leave.
-/
module

public import proofs.«01_k».proof.Proof.Gen.KernelIdeal.Value
public import Idealize.ShloMosaic.Lib.Pipeline.ValueKit
public import proofs.«01_k».proof.Proof.Spec
public import proofs.«01_k».proof.Proof.Exact
public import proofs.«01_k».proof.Proof.Words
public import proofs.«01_k».proof.Proof.Blocks

@[expose] public section

noncomputable section

namespace Cert.Dq

open Idealize.ShloMosaic Idealize.ShloMosaic.View Idealize.ShloMosaic.Pipeline Cert.KernelIdeal Cert.KernelIdeal.Gen Cert.Exact Cert.Attn Cert.Blocks

theorem scale_log2e : Named.named (F := Ideal) (φ := .f32) κ "scale_log2e" 0x3DD53B95#32 = ((sigma * (Real.log 2)⁻¹ : ℝ) : EReal) :=
  IdealRules.named_const.ideal_named_scalar _ _ _ _ rfl

theorem scale : Named.named (F := Ideal) (φ := .f32) κ "scale" 0x3D93CD3A#32 = ((sigma : ℝ) : EReal) :=
  IdealRules.named_const.ideal_named_scalar _ _ _ _ rfl

variable {q k v g : ℕ → ℕ → ℝ} {b : ℕ}
variable {x0 : Vec Ideal S1x512x192 .bf16} {x3 x5 : Vec Ideal S1x512x128 .bf16} {x4 : Vec Ideal S1x512x1 .f32}

theorem query (h0 : Tile x0 q b) (r : Fin 512) (d : Fin 192) :
    k0_pay2 (F := Ideal) x0 (ix2 r d) = ((q (512 * b + r) d * (sigma * (Real.log 2)⁻¹) : ℝ) : EReal) := by
  have e : k0_pay2 (F := Ideal) x0 (ix2 r d) = x0 (ix3 0 r d) * Named.named (F := Ideal) (φ := .f32) κ "scale_log2e" 0x3DD53B95#32 := by pointwise [k0_pay2]
  rw [e, h0, scale_log2e, ← EReal.coe_mul]

theorem row_delta (h3 : Tile x3 (att q k v) b) (h5 : Tile x5 g b) (r : Fin 512) (z : Fin 1) :
    k0_pay5 (F := Ideal) x5 x3 (ix2 r z) = ((delta q k v g (512 * b + r) : ℝ) : EReal) := by
  have e : k0_pay5 (F := Ideal) x5 x3 (ix2 r z) = ∑ d : Fin 128, x5 (ix3 0 r d) * x3 (ix3 0 r d) := by pointwise [k0_pay5]
  rw [e]
  exact sum_fin_eq _ (fun d => g (512 * b + r) d * att q k v (512 * b + r) d) fun d => by rw [h5, h3, EReal.coe_mul]

/-- A key tile's probabilities before masking, and the gradient of its scores. -/
theorem power (h0 : Tile x0 q b) (h4 : Tile x4 (fun r _ => lse q k r) b) {j : ℕ} {kt : Vec Ideal S1x512x192 .bf16} (hk : Tile kt k j)
    (r c : Fin 512) :
    FloatOps.exp2 (F := Ideal) (φ := .f32) (∑ d : Fin 192, k0_pay2 (F := Ideal) x0 (ix2 r d) * kt (ix3 0 c d) - x4 (ix3 0 r 0))
      = (((2 : ℝ) ^ ((∑ d ∈ Finset.range 192, q (512 * b + r) d * (sigma * (Real.log 2)⁻¹) * k (512 * j + c) d) - lse q k (512 * b + r)) : ℝ) : EReal) := by
  rw [sum_fin_eq _ (fun d => q (512 * b + r) d * (sigma * (Real.log 2)⁻¹) * k (512 * j + c) d) fun d => by
    rw [query h0, hk, ← EReal.coe_mul], h4, ← EReal.coe_sub]
  exact Ideal.exp2_coe _

theorem diff (h3 : Tile x3 (att q k v) b) (h5 : Tile x5 g b) {j : ℕ} {vt : Vec Ideal S1x512x128 .bf16} (hv : Tile vt v j)
    (r c : Fin 512) :
    (∑ d : Fin 128, x5 (ix3 0 r d) * vt (ix3 0 c d) - k0_pay5 (F := Ideal) x5 x3 (ix2 r 0) : EReal)
      = ((dprob v g (512 * b + r) (512 * j + c) - delta q k v g (512 * b + r) : ℝ) : EReal) := by
  rw [sum_fin_eq _ (fun d => g (512 * b + r) d * v (512 * j + c) d) fun d => by rw [h5, hv, ← EReal.coe_mul],
    row_delta h3 h5, ← EReal.coe_sub]
  rfl

/-- One trip of the loop adds a key tile before the diagonal. -/
theorem trip_value (hb : b < 8) (h0 : Tile x0 q b) (h3 : Tile x3 (att q k v) b) (h4 : Tile x4 (fun r _ => lse q k r) b) (h5 : Tile x5 g b)
    {j : ℕ} (hj : j < b) {kt : Vec Ideal S1x512x192 .bf16} {vt : Vec Ideal S1x512x128 .bf16} (hk : Tile kt k j) (hv : Tile vt v j)
    {a : FVec Ideal S512x192 .f32} {A : ℕ → ℕ → ℝ} (ha : ∀ (r : Fin 512) (d : Fin 192), a (ix2 r d) = ((A r d : ℝ) : EReal))
    (r : Fin 512) (d : Fin 192) :
    k0_pay8 (F := Ideal) x0 x5 x5 x4 x3 a kt vt (ix2 r d)
      = ((A r d + ∑ c ∈ Finset.range 512, dscore q k v g (512 * b + r) (512 * j + c) * k (512 * j + c) d : ℝ) : EReal) := by
  have e : k0_pay8 (F := Ideal) x0 x5 x5 x4 x3 a kt vt (ix2 r d) = a (ix2 r d)
      + ∑ c : Fin 512, FloatOps.exp2 (F := Ideal) (φ := .f32) (∑ d : Fin 192, k0_pay2 (F := Ideal) x0 (ix2 r d) * kt (ix3 0 c d) - x4 (ix3 0 r 0))
          * (∑ d : Fin 128, x5 (ix3 0 r d) * vt (ix3 0 c d) - k0_pay5 (F := Ideal) x5 x3 (ix2 r 0)) * kt (ix3 0 c d) := by
    pointwise [k0_pay8, k0_pay3, k0_pay4]
  rw [e, ha, sum_fin_eq _ (fun c => dscore q k v g (512 * b + r) (512 * j + c) * k (512 * j + c) d) fun c => ?_, EReal.coe_add]
  rw [power h0 h4 hk, diff h3 h5 hv, hk, exp2_score_of_le q k (show 512 * b + r.val < 4096 by omega) (show (512 * j + c.val) / 64 ≤ (512 * b + r.val) / 64 by omega),
    ← EReal.coe_mul, ← EReal.coe_mul]
  rfl

/-- The diagonal tile, masked, and the scale. -/
theorem last_value (hb : b < 8) (h0 : Tile x0 q b) (h3 : Tile x3 (att q k v) b) (h4 : Tile x4 (fun r _ => lse q k r) b) (h5 : Tile x5 g b)
    {kt : Vec Ideal S1x512x192 .bf16} {vt : Vec Ideal S1x512x128 .bf16} (hk : Tile kt k b) (hv : Tile vt v b)
    {a : FVec Ideal S512x192 .f32}
    (ha : ∀ (r : Fin 512) (d : Fin 192), a (ix2 r d) = ((∑ c ∈ Finset.range (512 * b), dscore q k v g (512 * b + r) c * k c d : ℝ) : EReal))
    (u : Fin 1) (r : Fin 512) (d : Fin 192) :
    k0_pay1 (F := Ideal) (k0_pay3 x5) (k0_pay5 x5 x3) a (k0_pay10 kt) (k0_pay11 vt) (k0_pay12 (k0_pay2 x0) (k0_pay4 x4) kt)
        (k0_pay13 (BitVec.ofNat 32 b)) (k0_pay14 (BitVec.ofNat 32 b)) 64#32 (k0_pay15 (BitVec.ofNat 32 b)) (ix3 u r d)
      = ((gradQ q k v g (512 * b + r) d : ℝ) : EReal) := by
  have e : k0_pay1 (F := Ideal) (k0_pay3 x5) (k0_pay5 x5 x3) a (k0_pay10 kt) (k0_pay11 vt) (k0_pay12 (k0_pay2 x0) (k0_pay4 x4) kt)
        (k0_pay13 (BitVec.ofNat 32 b)) (k0_pay14 (BitVec.ofNat 32 b)) 64#32 (k0_pay15 (BitVec.ofNat 32 b)) (ix3 u r d)
      = (a (ix2 r d) + ∑ c : Fin 512, Scalar.select (IntOp.cmpi .sle (Words.chunk (IntOp.addi (Scalar.muli (BitVec.ofNat 32 b) 512#32) (BitVec.ofNat 32 c)))
            (Words.chunk (IntOp.addi (Scalar.muli (BitVec.ofNat 32 b) 512#32) (BitVec.ofNat 32 r))))
          (FloatOps.exp2 (F := Ideal) (φ := .f32) (∑ d : Fin 192, k0_pay2 (F := Ideal) x0 (ix2 r d) * kt (ix3 0 c d) - x4 (ix3 0 r 0))
          * (∑ d : Fin 128, x5 (ix3 0 r d) * vt (ix3 0 c d) - k0_pay5 (F := Ideal) x5 x3 (ix2 r 0)) * kt (ix3 0 c d)) 0)
        * Named.named (F := Ideal) (φ := .f32) κ "scale" 0x3D93CD3A#32 := by
    pointwise [k0_pay1, k0_pay3, k0_pay4, k0_pay10, k0_pay11, k0_pay12, k0_pay13, k0_pay14, k0_pay15]
    rfl
  rw [e, ha, sum_fin_eq _ (fun c => dscore q k v g (512 * b + r) (512 * b + c) * k (512 * b + c) d) fun c => ?_, scale, ← EReal.coe_add,
    ← sum_tile (fun c => dscore q k v g (512 * b + r) c * k c d), sum_upto _ hb fun c hc => by
      rw [dscore_masked q k v g (by omega), zero_mul], ← EReal.coe_mul]
  · rfl
  · rw [Words.row_word, Words.row_word, Words.mask_bit (by omega) (by omega), Words.select_bit]
    split
    · rw [power h0 h4 hk, diff h3 h5 hv, hk, exp2_score_of_le q k (show 512 * b + r.val < 4096 by omega) ‹_›, ← EReal.coe_mul, ← EReal.coe_mul]
      rfl
    · rw [dscore_masked q k v g ‹_›, zero_mul]; rfl

/-! ### The loop -/

section Loop

variable (c : Dev nD) (i : grid0.Coords) (arg2 : Memref sig .tc .vmem S1x512x192 .bf16) (harg2 : arg2.IsWhole) (arg3 : Memref sig .tc .vmem S1x4096x192 .bf16) (harg3 : arg3.IsWhole) (arg4 : Memref sig .tc .vmem S1x4096x128 .bf16) (harg4 : arg4.IsWhole) (arg5 : Memref sig .tc .vmem S1x512x128 .bf16) (harg5 : arg5.IsWhole) (arg6 : Memref sig .tc .vmem S1x512x1 .f32) (harg6 : arg6.IsWhole) (arg7 : Memref sig .tc .vmem S1x512x128 .bf16) (harg7 : arg7.IsWhole) (arg8 : Memref sig .tc .vmem S1x512x192 .bf16) (harg8 : arg8.IsWhole) (arg9 : Memref sig .tc .vmem S1x512x1 .f32) (harg9 : arg9.IsWhole) (arg10 : Memref sig .tc .vmem S4096x192 .bf16) (harg10 : arg10.IsWhole) (arg11 : Memref sig .tc .vmem S4096x128 .bf16) (harg11 : arg11.IsWhole)

theorem trips_tiles : ∀ n : Fin 8, Scf.trips (0#32)
    (Scalar.addi (0#32) (Scalar.muli (Scalar.divsi (Scalar.subi (BitVec.ofNat 32 n) 0#32) 1#32) 1#32)) 1#32 = n.val := by
  decide +kernel

theorem trips_rest : ∀ n : Fin 8, Scf.trips
    (Scalar.addi (0#32) (Scalar.muli (Scalar.divsi (Scalar.subi (BitVec.ofNat 32 n) 0#32) 1#32) 1#32))
    (Scalar.addi (0#32) (Scalar.subi (BitVec.ofNat 32 n) 0#32)) 1#32 = 0 := by
  decide +kernel

theorem trip_row : ∀ n : Fin 8, BitVec.toNat (Scalar.indexCast (Scalar.muli (Scf.iv 0#32 1#32 n.val) 512#32)) = 512 * n.val := by
  decide +kernel

/-- Before trip `j` the carried sum is that of the key tiles before `j`. -/
theorem loop_value (hb : (i 1).val < 8) {x1 : Vec Ideal S1x4096x192 .bf16} {x2 : Vec Ideal S1x4096x128 .bf16}
    (h0 : Tile x0 q (i 1).val) (h3 : Tile x3 (att q k v) (i 1).val) (h4 : Tile x4 (fun r _ => lse q k r) (i 1).val) (h5 : Tile x5 g (i 1).val)
    (h1 : ∀ (r : Fin 4096) (d : Fin 192), x1 (ix3 (0 : Fin 1) r d) = ((k r d : ℝ) : EReal))
    (h2 : ∀ (r : Fin 4096) (d : Fin 128), x2 (ix3 (0 : Fin 1) r d) = ((v r d : ℝ) : EReal)) (j : ℕ) (hj : j ≤ (i 1).val) :
    ∀ (r : Fin 512) (d : Fin 192),
      st_k0_t1 (F := Ideal) Variants.none c none i arg2 harg2 arg3 harg3 arg4 harg4 arg5 harg5 arg6 harg6 arg7 harg7 arg8 harg8 arg9 harg9 arg10 harg10 arg11 harg11
          x0 x5 x5 x4 x3 (harg3.unread x1) (harg4.unread x2) k0_pay7 j (ix2 r d)
        = ((∑ c ∈ Finset.range (512 * j), dscore q k v g (512 * (i 1).val + r) c * k c d : ℝ) : EReal) := by
  induction j with
  | zero =>
    intro r d
    have e : k0_pay7 (F := Ideal) (ix2 r d) = 0 := by pointwise [k0_pay7]
    simpa [st_k0_t1] using e
  | succ j ih =>
    intro r d
    have ht : j < (k0_t1_loop i).trips := by
      rw [show (k0_t1_loop i).trips = (i 1).val from trips_tiles ⟨_, hb⟩]; omega
    rw [st_k0_t1_succ Variants.none c none i arg2 harg2 arg3 harg3 arg4 harg4 arg5 harg5 arg6 harg6 arg7 harg7 arg8 harg8 arg9 harg9 arg10 harg10 arg11 harg11
      x0 x5 x5 x4 x3 (harg3.unread x1) (harg4.unread x2) k0_pay7 ⟨j, ht⟩, tripR_k0_t1]
    unfold trip_k0_t1
    dsimp only
    sl_unfold_words
    simp only [View.readAt_eq_ld, harg3.read_unread, harg4.read_unread]
    rw [sum_tile]
    refine trip_value hb h0 h3 h4 h5 (by omega) (tile_of_load x1 k h1 _ ?_ _) (tile_of_load x2 v h2 _ ?_ _)
      (A := fun r d => ∑ c ∈ Finset.range (512 * j), dscore q k v g (512 * (i 1).val + r) c * k c d) (ih (by omega)) r d
    · exact congrArg (fun n => ![0, n, 0]) (trip_row ⟨j, by omega⟩)
    · exact congrArg (fun n => ![0, n, 0]) (trip_row ⟨j, by omega⟩)

/-- What the call leaves in its first result's block: the tile's query gradients. -/
theorem block_value (hb : (i 1).val < 8) {x1 : Vec Ideal S1x4096x192 .bf16} {x2 : Vec Ideal S1x4096x128 .bf16}
    (h0 : Tile x0 q (i 1).val) (h3 : Tile x3 (att q k v) (i 1).val) (h4 : Tile x4 (fun r _ => lse q k r) (i 1).val) (h5 : Tile x5 g (i 1).val)
    (h1 : ∀ (r : Fin 4096) (d : Fin 192), x1 (ix3 (0 : Fin 1) r d) = ((k r d : ℝ) : EReal))
    (h2 : ∀ (r : Fin 4096) (d : Fin 128), x2 (ix3 (0 : Fin 1) r d) = ((v r d : ℝ) : EReal)) :
    Tile (out0_A_6 (F := Ideal) c i arg2 harg2 arg3 harg3 arg4 harg4 arg5 harg5 arg6 harg6 arg7 harg7 arg8 harg8 arg9 harg9 arg10 harg10 arg11 harg11 x0 x1 x2 x3 x4 x5)
      (gradQ q k v g) (i 1).val := by
  intro r d
  unfold out0_A_6
  rw [View.read_writes_eq_canon _ _ _ (cover0_A_6 c _ _ _ _ _ _ _ _ _ _ _ _ _ _ _ _ _ _ _ _ _ _ _ _ _ _ _)]
  unfold kernelRun0_A
  dsimp only
  sl_unfold_words
  simp only [View.readAt_eq_ld, harg2.read_unread, harg3.read_unread, harg4.read_unread, harg5.read_unread, harg6.read_unread, harg7.read_unread]
  have z3 : (![0, 0, 0] : Fin 3 → ℕ) = fun _ => 0 := by decide
  rw [canon_unit_zero z3]
  have ht2 := trips_rest ⟨_, hb⟩
  have ht1 := trips_tiles ⟨_, hb⟩
  dsimp only at ht1 ht2
  rw [ht2, ht1]
  rw [ld_unit_zero z3 _ x0, ld_unit_zero z3 _ x3, ld_unit_zero z3 _ x4, ld_unit_zero z3 _ x5]
  exact last_value hb h0 h3 h4 h5 (tile_of_load x1 k h1 _ (congrArg (fun n => ![0, n, 0]) (Words.offset ⟨_, hb⟩)) _)
    (tile_of_load x2 v h2 _ (congrArg (fun n => ![0, n, 0]) (Words.offset ⟨_, hb⟩)) _)
    (loop_value c i arg2 harg2 arg3 harg3 arg4 harg4 arg5 harg5 arg6 harg6 arg7 harg7 arg8 harg8 arg9 harg9 arg10 harg10 arg11 harg11 hb h0 h3 h4 h5 h1 h2 _ le_rfl) 0 r d

end Loop

end Cert.Dq

end
-- ==== Proof.Mask.lean ====
/-
  The reference's mask: a query row sees the key rows of its own chunk of 64 rows and of the chunks before it.
-/
module

public import proofs.«01_k».proof.Proof.Gen.ReferenceIdeal.Read
public import proofs.«01_k».proof.Proof.Words

@[expose] public section

noncomputable section

namespace Cert.Softmax

open Idealize.ShloMosaic Cert.ReferenceIdeal Cert.ReferenceIdeal.Read

/-- A row's chunk. The words are those of 4096 row numbers, compared one by one. -/
theorem word (i : Fin 4096) : val_main_v9 (F := Ideal) (ix1 i) = BitVec.ofNat 32 (i / 64) := by
  revert i; decide +kernel

theorem mask (h : Fin 16) (r c : Fin 4096) :
    val_main_v16_1 (F := Ideal) (ix3 h r c) = if c.val / 64 ≤ r.val / 64 then 1#1 else 0#1 := by
  rw [val_main_v16_1_apply, val_main_v15_apply, val_main_v14_apply, val_main_v12_apply, val_main_v13_apply, val_main_v10_apply, val_main_v11_apply]
  rw [show (idx_main_v10 (idx_main_v12 (idx_main_v15 (idx_main_v16_1 (ix3 h r c))))) = ix1 c from (eq_ix1 _).trans rfl,
    show (idx_main_v11 (idx_main_v13 (idx_main_v15 (idx_main_v16_1 (ix3 h r c))))) = ix1 r from (eq_ix1 _).trans rfl, word, word]
  simp [IntOp.cmpi, Words.sle_ofNat (show c.val / 64 < 4096 by omega) (show r.val / 64 < 4096 by omega)]
  by_cases h : c.val / 64 ≤ r.val / 64 <;> simp [h]

theorem sel {α : Type} (p : Prop) [Decidable p] (a b : α) : Scalar.select (if p then 1#1 else 0#1) a b = if p then a else b := by
  by_cases h : p <;> simp [h, Scalar.select]

end Cert.Softmax

end
-- ==== Proof.Softmax.lean ====
/-
  The reference read on real arguments: its masked scores, its softmax shifted by the row's largest score, its output, and
  the three gradients, each a coerced real of `Cert.Attn`.
-/
module

public import proofs.«01_k».proof.Proof.Gen.ReferenceIdeal.Read
public import proofs.«01_k».proof.Proof.Spec
public import proofs.«01_k».proof.Proof.Exact
public import proofs.«01_k».proof.Proof.Mask
public import Idealize.ShloMosaic.Lib.KernelVsHost

@[expose] public section

noncomputable section

namespace Cert.Softmax

open Idealize.ShloMosaic Cert.ReferenceIdeal Cert.ReferenceIdeal.Read Cert.Exact Cert.Attn

abbrev QK := (⟨3, ![4096, 16, 192]⟩ : Shape).Idx → EReal
abbrev VO := (⟨3, ![4096, 16, 128]⟩ : Shape).Idx → EReal

/-! ### Where each operation reads -/

theorem p34 (h : Fin 16) (r : Fin 4096) (z : Fin 1) : idx_main_v34 (ix3 h r z) = ix2 h r := (eq_ix2 _).trans rfl
theorem p35 (h : Fin 16) (r c : Fin 4096) : idx_main_v35 (ix3 h r c) = ix3 h r (0 : Fin 1) := (eq_ix3 _).trans rfl
theorem p38 (h : Fin 16) (r c : Fin 4096) : idx_main_v38 (ix2 h r) c = ix3 h r c := (eq_ix3 _).trans rfl
theorem p39 (h : Fin 16) (r : Fin 4096) (z : Fin 1) : idx_main_v39 (ix3 h r z) = ix2 h r := (eq_ix2 _).trans rfl
theorem p40 (h : Fin 16) (r c : Fin 4096) : idx_main_v40 (ix3 h r c) = ix3 h r (0 : Fin 1) := (eq_ix3 _).trans rfl
theorem p45l (h : Fin 16) (r c : Fin 4096) (d : Fin 128) : lidx_main_v45 (ix3 h d r) c = ix3 c h d := (eq_ix3 _).trans rfl
theorem p45r (h : Fin 16) (r c : Fin 4096) (d : Fin 128) : ridx_main_v45 (ix3 h d r) c = ix3 h r c := (eq_ix3 _).trans rfl
theorem p46 (h : Fin 16) (r : Fin 4096) (d : Fin 128) : idx_main_v46 (ix3 r h d) = ix3 h d r := (eq_ix3 _).trans rfl
theorem p47 (h : Fin 16) (r : Fin 4096) (d : Fin 128) : idx_main_v47 (ix3 h d r) = ix3 r h d := (eq_ix3 _).trans rfl
theorem p48l (h : Fin 16) (r c : Fin 4096) (d : Fin 128) : lidx_main_v48 (ix3 h r c) d = ix3 h d r := (eq_ix3 _).trans rfl
theorem p48r (h : Fin 16) (r c : Fin 4096) (d : Fin 128) : ridx_main_v48 (ix3 h r c) d = ix3 c h d := (eq_ix3 _).trans rfl
theorem p49l (h : Fin 16) (r c : Fin 4096) (d : Fin 128) : lidx_main_v49 (ix3 h d c) r = ix3 h d r := (eq_ix3 _).trans rfl
theorem p49r (h : Fin 16) (r c : Fin 4096) (d : Fin 128) : ridx_main_v49 (ix3 h d c) r = ix3 h r c := (eq_ix3 _).trans rfl
theorem p50 (h : Fin 16) (c : Fin 4096) (d : Fin 128) : idx_main_v50 (ix3 c h d) = ix3 h d c := (eq_ix3 _).trans rfl
theorem p51 (h : Fin 16) (r c : Fin 4096) : idx_main_v51 (ix3 h r c) = ix3 h r (0 : Fin 1) := (eq_ix3 _).trans rfl
theorem p54 (h : Fin 16) (r c : Fin 4096) : idx_main_v54 (ix2 h r) c = ix3 h r c := (eq_ix3 _).trans rfl
theorem p57 (h : Fin 16) (r c : Fin 4096) : idx_main_v57 (ix3 h r c) = ix3 h r (0 : Fin 1) := (eq_ix3 _).trans rfl
theorem p59 (h : Fin 16) (r : Fin 4096) (z : Fin 1) : idx_main_v59 (ix2 h r) z = ix3 h r z := (eq_ix3 _).trans rfl
theorem p60 (h : Fin 16) (r c : Fin 4096) : idx_main_v60 (ix3 h r c) = ix2 h r := (eq_ix2 _).trans rfl
theorem p66l (h : Fin 16) (r c : Fin 4096) (d : Fin 192) : lidx_main_v66 (ix3 h c d) r = ix3 h r c := (eq_ix3 _).trans rfl
theorem p66r (h : Fin 16) (r c : Fin 4096) (d : Fin 192) : ridx_main_v66 (ix3 h c d) r = ix3 r h d := (eq_ix3 _).trans rfl
theorem p67 (h : Fin 16) (c : Fin 4096) (d : Fin 192) : idx_main_v67 (ix3 c h d) = ix3 h c d := (eq_ix3 _).trans rfl
theorem p68l (h : Fin 16) (r c : Fin 4096) (d : Fin 192) : lidx_main_v68 (ix3 h r d) c = ix3 h r c := (eq_ix3 _).trans rfl
theorem p68r (h : Fin 16) (r c : Fin 4096) (d : Fin 192) : ridx_main_v68 (ix3 h r d) c = ix3 c h d := (eq_ix3 _).trans rfl
theorem p69 (h : Fin 16) (r : Fin 4096) (d : Fin 192) : idx_main_v69 (ix3 r h d) = ix3 h r d := (eq_ix3 _).trans rfl
theorem p70 (h : Fin 16) (r : Fin 4096) (d : Fin 192) : idx_main_v70 (ix3 h r d) = ix3 r h d := (eq_ix3 _).trans rfl
theorem p4l (h : Fin 16) (r c : Fin 4096) (d : Fin 192) : lidx_main_v4 (ix3 h r c) d = ix3 r h d := (eq_ix3 _).trans rfl
theorem p4r (h : Fin 16) (r c : Fin 4096) (d : Fin 192) : ridx_main_v4 (ix3 h r c) d = ix3 c h d := (eq_ix3 _).trans rfl
theorem p55 (h : Fin 16) (r : Fin 4096) (z : Fin 1) : idx_main_v55 (ix3 h r z) = ix2 h r :=
  (eq_ix2 _).trans (congrArg₂ ix2 (Fin.ext (by show ((h.val * 4096 + r.val) * 1 + z.val) / 4096 = h.val; omega))
    (Fin.ext (by show ((h.val * 4096 + r.val) * 1 + z.val) % 4096 = r.val; omega)))

/-! ### The values -/

variable (Q K : QK) (V G : VO)

theorem dot_qk (hQ : Real Q) (hK : Real K) (h : Fin 16) (r c : Fin 4096) :
    val_main_v4 (F := Ideal) Q K (ix3 h r c) = ((∑ d ∈ Finset.range 192, rows Q h r d * rows K h c d : ℝ) : EReal) := by
  rw [val_main_v4_apply]
  refine sum_fin_eq _ (fun d => rows Q h r d * rows K h c d) fun d => ?_
  rw [val_main_v0_apply, val_main_v1_apply, p4l, p4r]
  exact (congrArg₂ (· * ·) (hQ.at_rows r h d) (hK.at_rows c h d)).trans (EReal.coe_mul _ _).symm

theorem root (i : S16x4096x4096.Idx) : val_main_v6 (F := Ideal) i = ((Real.sqrt 192 : ℝ) : EReal) := by
  rw [val_main_v6_apply, val_main_v5_apply, val_main_cst_apply]
  change Ideal.sqrt (Ideal.ofBits .f32 1128267776#32) = _
  rw [show Ideal.ofBits .f32 1128267776#32 = ((192 : ℝ) : EReal) by simp [Ideal.ofBits, Ideal.ieee, -EReal.coe_mul]; norm_num]
  rw [Ideal.sqrt_coe, if_neg (by norm_num)]

theorem masked_score (hQ : Real Q) (hK : Real K) (h : Fin 16) (r c : Fin 4096) :
    val_main_v16_0 (F := Ideal) Q K (ix3 h r c)
      = if c.val / 64 ≤ r.val / 64 then ((score (rows Q h) (rows K h) r c : ℝ) : EReal) else ⊥ := by
  rw [val_main_v16_0_apply, mask, sel, val_main_v7_apply, dot_qk Q K hQ hK, root]
  congr 1
  · change Ideal.div _ _ = _
    rw [div_coe' (by positivity), div_eq_mul_inv]; rfl

/-- The largest score of a row, from `-∞`. -/
theorem host_max (x : FVec Ideal S16x4096x4096 .f32) (h : Fin 16) (r : Fin 4096) :
    Host.reduce FloatOps.maximumf x (constant S_ .f32 0xFF800000#32) Gen.reducesTo_S16x4096x4096_S16x4096_d2 Gen.h_S_ (ix2 h r)
      = (Finset.univ : Finset (Fin 4096)).fold max ⊥ fun c => x (ix3 h r c) := by
  have hr : S16x4096x4096.Reduces [2] S16x4096 := by decide
  rw [hostReduce_maximumf_eq_multiReduction x 0xFF800000#32 _ _ hr (.inl rfl) rfl]
  refine (Ideal.multiReduction_maximumf_single x _ hr _ _ _).trans ?_
  rw [show (FloatOps.ofBits (F := Ideal) .f32 0xFF800000#32) = (⊥ : EReal) by simp [Ideal.ofBits, Ideal.ieee]]
  exact congrArg (fun f => Finset.fold max ⊥ f Finset.univ) (funext fun c => congrArg x ((eq_ix3 _).trans rfl))

theorem row_max (hQ : Real Q) (hK : Real K) (h : Fin 16) (r : Fin 4096) :
    ∃ M : ℝ, val_main_v17 (F := Ideal) Q K (ix2 h r) = (M : EReal) := by
  unfold val_main_v17 val_main_cst_1
  rw [host_max]
  have hv : ∀ c : Fin 4096, val_main_v16_0 (F := Ideal) Q K (ix3 h r c)
      = if c.val / 64 ≤ r.val / 64 then ((score (rows Q h) (rows K h) r c : ℝ) : EReal) else ⊥ := masked_score Q K hQ hK h r
  refine fold_max_real _ _ (fun c _ => ?_) (Finset.mem_univ r) ⟨_, (hv r).trans (if_pos le_rfl)⟩
  rw [hv c]
  split
  · exact .inr ⟨_, rfl⟩
  · exact .inl rfl

/-- The shifted weights: each row's are the weights times one factor. -/
theorem shifted (hQ : Real Q) (hK : Real K) (h : Fin 16) (r : Fin 4096) :
    ∃ M : ℝ, val_main_v17 (F := Ideal) Q K (ix2 h r) = (M : EReal) ∧ ∀ c : Fin 4096,
      val_main_v37 (F := Ideal) Q K (ix3 h r c) = ((wt (rows Q h) (rows K h) r c * Real.exp (-M) : ℝ) : EReal) := by
  obtain ⟨M, hM⟩ := row_max Q K hQ hK h r
  refine ⟨M, hM, fun c => ?_⟩
  have h24 : val_main_v24 (F := Ideal) Q K (ix2 h r) = (M : EReal) := by
    rw [val_main_v24_apply, val_main_v23_apply, hM, val_main_cst_3_apply,
      show (FloatOps.ofBits (F := Ideal) .f32 0xFF800000#32) = (⊥ : EReal) by simp [Ideal.ofBits, Ideal.ieee]]
    exact max_eq_right bot_le
  rw [val_main_v37_apply, val_main_v36_apply, val_main_v35_apply, val_main_v34_apply, masked_score Q K hQ hK,
    p35, p34, h24]
  change Ideal.exp ((if _ then _ else _) - _) = _
  unfold wt
  split
  · rw [← EReal.coe_sub, Ideal.exp_coe, sub_eq_add_neg, Real.exp_add]
  · rw [zero_mul]; exact Ideal.exp_bot

/-- … and their sum is the sum times the factor. -/
theorem row_sum {h : Fin 16} {r : Fin 4096} {e : ℝ}
    (H : ∀ c : Fin 4096, val_main_v37 (F := Ideal) Q K (ix3 h r c) = ((wt (rows Q h) (rows K h) r c * e : ℝ) : EReal)) :
    val_main_v38 (F := Ideal) Q K (ix2 h r) = ((∑ c ∈ Finset.range 4096, wt (rows Q h) (rows K h) r c * e : ℝ) : EReal) := by
  rw [val_main_v38_apply, val_main_cst_9_apply, Ideal.ofBits_def, Ideal.ofBits_zero_f32, zero_add]
  exact sum_fin_eq _ (fun c => wt (rows Q h) (rows K h) r c * e) fun c => by rw [p38, H c]

theorem col_sum {h : Fin 16} {r : Fin 4096} {e : ℝ}
    (H : ∀ c : Fin 4096, val_main_v37 (F := Ideal) Q K (ix3 h r c) = ((wt (rows Q h) (rows K h) r c * e : ℝ) : EReal)) (z : Fin 1) :
    val_main_v39 (F := Ideal) Q K (ix3 h r z) = ((∑ c ∈ Finset.range 4096, wt (rows Q h) (rows K h) r c * e : ℝ) : EReal) := by
  rw [val_main_v39_apply, p39, row_sum Q K H]

theorem sum_ne {r : Fin 4096} (q k : ℕ → ℕ → ℝ) {e : ℝ} (he : 0 < e) : (∑ c ∈ Finset.range 4096, wt q k r c * e) ≠ 0 := by
  rw [← Finset.sum_mul]; exact (mul_pos (den_pos q k r.isLt) he).ne'

/-- The softmax. -/
theorem softmax (hQ : Real Q) (hK : Real K) (h : Fin 16) (r c : Fin 4096) :
    val_main_v41 (F := Ideal) Q K (ix3 h r c) = ((prob (rows Q h) (rows K h) r c : ℝ) : EReal) := by
  obtain ⟨M, -, H⟩ := shifted Q K hQ hK h r
  rw [val_main_v41_apply, H c, val_main_v40_apply, p40, col_sum Q K H]
  change Ideal.div _ _ = _
  rw [div_coe' (sum_ne _ _ (Real.exp_pos _)), prob_of_shift _ _ _ _ _ (Real.exp_pos _).ne']

/-- The output. -/
theorem output (hQ : Real Q) (hK : Real K) (hV : Real V) (h : Fin 16) (r : Fin 4096) (d : Fin 128) :
    val_main_v46 (F := Ideal) Q K V (ix3 r h d) = ((att (rows Q h) (rows K h) (rows V h) r d : ℝ) : EReal) := by
  rw [val_main_v46_apply, p46, val_main_v45_apply]
  refine sum_fin_eq _ (fun c => prob (rows Q h) (rows K h) r c * rows V h c d) fun c => ?_
  rw [val_main_v2_apply, mul_comm, p45l, p45r, softmax Q K hQ hK, EReal.coe_mul]
  exact congrArg _ (hV.at_rows c h d)

/-- The gradient of the softmax's result. -/
theorem dp (hV : Real V) (hG : Real G) (h : Fin 16) (r c : Fin 4096) :
    val_main_v48 (F := Ideal) V G (ix3 h r c) = ((dprob (rows V h) (rows G h) r c : ℝ) : EReal) := by
  rw [val_main_v48_apply]
  refine sum_fin_eq _ (fun d => rows G h r d * rows V h c d) fun d => ?_
  rw [val_main_v47_apply, val_main_v2_apply, val_main_v3_apply, p48l, p48r, p47]
  exact (congrArg₂ (· * ·) (hG.at_rows r h d) (hV.at_rows c h d)).trans (EReal.coe_mul _ _).symm

/-- The gradient of the scores. -/
theorem ds (hQ : Real Q) (hK : Real K) (hV : Real V) (hG : Real G) (h : Fin 16) (r c : Fin 4096) :
    val_main_v63 (F := Ideal) Q K V G (ix3 h r c)
      = ((dscore (rows Q h) (rows K h) (rows V h) (rows G h) r c : ℝ) : EReal) := by
  obtain ⟨M, -, H⟩ := shifted Q K hQ hK h r
  have hs := sum_ne (r := r) (rows Q h) (rows K h) (Real.exp_pos (-M))
  have h44 : ∀ z : Fin 1, val_main_v44 (F := Ideal) Q K (ix3 h r z) = ((1 / ((∑ c ∈ Finset.range 4096, wt (rows Q h) (rows K h) r c * Real.exp (-M)) * (∑ c ∈ Finset.range 4096, wt (rows Q h) (rows K h) r c * Real.exp (-M))) : ℝ) : EReal) := fun z => by
    rw [val_main_v44_apply, val_main_v43_apply, val_main_cst_10_apply, val_main_v42_apply, col_sum Q K H,
      show (FloatOps.ofBits (F := Ideal) .f32 0x3F800000#32) = ((1 : ℝ) : EReal) by simp [Ideal.ofBits, Ideal.ieee, -EReal.coe_mul]; norm_num]
    change Ideal.div _ (_ * _) = _
    rw [← EReal.coe_mul, div_coe' (mul_ne_zero hs hs)]
  have h54 : val_main_v54 (F := Ideal) Q K V G (ix2 h r) = ((∑ c ∈ Finset.range 4096, dprob (rows V h) (rows G h) r c * (1 / ((∑ c ∈ Finset.range 4096, wt (rows Q h) (rows K h) r c * Real.exp (-M)) * (∑ c ∈ Finset.range 4096, wt (rows Q h) (rows K h) r c * Real.exp (-M)))) * (wt (rows Q h) (rows K h) r c * Real.exp (-M)) : ℝ) : EReal) := by
    rw [val_main_v54_apply, val_main_cst_11_apply, Ideal.ofBits_def, Ideal.ofBits_zero_f32, zero_add]
    refine sum_fin_eq _ (fun c => dprob (rows V h) (rows G h) r c * (1 / ((∑ c ∈ Finset.range 4096, wt (rows Q h) (rows K h) r c * Real.exp (-M)) * (∑ c ∈ Finset.range 4096, wt (rows Q h) (rows K h) r c * Real.exp (-M)))) * (wt (rows Q h) (rows K h) r c * Real.exp (-M))) fun c => ?_
    rw [p54, val_main_v53_apply, val_main_v52_apply, val_main_v51_apply, dp V G hV hG, H,
      p51, h44, EReal.coe_mul, EReal.coe_mul]
    rfl
  have h60 : val_main_v60 (F := Ideal) Q K V G (ix3 h r c) = ((-(∑ c ∈ Finset.range 4096, dprob (rows V h) (rows G h) r c * (1 / ((∑ c ∈ Finset.range 4096, wt (rows Q h) (rows K h) r c * Real.exp (-M)) * (∑ c ∈ Finset.range 4096, wt (rows Q h) (rows K h) r c * Real.exp (-M)))) * (wt (rows Q h) (rows K h) r c * Real.exp (-M))) : ℝ) : EReal) := by
    rw [val_main_v60_apply, p60, val_main_v59_apply, val_main_cst_12_apply, Ideal.ofBits_def, Ideal.ofBits_zero_f32, zero_add, Fin.sum_univ_one,
      p59, val_main_v56_apply, val_main_v55_apply, p55, h54, EReal.coe_neg]
    rfl
  rw [val_main_v63_apply, mask, sel]
  split
  · rw [val_main_v62_apply, val_main_v61_apply, val_main_v58_apply, val_main_v57_apply, H, h60, dp V G hV hG,
      p57, col_sum Q K H]
    change (Ideal.div _ _ + _) * _ = _
    rw [div_coe' hs, ← EReal.coe_add, ← EReal.coe_mul, dscore_of_shift _ _ _ _ r.isLt _ _ (Real.exp_pos _).ne']
  · rw [dscore_masked _ _ _ _ ‹_›, val_main_call2_v0_apply, val_main_call2_cst_apply, Ideal.ofBits_def, Ideal.ofBits_zero_f32]; rfl

theorem root' (i : S16x4096x4096.Idx) : val_main_v64 (F := Ideal) i = ((Real.sqrt 192 : ℝ) : EReal) := root i

theorem ds_scaled (hQ : Real Q) (hK : Real K) (hV : Real V) (hG : Real G) (h : Fin 16) (r c : Fin 4096) :
    val_main_v65 (F := Ideal) Q K V G (ix3 h r c)
      = ((dscore (rows Q h) (rows K h) (rows V h) (rows G h) r c * sigma : ℝ) : EReal) := by
  rw [val_main_v65_apply, ds Q K V G hQ hK hV hG, root']
  change Ideal.div _ _ = _
  rw [div_coe' (by positivity), div_eq_mul_inv]; rfl

/-- The gradient of the queries. -/
theorem grad_q (hQ : Real Q) (hK : Real K) (hV : Real V) (hG : Real G) (h : Fin 16) (r : Fin 4096) (d : Fin 192) :
    val_main_v71 (F := Ideal) Q K V G (ix3 h r d) = ((gradQ (rows Q h) (rows K h) (rows V h) (rows G h) r d : ℝ) : EReal) := by
  rw [val_main_v71_apply, val_main_v70_apply, p70, val_main_v69_apply, p69]
  change val_main_v68 (F := Ideal) Q K V G _ = _
  rw [val_main_v68_apply, gradQ, Finset.sum_mul]
  refine sum_fin_eq _ (fun c => dscore (rows Q h) (rows K h) (rows V h) (rows G h) r c * rows K h c d * sigma) fun c => ?_
  rw [p68l, p68r, ds_scaled Q K V G hQ hK hV hG, val_main_v1_apply, mul_right_comm, EReal.coe_mul _ (rows K h c d)]
  exact congrArg _ (hK.at_rows c h d)

/-- The gradient of the keys. -/
theorem grad_k (hQ : Real Q) (hK : Real K) (hV : Real V) (hG : Real G) (h : Fin 16) (c : Fin 4096) (d : Fin 192) :
    val_main_v67 (F := Ideal) Q K V G (ix3 c h d) = ((gradK (rows Q h) (rows K h) (rows V h) (rows G h) c d : ℝ) : EReal) := by
  rw [val_main_v67_apply, p67, val_main_v66_apply, gradK, Finset.sum_mul]
  refine sum_fin_eq _ (fun r => dscore (rows Q h) (rows K h) (rows V h) (rows G h) r c * rows Q h r d * sigma) fun r => ?_
  rw [p66l, p66r, ds_scaled Q K V G hQ hK hV hG, val_main_v0_apply, mul_right_comm, EReal.coe_mul _ (rows Q h r d)]
  exact congrArg _ (hQ.at_rows r h d)

/-- The gradient of the values. -/
theorem grad_v (hQ : Real Q) (hK : Real K) (hG : Real G) (h : Fin 16) (c : Fin 4096) (d : Fin 128) :
    val_main_v50 (F := Ideal) Q K G (ix3 c h d) = ((gradV (rows Q h) (rows K h) (rows G h) c d : ℝ) : EReal) := by
  rw [val_main_v50_apply, p50, val_main_v49_apply, gradV]
  refine sum_fin_eq _ (fun r => prob (rows Q h) (rows K h) r c * rows G h r d) fun r => ?_
  rw [p49l, p49r, softmax Q K hQ hK, val_main_v47_apply, val_main_v3_apply, mul_comm, p47, EReal.coe_mul]
  exact congrArg _ (hG.at_rows r h d)

end Cert.Softmax

end
-- ==== Proof.Saved.lean ====
/-
  What the forward pass leaves to the backward pass, read on real arguments: the attention's output, and each row's
  log-sum in base 2.
-/
module

public import proofs.«01_k».proof.Proof.Gen.Reference3Ideal.Read
public import proofs.«01_k».proof.Proof.Softmax

@[expose] public section

noncomputable section

namespace Cert.Saved

open Idealize.ShloMosaic Cert.Reference3Ideal Cert.Reference3Ideal.Read Cert.Exact Cert.Attn Cert.Softmax

theorem p39 (h : Fin 16) (r : Fin 4096) (d : Fin 128) : idx_main_v39 (ix3 r h d) = ix3 h d r := (eq_ix3 _).trans rfl
theorem p40 (h : Fin 16) (r : Fin 4096) (d : Fin 128) : idx_main_v40 (ix3 h r d) = ix3 r h d := (eq_ix3 _).trans rfl
theorem p42 (h : Fin 16) (r : Fin 4096) (z : Fin 1) : idx_main_v42 (ix3 h r z) = ix2 h r := (eq_ix2 _).trans rfl
theorem p21 (h : Fin 16) (r c : Fin 4096) : idx_main_v21 (ix2 h r) c = ix3 h r c := (eq_ix3 _).trans rfl
theorem p18 (h : Fin 16) (r c : Fin 4096) : idx_main_v18 (ix3 h r c) = ix3 h r (0 : Fin 1) := (eq_ix3 _).trans rfl
theorem p17 (h : Fin 16) (r : Fin 4096) (z : Fin 1) : idx_main_v17 (ix3 h r z) = ix2 h r := (eq_ix2 _).trans rfl

/-- The output, heads first. -/
theorem out (Q K : QK) (V : VO) (hQ : Real Q) (hK : Real K) (hV : Real V) (h : Fin 16) (r : Fin 4096) (d : Fin 128) :
    val_main_v41 (F := Ideal) Q K V (ix3 h r d) = ((att (rows Q h) (rows K h) (rows V h) r d : ℝ) : EReal) := by
  rw [val_main_v41_apply, val_main_v40_apply, p40]
  exact output Q K V hQ hK hV h r d

/-- The row's largest score, as the log-sum subtracts it, is the one the softmax subtracts. -/
theorem max_eq (Q K : QK) : val_main_v16 (F := Ideal) Q K = Cert.ReferenceIdeal.Read.val_main_v17 Q K := rfl

theorem masked_eq (Q K : QK) : val_main_v15 (F := Ideal) Q K = Cert.ReferenceIdeal.Read.val_main_v16_0 Q K := rfl

/-- The log-sum. -/
theorem log_sum (Q K : QK) (hQ : Real Q) (hK : Real K) (h : Fin 16) (r : Fin 4096) (z : Fin 1) :
    val_main_v42 (F := Ideal) Q K (ix3 h r z) = ((lse (rows Q h) (rows K h) r : ℝ) : EReal) := by
  obtain ⟨M, hM⟩ := row_max Q K hQ hK h r
  have hd := den_pos (rows Q h) (rows K h) r.isLt
  have hsum : val_main_v21 (F := Ideal) Q K (ix2 h r) = ((den (rows Q h) (rows K h) r * Real.exp (-M) : ℝ) : EReal) := by
    rw [val_main_v21_apply, val_main_cst_2_apply, Ideal.ofBits_def, Ideal.ofBits_zero_f32, zero_add]
    refine (sum_fin_eq _ (fun c => wt (rows Q h) (rows K h) r c * Real.exp (-M)) fun c => ?_).trans ?_
    · rw [val_main_v20_apply, val_main_v19_apply, val_main_v18_apply, val_main_v17_apply, p21, p18, p17, max_eq, hM, masked_eq,
        masked_score Q K hQ hK]
      change Ideal.exp ((if _ then _ else _) - _) = _
      unfold wt
      split
      · rw [← EReal.coe_sub, Ideal.exp_coe, sub_eq_add_neg, Real.exp_add]
      · rw [zero_mul]; exact Ideal.exp_bot
    · rw [← Finset.sum_mul]; rfl
  have h2 : val_main_v25 (F := Ideal) (ix2 h r) = ((Real.log 2 : ℝ) : EReal) := by
    rw [val_main_v25_apply, val_main_v24_apply, val_main_cst_3_apply,
      show (FloatOps.ofBits (F := Ideal) .f32 0x40000000#32) = ((2 : ℝ) : EReal) by simp [Ideal.ofBits, Ideal.ieee, -EReal.coe_mul]; norm_num]
    exact log_coe' (by norm_num)
  rw [val_main_v42_apply, p42, val_main_v26_apply, val_main_v23_apply, val_main_v22_apply, h2, hsum, max_eq, hM]
  change Ideal.div ((M : EReal) + Ideal.log ((den (rows Q h) (rows K h) r * Real.exp (-M) : ℝ) : EReal)) ((Real.log 2 : ℝ) : EReal) = _
  rw [log_coe' (mul_pos hd (Real.exp_pos _)), ← EReal.coe_add, div_coe' log_two_pos.ne', Real.log_mul hd.ne' (Real.exp_pos _).ne', Real.log_exp]
  rw [show M + (Real.log (den (rows Q h) (rows K h) r) + -M) = Real.log (den (rows Q h) (rows K h) r) by ring]
  rfl

end Cert.Saved
-- ==== Proof.DqValue.lean ====
/-
  The query gradient's call over the whole array: every head's tiles, and the claim.
-/
module

public import proofs.«01_k».proof.Proof.Dq
public import proofs.«01_k».proof.Proof.Saved
public import proofs.«01_k».proof.Proof.Blocks
public import proofs.«01_k».proof.Proof.Frames

@[expose] public section

noncomputable section

namespace Cert.DqValue

open Idealize.ShloMosaic Idealize.ShloMosaic.TcCoe Idealize.SL.Sem Idealize.ShloMosaic.Pipeline Cert.KernelIdeal Cert.KernelIdeal.Gen Cert.Exact Cert.Attn Cert.Softmax Cert.Blocks Cert.Dq

variable (m : (ℓ : Loc nD τ sig) → Buf (Elt Ideal) ℓ) (c : Dev nD)

/-! ### The arrays the call is handed -/

abbrev argQ : QK := m ((c.tc : Thread nD τ).loc main_arg0)
abbrev argK : QK := m ((c.tc : Thread nD τ).loc main_arg1)
abbrev argV : VO := m ((c.tc : Thread nD τ).loc main_arg2)
abbrev argG : VO := m ((c.tc : Thread nD τ).loc main_arg3)

theorem at_q : (V m c main_v43 : S16x4096x192.Idx → EReal) = transpose S16x4096x192 [1, 0, 2] (argQ m c) transposes_S4096x16x192_S16x4096x192_1_0_2 := by
  unfold V
  simp only [hostOps0, hostOps0_1, hostOps0_2, hostOps0_3, hostOps0_4, List.flatten_cons, List.flatten_nil, List.append_nil, List.cons_append, List.nil_append]
  after_results
  all_goals rfl

theorem at_k : (V m c main_v44 : S16x4096x192.Idx → EReal) = transpose S16x4096x192 [1, 0, 2] (argK m c) transposes_S4096x16x192_S16x4096x192_1_0_2 := by
  unfold V
  simp only [hostOps0, hostOps0_1, hostOps0_2, hostOps0_3, hostOps0_4, List.flatten_cons, List.flatten_nil, List.append_nil, List.cons_append, List.nil_append]
  after_results
  all_goals rfl

theorem at_v : (V m c main_v45 : S16x4096x128.Idx → EReal) = transpose S16x4096x128 [1, 0, 2] (argV m c) transposes_S4096x16x128_S16x4096x128_1_0_2 := by
  unfold V
  simp only [hostOps0, hostOps0_1, hostOps0_2, hostOps0_3, hostOps0_4, List.flatten_cons, List.flatten_nil, List.append_nil, List.cons_append, List.nil_append]
  after_results
  all_goals rfl

theorem at_g : (V m c main_v46 : S16x4096x128.Idx → EReal) = transpose S16x4096x128 [1, 0, 2] (argG m c) transposes_S4096x16x128_S16x4096x128_1_0_2 := by
  unfold V
  simp only [hostOps0, hostOps0_1, hostOps0_2, hostOps0_3, hostOps0_4, List.flatten_cons, List.flatten_nil, List.append_nil, List.cons_append, List.nil_append]
  after_results
  all_goals rfl

theorem at_o : (V m c main_v41 : S16x4096x128.Idx → EReal) = Cert.Reference3Ideal.Read.val_main_v41 (argQ m c) (argK m c) (argV m c) := by
  unfold V
  simp only [hostOps0, hostOps0_1, hostOps0_2, hostOps0_3, hostOps0_4, List.flatten_cons, List.flatten_nil, List.append_nil, List.cons_append, List.nil_append]
  after_results
  all_goals rfl

theorem at_lse : (V m c main_v42 : S16x4096x1.Idx → EReal) = Cert.Reference3Ideal.Read.val_main_v42 (argQ m c) (argK m c) := by
  unfold V
  simp only [hostOps0, hostOps0_1, hostOps0_2, hostOps0_3, hostOps0_4, List.flatten_cons, List.flatten_nil, List.append_nil, List.cons_append, List.nil_append]
  after_results
  all_goals rfl

/-! ### The blocks of a grid point -/

/-- The point of head `h` and tile `b`. -/
def point (h : Fin 16) (b : Fin 8) : Fin cfg0.N := ⟨8 * h.val + b.val, show 8 * h.val + b.val < 128 by omega⟩

theorem coords (h : Fin 16) (b : Fin 8) : (grid0.coords (point h b) 1).val = b.val := by
  revert h b; decide +kernel

theorem index : ∀ (h : Fin 16) (b : Fin 8),
    (win0_0.index (point h b) = ![h.val, b.val, 0] ∧ win0_1.index (point h b) = ![h.val, 0, 0] ∧ win0_2.index (point h b) = ![h.val, 0, 0])
    ∧ (win0_3.index (point h b) = ![h.val, b.val, 0] ∧ win0_4.index (point h b) = ![h.val, b.val, 0] ∧ win0_5.index (point h b) = ![h.val, b.val, 0])
    ∧ win0_6.index (point h b) = ![h.val, b.val, 0] := by decide +kernel

theorem block0 (h : Fin 16) (b : Fin 8) (r : Fin 512) (d : Fin 192) :
    (iblk m c 0 (point h b) : S1x512x192.Idx → EReal) (ix3 (0 : Fin 1) r d) = (V m c main_v43 : S16x4096x192.Idx → EReal) (ix3 h (row b r) d) :=
  have e := spot r.val d.val 192 (index h b).1.1
  congrArg (V m c main_v43) (at_ix3 _ e.1 e.2.1 e.2.2)

theorem block1 (h : Fin 16) (b : Fin 8) (r : Fin 4096) (d : Fin 192) :
    (iblk m c 1 (point h b) : S1x4096x192.Idx → EReal) (ix3 (0 : Fin 1) r d) = (V m c main_v44 : S16x4096x192.Idx → EReal) (ix3 h r d) :=
  have e := spot_whole r.val d.val 192 (index h b).1.2.1
  congrArg (V m c main_v44) (at_ix3 _ e.1 e.2.1 e.2.2)

theorem block2 (h : Fin 16) (b : Fin 8) (r : Fin 4096) (d : Fin 128) :
    (iblk m c 2 (point h b) : S1x4096x128.Idx → EReal) (ix3 (0 : Fin 1) r d) = (V m c main_v45 : S16x4096x128.Idx → EReal) (ix3 h r d) :=
  have e := spot_whole r.val d.val 128 (index h b).1.2.2
  congrArg (V m c main_v45) (at_ix3 _ e.1 e.2.1 e.2.2)

theorem block3 (h : Fin 16) (b : Fin 8) (r : Fin 512) (d : Fin 128) :
    (iblk m c 3 (point h b) : S1x512x128.Idx → EReal) (ix3 (0 : Fin 1) r d) = (V m c main_v41 : S16x4096x128.Idx → EReal) (ix3 h (row b r) d) :=
  have e := spot r.val d.val 128 (index h b).2.1.1
  congrArg (V m c main_v41) (at_ix3 _ e.1 e.2.1 e.2.2)

theorem block4 (h : Fin 16) (b : Fin 8) (r : Fin 512) (d : Fin 1) :
    (iblk m c 4 (point h b) : S1x512x1.Idx → EReal) (ix3 (0 : Fin 1) r d) = (V m c main_v42 : S16x4096x1.Idx → EReal) (ix3 h (row b r) d) :=
  have e := spot r.val d.val 1 (index h b).2.1.2.1
  congrArg (V m c main_v42) (at_ix3 _ e.1 e.2.1 e.2.2)

theorem block5 (h : Fin 16) (b : Fin 8) (r : Fin 512) (d : Fin 128) :
    (iblk m c 5 (point h b) : S1x512x128.Idx → EReal) (ix3 (0 : Fin 1) r d) = (V m c main_v46 : S16x4096x128.Idx → EReal) (ix3 h (row b r) d) :=
  have e := spot r.val d.val 128 (index h b).2.1.2.2
  congrArg (V m c main_v46) (at_ix3 _ e.1 e.2.1 e.2.2)

/-- What the array holds after the run in a tile of a head is what that point wrote. -/
theorem written (h : Fin 16) (b : Fin 8) (r : Fin 512) (d : Fin 192) :
    ((dats m 0 c).arrAt 6 cfg0.N : S16x4096x192.Idx → EReal) (ix3 h (row b r) d)
      = ((dats m 0 c).flushed 6 (point h b) : S1x512x192.Idx → EReal) (ix3 (0 : Fin 1) r d) :=
  have e := spot r.val d.val 192 (index h b).2.2
  (congrArg ((dats m 0 c).arrAt 6 cfg0.N) (at_ix3 _ e.1 e.2.1 e.2.2)).symm.trans
    (congrFun (Cert.KernelIdeal.Value.blocks6 m c (point h b) (flush0_6 _)) (ix3 (0 : Fin 1) r d))

/-- The call's result: the query's gradient, heads first. -/
theorem result (hQ : Real (argQ m c)) (hK : Real (argK m c)) (hV : Real (argV m c)) (hG : Real (argG m c)) (h : Fin 16) (b : Fin 8) (r : Fin 512) (d : Fin 192) :
    ((dats m 0 c).arrAt 6 cfg0.N : S16x4096x192.Idx → EReal) (ix3 h (row b r) d)
      = ((gradQ (rows (argQ m c) h) (rows (argK m c) h) (rows (argV m c) h) (rows (argG m c) h) (512 * b.val + r.val) d : ℝ) : EReal) := by
  rw [written, Cert.KernelIdeal.Value.flushed6_A]
  have hb := coords h b
  have key := block_value (q := rows (argQ m c) h) (k := rows (argK m c) h) (v := rows (argV m c) h) (g := rows (argG m c) h) c (grid0.coords (point h b))
    (ms0_0 (point h b)) (hs0_0 (point h b)) (ms0_1 (point h b)) (hs0_1 (point h b)) (ms0_2 (point h b)) (hs0_2 (point h b)) (ms0_3 (point h b)) (hs0_3 (point h b))
    (ms0_4 (point h b)) (hs0_4 (point h b)) (ms0_5 (point h b)) (hs0_5 (point h b)) (ms0_6 (point h b)) (hs0_6 (point h b)) (ms0_7 (point h b)) (hs0_7 (point h b))
    scM0_0 (Memref.isWhole_whole _) scM0_1 (Memref.isWhole_whole _)
    (x0 := iblk m c 0 (point h b)) (x1 := iblk m c 1 (point h b)) (x2 := iblk m c 2 (point h b)) (x3 := iblk m c 3 (point h b)) (x4 := iblk m c 4 (point h b)) (x5 := iblk m c 5 (point h b))
    (by rw [hb]; exact b.isLt)
    (fun r d => by rw [hb]; exact (block0 m c h b r d).trans ((congrFun (at_q m c) _).trans (heads_first _ hQ _ h (row b r) d)))
    (fun r d => by rw [hb]; exact (block3 m c h b r d).trans ((congrFun (at_o m c) _).trans (Saved.out _ _ _ hQ hK hV h (row b r) d)))
    (fun r d => by rw [hb]; exact (block4 m c h b r d).trans ((congrFun (at_lse m c) _).trans (Saved.log_sum _ _ hQ hK h (row b r) d)))
    (fun r d => by rw [hb]; exact (block5 m c h b r d).trans ((congrFun (at_g m c) _).trans (heads_first _ hG _ h (row b r) d)))
    (fun r d => (block1 m c h b r d).trans ((congrFun (at_k m c) _).trans (heads_first _ hK _ h r d)))
    (fun r d => (block2 m c h b r d).trans ((congrFun (at_v m c) _).trans (heads_first _ hV _ h r d)))
  rw [hb] at key
  exact key r d

/-! ### The claim -/

theorem algebraic : Cert.algebraic_KernelIdeal_ReferenceIdeal_pre_finite4 := by
  intro m g m' g' hpre hagree
  refine ⟨fun c => (dats m 0 c).arrAt 6 cfg0.N, (θ_run _ _ _).mono (fun r h c => ⟨(h c).1, (h c).2.2⟩) (Cert.KernelIdeal.Value.run_blocks m g),
    (θ_run _ _ _).mono (fun r h c => ⟨(h c).1.trans ?_, (h c).2⟩) (Cert.ReferenceIdeal.Value.run m' g')⟩
  have hp := hpre c
  have hQ : Real (argQ m c) := reals _ _ _ hp.1
  have hK : Real (argK m c) := reals _ _ _ hp.2.1
  have hV : Real (argV m c) := reals _ _ _ hp.2.2.1
  have hG : Real (argG m c) := reals _ _ _ hp.2.2.2
  obtain ⟨e0, e1, e2, e3⟩ := hagree c
  refine (Cert.ReferenceIdeal.Read.val_main_v71_eq m' c).trans ?_
  rw [e0, e1, e2, e3]
  funext i
  obtain ⟨h, s, d, rfl⟩ : ∃ (h : Fin 16) (s : Fin 4096) (d : Fin 192), i = ix3 h s d := ⟨i 0, i 1, i 2, eq_ix3 i⟩
  have hs := result m c hQ hK hV hG h ⟨s.val / 512, by omega⟩ ⟨s.val % 512, by omega⟩ d
  rw [show row ⟨s.val / 512, by omega⟩ ⟨s.val % 512, by omega⟩ = s from Fin.ext (Nat.div_add_mod _ _), Nat.div_add_mod] at hs
  exact (grad_q _ _ _ _ hQ hK hV hG h s d).trans hs.symm

end Cert.DqValue

end
-- ==== Proof.Dkv.lean ====
/-
  The keys' and values' gradient call on one tile of 512 key rows: the masked diagonal tile, the loop over the query
  tiles after the diagonal, and the two gradients they leave.
-/
module

public import proofs.«01_k».proof.Proof.Gen.Kernel2Ideal.Value
public import Idealize.ShloMosaic.Lib.Pipeline.ValueKit
public import proofs.«01_k».proof.Proof.Spec
public import proofs.«01_k».proof.Proof.Exact
public import proofs.«01_k».proof.Proof.Words
public import proofs.«01_k».proof.Proof.Blocks

@[expose] public section

noncomputable section

namespace Cert.Dkv

open Idealize.ShloMosaic Idealize.ShloMosaic.View Idealize.ShloMosaic.Pipeline Cert.Kernel2Ideal Cert.Kernel2Ideal.Gen Cert.Exact Cert.Attn Cert.Blocks

theorem scale_log2e : Named.named (F := Ideal) (φ := .f32) κ "scale_log2e" 0x3DD53B95#32 = ((sigma * (Real.log 2)⁻¹ : ℝ) : EReal) :=
  IdealRules.named_const.ideal_named_scalar _ _ _ _ rfl

theorem ln2 : Named.named (F := Ideal) (φ := .f32) κ "ln2" 0x3F317218#32 = ((Real.log 2 : ℝ) : EReal) :=
  IdealRules.named_const.ideal_named_scalar _ _ _ _ rfl

/-- The query as the call keeps it: scaled by `192^(-1/2) / log 2`. -/
def scaled (q : ℕ → ℕ → ℝ) (r d : ℕ) : ℝ := q r d * (sigma * (Real.log 2)⁻¹)

variable {q k v g : ℕ → ℕ → ℝ} {b j : ℕ}

/-- The sum over the queries taken with the scaled query, and the scale taken back. -/
theorem gradK_of_scaled (c d : ℕ) : (∑ r ∈ Finset.range 4096, dscore q k v g r c * scaled q r d) * Real.log 2 = gradK q k v g c d := by
  have h := log_two_pos.ne'
  unfold gradK scaled
  rw [Finset.sum_mul, Finset.sum_mul]
  exact Finset.sum_congr rfl fun r _ => by field_simp

theorem kept_query {x0 : Vec Ideal S1x4096x192 .bf16} (h0 : ∀ (r : Fin 4096) (d : Fin 192), x0 (ix3 (0 : Fin 1) r d) = ((q r d : ℝ) : EReal)) (r : Fin 4096) (d : Fin 192) :
    k0_pay13 (F := Ideal) x0 (ix2 r d) = ((scaled q r d : ℝ) : EReal) := by
  have e : k0_pay13 (F := Ideal) x0 (ix2 r d) = x0 (ix3 0 r d) * Named.named (F := Ideal) (φ := .f32) κ "scale_log2e" 0x3DD53B95#32 := by pointwise [k0_pay13]
  rw [e, h0, scale_log2e, ← EReal.coe_mul]; rfl

/-! ### One query tile -/

variable {x1 : Vec Ideal S1x512x192 .bf16} {x2 : Vec Ideal S1x512x128 .bf16}
variable {qt : Vec Ideal S512x192 .bf16} {gt : Vec Ideal S1x512x128 .bf16} {lt dt : Vec Ideal S1x512x1 .f32}

/-- A query tile's probabilities before masking, -/
theorem power (h1 : Tile x1 k b) (hq : ∀ (r : Fin 512) (d : Fin 192), qt (ix2 r d) = ((scaled q (512 * j + r) d : ℝ) : EReal))
    (hl : Tile lt (fun r _ => lse q k r) j) (r c : Fin 512) :
    FloatOps.exp2 (F := Ideal) (φ := .f32) (∑ d : Fin 192, qt (ix2 r d) * x1 (ix3 0 c d) - lt (ix3 0 r 0))
      = (((2 : ℝ) ^ ((∑ d ∈ Finset.range 192, q (512 * j + r) d * (sigma * (Real.log 2)⁻¹) * k (512 * b + c) d) - lse q k (512 * j + r)) : ℝ) : EReal) := by
  rw [sum_fin_eq _ (fun d => q (512 * j + r) d * (sigma * (Real.log 2)⁻¹) * k (512 * b + c) d) fun d => by
    rw [hq, h1, ← EReal.coe_mul]; rfl, hl, ← EReal.coe_sub]
  exact Ideal.exp2_coe _

/-- and what its scores' gradient multiplies them by. -/
theorem diff (h2 : Tile x2 v b) (hg : Tile gt g j) (hd : Tile dt (fun r _ => delta q k v g r) j) (r c : Fin 512) :
    (∑ d : Fin 128, gt (ix3 0 r d) * x2 (ix3 0 c d) - dt (ix3 0 r 0) : EReal)
      = ((dprob v g (512 * j + r) (512 * b + c) - delta q k v g (512 * j + r) : ℝ) : EReal) := by
  rw [sum_fin_eq _ (fun d => g (512 * j + r) d * v (512 * b + c) d) fun d => by rw [hg, h2, ← EReal.coe_mul], hd, ← EReal.coe_sub]
  rfl

/-- One trip of the loop adds a query tile after the diagonal: to the keys' gradient -/
theorem trip_keys (hj : j < 8) (hbj : b < j) (h1 : Tile x1 k b) (h2 : Tile x2 v b)
    (hq : ∀ (r : Fin 512) (d : Fin 192), qt (ix2 r d) = ((scaled q (512 * j + r) d : ℝ) : EReal)) (hg : Tile gt g j)
    (hl : Tile lt (fun r _ => lse q k r) j) (hd : Tile dt (fun r _ => delta q k v g r) j)
    {a : FVec Ideal S512x192 .f32} {A : ℕ → ℕ → ℝ} (ha : ∀ (c : Fin 512) (d : Fin 192), a (ix2 c d) = ((A c d : ℝ) : EReal))
    (c : Fin 512) (d : Fin 192) :
    k0_pay6 (F := Ideal) (k0_pay14 x1) (k0_pay15 x2) a qt gt lt dt (ix2 c d)
      = ((A c d + ∑ r ∈ Finset.range 512, dscore q k v g (512 * j + r) (512 * b + c) * scaled q (512 * j + r) d : ℝ) : EReal) := by
  have e : k0_pay6 (F := Ideal) (k0_pay14 x1) (k0_pay15 x2) a qt gt lt dt (ix2 c d) = a (ix2 c d)
      + ∑ r : Fin 512, FloatOps.exp2 (F := Ideal) (φ := .f32) (∑ d : Fin 192, qt (ix2 r d) * x1 (ix3 0 c d) - lt (ix3 0 r 0))
          * (∑ d : Fin 128, gt (ix3 0 r d) * x2 (ix3 0 c d) - dt (ix3 0 r 0)) * qt (ix2 r d) := by
    pointwise [k0_pay6, k0_pay3, k0_pay4, k0_pay14, k0_pay15]
  rw [e, ha, sum_fin_eq _ (fun r => dscore q k v g (512 * j + r) (512 * b + c) * scaled q (512 * j + r) d) fun r => ?_, EReal.coe_add]
  rw [power h1 hq hl, diff h2 hg hd, hq, exp2_score_of_le q k (show 512 * j + r.val < 4096 by omega) (show (512 * b + c.val) / 64 ≤ (512 * j + r.val) / 64 by omega),
    ← EReal.coe_mul, ← EReal.coe_mul]
  rfl

/-- and to the values'. -/
theorem trip_values (hj : j < 8) (hbj : b < j) (h1 : Tile x1 k b)
    (hq : ∀ (r : Fin 512) (d : Fin 192), qt (ix2 r d) = ((scaled q (512 * j + r) d : ℝ) : EReal)) (hg : Tile gt g j)
    (hl : Tile lt (fun r _ => lse q k r) j)
    {a : FVec Ideal S512x128 .f32} {A : ℕ → ℕ → ℝ} (ha : ∀ (c : Fin 512) (d : Fin 128), a (ix2 c d) = ((A c d : ℝ) : EReal))
    (c : Fin 512) (d : Fin 128) :
    k0_pay5 (F := Ideal) (k0_pay14 x1) a qt gt lt (ix2 c d)
      = ((A c d + ∑ r ∈ Finset.range 512, prob q k (512 * j + r) (512 * b + c) * g (512 * j + r) d : ℝ) : EReal) := by
  have e : k0_pay5 (F := Ideal) (k0_pay14 x1) a qt gt lt (ix2 c d) = a (ix2 c d)
      + ∑ r : Fin 512, FloatOps.exp2 (F := Ideal) (φ := .f32) (∑ d : Fin 192, qt (ix2 r d) * x1 (ix3 0 c d) - lt (ix3 0 r 0)) * gt (ix3 0 r d) := by
    pointwise [k0_pay5, k0_pay3, k0_pay4, k0_pay14]
  rw [e, ha, sum_fin_eq _ (fun r => prob q k (512 * j + r) (512 * b + c) * g (512 * j + r) d) fun r => ?_, EReal.coe_add]
  rw [power h1 hq hl, hg, exp2_score_of_le q k (show 512 * j + r.val < 4096 by omega) (show (512 * b + c.val) / 64 ≤ (512 * j + r.val) / 64 by omega),
    ← EReal.coe_mul]

/-! ### The diagonal tile -/

/-- The diagonal tile's probabilities, masked. -/
theorem masked (i : grid0.Coords) (hb : (i 1).val < 8) (h1 : Tile x1 k (i 1).val)
    (hq : ∀ (r : Fin 512) (d : Fin 192), qt (ix2 r d) = ((scaled q (512 * (i 1).val + r) d : ℝ) : EReal)) (hl : Tile lt (fun r _ => lse q k r) (i 1).val)
    (r c : Fin 512) :
    k0_pay24 (F := Ideal) (k0_pay19 x1 qt lt) (Scalar.muli (BitVec.ofNat 32 (i 1).val) 512#32) (k0_pay20 i) 64#32 (k0_pay21 i) (k0_pay22 i) (k0_pay23 i) (ix2 r c)
      = ((prob q k (512 * (i 1).val + r) (512 * (i 1).val + c) : ℝ) : EReal) := by
  have e : k0_pay24 (F := Ideal) (k0_pay19 x1 qt lt) (Scalar.muli (BitVec.ofNat 32 (i 1).val) 512#32) (k0_pay20 i) 64#32 (k0_pay21 i) (k0_pay22 i) (k0_pay23 i) (ix2 r c)
      = Scalar.select (IntOp.cmpi .sle (Words.chunk (IntOp.addi (Scalar.muli (BitVec.ofNat 32 (i 1).val) 512#32) (BitVec.ofNat 32 c)))
            (Words.chunk (IntOp.addi (Scalar.muli (BitVec.ofNat 32 (i 1).val) 512#32) (BitVec.ofNat 32 r))))
          (FloatOps.exp2 (F := Ideal) (φ := .f32) (∑ d : Fin 192, qt (ix2 r d) * x1 (ix3 0 c d) - lt (ix3 0 r 0))) 0 := by
    pointwise [k0_pay24, k0_pay23, k0_pay22, k0_pay21, k0_pay20, k0_pay19, k0_pay14]
    rfl
  rw [e, Words.row_word, Words.row_word, Words.mask_bit (by omega) (by omega), Words.select_bit]
  split
  · rw [power h1 hq hl, exp2_score_of_le q k (show 512 * (i 1).val + r.val < 4096 by omega) ‹_›]
  · rw [prob_masked q k ‹_›]; rfl

/-- A sum over the queries through tile `b`: those before it see no key of tile `b`. -/
theorem sum_diagonal (f : ℕ → ℝ) (h : ∀ r, r < 512 * b → f r = 0) :
    ∑ r ∈ Finset.range 512, f (512 * b + r) = ∑ r ∈ Finset.range (512 * (b + 1)), f r := by
  rw [sum_tile, Finset.sum_eq_zero (s := Finset.range (512 * b)) fun r hr => h r (Finset.mem_range.1 hr), zero_add]

theorem first_keys (i : grid0.Coords) (hb : (i 1).val < 8) (h1 : Tile x1 k (i 1).val) (h2 : Tile x2 v (i 1).val)
    (hq : ∀ (r : Fin 512) (d : Fin 192), qt (ix2 r d) = ((scaled q (512 * (i 1).val + r) d : ℝ) : EReal)) (hg : Tile gt g (i 1).val)
    (hl : Tile lt (fun r _ => lse q k r) (i 1).val) (hd : Tile dt (fun r _ => delta q k v g r) (i 1).val) (c : Fin 512) (d : Fin 192) :
    k0_pay2 (F := Ideal) (k0_pay15 x2) k0_pay16 qt (k0_pay18 gt)
        (k0_pay24 (k0_pay19 x1 qt lt) (Scalar.muli (BitVec.ofNat 32 (i 1).val) 512#32) (k0_pay20 i) 64#32 (k0_pay21 i) (k0_pay22 i) (k0_pay23 i))
        (constant S512x512 .f32 0x00000000#32) dt (ix2 c d)
      = ((∑ r ∈ Finset.range (512 * ((i 1).val + 1)), dscore q k v g r (512 * (i 1).val + c) * scaled q r d : ℝ) : EReal) := by
  have hm := masked i hb h1 hq hl
  generalize k0_pay24 (F := Ideal) (k0_pay19 x1 qt lt) (Scalar.muli (BitVec.ofNat 32 (i 1).val) 512#32) (k0_pay20 i) 64#32 (k0_pay21 i) (k0_pay22 i) (k0_pay23 i) = p at hm ⊢
  have e : k0_pay2 (F := Ideal) (k0_pay15 x2) k0_pay16 qt (k0_pay18 gt) p (constant S512x512 .f32 0x00000000#32) dt (ix2 c d)
      = 0 + ∑ r : Fin 512, p (ix2 r c) * (∑ d : Fin 128, gt (ix3 0 r d) * x2 (ix3 0 c d) - dt (ix3 0 r 0)) * qt (ix2 r d) := by
    pointwise [k0_pay2, k0_pay15, k0_pay16, k0_pay18]
  rw [e, sum_fin_eq _ (fun r => dscore q k v g (512 * (i 1).val + r) (512 * (i 1).val + c) * scaled q (512 * (i 1).val + r) d) fun r => ?_,
    ← sum_diagonal (fun r => dscore q k v g r (512 * (i 1).val + c) * scaled q r d) fun r hr => by rw [dscore_masked q k v g (by omega), zero_mul], zero_add]
  rw [hm, diff h2 hg hd, hq, ← EReal.coe_mul, ← EReal.coe_mul]
  rfl

theorem first_values (i : grid0.Coords) (hb : (i 1).val < 8) (h1 : Tile x1 k (i 1).val)
    (hq : ∀ (r : Fin 512) (d : Fin 192), qt (ix2 r d) = ((scaled q (512 * (i 1).val + r) d : ℝ) : EReal)) (hg : Tile gt g (i 1).val)
    (hl : Tile lt (fun r _ => lse q k r) (i 1).val) (c : Fin 512) (d : Fin 128) :
    k0_pay1 (F := Ideal) k0_pay17 (k0_pay18 gt)
        (k0_pay24 (k0_pay19 x1 qt lt) (Scalar.muli (BitVec.ofNat 32 (i 1).val) 512#32) (k0_pay20 i) 64#32 (k0_pay21 i) (k0_pay22 i) (k0_pay23 i)) (ix2 c d)
      = ((∑ r ∈ Finset.range (512 * ((i 1).val + 1)), prob q k r (512 * (i 1).val + c) * g r d : ℝ) : EReal) := by
  have hm := masked i hb h1 hq hl
  generalize k0_pay24 (F := Ideal) (k0_pay19 x1 qt lt) (Scalar.muli (BitVec.ofNat 32 (i 1).val) 512#32) (k0_pay20 i) 64#32 (k0_pay21 i) (k0_pay22 i) (k0_pay23 i) = p at hm ⊢
  have e : k0_pay1 (F := Ideal) k0_pay17 (k0_pay18 gt) p (ix2 c d) = 0 + ∑ r : Fin 512, p (ix2 r c) * gt (ix3 0 r d) := by
    pointwise [k0_pay1, k0_pay17, k0_pay18]
  rw [e, sum_fin_eq _ (fun r => prob q k (512 * (i 1).val + r) (512 * (i 1).val + c) * g (512 * (i 1).val + r) d) fun r => ?_,
    ← sum_diagonal (fun r => prob q k r (512 * (i 1).val + c) * g r d) fun r hr => by rw [prob_masked q k (by omega), zero_mul], zero_add]
  rw [hm, hg, ← EReal.coe_mul]

/-! ### What is written -/

theorem last_keys {a : FVec Ideal S512x192 .f32} (ha : ∀ (c : Fin 512) (d : Fin 192), a (ix2 c d) = ((∑ r ∈ Finset.range 4096, dscore q k v g r (512 * b + c) * scaled q r d : ℝ) : EReal)) :
    Tile (k0_pay11 (F := Ideal) a) (gradK q k v g) b := by
  intro c d
  have e : k0_pay11 (F := Ideal) a (ix3 0 c d) = a (ix2 c d) * Named.named (F := Ideal) (φ := .f32) κ "ln2" 0x3F317218#32 := by pointwise [k0_pay11]
  rw [e, ha, ln2, ← EReal.coe_mul, gradK_of_scaled]

theorem last_values {a : FVec Ideal S512x128 .f32} (ha : ∀ (c : Fin 512) (d : Fin 128), a (ix2 c d) = ((∑ r ∈ Finset.range 4096, prob q k r (512 * b + c) * g r d : ℝ) : EReal)) :
    Tile (k0_pay12 (F := Ideal) a) (gradV q k g) b := by
  intro c d
  have e : k0_pay12 (F := Ideal) a (ix3 0 c d) = a (ix2 c d) := by pointwise [k0_pay12]
  rw [e, ha]; rfl

/-! ### The loop -/

section Loop

variable (c : Dev nD) (i : grid0.Coords) (arg2 : Memref sig .tc .vmem S1x4096x192 .bf16) (harg2 : arg2.IsWhole) (arg3 : Memref sig .tc .vmem S1x512x192 .bf16) (harg3 : arg3.IsWhole) (arg4 : Memref sig .tc .vmem S1x512x128 .bf16) (harg4 : arg4.IsWhole) (arg5 : Memref sig .tc .vmem S1x4096x1 .f32) (harg5 : arg5.IsWhole) (arg6 : Memref sig .tc .vmem S1x4096x1 .f32) (harg6 : arg6.IsWhole) (arg7 : Memref sig .tc .vmem S1x4096x128 .bf16) (harg7 : arg7.IsWhole) (arg8 : Memref sig .tc .vmem S1x512x192 .bf16) (harg8 : arg8.IsWhole) (arg9 : Memref sig .tc .vmem S1x512x128 .bf16) (harg9 : arg9.IsWhole) (arg10 : Memref sig .tc .vmem S4096x192 .bf16) (harg10 : arg10.IsWhole) (arg11 : Memref sig .tc .vmem S4096x128 .bf16) (harg11 : arg11.IsWhole)

theorem trips_tiles : ∀ n : Fin 8, Scf.trips (Scalar.addi (BitVec.ofNat 32 n) 1#32)
    (Scalar.addi (Scalar.addi (BitVec.ofNat 32 n) 1#32) (Scalar.muli (Scalar.divsi (Scalar.subi 8#32 (Scalar.addi (BitVec.ofNat 32 n) 1#32)) 1#32) 1#32)) 1#32 = 7 - n.val := by
  decide +kernel

theorem trips_rest : ∀ n : Fin 8, Scf.trips
    (Scalar.addi (Scalar.addi (BitVec.ofNat 32 n) 1#32) (Scalar.muli (Scalar.divsi (Scalar.subi 8#32 (Scalar.addi (BitVec.ofNat 32 n) 1#32)) 1#32) 1#32))
    (Scalar.addi (Scalar.addi (BitVec.ofNat 32 n) 1#32) (Scalar.subi 8#32 (Scalar.addi (BitVec.ofNat 32 n) 1#32))) 1#32 = 0 := by
  decide +kernel

theorem trip_row : ∀ n t : Fin 8, BitVec.toNat (Scalar.indexCast (Scalar.muli (Scf.iv (Scalar.addi (BitVec.ofNat 32 n) 1#32) 1#32 t.val) 512#32)) = 512 * (n.val + 1 + t.val) := by
  decide +kernel

/-- Before trip `t` the carried sums are those of the query tiles through `b + t`. -/
theorem loop_value (hb : (i 1).val < 8) {x3 x4 : Vec Ideal S1x4096x1 .f32} {x5 : Vec Ideal S1x4096x128 .bf16}
    (X : BufTy.Contents (Elt Ideal) arg10.view.ty) (h0 : ∀ (r : Fin 4096) (d : Fin 192), arg10.view.read (Elt Ideal) X (ix2 r d) = ((scaled q r d : ℝ) : EReal))
    (h1 : Tile x1 k (i 1).val) (h2 : Tile x2 v (i 1).val)
    (h3 : ∀ (r : Fin 4096) (d : Fin 1), x3 (ix3 (0 : Fin 1) r d) = ((lse q k r : ℝ) : EReal))
    (h4 : ∀ (r : Fin 4096) (d : Fin 1), x4 (ix3 (0 : Fin 1) r d) = ((delta q k v g r : ℝ) : EReal))
    (h5 : ∀ (r : Fin 4096) (d : Fin 128), x5 (ix3 (0 : Fin 1) r d) = ((g r d : ℝ) : EReal))
    (init : FVec Ideal S512x192 .f32 × FVec Ideal S512x128 .f32)
    (hk : ∀ (c : Fin 512) (d : Fin 192), init.1 (ix2 c d) = ((∑ r ∈ Finset.range (512 * ((i 1).val + 1)), dscore q k v g r (512 * (i 1).val + c) * scaled q r d : ℝ) : EReal))
    (hv : ∀ (c : Fin 512) (d : Fin 128), init.2 (ix2 c d) = ((∑ r ∈ Finset.range (512 * ((i 1).val + 1)), prob q k r (512 * (i 1).val + c) * g r d : ℝ) : EReal))
    (t : ℕ) (ht : (i 1).val + t < 8) :
    (∀ (a : Fin 512) (d : Fin 192),
      (st_k0_t1 (F := Ideal) Variants.none c none i arg2 harg2 arg3 harg3 arg4 harg4 arg5 harg5 arg6 harg6 arg7 harg7 arg8 harg8 arg9 harg9 arg10 harg10 arg11 harg11
          (k0_pay14 x1) (k0_pay15 x2) (harg5.unread x3) (harg6.unread x4) (harg7.unread x5) X init t).1 (ix2 a d)
        = ((∑ r ∈ Finset.range (512 * ((i 1).val + 1 + t)), dscore q k v g r (512 * (i 1).val + a) * scaled q r d : ℝ) : EReal))
    ∧ ∀ (a : Fin 512) (d : Fin 128),
      (st_k0_t1 (F := Ideal) Variants.none c none i arg2 harg2 arg3 harg3 arg4 harg4 arg5 harg5 arg6 harg6 arg7 harg7 arg8 harg8 arg9 harg9 arg10 harg10 arg11 harg11
          (k0_pay14 x1) (k0_pay15 x2) (harg5.unread x3) (harg6.unread x4) (harg7.unread x5) X init t).2 (ix2 a d)
        = ((∑ r ∈ Finset.range (512 * ((i 1).val + 1 + t)), prob q k r (512 * (i 1).val + a) * g r d : ℝ) : EReal) := by
  induction t with
  | zero => exact ⟨hk, hv⟩
  | succ t ih =>
    obtain ⟨ihk, ihv⟩ := ih (by omega)
    have hn : t < (k0_t1_loop i).trips := by
      rw [show (k0_t1_loop i).trips = 7 - (i 1).val from trips_tiles ⟨_, hb⟩]; omega
    rw [st_k0_t1_succ Variants.none c none i arg2 harg2 arg3 harg3 arg4 harg4 arg5 harg5 arg6 harg6 arg7 harg7 arg8 harg8 arg9 harg9 arg10 harg10 arg11 harg11
      (k0_pay14 x1) (k0_pay15 x2) (harg5.unread x3) (harg6.unread x4) (harg7.unread x5) X init ⟨t, hn⟩, tripR_k0_t1]
    unfold trip_k0_t1
    dsimp only
    sl_unfold_words
    simp only [View.readAt_eq_ld, harg5.read_unread, harg6.read_unread, harg7.read_unread]
    have w := trip_row ⟨_, hb⟩ ⟨t, by omega⟩
    refine ⟨fun a d => ?_, fun a d => ?_⟩
    · rw [← Nat.add_assoc, sum_tile]
      exact trip_keys (j := (i 1).val + 1 + t) (by omega) (by omega) h1 h2 (tile_of_load2 _ (scaled q) h0 _ (congrArg (fun n => ![n, 0]) w) _)
        (tile_of_load x5 g h5 _ (congrArg (fun n => ![0, n, 0]) w) _) (tile_of_load x3 (fun r _ => lse q k r) h3 _ (congrArg (fun n => ![0, n, 0]) w) _)
        (tile_of_load x4 (fun r _ => delta q k v g r) h4 _ (congrArg (fun n => ![0, n, 0]) w) _)
        (A := fun a d => ∑ r ∈ Finset.range (512 * ((i 1).val + 1 + t)), dscore q k v g r (512 * (i 1).val + a) * scaled q r d) ihk a d
    · rw [← Nat.add_assoc, sum_tile]
      exact trip_values (j := (i 1).val + 1 + t) (by omega) (by omega) h1 (tile_of_load2 _ (scaled q) h0 _ (congrArg (fun n => ![n, 0]) w) _)
        (tile_of_load x5 g h5 _ (congrArg (fun n => ![0, n, 0]) w) _) (tile_of_load x3 (fun r _ => lse q k r) h3 _ (congrArg (fun n => ![0, n, 0]) w) _)
        (A := fun a d => ∑ r ∈ Finset.range (512 * ((i 1).val + 1 + t)), prob q k r (512 * (i 1).val + a) * g r d) ihv a d

/-- What the diagonal tile leaves: the two sums the loop starts from. -/
abbrev first (i : grid0.Coords) (x1 : Vec Ideal S1x512x192 .bf16) (x2 : Vec Ideal S1x512x128 .bf16) (qt : Vec Ideal S512x192 .bf16) (gt : Vec Ideal S1x512x128 .bf16)
    (lt dt : Vec Ideal S1x512x1 .f32) : FVec Ideal S512x192 .f32 × FVec Ideal S512x128 .f32 :=
  (k0_pay2 (F := Ideal) (k0_pay15 x2) k0_pay16 qt (k0_pay18 gt)
      (k0_pay24 (k0_pay19 x1 qt lt) (Scalar.muli (BitVec.ofNat 32 (i 1).val) 512#32) (k0_pay20 i) 64#32 (k0_pay21 i) (k0_pay22 i) (k0_pay23 i))
      (constant S512x512 .f32 0x00000000#32) dt,
    k0_pay1 (F := Ideal) k0_pay17 (k0_pay18 gt)
      (k0_pay24 (k0_pay19 x1 qt lt) (Scalar.muli (BitVec.ofNat 32 (i 1).val) 512#32) (k0_pay20 i) 64#32 (k0_pay21 i) (k0_pay22 i) (k0_pay23 i)))

/-- After the loop the carried sums are those over all the queries. -/
theorem sums (hb : (i 1).val < 8) {x3 x4 : Vec Ideal S1x4096x1 .f32} {x5 : Vec Ideal S1x4096x128 .bf16}
    (X : BufTy.Contents (Elt Ideal) arg10.view.ty) (h0 : ∀ (r : Fin 4096) (d : Fin 192), arg10.view.read (Elt Ideal) X (ix2 r d) = ((scaled q r d : ℝ) : EReal))
    (h1 : Tile x1 k (i 1).val) (h2 : Tile x2 v (i 1).val)
    (h3 : ∀ (r : Fin 4096) (d : Fin 1), x3 (ix3 (0 : Fin 1) r d) = ((lse q k r : ℝ) : EReal))
    (h4 : ∀ (r : Fin 4096) (d : Fin 1), x4 (ix3 (0 : Fin 1) r d) = ((delta q k v g r : ℝ) : EReal))
    (h5 : ∀ (r : Fin 4096) (d : Fin 128), x5 (ix3 (0 : Fin 1) r d) = ((g r d : ℝ) : EReal))
    {i0 : ∀ x, (k0_off1 i) x + S512x192.size x ≤ S4096x192.size x} {i2 : ∀ x, (k0_off2 i) x + S1x512x128.size x ≤ S1x4096x128.size x}
    {i3 : ∀ x, (k0_off3 i) x + S1x512x1.size x ≤ S1x4096x1.size x} :
    (∀ (a : Fin 512) (d : Fin 192),
      (st_k0_t1 (F := Ideal) Variants.none c none i arg2 harg2 arg3 harg3 arg4 harg4 arg5 harg5 arg6 harg6 arg7 harg7 arg8 harg8 arg9 harg9 arg10 harg10 arg11 harg11
          (k0_pay14 x1) (k0_pay15 x2) (harg5.unread x3) (harg6.unread x4) (harg7.unread x5) X
          (first i x1 x2 (View.ld (Val := Elt Ideal) (e' := .bf16) (arg10.view.read (Elt Ideal) X) (Rect.unit (k0_off1 i) S512x192.size i0))
            (View.ld (Val := Elt Ideal) (e' := .bf16) x5 (Rect.unit (k0_off2 i) S1x512x128.size i2))
            (View.ld (Val := Elt Ideal) (e' := .f32) x3 (Rect.unit (k0_off3 i) S1x512x1.size i3))
            (View.ld (Val := Elt Ideal) (e' := .f32) x4 (Rect.unit (k0_off3 i) S1x512x1.size i3))) (7 - (i 1).val)).1 (ix2 a d)
        = ((∑ r ∈ Finset.range 4096, dscore q k v g r (512 * (i 1).val + a) * scaled q r d : ℝ) : EReal))
    ∧ ∀ (a : Fin 512) (d : Fin 128),
      (st_k0_t1 (F := Ideal) Variants.none c none i arg2 harg2 arg3 harg3 arg4 harg4 arg5 harg5 arg6 harg6 arg7 harg7 arg8 harg8 arg9 harg9 arg10 harg10 arg11 harg11
          (k0_pay14 x1) (k0_pay15 x2) (harg5.unread x3) (harg6.unread x4) (harg7.unread x5) X
          (first i x1 x2 (View.ld (Val := Elt Ideal) (e' := .bf16) (arg10.view.read (Elt Ideal) X) (Rect.unit (k0_off1 i) S512x192.size i0))
            (View.ld (Val := Elt Ideal) (e' := .bf16) x5 (Rect.unit (k0_off2 i) S1x512x128.size i2))
            (View.ld (Val := Elt Ideal) (e' := .f32) x3 (Rect.unit (k0_off3 i) S1x512x1.size i3))
            (View.ld (Val := Elt Ideal) (e' := .f32) x4 (Rect.unit (k0_off3 i) S1x512x1.size i3))) (7 - (i 1).val)).2 (ix2 a d)
        = ((∑ r ∈ Finset.range 4096, prob q k r (512 * (i 1).val + a) * g r d : ℝ) : EReal) := by
  have w := Words.offset ⟨_, hb⟩
  have hq := tile_of_load2 _ (scaled q) h0 (k0_off1 i) (congrArg (fun n => ![n, 0]) w) i0
  have hg := tile_of_load x5 g h5 (k0_off2 i) (congrArg (fun n => ![0, n, 0]) w) i2
  have hl := tile_of_load x3 (fun r _ => lse q k r) h3 (k0_off3 i) (congrArg (fun n => ![0, n, 0]) w) i3
  have hd := tile_of_load x4 (fun r _ => delta q k v g r) h4 (k0_off3 i) (congrArg (fun n => ![0, n, 0]) w) i3
  have key := loop_value c i arg2 harg2 arg3 harg3 arg4 harg4 arg5 harg5 arg6 harg6 arg7 harg7 arg8 harg8 arg9 harg9 arg10 harg10 arg11 harg11 hb X h0 h1 h2 h3 h4 h5 (first i x1 x2 _ _ _ _)
    (first_keys i hb h1 h2 hq hg hl hd) (first_values i hb h1 hq hg hl) (7 - (i 1).val) (by omega)
  rw [show 512 * ((i 1).val + 1 + (7 - (i 1).val)) = 4096 by omega] at key
  exact key

/-- What the call leaves in its results' blocks, at a head's first tile and at the others. -/
theorem block6_A (hc0 : cond0_0 i) (hb : (i 1).val < 8) {x0 : Vec Ideal S1x4096x192 .bf16} {x3 x4 : Vec Ideal S1x4096x1 .f32} {x5 : Vec Ideal S1x4096x128 .bf16}
    (h0 : ∀ (r : Fin 4096) (d : Fin 192), x0 (ix3 (0 : Fin 1) r d) = ((q r d : ℝ) : EReal)) (h1 : Tile x1 k (i 1).val) (h2 : Tile x2 v (i 1).val)
    (h3 : ∀ (r : Fin 4096) (d : Fin 1), x3 (ix3 (0 : Fin 1) r d) = ((lse q k r : ℝ) : EReal))
    (h4 : ∀ (r : Fin 4096) (d : Fin 1), x4 (ix3 (0 : Fin 1) r d) = ((delta q k v g r : ℝ) : EReal))
    (h5 : ∀ (r : Fin 4096) (d : Fin 128), x5 (ix3 (0 : Fin 1) r d) = ((g r d : ℝ) : EReal)) :
    Tile (out0_A_6 (F := Ideal) c i arg2 harg2 arg3 harg3 arg4 harg4 arg5 harg5 arg6 harg6 arg7 harg7 arg8 harg8 arg9 harg9 arg10 harg10 arg11 harg11 hc0 x0 x1 x2 x3 x4 x5) (gradK q k v g) (i 1).val := by
  unfold out0_A_6
  rw [View.read_writes_eq_canon _ _ _ (cover0_A_6 c _ _ _ _ _ _ _ _ _ _ _ _ _ _ _ _ _ _ _ _ _ _ _ _ _ _ _ _)]
  unfold kernelRun0_A
  dsimp only
  sl_unfold_words
  simp only [View.readAt_eq_ld, harg2.read_unread, harg3.read_unread, harg4.read_unread, harg5.read_unread, harg6.read_unread, harg7.read_unread]
  have z3 : (![0, 0, 0] : Fin 3 → ℕ) = fun _ => 0 := by decide
  have z2 : (![0, 0] : Fin 2 → ℕ) = fun _ => 0 := by decide
  rw [canon_unit_zero z3]
  have ht2 := trips_rest ⟨_, hb⟩
  have ht1 := trips_tiles ⟨_, hb⟩
  dsimp only at ht1 ht2
  rw [ht2, ht1, ld_unit_zero z3 _ x1, ld_unit_zero z3 _ x2]
  exact last_keys (sums c i arg2 harg2 arg3 harg3 arg4 harg4 arg5 harg5 arg6 harg6 arg7 harg7 arg8 harg8 arg9 harg9 arg10 harg10 arg11 harg11 hb _ (fun r d => by rw [read_stored (S := S4096x192) z2, ld_unit_zero z3 _ x0]; exact kept_query h0 r d) h1 h2 h3 h4 h5).1

theorem block7_A (hc0 : cond0_0 i) (hb : (i 1).val < 8) {x0 : Vec Ideal S1x4096x192 .bf16} {x3 x4 : Vec Ideal S1x4096x1 .f32} {x5 : Vec Ideal S1x4096x128 .bf16}
    (h0 : ∀ (r : Fin 4096) (d : Fin 192), x0 (ix3 (0 : Fin 1) r d) = ((q r d : ℝ) : EReal)) (h1 : Tile x1 k (i 1).val) (h2 : Tile x2 v (i 1).val)
    (h3 : ∀ (r : Fin 4096) (d : Fin 1), x3 (ix3 (0 : Fin 1) r d) = ((lse q k r : ℝ) : EReal))
    (h4 : ∀ (r : Fin 4096) (d : Fin 1), x4 (ix3 (0 : Fin 1) r d) = ((delta q k v g r : ℝ) : EReal))
    (h5 : ∀ (r : Fin 4096) (d : Fin 128), x5 (ix3 (0 : Fin 1) r d) = ((g r d : ℝ) : EReal)) :
    Tile (out0_A_7 (F := Ideal) c i arg2 harg2 arg3 harg3 arg4 harg4 arg5 harg5 arg6 harg6 arg7 harg7 arg8 harg8 arg9 harg9 arg10 harg10 arg11 harg11 hc0 x0 x1 x2 x3 x4 x5) (gradV q k g) (i 1).val := by
  unfold out0_A_7
  rw [View.read_writes_eq_canon _ _ _ (cover0_A_7 c _ _ _ _ _ _ _ _ _ _ _ _ _ _ _ _ _ _ _ _ _ _ _ _ _ _ _ _)]
  unfold kernelRun0_A
  dsimp only
  sl_unfold_words
  simp only [View.readAt_eq_ld, harg2.read_unread, harg3.read_unread, harg4.read_unread, harg5.read_unread, harg6.read_unread, harg7.read_unread]
  have z3 : (![0, 0, 0] : Fin 3 → ℕ) = fun _ => 0 := by decide
  have z2 : (![0, 0] : Fin 2 → ℕ) = fun _ => 0 := by decide
  rw [canon_unit_zero z3]
  have ht2 := trips_rest ⟨_, hb⟩
  have ht1 := trips_tiles ⟨_, hb⟩
  dsimp only at ht1 ht2
  rw [ht2, ht1, ld_unit_zero z3 _ x1, ld_unit_zero z3 _ x2]
  exact last_values (sums c i arg2 harg2 arg3 harg3 arg4 harg4 arg5 harg5 arg6 harg6 arg7 harg7 arg8 harg8 arg9 harg9 arg10 harg10 arg11 harg11 hb _ (fun r d => by rw [read_stored (S := S4096x192) z2, ld_unit_zero z3 _ x0]; exact kept_query h0 r d) h1 h2 h3 h4 h5).2

theorem block6_B (hc0 : ¬ cond0_0 i) (hb : (i 1).val < 8) {x0 : Vec Ideal S1x4096x192 .bf16} {x3 x4 : Vec Ideal S1x4096x1 .f32} {x5 : Vec Ideal S1x4096x128 .bf16} {xs : Vec Ideal S4096x192 .bf16}
    (h0 : ∀ (r : Fin 4096) (d : Fin 192), xs (ix2 r d) = ((scaled q r d : ℝ) : EReal)) (h1 : Tile x1 k (i 1).val) (h2 : Tile x2 v (i 1).val)
    (h3 : ∀ (r : Fin 4096) (d : Fin 1), x3 (ix3 (0 : Fin 1) r d) = ((lse q k r : ℝ) : EReal))
    (h4 : ∀ (r : Fin 4096) (d : Fin 1), x4 (ix3 (0 : Fin 1) r d) = ((delta q k v g r : ℝ) : EReal))
    (h5 : ∀ (r : Fin 4096) (d : Fin 128), x5 (ix3 (0 : Fin 1) r d) = ((g r d : ℝ) : EReal)) :
    Tile (out0_B_6 (F := Ideal) c i arg2 harg2 arg3 harg3 arg4 harg4 arg5 harg5 arg6 harg6 arg7 harg7 arg8 harg8 arg9 harg9 arg10 harg10 arg11 harg11 hc0 x0 x1 x2 x3 x4 x5 xs) (gradK q k v g) (i 1).val := by
  unfold out0_B_6
  rw [View.read_writes_eq_canon _ _ _ (cover0_B_6 c _ _ _ _ _ _ _ _ _ _ _ _ _ _ _ _ _ _ _ _ _ _ _ _ _ _ _ _ _)]
  unfold kernelRun0_B
  dsimp only
  sl_unfold_words
  simp only [View.readAt_eq_ld, harg2.read_unread, harg3.read_unread, harg4.read_unread, harg5.read_unread, harg6.read_unread, harg7.read_unread]
  have z3 : (![0, 0, 0] : Fin 3 → ℕ) = fun _ => 0 := by decide
  have z2 : (![0, 0] : Fin 2 → ℕ) = fun _ => 0 := by decide
  rw [canon_unit_zero z3]
  have ht2 := trips_rest ⟨_, hb⟩
  have ht1 := trips_tiles ⟨_, hb⟩
  dsimp only at ht1 ht2
  rw [ht2, ht1, ld_unit_zero z3 _ x1, ld_unit_zero z3 _ x2]
  exact last_keys (sums c i arg2 harg2 arg3 harg3 arg4 harg4 arg5 harg5 arg6 harg6 arg7 harg7 arg8 harg8 arg9 harg9 arg10 harg10 arg11 harg11 hb _ (fun r d => by rw [harg10.read_unread]; exact h0 r d) h1 h2 h3 h4 h5).1

theorem block7_B (hc0 : ¬ cond0_0 i) (hb : (i 1).val < 8) {x0 : Vec Ideal S1x4096x192 .bf16} {x3 x4 : Vec Ideal S1x4096x1 .f32} {x5 : Vec Ideal S1x4096x128 .bf16} {xs : Vec Ideal S4096x192 .bf16}
    (h0 : ∀ (r : Fin 4096) (d : Fin 192), xs (ix2 r d) = ((scaled q r d : ℝ) : EReal)) (h1 : Tile x1 k (i 1).val) (h2 : Tile x2 v (i 1).val)
    (h3 : ∀ (r : Fin 4096) (d : Fin 1), x3 (ix3 (0 : Fin 1) r d) = ((lse q k r : ℝ) : EReal))
    (h4 : ∀ (r : Fin 4096) (d : Fin 1), x4 (ix3 (0 : Fin 1) r d) = ((delta q k v g r : ℝ) : EReal))
    (h5 : ∀ (r : Fin 4096) (d : Fin 128), x5 (ix3 (0 : Fin 1) r d) = ((g r d : ℝ) : EReal)) :
    Tile (out0_B_7 (F := Ideal) c i arg2 harg2 arg3 harg3 arg4 harg4 arg5 harg5 arg6 harg6 arg7 harg7 arg8 harg8 arg9 harg9 arg10 harg10 arg11 harg11 hc0 x0 x1 x2 x3 x4 x5 xs) (gradV q k g) (i 1).val := by
  unfold out0_B_7
  rw [View.read_writes_eq_canon _ _ _ (cover0_B_7 c _ _ _ _ _ _ _ _ _ _ _ _ _ _ _ _ _ _ _ _ _ _ _ _ _ _ _ _ _)]
  unfold kernelRun0_B
  dsimp only
  sl_unfold_words
  simp only [View.readAt_eq_ld, harg2.read_unread, harg3.read_unread, harg4.read_unread, harg5.read_unread, harg6.read_unread, harg7.read_unread]
  have z3 : (![0, 0, 0] : Fin 3 → ℕ) = fun _ => 0 := by decide
  have z2 : (![0, 0] : Fin 2 → ℕ) = fun _ => 0 := by decide
  rw [canon_unit_zero z3]
  have ht2 := trips_rest ⟨_, hb⟩
  have ht1 := trips_tiles ⟨_, hb⟩
  dsimp only at ht1 ht2
  rw [ht2, ht1, ld_unit_zero z3 _ x1, ld_unit_zero z3 _ x2]
  exact last_values (sums c i arg2 harg2 arg3 harg3 arg4 harg4 arg5 harg5 arg6 harg6 arg7 harg7 arg8 harg8 arg9 harg9 arg10 harg10 arg11 harg11 hb _ (fun r d => by rw [harg10.read_unread]; exact h0 r d) h1 h2 h3 h4 h5).2

/-- What the call keeps of the query at a head's first tile. -/
theorem kept_A (hc0 : cond0_0 i) {x0 : Vec Ideal S1x4096x192 .bf16} {x1 : Vec Ideal S1x512x192 .bf16} {x2 : Vec Ideal S1x512x128 .bf16} {x3 x4 : Vec Ideal S1x4096x1 .f32} {x5 : Vec Ideal S1x4096x128 .bf16}
    (h0 : ∀ (r : Fin 4096) (d : Fin 192), x0 (ix3 (0 : Fin 1) r d) = ((q r d : ℝ) : EReal)) (r : Fin 4096) (d : Fin 192) :
    sout0_A_0 (F := Ideal) c i arg2 harg2 arg3 harg3 arg4 harg4 arg5 harg5 arg6 harg6 arg7 harg7 arg8 harg8 arg9 harg9 arg10 harg10 arg11 harg11 hc0 x0 x1 x2 x3 x4 x5 (ix2 r d) = ((scaled q r d : ℝ) : EReal) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  have z2 : (![0, 0] : Fin 2 → ℕ) = fun _ => 0 := by decide
  have z3 : (![0, 0, 0] : Fin 3 → ℕ) = fun _ => 0 := by decide
  simp only [View.readAt_eq_ld, harg2.read_unread]
  rw [canon_unit_zero z2, ld_unit_zero z3 _ x0]
  exact kept_query h0 r d

end Loop

end Cert.Dkv

end
-- ==== Proof.DkvValue.lean ====
/-
  The keys' and values' gradient call over the whole arrays: every head's tiles, and the claim.
-/
module

public import proofs.«01_k».proof.Proof.Dkv
public import proofs.«01_k».proof.Proof.Saved
public import proofs.«01_k».proof.Proof.Blocks
public import proofs.«01_k».proof.Proof.Frames
public import proofs.«01_k».proof.Proof.Gen.Reference2Ideal.Read

@[expose] public section

noncomputable section

namespace Cert.DkvValue

open Idealize.ShloMosaic Idealize.ShloMosaic.TcCoe Idealize.SL.Sem Idealize.ShloMosaic.Pipeline Cert.Kernel2Ideal Cert.Kernel2Ideal.Gen Cert.Exact Cert.Attn Cert.Softmax Cert.Blocks Cert.Dkv

variable (m : (ℓ : Loc nD τ sig) → Buf (Elt Ideal) ℓ) (c : Dev nD)

/-! ### The arrays the call is handed -/

abbrev argQ : QK := m ((c.tc : Thread nD τ).loc main_arg0)
abbrev argK : QK := m ((c.tc : Thread nD τ).loc main_arg1)
abbrev argV : VO := m ((c.tc : Thread nD τ).loc main_arg2)
abbrev argG : VO := m ((c.tc : Thread nD τ).loc main_arg3)

theorem at_q : (V m c main_v49 : S16x4096x192.Idx → EReal) = transpose S16x4096x192 [1, 0, 2] (argQ m c) transposes_S4096x16x192_S16x4096x192_1_0_2 := by
  unfold V
  simp only [hostOps0, hostOps0_1, hostOps0_2, hostOps0_3, hostOps0_4, List.flatten_cons, List.flatten_nil, List.append_nil, List.cons_append, List.nil_append]
  after_results
  all_goals rfl

theorem at_k : (V m c main_v50 : S16x4096x192.Idx → EReal) = transpose S16x4096x192 [1, 0, 2] (argK m c) transposes_S4096x16x192_S16x4096x192_1_0_2 := by
  unfold V
  simp only [hostOps0, hostOps0_1, hostOps0_2, hostOps0_3, hostOps0_4, List.flatten_cons, List.flatten_nil, List.append_nil, List.cons_append, List.nil_append]
  after_results
  all_goals rfl

theorem at_v : (V m c main_v51 : S16x4096x128.Idx → EReal) = transpose S16x4096x128 [1, 0, 2] (argV m c) transposes_S4096x16x128_S16x4096x128_1_0_2 := by
  unfold V
  simp only [hostOps0, hostOps0_1, hostOps0_2, hostOps0_3, hostOps0_4, List.flatten_cons, List.flatten_nil, List.append_nil, List.cons_append, List.nil_append]
  after_results
  all_goals rfl

theorem at_g : (V m c main_v52 : S16x4096x128.Idx → EReal) = transpose S16x4096x128 [1, 0, 2] (argG m c) transposes_S4096x16x128_S16x4096x128_1_0_2 := by
  unfold V
  simp only [hostOps0, hostOps0_1, hostOps0_2, hostOps0_3, hostOps0_4, List.flatten_cons, List.flatten_nil, List.append_nil, List.cons_append, List.nil_append]
  after_results
  all_goals rfl

theorem at_lse : (V m c main_v42 : S16x4096x1.Idx → EReal) = Cert.Reference3Ideal.Read.val_main_v42 (argQ m c) (argK m c) := by
  unfold V
  simp only [hostOps0, hostOps0_1, hostOps0_2, hostOps0_3, hostOps0_4, List.flatten_cons, List.flatten_nil, List.append_nil, List.cons_append, List.nil_append]
  after_results
  all_goals rfl

theorem at_delta : (V m c main_v48 : S16x4096x1.Idx → EReal) = broadcastInDim S16x4096x1 ![0, 1] bcast_S16x4096_S16x4096x1_0_1
    (Host.reduceAdd (F := Ideal) (φ := .f32) (mulf (F := Ideal) (φ := .f32) (extf .f32 (φ := .bf16) (transpose S16x4096x128 [1, 0, 2] (argG m c) transposes_S4096x16x128_S16x4096x128_1_0_2) bitsLt_bf16_f32)
        (extf .f32 (φ := .bf16) (Cert.Reference3Ideal.Read.val_main_v41 (F := Ideal) (argQ m c) (argK m c) (argV m c)) bitsLt_bf16_f32))
      (constant S_ .f32 0x00000000#32) reducesTo_S16x4096x128_S16x4096_d2 h_S_) := by
  unfold V
  simp only [hostOps0, hostOps0_1, hostOps0_2, hostOps0_3, hostOps0_4, List.flatten_cons, List.flatten_nil, List.append_nil, List.cons_append, List.nil_append]
  after_results
  all_goals rfl

/-- A row's sum, put back as a column. -/
theorem row_sum (x : S16x4096x128.Idx → EReal) (h : Fin 16) (r : Fin 4096) (z : Fin 1) :
    (broadcastInDim S16x4096x1 ![0, 1] bcast_S16x4096_S16x4096x1_0_1
        (Host.reduceAdd (F := Ideal) (φ := .f32) x (constant S_ .f32 0x00000000#32) reducesTo_S16x4096x128_S16x4096_d2 h_S_) : S16x4096x1.Idx → EReal) (ix3 h r z)
      = ∑ d : Fin 128, x (ix3 h r d) := by
  refine (broadcastInDim_apply _ bcast_S16x4096_S16x4096x1_0_1 _ (ix3 h r z) (ix2 h r) (fun a => match a with
    | ⟨0, _⟩ => by show h.val = if (16 : ℕ) = 1 then 0 else h.val; rw [if_neg (by decide)]
    | ⟨1, _⟩ => by show r.val = if (4096 : ℕ) = 1 then 0 else r.val; rw [if_neg (by decide)])).trans ?_
  simp only [Host.reduceAdd, Ideal.hostReduceAdd_def]
  rw [Ideal.hostReduceAdd_single reducesTo_S16x4096x128_S16x4096_d2 (by decide)]
  refine (congrArg (· + _) (show _ = (0 : EReal) from Ideal.ofBits_zero_f32)).trans ((zero_add _).trans (Finset.sum_congr rfl fun d _ => ?_))
  exact congrArg x (funext fun a => Fin.ext (by match a with | ⟨0, _⟩ => rfl | ⟨1, _⟩ => rfl | ⟨2, _⟩ => rfl))

theorem delta_value (hQ : Real (argQ m c)) (hK : Real (argK m c)) (hV : Real (argV m c)) (hG : Real (argG m c)) (h : Fin 16) (r : Fin 4096) (z : Fin 1) :
    (V m c main_v48 : S16x4096x1.Idx → EReal) (ix3 h r z)
      = ((delta (rows (argQ m c) h) (rows (argK m c) h) (rows (argV m c) h) (rows (argG m c) h) r : ℝ) : EReal) := by
  rw [at_delta, row_sum]
  refine sum_fin_eq _ (fun d => rows (argG m c) h r d * att (rows (argQ m c) h) (rows (argK m c) h) (rows (argV m c) h) r d) fun d => ?_
  rw [EReal.coe_mul]
  exact congrArg₂ (· * ·) (heads_first _ hG _ h r d) (Saved.out _ _ _ hQ hK hV h r d)

/-! ### The blocks of a grid point -/

/-- The point of head `h` and tile `b`. -/
def point (h : Fin 16) (b : Fin 8) : Fin cfg0.N := ⟨8 * h.val + b.val, show 8 * h.val + b.val < 128 by omega⟩

theorem coords (h : Fin 16) (b : Fin 8) : (grid0.coords (point h b) 1).val = b.val := by
  revert h b; decide +kernel

theorem index : ∀ (h : Fin 16) (b : Fin 8),
    (win0_0.index (point h b) = ![h.val, 0, 0] ∧ win0_1.index (point h b) = ![h.val, b.val, 0] ∧ win0_2.index (point h b) = ![h.val, b.val, 0])
    ∧ (win0_3.index (point h b) = ![h.val, 0, 0] ∧ win0_4.index (point h b) = ![h.val, 0, 0] ∧ win0_5.index (point h b) = ![h.val, 0, 0])
    ∧ win0_6.index (point h b) = ![h.val, b.val, 0] ∧ win0_7.index (point h b) = ![h.val, b.val, 0] := by decide +kernel

theorem block0 (h : Fin 16) (b : Fin 8) (r : Fin 4096) (d : Fin 192) :
    (iblk m c 0 (point h b) : S1x4096x192.Idx → EReal) (ix3 (0 : Fin 1) r d) = (V m c main_v49 : S16x4096x192.Idx → EReal) (ix3 h r d) :=
  have e := spot_whole r.val d.val 192 (index h b).1.1
  congrArg (V m c main_v49) (at_ix3 _ e.1 e.2.1 e.2.2)

theorem block1 (h : Fin 16) (b : Fin 8) (r : Fin 512) (d : Fin 192) :
    (iblk m c 1 (point h b) : S1x512x192.Idx → EReal) (ix3 (0 : Fin 1) r d) = (V m c main_v50 : S16x4096x192.Idx → EReal) (ix3 h (row b r) d) :=
  have e := spot r.val d.val 192 (index h b).1.2.1
  congrArg (V m c main_v50) (at_ix3 _ e.1 e.2.1 e.2.2)

theorem block2 (h : Fin 16) (b : Fin 8) (r : Fin 512) (d : Fin 128) :
    (iblk m c 2 (point h b) : S1x512x128.Idx → EReal) (ix3 (0 : Fin 1) r d) = (V m c main_v51 : S16x4096x128.Idx → EReal) (ix3 h (row b r) d) :=
  have e := spot r.val d.val 128 (index h b).1.2.2
  congrArg (V m c main_v51) (at_ix3 _ e.1 e.2.1 e.2.2)

theorem block3 (h : Fin 16) (b : Fin 8) (r : Fin 4096) (d : Fin 1) :
    (iblk m c 3 (point h b) : S1x4096x1.Idx → EReal) (ix3 (0 : Fin 1) r d) = (V m c main_v42 : S16x4096x1.Idx → EReal) (ix3 h r d) :=
  have e := spot_whole r.val d.val 1 (index h b).2.1.1
  congrArg (V m c main_v42) (at_ix3 _ e.1 e.2.1 e.2.2)

theorem block4 (h : Fin 16) (b : Fin 8) (r : Fin 4096) (d : Fin 1) :
    (iblk m c 4 (point h b) : S1x4096x1.Idx → EReal) (ix3 (0 : Fin 1) r d) = (V m c main_v48 : S16x4096x1.Idx → EReal) (ix3 h r d) :=
  have e := spot_whole r.val d.val 1 (index h b).2.1.2.1
  congrArg (V m c main_v48) (at_ix3 _ e.1 e.2.1 e.2.2)

theorem block5 (h : Fin 16) (b : Fin 8) (r : Fin 4096) (d : Fin 128) :
    (iblk m c 5 (point h b) : S1x4096x128.Idx → EReal) (ix3 (0 : Fin 1) r d) = (V m c main_v52 : S16x4096x128.Idx → EReal) (ix3 h r d) :=
  have e := spot_whole r.val d.val 128 (index h b).2.1.2.2
  congrArg (V m c main_v52) (at_ix3 _ e.1 e.2.1 e.2.2)

theorem written6 (h : Fin 16) (b : Fin 8) (r : Fin 512) (d : Fin 192) :
    ((dats m 0 c).arrAt 6 cfg0.N : S16x4096x192.Idx → EReal) (ix3 h (row b r) d)
      = ((dats m 0 c).flushed 6 (point h b) : S1x512x192.Idx → EReal) (ix3 (0 : Fin 1) r d) :=
  have e := spot r.val d.val 192 (index h b).2.2.1
  (congrArg ((dats m 0 c).arrAt 6 cfg0.N) (at_ix3 _ e.1 e.2.1 e.2.2)).symm.trans
    (congrFun (Cert.Kernel2Ideal.Value.blocks6 m c (point h b) (flush0_6 _)) (ix3 (0 : Fin 1) r d))

theorem written7 (h : Fin 16) (b : Fin 8) (r : Fin 512) (d : Fin 128) :
    ((dats m 0 c).arrAt 7 cfg0.N : S16x4096x128.Idx → EReal) (ix3 h (row b r) d)
      = ((dats m 0 c).flushed 7 (point h b) : S1x512x128.Idx → EReal) (ix3 (0 : Fin 1) r d) :=
  have e := spot r.val d.val 128 (index h b).2.2.2
  (congrArg ((dats m 0 c).arrAt 7 cfg0.N) (at_ix3 _ e.1 e.2.1 e.2.2)).symm.trans
    (congrFun (Cert.Kernel2Ideal.Value.blocks7 m c (point h b) (flush0_7 _)) (ix3 (0 : Fin 1) r d))

variable {m c} (hQ : Real (argQ m c)) (hK : Real (argK m c)) (hV : Real (argV m c)) (hG : Real (argG m c))
include hQ hK hV hG

/-! ### What a point's windows show -/

omit hK hV hG in
theorem shown_q (h : Fin 16) (b : Fin 8) (r : Fin 4096) (d : Fin 192) : (iblk m c 0 (point h b) : S1x4096x192.Idx → EReal) (ix3 (0 : Fin 1) r d) = ((rows (argQ m c) h r d : ℝ) : EReal) :=
  (block0 m c h b r d).trans ((congrFun (at_q m c) _).trans (heads_first _ hQ _ h r d))
omit hQ hV hG in
theorem shown_k (h : Fin 16) (b : Fin 8) : Tile (iblk m c 1 (point h b) : S1x512x192.Idx → EReal) (rows (argK m c) h) b.val := fun r d =>
  (block1 m c h b r d).trans ((congrFun (at_k m c) _).trans (heads_first _ hK _ h (row b r) d))
omit hQ hK hG in
theorem shown_v (h : Fin 16) (b : Fin 8) : Tile (iblk m c 2 (point h b) : S1x512x128.Idx → EReal) (rows (argV m c) h) b.val := fun r d =>
  (block2 m c h b r d).trans ((congrFun (at_v m c) _).trans (heads_first _ hV _ h (row b r) d))
omit hV hG in
theorem shown_lse (h : Fin 16) (b : Fin 8) (r : Fin 4096) (d : Fin 1) :
    (iblk m c 3 (point h b) : S1x4096x1.Idx → EReal) (ix3 (0 : Fin 1) r d) = ((lse (rows (argQ m c) h) (rows (argK m c) h) r : ℝ) : EReal) :=
  (block3 m c h b r d).trans ((congrFun (at_lse m c) _).trans (Saved.log_sum _ _ hQ hK h r d))
theorem shown_delta (h : Fin 16) (b : Fin 8) (r : Fin 4096) (d : Fin 1) :
    (iblk m c 4 (point h b) : S1x4096x1.Idx → EReal) (ix3 (0 : Fin 1) r d) = ((delta (rows (argQ m c) h) (rows (argK m c) h) (rows (argV m c) h) (rows (argG m c) h) r : ℝ) : EReal) :=
  (block4 m c h b r d).trans (delta_value m c hQ hK hV hG h r d)
omit hQ hK hV in
theorem shown_g (h : Fin 16) (b : Fin 8) (r : Fin 4096) (d : Fin 128) : (iblk m c 5 (point h b) : S1x4096x128.Idx → EReal) (ix3 (0 : Fin 1) r d) = ((rows (argG m c) h r d : ℝ) : EReal) :=
  (block5 m c h b r d).trans ((congrFun (at_g m c) _).trans (heads_first _ hG _ h r d))

/-- After a point of a head the kept query is that head's. -/
theorem kept (h : Fin 16) : ∀ (n : ℕ) (hn : n < 8) (r : Fin 4096) (d : Fin 192),
    ((outsAt0 m c (8 * h.val + n) (show 8 * h.val + n < 128 by omega)).2.2 : S4096x192.Idx → EReal) (ix2 r d) = ((scaled (rows (argQ m c) h) r d : ℝ) : EReal)
  | 0, hn, r, d => by
    have ht : (point h ⟨0, hn⟩).val % 8 = 0 := show (8 * h.val + 0) % 8 = 0 by omega
    have key := kept_A c (grid0.coords (point h ⟨0, hn⟩)) (ms0_0 (point h ⟨0, hn⟩)) (hs0_0 (point h ⟨0, hn⟩)) (ms0_1 (point h ⟨0, hn⟩)) (hs0_1 (point h ⟨0, hn⟩)) (ms0_2 (point h ⟨0, hn⟩)) (hs0_2 (point h ⟨0, hn⟩)) (ms0_3 (point h ⟨0, hn⟩)) (hs0_3 (point h ⟨0, hn⟩)) (ms0_4 (point h ⟨0, hn⟩)) (hs0_4 (point h ⟨0, hn⟩)) (ms0_5 (point h ⟨0, hn⟩)) (hs0_5 (point h ⟨0, hn⟩)) (ms0_6 (point h ⟨0, hn⟩)) (hs0_6 (point h ⟨0, hn⟩)) (ms0_7 (point h ⟨0, hn⟩)) (hs0_7 (point h ⟨0, hn⟩)) scM0_0 (Memref.isWhole_whole _) scM0_1 (Memref.isWhole_whole _) ((hcond0_0 (point h ⟨0, hn⟩)).mpr ht) (x1 := iblk m c 1 (point h ⟨0, hn⟩)) (x2 := iblk m c 2 (point h ⟨0, hn⟩)) (x3 := iblk m c 3 (point h ⟨0, hn⟩)) (x4 := iblk m c 4 (point h ⟨0, hn⟩)) (x5 := iblk m c 5 (point h ⟨0, hn⟩)) (shown_q hQ h ⟨0, hn⟩) r d
    have e := congrArg (fun o => o.2.2) (outsAt0_A m c (point h ⟨0, hn⟩) ht)
    dsimp only at e
    exact (congrFun e (ix2 r d)).trans key
  | n + 1, hn, r, d => by
    have ht : ¬ (point h ⟨n + 1, hn⟩).val % 8 = 0 := show ¬ (8 * h.val + (n + 1)) % 8 = 0 by omega
    have e := congrArg (fun o => o.2.2) (outsAt0_B m c (point h ⟨n + 1, hn⟩) ht)
    dsimp only at e
    unfold sout0_B_0 at e
    exact (congrFun e (ix2 r d)).trans (kept h n (by omega) r d)

theorem result6 (h : Fin 16) (b : Fin 8) (r : Fin 512) (d : Fin 192) :
    ((dats m 0 c).arrAt 6 cfg0.N : S16x4096x192.Idx → EReal) (ix3 h (row b r) d) = ((gradK (rows (argQ m c) h) (rows (argK m c) h) (rows (argV m c) h) (rows (argG m c) h) (512 * b.val + r.val) d : ℝ) : EReal) := by
  have hb := coords h b
  rw [written6]
  by_cases h0 : b.val = 0
  · have ht : (point h b).val % 8 = 0 := show (8 * h.val + b.val) % 8 = 0 by omega
    rw [Cert.Kernel2Ideal.Value.flushed6_A m c (point h b) ht]
    have key := block6_A (q := rows (argQ m c) h) (k := rows (argK m c) h) (v := rows (argV m c) h) (g := rows (argG m c) h) c (grid0.coords (point h b)) (ms0_0 (point h b)) (hs0_0 (point h b)) (ms0_1 (point h b)) (hs0_1 (point h b)) (ms0_2 (point h b)) (hs0_2 (point h b)) (ms0_3 (point h b)) (hs0_3 (point h b)) (ms0_4 (point h b)) (hs0_4 (point h b)) (ms0_5 (point h b)) (hs0_5 (point h b)) (ms0_6 (point h b)) (hs0_6 (point h b)) (ms0_7 (point h b)) (hs0_7 (point h b)) scM0_0 (Memref.isWhole_whole _) scM0_1 (Memref.isWhole_whole _) ((hcond0_0 (point h b)).mpr ht) (x0 := iblk m c 0 (point h b)) (x1 := iblk m c 1 (point h b)) (x2 := iblk m c 2 (point h b)) (x3 := iblk m c 3 (point h b)) (x4 := iblk m c 4 (point h b)) (x5 := iblk m c 5 (point h b))
      (by rw [hb]; exact b.isLt) (shown_q hQ h b) (by rw [hb]; exact shown_k hK h b) (by rw [hb]; exact shown_v hV h b) (shown_lse hQ hK h b) (shown_delta hQ hK hV hG h b) (shown_g hG h b)
    rw [hb] at key
    exact key r d
  · have ht : ¬ (point h b).val % 8 = 0 := show ¬ (8 * h.val + b.val) % 8 = 0 by omega
    rw [Cert.Kernel2Ideal.Value.flushed6_B m c (point h b) ht]
    have key := block6_B (q := rows (argQ m c) h) (k := rows (argK m c) h) (v := rows (argV m c) h) (g := rows (argG m c) h) c (grid0.coords (point h b)) (ms0_0 (point h b)) (hs0_0 (point h b)) (ms0_1 (point h b)) (hs0_1 (point h b)) (ms0_2 (point h b)) (hs0_2 (point h b)) (ms0_3 (point h b)) (hs0_3 (point h b)) (ms0_4 (point h b)) (hs0_4 (point h b)) (ms0_5 (point h b)) (hs0_5 (point h b)) (ms0_6 (point h b)) (hs0_6 (point h b)) (ms0_7 (point h b)) (hs0_7 (point h b)) scM0_0 (Memref.isWhole_whole _) scM0_1 (Memref.isWhole_whole _) (fun h => ht ((hcond0_0 (point _ b)).mp h)) (x0 := iblk m c 0 (point h b)) (x1 := iblk m c 1 (point h b)) (x2 := iblk m c 2 (point h b)) (x3 := iblk m c 3 (point h b)) (x4 := iblk m c 4 (point h b)) (x5 := iblk m c 5 (point h b))
      (xs := (outsAt0 m c ((point h b).val - 1) (Nat.lt_of_le_of_lt (Nat.sub_le _ _) (point h b).isLt)).2.2)
      (by rw [hb]; exact b.isLt) (fun r d => by
        have e := kept hQ hK hV hG h (b.val - 1) (by omega) r d
        simp only [show 8 * h.val + (b.val - 1) = (point h b).val - 1 from show 8 * h.val + (b.val - 1) = 8 * h.val + b.val - 1 by omega] at e
        exact e) (by rw [hb]; exact shown_k hK h b) (by rw [hb]; exact shown_v hV h b) (shown_lse hQ hK h b) (shown_delta hQ hK hV hG h b) (shown_g hG h b)
    rw [hb] at key
    exact key r d

theorem result7 (h : Fin 16) (b : Fin 8) (r : Fin 512) (d : Fin 128) :
    ((dats m 0 c).arrAt 7 cfg0.N : S16x4096x128.Idx → EReal) (ix3 h (row b r) d) = ((gradV (rows (argQ m c) h) (rows (argK m c) h) (rows (argG m c) h) (512 * b.val + r.val) d : ℝ) : EReal) := by
  have hb := coords h b
  rw [written7]
  by_cases h0 : b.val = 0
  · have ht : (point h b).val % 8 = 0 := show (8 * h.val + b.val) % 8 = 0 by omega
    rw [Cert.Kernel2Ideal.Value.flushed7_A m c (point h b) ht]
    have key := block7_A (q := rows (argQ m c) h) (k := rows (argK m c) h) (v := rows (argV m c) h) (g := rows (argG m c) h) c (grid0.coords (point h b)) (ms0_0 (point h b)) (hs0_0 (point h b)) (ms0_1 (point h b)) (hs0_1 (point h b)) (ms0_2 (point h b)) (hs0_2 (point h b)) (ms0_3 (point h b)) (hs0_3 (point h b)) (ms0_4 (point h b)) (hs0_4 (point h b)) (ms0_5 (point h b)) (hs0_5 (point h b)) (ms0_6 (point h b)) (hs0_6 (point h b)) (ms0_7 (point h b)) (hs0_7 (point h b)) scM0_0 (Memref.isWhole_whole _) scM0_1 (Memref.isWhole_whole _) ((hcond0_0 (point h b)).mpr ht) (x0 := iblk m c 0 (point h b)) (x1 := iblk m c 1 (point h b)) (x2 := iblk m c 2 (point h b)) (x3 := iblk m c 3 (point h b)) (x4 := iblk m c 4 (point h b)) (x5 := iblk m c 5 (point h b))
      (by rw [hb]; exact b.isLt) (shown_q hQ h b) (by rw [hb]; exact shown_k hK h b) (by rw [hb]; exact shown_v hV h b) (shown_lse hQ hK h b) (shown_delta hQ hK hV hG h b) (shown_g hG h b)
    rw [hb] at key
    exact key r d
  · have ht : ¬ (point h b).val % 8 = 0 := show ¬ (8 * h.val + b.val) % 8 = 0 by omega
    rw [Cert.Kernel2Ideal.Value.flushed7_B m c (point h b) ht]
    have key := block7_B (q := rows (argQ m c) h) (k := rows (argK m c) h) (v := rows (argV m c) h) (g := rows (argG m c) h) c (grid0.coords (point h b)) (ms0_0 (point h b)) (hs0_0 (point h b)) (ms0_1 (point h b)) (hs0_1 (point h b)) (ms0_2 (point h b)) (hs0_2 (point h b)) (ms0_3 (point h b)) (hs0_3 (point h b)) (ms0_4 (point h b)) (hs0_4 (point h b)) (ms0_5 (point h b)) (hs0_5 (point h b)) (ms0_6 (point h b)) (hs0_6 (point h b)) (ms0_7 (point h b)) (hs0_7 (point h b)) scM0_0 (Memref.isWhole_whole _) scM0_1 (Memref.isWhole_whole _) (fun h => ht ((hcond0_0 (point _ b)).mp h)) (x0 := iblk m c 0 (point h b)) (x1 := iblk m c 1 (point h b)) (x2 := iblk m c 2 (point h b)) (x3 := iblk m c 3 (point h b)) (x4 := iblk m c 4 (point h b)) (x5 := iblk m c 5 (point h b))
      (xs := (outsAt0 m c ((point h b).val - 1) (Nat.lt_of_le_of_lt (Nat.sub_le _ _) (point h b).isLt)).2.2)
      (by rw [hb]; exact b.isLt) (fun r d => by
        have e := kept hQ hK hV hG h (b.val - 1) (by omega) r d
        simp only [show 8 * h.val + (b.val - 1) = (point h b).val - 1 from show 8 * h.val + (b.val - 1) = 8 * h.val + b.val - 1 by omega] at e
        exact e) (by rw [hb]; exact shown_k hK h b) (by rw [hb]; exact shown_v hV h b) (shown_lse hQ hK h b) (shown_delta hQ hK hV hG h b) (shown_g hG h b)
    rw [hb] at key
    exact key r d

omit hQ hK hV hG

/-! ### The claim -/

theorem ref_k (Q K : QK) (V G : VO) (h : Fin 16) (s : Fin 4096) (d : Fin 192) :
    Cert.Reference2Ideal.Read.val_main_v71 (F := Ideal) Q K V G (ix3 h s d) = Cert.ReferenceIdeal.Read.val_main_v67 (F := Ideal) Q K V G (ix3 s h d) := by
  rw [Cert.Reference2Ideal.Read.val_main_v71_apply, Cert.Reference2Ideal.Read.val_main_v70_apply,
    show Cert.Reference2Ideal.Read.idx_main_v70 (ix3 h s d) = ix3 s h d from (eq_ix3 _).trans rfl]
  rfl

theorem ref_v (Q K : QK) (G : VO) (h : Fin 16) (s : Fin 4096) (d : Fin 128) :
    Cert.Reference2Ideal.Read.val_main_v73 (F := Ideal) Q K G (ix3 h s d) = Cert.ReferenceIdeal.Read.val_main_v50 (F := Ideal) Q K G (ix3 s h d) := by
  rw [Cert.Reference2Ideal.Read.val_main_v73_apply, Cert.Reference2Ideal.Read.val_main_v72_apply,
    show Cert.Reference2Ideal.Read.idx_main_v72 (ix3 h s d) = ix3 s h d from (eq_ix3 _).trans rfl]
  rfl

theorem tile_row (s : Fin 4096) : row ⟨s.val / 512, by omega⟩ ⟨s.val % 512, by omega⟩ = s := Fin.ext (Nat.div_add_mod _ _)

theorem algebraic : Cert.algebraic_Kernel2Ideal_Reference2Ideal_pre_finite4 := by
  intro m g m' g' hpre hagree
  refine ⟨fun c => (dats m 0 c).arrAt 6 cfg0.N, fun c => (dats m 0 c).arrAt 7 cfg0.N, (θ_run _ _ _).mono (fun r h c => ⟨(h c).1, (h c).2.1, (h c).2.2⟩) (Cert.Kernel2Ideal.Value.run_blocks m g),
    (θ_run _ _ _).mono (fun r h c => ?_) (Cert.Reference2Ideal.Value.run m' g')⟩
  have hp := hpre c
  have hQ : Real (argQ m c) := reals _ _ _ hp.1
  have hK : Real (argK m c) := reals _ _ _ hp.2.1
  have hV : Real (argV m c) := reals _ _ _ hp.2.2.1
  have hG : Real (argG m c) := reals _ _ _ hp.2.2.2
  obtain ⟨e0, e1, e2, e3⟩ := hagree c
  refine ⟨(h c).1.trans ?_, (h c).2.1.trans ?_, (h c).2.2⟩
  · refine (Cert.Reference2Ideal.Read.val_main_v71_eq m' c).trans ?_
    rw [e0, e1, e2, e3]
    funext i
    obtain ⟨h, s, d, rfl⟩ : ∃ (h : Fin 16) (s : Fin 4096) (d : Fin 192), i = ix3 h s d := ⟨i 0, i 1, i 2, eq_ix3 i⟩
    have hs := result6 hQ hK hV hG h ⟨s.val / 512, by omega⟩ ⟨s.val % 512, by omega⟩ d
    rw [tile_row, Nat.div_add_mod] at hs
    exact (ref_k _ _ _ _ h s d).trans ((grad_k _ _ _ _ hQ hK hV hG h s d).trans hs.symm)
  · refine (Cert.Reference2Ideal.Read.val_main_v73_eq m' c).trans ?_
    rw [e0, e1, e3]
    funext i
    obtain ⟨h, s, d, rfl⟩ : ∃ (h : Fin 16) (s : Fin 4096) (d : Fin 128), i = ix3 h s d := ⟨i 0, i 1, i 2, eq_ix3 i⟩
    have hs := result7 hQ hK hV hG h ⟨s.val / 512, by omega⟩ ⟨s.val % 512, by omega⟩ d
    rw [tile_row, Nat.div_add_mod] at hs
    exact (ref_v _ _ _ h s d).trans ((grad_v _ _ _ hQ hK hG h s d).trans hs.symm)

end Cert.DkvValue

end
-- ==== Proof.Online.lean ====
/-
  A softmax read tile by tile: a row's largest score so far, and sums of its weights divided by two to that score.
-/
module

public import proofs.«01_k».proof.Proof.Spec
public import proofs.«01_k».proof.Proof.Exact

@[expose] public section

noncomputable section

namespace Cert.Online

open Idealize.ShloMosaic Cert.Exact Cert.Attn

/-- `x` is the sum `s` divided by two to the power `M`; before the first tile `M` is `⊥` and the sum is empty. -/
def Scaled (M x : EReal) (s : ℝ) : Prop := (M = ⊥ ∧ x = 0 ∧ s = 0) ∨ ∃ m : ℝ, M = (m : EReal) ∧ x = (((2 : ℝ) ^ (-m) * s : ℝ) : EReal)

theorem Scaled.top {M x : EReal} {s : ℝ} (h : Scaled M x s) : M = ⊥ ∨ ∃ m : ℝ, M = (m : EReal) := by
  rcases h with ⟨h, -, -⟩ | ⟨m, h, -⟩
  · exact .inl h
  · exact .inr ⟨m, h⟩

theorem Scaled.at_real {M x : EReal} {s : ℝ} (h : Scaled M x s) {m : ℝ} (hm : M = (m : EReal)) : x = (((2 : ℝ) ^ (-m) * s : ℝ) : EReal) := by
  rcases h with ⟨h, -, -⟩ | ⟨m', h, hx⟩
  · exact absurd (hm.symm.trans h) (EReal.coe_ne_bot m)
  · rw [hx, EReal.coe_eq_coe_iff.1 (h.symm.trans hm)]

/-- A sum divided by two to the old power is brought to the new one. -/
theorem Scaled.rescale {M x : EReal} {s : ℝ} (h : Scaled M x s) (m : ℝ) :
    Ideal.exp2 (M - (m : EReal)) * x = (((2 : ℝ) ^ (-m) * s : ℝ) : EReal) := by
  rcases h with ⟨rfl, rfl, rfl⟩ | ⟨m', rfl, rfl⟩
  · simp
  · rw [← EReal.coe_sub, Ideal.exp2_coe, Real.rpow_eq_pow, ← EReal.coe_mul, ← mul_assoc, ← Real.rpow_add (by norm_num)]
    congr 3; ring

/-- The new largest score is real when a score of the tile is. -/
theorem next_max {M : EReal} (hM : M = ⊥ ∨ ∃ m : ℝ, M = (m : EReal)) (x : Fin 512 → EReal)
    (hx : ∀ c, x c = ⊥ ∨ ∃ r : ℝ, x c = (r : EReal)) {i : Fin 512} (hi : ∃ r : ℝ, x i = (r : EReal)) :
    ∃ m : ℝ, max M ((Finset.univ : Finset (Fin 512)).fold max ⊥ x) = (m : EReal) := by
  obtain ⟨f, hf⟩ := fold_max_real Finset.univ x (fun c _ => hx c) (Finset.mem_univ i) hi
  rw [hf]
  rcases hM with rfl | ⟨m, rfl⟩
  · exact ⟨f, max_eq_right bot_le⟩
  · rcases le_total m f with h | h
    · exact ⟨f, max_eq_right (EReal.coe_le_coe_iff.2 h)⟩
    · exact ⟨m, max_eq_left (EReal.coe_le_coe_iff.2 h)⟩

variable {q k v : ℕ → ℕ → ℝ} {r j : ℕ} {x : Fin 512 → EReal}

/-- The scores of row `r` against tile `j`, of base 2, with `⊥` for a masked key. -/
def Scores (q k : ℕ → ℕ → ℝ) (r j : ℕ) (x : Fin 512 → EReal) : Prop :=
  ∀ c : Fin 512, x c = if (512 * j + c.val) / 64 ≤ r / 64 then ((score q k r (512 * j + c) / Real.log 2 : ℝ) : EReal) else ⊥

theorem Scores.real_or_bot (h : Scores q k r j x) (c : Fin 512) : x c = ⊥ ∨ ∃ s : ℝ, x c = (s : EReal) := by
  rw [h c]; split
  · exact .inr ⟨_, rfl⟩
  · exact .inl rfl

theorem Scores.weight (h : Scores q k r j x) (m : ℝ) (c : Fin 512) :
    Ideal.exp2 (x c - (m : EReal)) = (((2 : ℝ) ^ (-m) * wt q k r (512 * j + c) : ℝ) : EReal) := by
  rw [h c]; unfold wt; split
  · rw [← EReal.coe_sub, Ideal.exp2_coe, Real.rpow_eq_pow, sub_eq_neg_add, Real.rpow_add (by norm_num)]
    rw [show (2 : ℝ) ^ (score q k r (512 * j + c) / Real.log 2) = Real.exp (score q k r (512 * j + c)) by
      rw [Real.rpow_def_of_pos (by norm_num), mul_div_cancel₀ _ log_two_pos.ne']]
  · simp

/-- A tile's weights, each times `w`, added to a carried sum of such terms. -/
theorem Scores.add (h : Scores q k r j x) {M y : EReal} {w : ℕ → ℝ} {u : Fin 512 → EReal} (hu : ∀ c, u c = ((w (512 * j + c) : ℝ) : EReal))
    (hy : Scaled M y (∑ c ∈ Finset.range (512 * j), wt q k r c * w c)) {m : ℝ} {M' : EReal} (hm : M' = (m : EReal)) :
    Scaled M' (Ideal.exp2 (M - M') * y + ∑ c : Fin 512, Ideal.exp2 (x c - M') * u c)
      (∑ c ∈ Finset.range (512 * (j + 1)), wt q k r c * w c) := by
  subst hm
  refine .inr ⟨m, rfl, ?_⟩
  rw [hy.rescale, sum_fin_eq _ (fun c => (2 : ℝ) ^ (-m) * (wt q k r (512 * j + c) * w (512 * j + c))) fun c => by
    rw [h.weight, hu, ← EReal.coe_mul, mul_assoc], ← EReal.coe_add, ← Finset.mul_sum, ← mul_add, ← sum_tile]

theorem Scores.add_one (h : Scores q k r j x) {M y : EReal}
    (hy : Scaled M y (∑ c ∈ Finset.range (512 * j), wt q k r c)) {m : ℝ} {M' : EReal} (hm : M' = (m : EReal)) :
    Scaled M' (Ideal.exp2 (M - M') * y + ∑ c : Fin 512, Ideal.exp2 (x c - M'))
      (∑ c ∈ Finset.range (512 * (j + 1)), wt q k r c) := by
  have := h.add (w := fun _ => 1) (u := fun _ => 1) (fun _ => EReal.coe_one.symm) (M := M) (y := y) (by simpa using hy) hm
  simpa using this

/-- After the last tile a row's output is the quotient of the two sums. -/
theorem quotient (hr : r < 4096) {d : ℕ} {m : ℝ} {y z : EReal} (hy : y = (((2 : ℝ) ^ (-m) * ∑ c ∈ Finset.range 4096, wt q k r c * v c d : ℝ) : EReal))
    (hz : z = (((2 : ℝ) ^ (-m) * den q k r : ℝ) : EReal)) : Ideal.div y z = ((att q k v r d : ℝ) : EReal) := by
  have hd := (den_pos q k hr).ne'
  have h2 : ((2 : ℝ) ^ (-m)) ≠ 0 := (Real.rpow_pos_of_pos (by norm_num) _).ne'
  rw [hy, hz, div_coe' (mul_ne_zero h2 hd), mul_div_mul_left _ _ h2, Finset.sum_div]
  unfold att prob
  congr 1
  exact Finset.sum_congr rfl fun c _ => by ring

/-- … and the logarithm of its sum of weights, of base 2. -/
theorem logarithm (hr : r < 4096) {m : ℝ} {z : EReal} (hz : z = (((2 : ℝ) ^ (-m) * den q k r : ℝ) : EReal)) :
    (m : EReal) + Ideal.log z * (((Real.log 2)⁻¹ : ℝ) : EReal) = ((lse q k r : ℝ) : EReal) := by
  have h2 : (0 : ℝ) < 2 ^ (-m) := Real.rpow_pos_of_pos (by norm_num) _
  rw [hz, log_coe' (mul_pos h2 (den_pos q k hr)), ← EReal.coe_mul, ← EReal.coe_add, Real.log_mul h2.ne' (den_pos q k hr).ne', Real.log_rpow (by norm_num)]
  congr 1
  unfold lse
  have := log_two_pos.ne'
  field_simp
  ring

end Cert.Online

end
-- ==== Proof.Fwd.lean ====
/-
  The forward call on one tile of 512 query rows: the loop over the key tiles before the diagonal, the masked diagonal
  tile, and the output and logarithm they leave.
-/
module

public import proofs.«01_k».proof.Proof.Gen.Kernel3Ideal.Value
public import Idealize.ShloMosaic.Lib.Pipeline.ValueKit
public import proofs.«01_k».proof.Proof.Online
public import proofs.«01_k».proof.Proof.Words
public import proofs.«01_k».proof.Proof.Blocks

@[expose] public section

noncomputable section

namespace Cert.Fwd

open Idealize.ShloMosaic Idealize.ShloMosaic.View Idealize.ShloMosaic.Pipeline Cert.Kernel3Ideal Cert.Kernel3Ideal.Gen Cert.Exact Cert.Attn Cert.Online Cert.Blocks

theorem scale_log2e : Named.named (F := Ideal) (φ := .f32) κ "scale_log2e" 0x3DD53B95#32 = ((sigma * (Real.log 2)⁻¹ : ℝ) : EReal) :=
  IdealRules.named_const.ideal_named_scalar _ _ _ _ rfl

theorem log2e : Named.named (F := Ideal) (φ := .f32) κ "log2e" 0x3FB8AA3B#32 = (((Real.log 2)⁻¹ : ℝ) : EReal) :=
  IdealRules.named_const.ideal_named_scalar _ _ _ _ rfl

variable {q k v : ℕ → ℕ → ℝ} {b : ℕ} {x0 : Vec Ideal S1x512x192 .bf16}

theorem product (h0 : Tile x0 q b) {j : ℕ} {kt : Vec Ideal S1x512x192 .bf16} (hk : Tile kt k j) (r c : Fin 512) :
    k0_pay11 (F := Ideal) x0 kt (ix2 r c) = ((score q k (512 * b + r) (512 * j + c) / Real.log 2 : ℝ) : EReal) := by
  have e : k0_pay11 (F := Ideal) x0 kt (ix2 r c)
      = ∑ d : Fin 192, x0 (ix3 0 r d) * Named.named (F := Ideal) (φ := .f32) κ "scale_log2e" 0x3DD53B95#32 * kt (ix3 0 c d) := by
    pointwise [k0_pay11, k0_pay7]
  rw [e, sum_fin_eq _ (fun d => q (512 * b + r) d * (sigma * (Real.log 2)⁻¹) * k (512 * j + c) d) fun d => by
    rw [h0, hk, scale_log2e, ← EReal.coe_mul, ← EReal.coe_mul], sum_scaled]
  rfl

/-- What the loop carries for tile `b` before key tile `j`: each row's largest score, and its two sums. -/
def Carried (q k v : ℕ → ℕ → ℝ) (b j : ℕ) (s : FVec Ideal S512x1 .f32 × FVec Ideal S512x1 .f32 × FVec Ideal S512x128 .f32) : Prop :=
  ∀ r : Fin 512, Scaled (s.1 (ix2 r 0)) (s.2.1 (ix2 r 0)) (∑ c ∈ Finset.range (512 * j), wt q k (512 * b + r) c)
    ∧ ∀ d : Fin 128, Scaled (s.1 (ix2 r 0)) (s.2.2 (ix2 r d)) (∑ c ∈ Finset.range (512 * j), wt q k (512 * b + r) c * v c d)

theorem start : Carried q k v b 0 (k0_pay8 (F := Ideal), k0_pay9 (F := Ideal), k0_pay10 (F := Ideal)) := by
  have e8 : ∀ r : Fin 512, k0_pay8 (F := Ideal) (ix2 r 0) = ⊥ := fun r => by
    have e : k0_pay8 (F := Ideal) (ix2 r 0) = FloatOps.ofBits (F := Ideal) .f32 0xFF800000#32 := by pointwise [k0_pay8]
    rw [e]; simp [Ideal.ofBits, Ideal.ieee]
  have e9 : ∀ r : Fin 512, k0_pay9 (F := Ideal) (ix2 r 0) = 0 := fun r => by pointwise [k0_pay9]
  have e10 : ∀ (r : Fin 512) (d : Fin 128), k0_pay10 (F := Ideal) (ix2 r d) = 0 := fun r d => by pointwise [k0_pay10]
  exact fun r => ⟨.inl ⟨e8 r, e9 r, by simp⟩, fun d => .inl ⟨e8 r, e10 r d, by simp⟩⟩

/-- The largest of a row of a tile. -/
theorem row_max (x : FVec Ideal S512x512 .f32) (r : Fin 512) :
    multiReduction .maximumf [1] S512 x 0xFF800000#32 reduces_S512x512_S512 (.inl rfl) rfl (ix1 r)
      = (Finset.univ : Finset (Fin 512)).fold max ⊥ fun c => x (ix2 r c) := by
  refine (Ideal.multiReduction_maximumf_single x _ _ _ _ _).trans ?_
  rw [show (FloatOps.ofBits (F := Ideal) .f32 0xFF800000#32) = (⊥ : EReal) by simp [Ideal.ofBits, Ideal.ieee]]
  exact congrArg (fun f => Finset.fold max ⊥ f Finset.univ) (funext fun c => congrArg x ((eq_ix2 _).trans rfl))

/-- The new largest score, from a carried one and a tile's scores. -/
theorem new_max (M : FVec Ideal S512x1 .f32) (x : FVec Ideal S512x512 .f32) (r : Fin 512) :
    k0_pay1 (F := Ideal) M x (ix2 r 0) = max (M (ix2 r 0)) ((Finset.univ : Finset (Fin 512)).fold max ⊥ fun c => x (ix2 r c)) := by
  rw [← row_max]
  have e : k0_pay1 (F := Ideal) M x (ix2 r 0) = max (M (ix2 r 0)) (multiReduction .maximumf [1] S512 x 0xFF800000#32 reduces_S512x512_S512 (.inl rfl) rfl (ix1 r)) := by
    pointwise [k0_pay1]
  exact e

/-- One trip of the loop. -/
theorem trip (hb : b < 8) (h0 : Tile x0 q b) {j : ℕ} (hj : j < b) {kt : Vec Ideal S1x512x192 .bf16} {vt : Vec Ideal S1x512x128 .bf16}
    (hk : Tile kt k j) (hv : Tile vt v j) {M L : FVec Ideal S512x1 .f32} {A : FVec Ideal S512x128 .f32} (h : Carried q k v b j (M, L, A)) :
    Carried q k v b (j + 1) (k0_pay12 (F := Ideal) x0 M kt, k0_pay15 (F := Ideal) x0 M L kt, k0_pay16 (F := Ideal) x0 M A kt vt) := fun r => by
  have hs : Scores q k (512 * b + r) j (fun c => k0_pay11 (F := Ideal) x0 kt (ix2 r c)) := fun c => by
    rw [if_pos (by omega)]; exact product h0 hk r c
  have e12 : k0_pay12 (F := Ideal) x0 M kt (ix2 r 0) = max (M (ix2 r 0)) ((Finset.univ : Finset (Fin 512)).fold max ⊥ fun c => k0_pay11 (F := Ideal) x0 kt (ix2 r c)) :=
    new_max M (k0_pay11 (F := Ideal) x0 kt) r
  obtain ⟨m, hm⟩ := next_max (h r).1.top _ hs.real_or_bot (i := r) ⟨_, product h0 hk r r⟩
  have hm' : k0_pay12 (F := Ideal) x0 M kt (ix2 r 0) = (m : EReal) := e12.trans hm
  have e15 : k0_pay15 (F := Ideal) x0 M L kt (ix2 r 0) = FloatOps.exp2 (F := Ideal) (φ := .f32) (M (ix2 r 0) - k0_pay12 (F := Ideal) x0 M kt (ix2 r 0)) * L (ix2 r 0)
      + ∑ c : Fin 512, FloatOps.exp2 (F := Ideal) (φ := .f32) (k0_pay11 (F := Ideal) x0 kt (ix2 r c) - k0_pay12 (F := Ideal) x0 M kt (ix2 r 0)) := by
    pointwise [k0_pay15, k0_pay14, k0_pay13]
  have e16 : ∀ d : Fin 128, k0_pay16 (F := Ideal) x0 M A kt vt (ix2 r d) = FloatOps.exp2 (F := Ideal) (φ := .f32) (M (ix2 r 0) - k0_pay12 (F := Ideal) x0 M kt (ix2 r 0)) * A (ix2 r d)
      + ∑ c : Fin 512, FloatOps.exp2 (F := Ideal) (φ := .f32) (k0_pay11 (F := Ideal) x0 kt (ix2 r c) - k0_pay12 (F := Ideal) x0 M kt (ix2 r 0)) * vt (ix3 0 c d) := fun d => by
    pointwise [k0_pay16, k0_pay14, k0_pay13]
  refine ⟨?_, fun d => ?_⟩
  · dsimp only
    rw [e15]
    exact hs.add_one (h r).1 hm'
  · dsimp only
    rw [e16]
    exact hs.add (w := fun c => v c d) (fun c => hv c d) ((h r).2 d) hm'

/-- The diagonal tile's masked scores. -/
theorem masked (hb : b < 8) (h0 : Tile x0 q b) {kt : Vec Ideal S1x512x192 .bf16} (hk : Tile kt k b) (i : grid0.Coords) (hi : (i 1).val = b) (r : Fin 512) :
    Scores q k (512 * b + r) b (fun c => k0_pay29 (F := Ideal) (k0_pay24 x0 kt) (Scalar.muli (BitVec.ofNat 32 (i 1).val) 512#32)
      (k0_pay25 i) 64#32 (k0_pay26 i) (k0_pay27 i) k0_pay28 (ix2 r c)) := fun c => by
  subst hi
  have e : k0_pay29 (F := Ideal) (k0_pay24 x0 kt) (Scalar.muli (BitVec.ofNat 32 (i 1).val) 512#32)
      (k0_pay25 i) 64#32 (k0_pay26 i) (k0_pay27 i) k0_pay28 (ix2 r c)
      = Scalar.select (IntOp.cmpi .sle (Words.chunk (IntOp.addi (Scalar.muli (BitVec.ofNat 32 (i 1).val) 512#32) (BitVec.ofNat 32 c)))
            (Words.chunk (IntOp.addi (Scalar.muli (BitVec.ofNat 32 (i 1).val) 512#32) (BitVec.ofNat 32 r))))
          (k0_pay11 (F := Ideal) x0 kt (ix2 r c)) (FloatOps.ofBits (F := Ideal) .f32 0xFF800000#32) := by
    pointwise [k0_pay29, k0_pay25, k0_pay26, k0_pay27, k0_pay28]
    rfl
  dsimp only
  rw [e, Words.row_word, Words.row_word, Words.mask_bit (by omega) (by omega), Words.select_bit, product h0 hk,
    show (FloatOps.ofBits (F := Ideal) .f32 0xFF800000#32) = (⊥ : EReal) by simp [Ideal.ofBits, Ideal.ieee]]

/-- After the diagonal tile: the output and the logarithm. -/
theorem last (hb : b < 8) {x : FVec Ideal S512x512 .f32} (hx : ∀ r : Fin 512, Scores q k (512 * b + r) b fun c => x (ix2 r c))
    {vt : Vec Ideal S1x512x128 .bf16} (hv : Tile vt v b) {M L : FVec Ideal S512x1 .f32} {A : FVec Ideal S512x128 .f32} (h : Carried q k v b b (M, L, A)) :
    Tile (k0_pay5 (F := Ideal) M L A (k0_pay23 vt) x) (att q k v) b ∧ Tile (k0_pay6 (F := Ideal) M L x) (fun r _ => lse q k r) b := by
  have key : ∀ r : Fin 512, ∃ m : ℝ, k0_pay1 (F := Ideal) M x (ix2 r 0) = (m : EReal)
      ∧ k0_pay4 (F := Ideal) M L x (ix2 r 0) = (((2 : ℝ) ^ (-m) * den q k (512 * b + r) : ℝ) : EReal) := fun r => by
    obtain ⟨m, hm⟩ := next_max (h r).1.top _ (hx r).real_or_bot (i := r) ⟨_, (hx r r).trans (if_pos le_rfl)⟩
    have hm' := (new_max M x r).trans hm
    have e4 : k0_pay4 (F := Ideal) M L x (ix2 r 0) = FloatOps.exp2 (F := Ideal) (φ := .f32) (M (ix2 r 0) - k0_pay1 (F := Ideal) M x (ix2 r 0)) * L (ix2 r 0)
        + ∑ c : Fin 512, FloatOps.exp2 (F := Ideal) (φ := .f32) (x (ix2 r c) - k0_pay1 (F := Ideal) M x (ix2 r 0)) := by
      pointwise [k0_pay4, k0_pay3, k0_pay2]
    have hz := (hx r).add_one (h r).1 hm'
    rw [sum_upto _ hb fun c hc => wt_masked q k (by omega)] at hz
    exact ⟨m, hm', e4.trans (hz.at_real hm')⟩
  refine ⟨fun r d => ?_, fun r d => ?_⟩
  · obtain ⟨m, hm, hz⟩ := key r
    have e : k0_pay5 (F := Ideal) M L A (k0_pay23 vt) x (ix3 0 r d) = FloatOps.divf (F := Ideal) (φ := .f32)
        (FloatOps.exp2 (F := Ideal) (φ := .f32) (M (ix2 r 0) - k0_pay1 (F := Ideal) M x (ix2 r 0)) * A (ix2 r d)
          + ∑ c : Fin 512, FloatOps.exp2 (F := Ideal) (φ := .f32) (x (ix2 r c) - k0_pay1 (F := Ideal) M x (ix2 r 0)) * vt (ix3 0 c d))
        (k0_pay4 (F := Ideal) M L x (ix2 r 0)) := by
      pointwise [k0_pay5, k0_pay3, k0_pay2, k0_pay23]
    have hy := (hx r).add (w := fun c => v c d) (fun c => hv c d) ((h r).2 d) hm
    rw [sum_upto _ hb fun c hc => by rw [wt_masked q k (by omega), zero_mul]] at hy
    rw [e]
    exact quotient (by omega) (hy.at_real hm) hz
  · obtain ⟨m, hm, hz⟩ := key r
    obtain rfl : d = 0 := Subsingleton.elim _ _
    have e : k0_pay6 (F := Ideal) M L x (ix3 0 r 0) = k0_pay1 (F := Ideal) M x (ix2 r 0)
        + FloatOps.log (F := Ideal) (φ := .f32) (k0_pay4 (F := Ideal) M L x (ix2 r 0)) * Named.named (F := Ideal) (φ := .f32) κ "log2e" 0x3FB8AA3B#32 := by
      pointwise [k0_pay6]
    rw [e, hm, log2e]
    exact logarithm (by omega) hz

/-! ### The loop -/

section Loop

variable (c : Dev nD) (i : grid0.Coords) (arg2 : Memref sig .tc .vmem S1x512x192 .bf16) (harg2 : arg2.IsWhole) (arg3 : Memref sig .tc .vmem S1x4096x192 .bf16) (harg3 : arg3.IsWhole) (arg4 : Memref sig .tc .vmem S1x4096x128 .bf16) (harg4 : arg4.IsWhole) (arg5 : Memref sig .tc .vmem S1x512x128 .bf16) (harg5 : arg5.IsWhole) (arg6 : Memref sig .tc .vmem S1x512x1 .f32) (harg6 : arg6.IsWhole) (arg7 : Memref sig .tc .vmem S4096x192 .bf16) (harg7 : arg7.IsWhole) (arg8 : Memref sig .tc .vmem S4096x128 .bf16) (harg8 : arg8.IsWhole)

theorem trips_tiles : ∀ n : Fin 8, Scf.trips (0#32)
    (Scalar.addi (0#32) (Scalar.muli (Scalar.divsi (Scalar.subi (BitVec.ofNat 32 n) 0#32) 1#32) 1#32)) 1#32 = n.val := by
  decide +kernel

theorem trips_rest : ∀ n : Fin 8, Scf.trips
    (Scalar.addi (0#32) (Scalar.muli (Scalar.divsi (Scalar.subi (BitVec.ofNat 32 n) 0#32) 1#32) 1#32))
    (Scalar.addi (0#32) (Scalar.subi (BitVec.ofNat 32 n) 0#32)) 1#32 = 0 := by
  decide +kernel

theorem trip_row : ∀ n : Fin 8, BitVec.toNat (Scalar.indexCast (Scalar.muli (Scf.iv 0#32 1#32 n.val) 512#32)) = 512 * n.val := by
  decide +kernel

theorem loop_value (hb : (i 1).val < 8) {x1 : Vec Ideal S1x4096x192 .bf16} {x2 : Vec Ideal S1x4096x128 .bf16} (h0 : Tile x0 q (i 1).val)
    (h1 : ∀ (r : Fin 4096) (d : Fin 192), x1 (ix3 (0 : Fin 1) r d) = ((k r d : ℝ) : EReal))
    (h2 : ∀ (r : Fin 4096) (d : Fin 128), x2 (ix3 (0 : Fin 1) r d) = ((v r d : ℝ) : EReal)) (j : ℕ) (hj : j ≤ (i 1).val) :
    Carried q k v (i 1).val j (st_k0_t1 (F := Ideal) Variants.none c none i arg2 harg2 arg3 harg3 arg4 harg4 arg5 harg5 arg6 harg6 arg7 harg7 arg8 harg8
      x0 (harg3.unread x1) (harg4.unread x2) (k0_pay8, k0_pay9, k0_pay10) j) := by
  induction j with
  | zero => exact start
  | succ j ih =>
    have ht : j < (k0_t1_loop i).trips := by
      rw [show (k0_t1_loop i).trips = (i 1).val from trips_tiles ⟨_, hb⟩]; omega
    rw [st_k0_t1_succ Variants.none c none i arg2 harg2 arg3 harg3 arg4 harg4 arg5 harg5 arg6 harg6 arg7 harg7 arg8 harg8
      x0 (harg3.unread x1) (harg4.unread x2) (k0_pay8, k0_pay9, k0_pay10) ⟨j, ht⟩, tripR_k0_t1]
    unfold trip_k0_t1
    dsimp only
    sl_unfold_words
    simp only [View.readAt_eq_ld, harg3.read_unread, harg4.read_unread]
    refine trip hb h0 (by omega) (tile_of_load x1 k h1 _ ?_ _) (tile_of_load x2 v h2 _ ?_ _) (ih (by omega))
    · exact congrArg (fun n => ![0, n, 0]) (trip_row ⟨j, by omega⟩)
    · exact congrArg (fun n => ![0, n, 0]) (trip_row ⟨j, by omega⟩)

/-- What the call leaves in its results' blocks. -/
theorem block_values (hb : (i 1).val < 8) {x1 : Vec Ideal S1x4096x192 .bf16} {x2 : Vec Ideal S1x4096x128 .bf16} (h0 : Tile x0 q (i 1).val)
    (h1 : ∀ (r : Fin 4096) (d : Fin 192), x1 (ix3 (0 : Fin 1) r d) = ((k r d : ℝ) : EReal))
    (h2 : ∀ (r : Fin 4096) (d : Fin 128), x2 (ix3 (0 : Fin 1) r d) = ((v r d : ℝ) : EReal)) :
    Tile (out0_A_3 (F := Ideal) c i arg2 harg2 arg3 harg3 arg4 harg4 arg5 harg5 arg6 harg6 arg7 harg7 arg8 harg8 x0 x1 x2) (att q k v) (i 1).val
      ∧ Tile (out0_A_4 (F := Ideal) c i arg2 harg2 arg3 harg3 arg4 harg4 arg5 harg5 arg6 harg6 arg7 harg7 arg8 harg8 x0 x1 x2) (fun r _ => lse q k r) (i 1).val := by
  have z3 : (![0, 0, 0] : Fin 3 → ℕ) = fun _ => 0 := by decide
  have ht2 := trips_rest ⟨_, hb⟩
  have ht1 := trips_tiles ⟨_, hb⟩
  dsimp only at ht1 ht2
  have key := last hb (masked hb h0 (tile_of_load x1 k h1 _ (congrArg (fun n => ![0, n, 0]) (Words.offset ⟨_, hb⟩)) (k0_off5_inb i)) i rfl)
    (tile_of_load x2 v h2 _ (congrArg (fun n => ![0, n, 0]) (Words.offset ⟨_, hb⟩)) (k0_off6_inb i))
    (loop_value c i arg2 harg2 arg3 harg3 arg4 harg4 arg5 harg5 arg6 harg6 arg7 harg7 arg8 harg8 hb h0 h1 h2 _ le_rfl)
  refine ⟨?_, ?_⟩
  · unfold out0_A_3
    rw [View.read_writes_eq_canon _ _ _ (cover0_A_3 c _ _ _ _ _ _ _ _ _ _ _ _ _ _ _ _ _ _)]
    unfold kernelRun0_A
    dsimp only
    sl_unfold_words
    simp only [View.readAt_eq_ld, harg2.read_unread, harg3.read_unread, harg4.read_unread]
    rw [canon_unit_zero z3, ht2, ht1, ld_unit_zero z3 _ x0]
    exact key.1
  · unfold out0_A_4
    rw [View.read_writes_eq_canon _ _ _ (cover0_A_4 c _ _ _ _ _ _ _ _ _ _ _ _ _ _ _ _ _ _)]
    unfold kernelRun0_A
    dsimp only
    sl_unfold_words
    simp only [View.readAt_eq_ld, harg2.read_unread, harg3.read_unread, harg4.read_unread]
    rw [canon_unit_zero z3, ht2, ht1, ld_unit_zero z3 _ x0]
    exact key.2

end Loop

end Cert.Fwd

end
-- ==== Proof.FwdValue.lean ====
/-
  The forward call over the whole array: every head's tiles, and the claim.
-/
module

public import proofs.«01_k».proof.Proof.Fwd
public import proofs.«01_k».proof.Proof.Saved
public import proofs.«01_k».proof.Proof.Blocks
public import proofs.«01_k».proof.Proof.Frames

@[expose] public section

noncomputable section

namespace Cert.FwdValue

open Idealize.ShloMosaic Idealize.ShloMosaic.TcCoe Idealize.SL.Sem Idealize.ShloMosaic.Pipeline Cert.Kernel3Ideal Cert.Kernel3Ideal.Gen Cert.Exact Cert.Attn Cert.Softmax Cert.Blocks Cert.Fwd

variable (m : (ℓ : Loc nD τ sig) → Buf (Elt Ideal) ℓ) (c : Dev nD)

/-! ### The arrays the call is handed -/

abbrev argQ : QK := m ((c.tc : Thread nD τ).loc main_arg0)
abbrev argK : QK := m ((c.tc : Thread nD τ).loc main_arg1)
abbrev argV : VO := m ((c.tc : Thread nD τ).loc main_arg2)

theorem at_q : (V m c main_v0 : S16x4096x192.Idx → EReal) = transpose S16x4096x192 [1, 0, 2] (argQ m c) transposes_S4096x16x192_S16x4096x192_1_0_2 := by
  unfold V
  simp only [hostOps0, List.flatten_cons, List.flatten_nil, List.append_nil, List.cons_append, List.nil_append]
  after_results
  all_goals rfl

theorem at_k : (V m c main_v1 : S16x4096x192.Idx → EReal) = transpose S16x4096x192 [1, 0, 2] (argK m c) transposes_S4096x16x192_S16x4096x192_1_0_2 := by
  unfold V
  simp only [hostOps0, List.flatten_cons, List.flatten_nil, List.append_nil, List.cons_append, List.nil_append]
  after_results
  all_goals rfl

theorem at_v : (V m c main_v2 : S16x4096x128.Idx → EReal) = transpose S16x4096x128 [1, 0, 2] (argV m c) transposes_S4096x16x128_S16x4096x128_1_0_2 := by
  unfold V
  simp only [hostOps0, List.flatten_cons, List.flatten_nil, List.append_nil, List.cons_append, List.nil_append]
  after_results
  all_goals rfl

/-! ### The blocks of a grid point -/

/-- The point of head `h` and tile `b`. -/
def point (h : Fin 16) (b : Fin 8) : Fin cfg0.N := ⟨8 * h.val + b.val, show 8 * h.val + b.val < 128 by omega⟩

theorem coords (h : Fin 16) (b : Fin 8) : (grid0.coords (point h b) 1).val = b.val := by
  revert h b; decide +kernel

theorem index : ∀ (h : Fin 16) (b : Fin 8),
    (win0_0.index (point h b) = ![h.val, b.val, 0] ∧ win0_1.index (point h b) = ![h.val, 0, 0] ∧ win0_2.index (point h b) = ![h.val, 0, 0])
    ∧ (win0_3.index (point h b) = ![h.val, b.val, 0] ∧ win0_4.index (point h b) = ![h.val, b.val, 0]) := by decide +kernel

theorem block0 (h : Fin 16) (b : Fin 8) (r : Fin 512) (d : Fin 192) :
    (iblk m c 0 (point h b) : S1x512x192.Idx → EReal) (ix3 (0 : Fin 1) r d) = (V m c main_v0 : S16x4096x192.Idx → EReal) (ix3 h (row b r) d) :=
  have e := spot r.val d.val 192 (index h b).1.1
  congrArg (V m c main_v0) (at_ix3 _ e.1 e.2.1 e.2.2)

theorem block1 (h : Fin 16) (b : Fin 8) (r : Fin 4096) (d : Fin 192) :
    (iblk m c 1 (point h b) : S1x4096x192.Idx → EReal) (ix3 (0 : Fin 1) r d) = (V m c main_v1 : S16x4096x192.Idx → EReal) (ix3 h r d) :=
  have e := spot_whole r.val d.val 192 (index h b).1.2.1
  congrArg (V m c main_v1) (at_ix3 _ e.1 e.2.1 e.2.2)

theorem block2 (h : Fin 16) (b : Fin 8) (r : Fin 4096) (d : Fin 128) :
    (iblk m c 2 (point h b) : S1x4096x128.Idx → EReal) (ix3 (0 : Fin 1) r d) = (V m c main_v2 : S16x4096x128.Idx → EReal) (ix3 h r d) :=
  have e := spot_whole r.val d.val 128 (index h b).1.2.2
  congrArg (V m c main_v2) (at_ix3 _ e.1 e.2.1 e.2.2)

/-- What the arrays hold after the run in a tile of a head is what that point wrote. -/
theorem written3 (h : Fin 16) (b : Fin 8) (r : Fin 512) (d : Fin 128) :
    ((dats m 0 c).arrAt 3 cfg0.N : S16x4096x128.Idx → EReal) (ix3 h (row b r) d)
      = ((dats m 0 c).flushed 3 (point h b) : S1x512x128.Idx → EReal) (ix3 (0 : Fin 1) r d) :=
  have e := spot r.val d.val 128 (index h b).2.1
  (congrArg ((dats m 0 c).arrAt 3 cfg0.N) (at_ix3 _ e.1 e.2.1 e.2.2)).symm.trans
    (congrFun (Cert.Kernel3Ideal.Value.blocks3 m c (point h b) (flush0_3 _)) (ix3 (0 : Fin 1) r d))

theorem written4 (h : Fin 16) (b : Fin 8) (r : Fin 512) (d : Fin 1) :
    ((dats m 0 c).arrAt 4 cfg0.N : S16x4096x1.Idx → EReal) (ix3 h (row b r) d)
      = ((dats m 0 c).flushed 4 (point h b) : S1x512x1.Idx → EReal) (ix3 (0 : Fin 1) r d) :=
  have e := spot r.val d.val 1 (index h b).2.2
  (congrArg ((dats m 0 c).arrAt 4 cfg0.N) (at_ix3 _ e.1 e.2.1 e.2.2)).symm.trans
    (congrFun (Cert.Kernel3Ideal.Value.blocks4 m c (point h b) (flush0_4 _)) (ix3 (0 : Fin 1) r d))

/-- The call's two blocks at a point. -/
theorem blocks (hQ : Real (argQ m c)) (hK : Real (argK m c)) (hV : Real (argV m c)) (h : Fin 16) (b : Fin 8) :
    Tile (out0_A_3 (F := Ideal) c (grid0.coords (point h b)) (ms0_0 (point h b)) (hs0_0 (point h b)) (ms0_1 (point h b)) (hs0_1 (point h b)) (ms0_2 (point h b)) (hs0_2 (point h b)) (ms0_3 (point h b)) (hs0_3 (point h b))
        (ms0_4 (point h b)) (hs0_4 (point h b)) scM0_0 (Memref.isWhole_whole _) scM0_1 (Memref.isWhole_whole _) (iblk m c 0 (point h b)) (iblk m c 1 (point h b)) (iblk m c 2 (point h b))) (att (rows (argQ m c) h) (rows (argK m c) h) (rows (argV m c) h)) b.val
    ∧ Tile (out0_A_4 (F := Ideal) c (grid0.coords (point h b)) (ms0_0 (point h b)) (hs0_0 (point h b)) (ms0_1 (point h b)) (hs0_1 (point h b)) (ms0_2 (point h b)) (hs0_2 (point h b)) (ms0_3 (point h b)) (hs0_3 (point h b))
        (ms0_4 (point h b)) (hs0_4 (point h b)) scM0_0 (Memref.isWhole_whole _) scM0_1 (Memref.isWhole_whole _) (iblk m c 0 (point h b)) (iblk m c 1 (point h b)) (iblk m c 2 (point h b))) (fun r _ => lse (rows (argQ m c) h) (rows (argK m c) h) r) b.val := by
  have key := block_values (q := rows (argQ m c) h) (k := rows (argK m c) h) (v := rows (argV m c) h) c (grid0.coords (point h b))
    (ms0_0 (point h b)) (hs0_0 (point h b)) (ms0_1 (point h b)) (hs0_1 (point h b)) (ms0_2 (point h b)) (hs0_2 (point h b)) (ms0_3 (point h b)) (hs0_3 (point h b))
    (ms0_4 (point h b)) (hs0_4 (point h b)) scM0_0 (Memref.isWhole_whole _) scM0_1 (Memref.isWhole_whole _)
    (x0 := iblk m c 0 (point h b)) (x1 := iblk m c 1 (point h b)) (x2 := iblk m c 2 (point h b))
    (by rw [coords]; exact b.isLt)
    (fun r d => by rw [coords]; exact (block0 m c h b r d).trans ((congrFun (at_q m c) _).trans (heads_first _ hQ _ h (row b r) d)))
    (fun r d => (block1 m c h b r d).trans ((congrFun (at_k m c) _).trans (heads_first _ hK _ h r d)))
    (fun r d => (block2 m c h b r d).trans ((congrFun (at_v m c) _).trans (heads_first _ hV _ h r d)))
  rw [coords] at key
  exact key

theorem result3 (hQ : Real (argQ m c)) (hK : Real (argK m c)) (hV : Real (argV m c)) (h : Fin 16) (b : Fin 8) (r : Fin 512) (d : Fin 128) :
    ((dats m 0 c).arrAt 3 cfg0.N : S16x4096x128.Idx → EReal) (ix3 h (row b r) d)
      = ((att (rows (argQ m c) h) (rows (argK m c) h) (rows (argV m c) h) (512 * b.val + r.val) d : ℝ) : EReal) := by
  rw [written3, Cert.Kernel3Ideal.Value.flushed3_A]
  exact (blocks m c hQ hK hV h b).1 r d

theorem result4 (hQ : Real (argQ m c)) (hK : Real (argK m c)) (hV : Real (argV m c)) (h : Fin 16) (b : Fin 8) (r : Fin 512) (d : Fin 1) :
    ((dats m 0 c).arrAt 4 cfg0.N : S16x4096x1.Idx → EReal) (ix3 h (row b r) d)
      = ((lse (rows (argQ m c) h) (rows (argK m c) h) (512 * b.val + r.val) : ℝ) : EReal) := by
  rw [written4, Cert.Kernel3Ideal.Value.flushed4_A]
  exact (blocks m c hQ hK hV h b).2 r d

theorem tile_row (s : Fin 4096) : row ⟨s.val / 512, by omega⟩ ⟨s.val % 512, by omega⟩ = s := Fin.ext (Nat.div_add_mod _ _)

/-! ### The claim -/

theorem algebraic : Cert.algebraic_Kernel3Ideal_Reference3Ideal_pre_finite3 := by
  intro m g m' g' hpre hagree
  refine ⟨fun c => (dats m 0 c).arrAt 3 cfg0.N, fun c => (dats m 0 c).arrAt 4 cfg0.N, (θ_run _ _ _).mono (fun r h c => ⟨(h c).1, (h c).2.1, (h c).2.2⟩) (Cert.Kernel3Ideal.Value.run_blocks m g),
    (θ_run _ _ _).mono (fun r h c => ?_) (Cert.Reference3Ideal.Value.run m' g')⟩
  have hp := hpre c
  have hQ : Real (argQ m c) := reals _ _ _ hp.1
  have hK : Real (argK m c) := reals _ _ _ hp.2.1
  have hV : Real (argV m c) := reals _ _ _ hp.2.2
  obtain ⟨e0, e1, e2⟩ := hagree c
  refine ⟨(h c).1.trans ?_, (h c).2.1.trans ?_, (h c).2.2⟩
  · refine (Cert.Reference3Ideal.Read.val_main_v41_eq m' c).trans ?_
    rw [e0, e1, e2]
    funext i
    obtain ⟨h, s, d, rfl⟩ : ∃ (h : Fin 16) (s : Fin 4096) (d : Fin 128), i = ix3 h s d := ⟨i 0, i 1, i 2, eq_ix3 i⟩
    have hs := result3 m c hQ hK hV h ⟨s.val / 512, by omega⟩ ⟨s.val % 512, by omega⟩ d
    rw [tile_row, Nat.div_add_mod] at hs
    exact (Saved.out _ _ _ hQ hK hV h s d).trans hs.symm
  · refine (Cert.Reference3Ideal.Read.val_main_v42_eq m' c).trans ?_
    rw [e0, e1]
    funext i
    obtain ⟨h, s, d, rfl⟩ : ∃ (h : Fin 16) (s : Fin 4096) (d : Fin 1), i = ix3 h s d := ⟨i 0, i 1, i 2, eq_ix3 i⟩
    have hs := result4 m c hQ hK hV h ⟨s.val / 512, by omega⟩ ⟨s.val % 512, by omega⟩ d
    rw [tile_row, Nat.div_add_mod] at hs
    exact (Saved.log_sum _ _ hQ hK h s d).trans hs.symm

end Cert.FwdValue

end
-- ==== Proof.Product.lean ====
/-
  Products of matrices read by row and column numbers: a matrix as a function of two numbers, the place of a tile's element
  in its matrix, and a sum over the contracted axis taken tile by tile. Sums of extended reals may be regrouped, so
  nothing here asks the entries to be finite.
-/
module

public import Idealize.ShloMosaic.Lib.ValueIdx
public import Idealize.ShloMosaic.Lib.Pointwise
public import Idealize.ShloMosaic.Lib.Pipeline.ValueKit

@[expose] public section

noncomputable section

namespace Cert.Product

open Idealize.ShloMosaic

/-- A matrix as a function of row and column, `0` outside. -/
def cell {A B : ℕ} (x : (⟨2, ![A, B]⟩ : Shape).Idx → EReal) (a b : ℕ) : EReal :=
  if ha : a < A then if hb : b < B then x (ix2 ⟨a, ha⟩ ⟨b, hb⟩) else 0 else 0

theorem at_cell {A B a b : ℕ} (x : (⟨2, ![A, B]⟩ : Shape).Idx → EReal) (i : (⟨2, ![A, B]⟩ : Shape).Idx)
    (h0 : (i 0).val = a) (h1 : (i 1).val = b) : x i = cell x a b := by
  subst h0 h1
  rw [cell, dif_pos (show (i 0).val < A from (i 0).isLt), dif_pos (show (i 1).val < B from (i 1).isLt)]
  exact congrArg x (eq_ix2 i)

/-- Where element `(r, s)` of tile `(a, b)` sits. -/
theorem spot (T U r s : ℕ) {a b : ℕ} {i : Fin 2 → ℕ} (hi : i = ![a, b]) :
    i 0 * T + 1 * r = a * T + r ∧ i 1 * U + 1 * s = b * U + s := by
  subst hi; constructor <;> simp

/-- … and in three dimensions. -/
theorem spot3 (S T U p r s : ℕ) {a b c : ℕ} {i : Fin 3 → ℕ} (hi : i = ![a, b, c]) :
    i 0 * S + 1 * p = a * S + p ∧ i 1 * T + 1 * r = b * T + r ∧ i 2 * U + 1 * s = c * U + s := by
  subst hi; refine ⟨?_, ?_, ?_⟩ <;> simp

/-- A matrix cut into `B` blocks of `C` columns, the blocks first. -/
theorem blocks_cell {R B C : ℕ} (w : (⟨2, ![R, B * C]⟩ : Shape).Idx → EReal) (hs : (⟨2, ![R, B * C]⟩ : Shape).ShapeCasts ⟨3, ![R, B, C]⟩)
    (ht : (⟨3, ![R, B, C]⟩ : Shape).Transposes [1, 0, 2] ⟨3, ![B, R, C]⟩) (i : (⟨3, ![B, R, C]⟩ : Shape).Idx) {a b : ℕ}
    (h0 : (i 1).val = a) (h1 : (i 0).val * C + (i 2).val = b) :
    (transpose ⟨3, ![B, R, C]⟩ [1, 0, 2] (shapeCast ⟨3, ![R, B, C]⟩ w hs) ht : (⟨3, ![B, R, C]⟩ : Shape).Idx → EReal) i = cell w a b := by
  have b0 : (i 0).val < B := (i 0).isLt
  have b1 : (i 1).val < R := (i 1).isLt
  have b2 : (i 2).val < C := (i 2).isLt
  have hb : b < B * C := by
    have := Nat.mul_le_mul_right C (show (i 0).val + 1 ≤ B by omega)
    rw [Nat.succ_mul] at this; omega
  rw [transpose_apply [1, 0, 2] _ ht i (ix3 (i 1) (i 0) (i 2)) (fun x => match x with | ⟨0, _⟩ => rfl | ⟨1, _⟩ => rfl | ⟨2, _⟩ => rfl),
    shapeCast_apply w hs _ (ix2 (⟨a, h0 ▸ b1⟩ : Fin R) (⟨b, hb⟩ : Fin (B * C)))]
  · exact at_cell w _ rfl rfl
  · rw [Shape.rowMajor_val_two, Shape.rowMajor_val_three]
    show a * (B * C) + b = ((i 1).val * B + (i 0).val) * C + (i 2).val
    rw [← h0, ← h1]; ring

/-- The row and the column of element `j` of tile `q`, the tiles being counted along rows of `nb` tiles. -/
abbrev row {T U : ℕ} (nb q : ℕ) (j : (⟨2, ![T, U]⟩ : Shape).Idx) : ℕ := q / nb * T + (j 0).val
abbrev col {T U : ℕ} (nb q : ℕ) (j : (⟨2, ![T, U]⟩ : Shape).Idx) : ℕ := q % nb * U + (j 1).val

/-- Entry `(i, j)` of the product whose left factor holds at `(i, k)` the entry `l i k`, whose right one `r k j`. -/
def prod (K : ℕ) (l r : ℕ → ℕ → EReal) (i j : ℕ) : EReal := ∑ k ∈ Finset.range K, l i k * r k j

/-- The part of that sum over the contracted axis' tile `n`. -/
def part (T n : ℕ) (l r : ℕ → ℕ → EReal) (i j : ℕ) : EReal := ∑ k ∈ Finset.range T, l i (n * T + k) * r (n * T + k) j

/-- The parts of all tiles make up the product. -/
theorem sum_parts (S T : ℕ) (l r : ℕ → ℕ → EReal) (i j : ℕ) : ∑ n ∈ Finset.range S, part T n l r i j = prod (S * T) l r i j :=
  Finset.sum_range_range_mul_add S T fun k => l i k * r k j

/-- What a value `f`, reset at the first point of every run of `J` points and added to at every point, holds at a run's last
point when each point adds its tile's part: the product. -/
theorem accumulated {N : ℕ} {ι : Type} (f : (n : ℕ) → n < N → ι → EReal) (J T : ℕ) (l r : ℕ → ℕ → EReal) (row col : ℕ → ι → ℕ)
    (h0 : ∀ t : Fin N, t.val % J = 0 → ∀ j, f t.val t.isLt j = 0 + part T (t.val % J) l r (row (t.val / J) j) (col (t.val / J) j))
    (hs : ∀ t : Fin N, ¬t.val % J = 0 → ∀ j, f t.val t.isLt j
      = f (t.val - 1) (Nat.lt_of_le_of_lt (Nat.sub_le _ _) t.isLt) j + part T (t.val % J) l r (row (t.val / J) j) (col (t.val / J) j))
    (t : Fin N) (ht : t.val % J + 1 = J) (j : ι) : f t.val t.isLt j = prod (J * T) l r (row (t.val / J) j) (col (t.val / J) j) := by
  refine (Pipeline.eq_sum_of_reset_step_apply f J (fun _ => 0) (fun n j => part T (n % J) l r (row (n / J) j) (col (n / J) j)) h0 hs t j).trans ?_
  rw [zero_add, ht, ← sum_parts]
  refine Finset.sum_congr rfl fun k hk => ?_
  have hk := Finset.mem_range.1 hk
  rw [Nat.mul_add_mod, Nat.mod_eq_of_lt hk, Nat.mul_add_div (by omega), Nat.div_eq_of_lt hk, Nat.add_zero]

/-- A sum over `Fin` whose terms are named by their position. -/
theorem sum_fin {n : ℕ} (x : Fin n → EReal) (f : ℕ → EReal) (h : ∀ k : Fin n, x k = f k.val) :
    ∑ k, x k = ∑ k ∈ Finset.range n, f k := by
  rw [← Fin.sum_univ_eq_sum_range]; exact Finset.sum_congr rfl fun k _ => h k

end Cert.Product

end
-- ==== Proof.Down.lean ====
/-
  The down projection: the gradients of its input and of its weight, and the product itself. Each is a product of matrices in
  tiles of 1024 by 1024, the contracted axis in tiles of 2048.
-/
module

public import proofs.«01_k».proof.Defs
public import Idealize.ShloMosaic.Lib.Pipeline.ReadBack
public import proofs.«01_k».proof.Proof.Product
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Kernel18.Frame
public import proofs.«01_k».proof.Proof.Gen.Kernel18Ideal.Value
public import proofs.«01_k».proof.Proof.Gen.Reference18Ideal.Read

@[expose] public section

noncomputable section

open Idealize.ShloMosaic Idealize.ShloMosaic.TcCoe Idealize.SL.Sem Idealize.ShloMosaic.Pipeline Cert.Product

/-! ### The gradient of the input -/

namespace Cert.Down.Da

open Cert.Kernel4Ideal Cert.Kernel4Ideal.Gen

theorem kernel : Cert.quiescent_Kernel4 := fun m ρ _ => Cert.Kernel4.Gen.frame m ρ
theorem kernelIdeal : Cert.quiescent_Kernel4Ideal := fun m ρ _ => Cert.Kernel4Ideal.Gen.frame m ρ
theorem reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

variable (m : (ℓ : Loc nD τ sig) → Buf (Elt Ideal) ℓ) (c : Dev nD)

/-- The incoming gradient and the weight. -/
abbrev argC : S4096x2048.Idx → EReal := m ((c.tc : Thread nD τ).loc main_arg2)
abbrev argW : S8192x2048.Idx → EReal := m ((c.tc : Thread nD τ).loc main_arg1)

/-- The result. -/
abbrev G : S4096x8192.Idx → EReal := fun i => prod 2048 (cell (argC m c)) (fun k j => cell (argW m c) j k) (i 0).val (i 1).val

/-- Where the blocks of a grid point sit. -/
theorem index : ∀ t : Fin cfg0.N, win0_0.index t = ![t.val / 8, 0] ∧ win0_1.index t = ![t.val % 8, 0] ∧ win0_2.index t = ![t.val / 8, t.val % 8] := by
  decide +kernel

/-- The tile a point writes. -/
theorem tile (t : Fin cfg0.N) (j : S1024x1024.Idx) :
    out0_2 (F := Ideal) (iblk m c 0 t) (iblk m c 1 t) j = prod 2048 (cell (argC m c)) (fun k j => cell (argW m c) j k) (row 8 t.val j) (col 8 t.val j) := by
  have e (x : Vec Ideal S1024x2048 .bf16) (y : Vec Ideal S1024x2048 .bf16) : k0_pay1 (F := Ideal) x y j = ∑ k : Fin 2048, x (ix2 (j 0) k) * y (ix2 (j 1) k) := by
    pointwise [k0_pay1]
  frame_out
  rw [e]
  refine sum_fin _ _ fun k => ?_
  have p := spot 1024 2048 (j 0).val k.val (index t).1
  have q := spot 1024 2048 (j 1).val k.val (index t).2.1
  exact congrArg₂ (· * ·) (at_cell (argC m c) _ p.1 (p.2.trans (by omega))) (at_cell (argW m c) _ q.1 (q.2.trans (by omega)))

theorem result : (dats m 0 c).arrAt 2 cfg0.N = G m c := by
  refine (dats m 0 c).arrAt_eq_of_covers 2 (G m c) (by decide +kernel) fun t hf y => ?_
  have e := spot 1024 1024 (y 0).val (y 1).val (index t).2.2
  exact (congrFun (after0_2 m c t) _).trans ((tile m c t _).trans (congrArg₂ (prod _ _ _) e.1.symm e.2.symm))

/-- The reference's product. -/
theorem reference_value (x : S4096x2048.Idx → EReal) (y : S8192x2048.Idx → EReal) (i : S4096x8192.Idx) :
    Cert.Reference4Ideal.Read.val_main_v7 (F := Ideal) y x i = prod 2048 (cell x) (fun k j => cell y j k) (i 0).val (i 1).val := by
  rw [Cert.Reference4Ideal.Read.val_main_v7_apply]
  exact (Cert.Reference4Ideal.Read.val_main_v6_apply y x i).trans
    (sum_fin _ _ fun _ => congrArg₂ (· * ·) (at_cell x _ rfl rfl) (at_cell y _ rfl rfl))

theorem algebraic : Cert.algebraic_Kernel4Ideal_Reference4Ideal := by
  intro m g m' g' _ hagree
  refine ⟨fun c => G m c,
    (θ_run _ _ _).mono (fun r h c => ⟨(Value.post2 m r h c).trans (result m c), Value.kept_main_arg0 m r h c, Value.kept_main_arg1 m r h c, Value.kept_main_arg2 m r h c⟩) (run_main m g),
    (θ_run _ _ _).mono (fun r h c => ⟨(h c).1.trans ?_, (h c).2⟩) (Cert.Reference4Ideal.Value.run m' g')⟩
  obtain ⟨-, e1, e2⟩ := hagree c
  refine (Cert.Reference4Ideal.Read.val_main_v7_eq _ _).trans ?_
  rw [e1, e2]
  exact funext (reference_value _ _)

end Cert.Down.Da

/-! ### The gradient of the weight -/

namespace Cert.Down.Dw

open Cert.Kernel5Ideal Cert.Kernel5Ideal.Gen

theorem kernel : Cert.quiescent_Kernel5 := fun m ρ _ => Cert.Kernel5.Gen.frame m ρ
theorem kernelIdeal : Cert.quiescent_Kernel5Ideal := fun m ρ _ => Cert.Kernel5Ideal.Gen.frame m ρ
theorem reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

variable (m : (ℓ : Loc nD τ sig) → Buf (Elt Ideal) ℓ) (c : Dev nD)

/-- The input and the incoming gradient. -/
abbrev argA : S4096x8192.Idx → EReal := m ((c.tc : Thread nD τ).loc main_arg0)
abbrev argC : S4096x2048.Idx → EReal := m ((c.tc : Thread nD τ).loc main_arg2)

/-- The result. -/
abbrev G : S8192x2048.Idx → EReal := fun i => prod 4096 (fun i k => cell (argA m c) k i) (cell (argC m c)) (i 0).val (i 1).val

/-- Where the blocks of a grid point sit. -/
theorem index : ∀ t : Fin cfg0.N, win0_0.index t = ![t.val % 2, t.val / 2 / 2] ∧ win0_1.index t = ![t.val % 2, t.val / 2 % 2] ∧ win0_2.index t = ![t.val / 2 / 2, t.val / 2 % 2] := by
  decide +kernel

theorem zero (j : S1024x1024.Idx) : k0_pay1 (F := Ideal) j = 0 := by pointwise [k0_pay1]

/-- What a point adds to the accumulator. -/
theorem step (a : Vec Ideal S1024x1024 .f32) (t : Fin cfg0.N) (j : S1024x1024.Idx) : k0_pay2 (F := Ideal) a (iblk m c 0 t) (iblk m c 1 t) j
    = a j + part 2048 (t.val % 2) (fun i k => cell (argA m c) k i) (cell (argC m c)) (row 2 (t.val / 2) j) (col 2 (t.val / 2) j) := by
  have e (x : Vec Ideal S2048x1024 .bf16) (y : Vec Ideal S2048x1024 .bf16) : k0_pay2 (F := Ideal) a x y j = a j + ∑ k : Fin 2048, x (ix2 k (j 0)) * y (ix2 k (j 1)) := by
    pointwise [k0_pay2]
  rw [e]
  refine congrArg (a j + ·) (sum_fin _ _ fun k => ?_)
  have p := spot 2048 1024 k.val (j 0).val (index t).1
  have q := spot 2048 1024 k.val (j 1).val (index t).2.1
  exact congrArg₂ (· * ·) (at_cell (argA m c) _ p.1 p.2) (at_cell (argC m c) _ q.1 q.2)

/-- The tile written at the last point of its run. -/
theorem tile (t : Fin cfg0.N) (h : t.val % 2 = 1) (j : S1024x1024.Idx) : (outsAt0 m c t.val t.isLt).1 j
    = prod 4096 (fun i k => cell (argA m c) k i) (cell (argC m c)) (row 2 (t.val / 2) j) (col 2 (t.val / 2) j) :=
  (show (outsAt0 m c t.val t.isLt).1 j = (outsAt0 m c t.val t.isLt).2 j by
    rw [outsAt0_B m c t (by omega) h]; dsimp only; frame_out).trans
  (accumulated (fun n h => (outsAt0 m c n h).2) 2 2048 _ _ (row 2) (col 2)
    (fun t h j => by rw [outsAt0_A m c t h (by omega)]; dsimp only; frame_out; rw [step, zero])
    (fun t h j => by rw [outsAt0_B m c t h (by omega)]; dsimp only; frame_out; simp only [read_unread_whole]; rw [step])
    t (by omega) j)

theorem result : (dats m 0 c).arrAt 2 cfg0.N = G m c := by
  refine (dats m 0 c).arrAt_eq_of_covers 2 (G m c) (by decide +kernel) fun t hf y => ?_
  have e := spot 1024 1024 (y 0).val (y 1).val (index t).2.2
  exact (congrFun (after0_2 m c t) _).trans ((tile m c t ((flush0_2 t).mp hf) _).trans (congrArg₂ (prod _ _ _) e.1.symm e.2.symm))

/-- The reference's product. -/
theorem reference_value (x : S4096x8192.Idx → EReal) (y : S4096x2048.Idx → EReal) (i : S8192x2048.Idx) :
    Cert.Reference5Ideal.Read.val_main_v5 (F := Ideal) x y i = prod 4096 (fun i k => cell x k i) (cell y) (i 0).val (i 1).val := by
  rw [Cert.Reference5Ideal.Read.val_main_v5_apply, Cert.Reference5Ideal.Read.val_main_v4_apply]
  refine sum_fin _ _ fun k => ?_
  rw [mul_comm]
  exact congrArg₂ (· * ·) (at_cell x _ rfl rfl) (at_cell y _ rfl rfl)

theorem algebraic : Cert.algebraic_Kernel5Ideal_Reference5Ideal := by
  intro m g m' g' _ hagree
  refine ⟨fun c => G m c,
    (θ_run _ _ _).mono (fun r h c => ⟨(Value.post2 m r h c).trans (result m c), Value.kept_main_arg0 m r h c, Value.kept_main_arg1 m r h c, Value.kept_main_arg2 m r h c⟩) (run_main m g),
    (θ_run _ _ _).mono (fun r h c => ⟨(h c).1.trans ?_, (h c).2⟩) (Cert.Reference5Ideal.Value.run m' g')⟩
  obtain ⟨e0, -, e2⟩ := hagree c
  refine (Cert.Reference5Ideal.Read.val_main_v5_eq _ _).trans ?_
  rw [e0, e2]
  exact funext (reference_value _ _)

end Cert.Down.Dw

/-! ### The product -/

namespace Cert.Down.Fwd

open Cert.Kernel18Ideal Cert.Kernel18Ideal.Gen

theorem kernel : Cert.quiescent_Kernel18 := fun m ρ _ => Cert.Kernel18.Gen.frame m ρ
theorem kernelIdeal : Cert.quiescent_Kernel18Ideal := fun m ρ _ => Cert.Kernel18Ideal.Gen.frame m ρ
theorem reference : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

variable (m : (ℓ : Loc nD τ sig) → Buf (Elt Ideal) ℓ) (c : Dev nD)

/-- The input and the weight. -/
abbrev argA : S4096x8192.Idx → EReal := m ((c.tc : Thread nD τ).loc main_arg0)
abbrev argW : S8192x2048.Idx → EReal := m ((c.tc : Thread nD τ).loc main_arg1)

/-- The result. -/
abbrev G : S4096x2048.Idx → EReal := fun i => prod 8192 (cell (argA m c)) (cell (argW m c)) (i 0).val (i 1).val

/-- Where the blocks of a grid point sit. -/
theorem index : ∀ t : Fin cfg0.N, win0_0.index t = ![t.val / 4 / 2, t.val % 4] ∧ win0_1.index t = ![t.val % 4, t.val / 4 % 2] ∧ win0_2.index t = ![t.val / 4 / 2, t.val / 4 % 2] := by
  decide +kernel

theorem zero (j : S1024x1024.Idx) : k0_pay1 (F := Ideal) j = 0 := by pointwise [k0_pay1]

/-- What a point adds to the accumulator. -/
theorem step (a : Vec Ideal S1024x1024 .f32) (t : Fin cfg0.N) (j : S1024x1024.Idx) : k0_pay2 (F := Ideal) a (iblk m c 0 t) (iblk m c 1 t) j
    = a j + part 2048 (t.val % 4) (cell (argA m c)) (cell (argW m c)) (row 2 (t.val / 4) j) (col 2 (t.val / 4) j) := by
  have e (x : Vec Ideal S1024x2048 .bf16) (y : Vec Ideal S2048x1024 .bf16) : k0_pay2 (F := Ideal) a x y j = a j + ∑ k : Fin 2048, x (ix2 (j 0) k) * y (ix2 k (j 1)) := by
    pointwise [k0_pay2]
  rw [e]
  refine congrArg (a j + ·) (sum_fin _ _ fun k => ?_)
  have p := spot 1024 2048 (j 0).val k.val (index t).1
  have q := spot 2048 1024 k.val (j 1).val (index t).2.1
  exact congrArg₂ (· * ·) (at_cell (argA m c) _ p.1 p.2) (at_cell (argW m c) _ q.1 q.2)

/-- The tile written at the last point of its run. -/
theorem tile (t : Fin cfg0.N) (h : t.val % 4 = 3) (j : S1024x1024.Idx) : (outsAt0 m c t.val t.isLt).1 j
    = prod 8192 (cell (argA m c)) (cell (argW m c)) (row 2 (t.val / 4) j) (col 2 (t.val / 4) j) :=
  (show (outsAt0 m c t.val t.isLt).1 j = (outsAt0 m c t.val t.isLt).2 j by
    rw [outsAt0_C m c t (by omega) h]; dsimp only; frame_out; pointwise [k0_pay3]).trans
  (accumulated (fun n h => (outsAt0 m c n h).2) 4 2048 _ _ (row 2) (col 2)
    (fun t h j => by rw [outsAt0_A m c t h (by omega)]; dsimp only; frame_out; rw [step, zero])
    (fun t h j => by
      by_cases h' : t.val % 4 = 3
      · rw [outsAt0_C m c t h h']; dsimp only; frame_out; simp only [read_unread_whole]; rw [step]
      · rw [outsAt0_B m c t h h']; dsimp only; frame_out; simp only [read_unread_whole]; rw [step])
    t (by omega) j)

theorem result : (dats m 0 c).arrAt 2 cfg0.N = G m c := by
  refine (dats m 0 c).arrAt_eq_of_covers 2 (G m c) (by decide +kernel) fun t hf y => ?_
  have e := spot 1024 1024 (y 0).val (y 1).val (index t).2.2
  exact (congrFun (after0_2 m c t) _).trans ((tile m c t ((flush0_2 t).mp hf) _).trans (congrArg₂ (prod _ _ _) e.1.symm e.2.symm))

/-- The reference's product. -/
theorem reference_value (x : S4096x8192.Idx → EReal) (y : S8192x2048.Idx → EReal) (i : S4096x2048.Idx) :
    Cert.Reference18Ideal.Read.val_main_v3 (F := Ideal) x y i = prod 8192 (cell x) (cell y) (i 0).val (i 1).val := by
  rw [Cert.Reference18Ideal.Read.val_main_v3_apply]
  exact (Cert.Reference18Ideal.Read.val_main_v2_apply x y i).trans
    (sum_fin _ _ fun _ => congrArg₂ (· * ·) (at_cell x _ rfl rfl) (at_cell y _ rfl rfl))

theorem algebraic : Cert.algebraic_Kernel18Ideal_Reference18Ideal := by
  intro m g m' g' _ hagree
  refine ⟨fun c => G m c,
    (θ_run _ _ _).mono (fun r h c => ⟨(Value.post2 m r h c).trans (result m c), Value.kept_main_arg0 m r h c, Value.kept_main_arg1 m r h c⟩) (run_main m g),
    (θ_run _ _ _).mono (fun r h c => ⟨(h c).1.trans ?_, (h c).2⟩) (Cert.Reference18Ideal.Value.run m' g')⟩
  obtain ⟨e0, e1⟩ := hagree c
  refine (Cert.Reference18Ideal.Read.val_main_v3_eq _ _).trans ?_
  rw [e0, e1]
  exact funext (reference_value _ _)

end Cert.Down.Fwd

end
-- ==== Proof.Up.lean ====
/-
  The up projection, whose weight is cut into four blocks of 2048 columns: the gradients of its input and of its weight,
  and the product itself. Each is a product of matrices in tiles of 1024 by 1024, the contracted axis in tiles of 2048.
-/
module

public import proofs.«01_k».proof.Defs
public import Idealize.ShloMosaic.Lib.Pipeline.ReadBack
public import proofs.«01_k».proof.Proof.Product
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Read
public import proofs.«01_k».proof.Proof.Gen.Kernel19.Frame
public import proofs.«01_k».proof.Proof.Gen.Kernel19Ideal.Value
public import proofs.«01_k».proof.Proof.Gen.Reference19Ideal.Read

@[expose] public section

noncomputable section

open Idealize.ShloMosaic Idealize.ShloMosaic.TcCoe Idealize.SL.Sem Idealize.ShloMosaic.Pipeline Cert.Product

/-! ### The gradient of the input -/

namespace Cert.Up.Da

open Cert.Kernel6Ideal Cert.Kernel6Ideal.Gen

theorem kernel : Cert.quiescent_Kernel6 := fun m ρ _ => Cert.Kernel6.Gen.frame m ρ
theorem kernelIdeal : Cert.quiescent_Kernel6Ideal := fun m ρ _ => Cert.Kernel6Ideal.Gen.frame m ρ
theorem reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

variable (m : (ℓ : Loc nD τ sig) → Buf (Elt Ideal) ℓ) (c : Dev nD)

/-- The weight and the incoming gradient. -/
abbrev argW : S2048x8192.Idx → EReal := m ((c.tc : Thread nD τ).loc main_arg1)
abbrev argC : S4096x8192.Idx → EReal := m ((c.tc : Thread nD τ).loc main_arg2)

/-- The weight in blocks, as the call is handed it. -/
theorem weight : (V m c main_v1 : S4x2048x2048.Idx → EReal)
    = transpose S4x2048x2048 [1, 0, 2] (shapeCast S2048x4x2048 (argW m c) shapeCasts_S2048x8192_S2048x4x2048) transposes_S2048x4x2048_S4x2048x2048_1_0_2 := by
  unfold V
  simp only [hostOps0, List.flatten_cons, List.flatten_nil, List.append_nil, List.cons_append, List.nil_append]
  after_results
  all_goals rfl

/-- The result. -/
abbrev G : S4096x2048.Idx → EReal := fun i => prod 8192 (cell (argC m c)) (fun k j => cell (argW m c) j k) (i 0).val (i 1).val

/-- Where the blocks of a grid point sit. -/
theorem index : ∀ t : Fin cfg0.N, win0_0.index t = ![t.val / 4 / 2, t.val % 4] ∧ win0_1.index t = ![t.val % 4, t.val / 4 % 2, 0]
    ∧ win0_2.index t = ![t.val / 4 / 2, t.val / 4 % 2] := by
  decide +kernel

theorem zero (j : S1024x1024.Idx) : k0_pay1 (F := Ideal) j = 0 := by pointwise [k0_pay1]

theorem step (a : Vec Ideal S1024x1024 .f32) (t : Fin cfg0.N) (j : S1024x1024.Idx) :
    k0_pay2 (F := Ideal) a (iblk m c 0 t) (iblk m c 1 t) j
      = a j + part 2048 (t.val % 4) (cell (argC m c)) (fun k j => cell (argW m c) j k) (row 2 (t.val / 4) j) (col 2 (t.val / 4) j) := by
  have e (x : Vec Ideal S1024x2048 .bf16) (y : Vec Ideal S1x1024x2048 .bf16) :
      k0_pay2 (F := Ideal) a x y j = a j + ∑ k : Fin 2048, x (ix2 (j 0) k) * y (ix3 0 (j 1) k) := by
    pointwise [k0_pay2]
  rw [e]
  refine congrArg (a j + ·) (sum_fin _ _ fun k => ?_)
  have p := spot 1024 2048 (j 0).val k.val (index t).1
  have q := spot3 1 1024 2048 0 (j 1).val k.val (index t).2.1
  exact congrArg₂ (· * ·) (at_cell (argC m c) _ p.1 p.2)
    ((congrFun (weight m c) _).trans (blocks_cell (B := 4) (C := 2048) (argW m c) _ _ _ q.2.1
      ((congrArg₂ (fun a b => a * 2048 + b) q.1 q.2.2).trans (by omega))))

/-- The tile written at the last point of its run. -/
theorem tile (t : Fin cfg0.N) (h : t.val % 4 = 3) (j : S1024x1024.Idx) : (outsAt0 m c t.val t.isLt).1 j
    = prod 8192 (cell (argC m c)) (fun k j => cell (argW m c) j k) (row 2 (t.val / 4) j) (col 2 (t.val / 4) j) :=
  (show (outsAt0 m c t.val t.isLt).1 j = (outsAt0 m c t.val t.isLt).2 j by
    rw [outsAt0_C m c t (by omega) h]; dsimp only; frame_out; pointwise [k0_pay3]).trans
  (accumulated (fun n h => (outsAt0 m c n h).2) 4 2048 _ _ (row 2) (col 2)
    (fun t h j => by rw [outsAt0_A m c t h (by omega)]; dsimp only; frame_out; rw [step, zero])
    (fun t h j => by
      by_cases h' : t.val % 4 = 3
      · rw [outsAt0_C m c t h h']; dsimp only; frame_out; simp only [read_unread_whole]; rw [step]
      · rw [outsAt0_B m c t h h']; dsimp only; frame_out; simp only [read_unread_whole]; rw [step])
    t (by omega) j)

theorem result : (dats m 0 c).arrAt 2 cfg0.N = G m c := by
  refine (dats m 0 c).arrAt_eq_of_covers 2 (G m c) (by decide +kernel) fun t hf y => ?_
  refine (congrFun (after0_2 m c t) _).trans ((tile m c t ((flush0_2 t).mp hf) _).trans ?_)
  have e := spot 1024 1024 (y 0).val (y 1).val (index t).2.2
  exact congrArg₂ (prod _ _ _) e.1.symm e.2.symm

/-- The reference's product. -/
theorem reference_value (w : S2048x8192.Idx → EReal) (g : S4096x8192.Idx → EReal) (i : S4096x2048.Idx) :
    Cert.Reference6Ideal.Read.val_main_v7 (F := Ideal) w g i = prod 8192 (cell g) (fun k j => cell w j k) (i 0).val (i 1).val := by
  rw [Cert.Reference6Ideal.Read.val_main_v7_apply]
  refine (Cert.Reference6Ideal.Read.val_main_v6_apply w g i).trans (sum_fin _ _ fun k => ?_)
  exact congrArg₂ (· * ·) (at_cell g _ rfl rfl) (at_cell w _ rfl rfl)

theorem algebraic : Cert.algebraic_Kernel6Ideal_Reference6Ideal := by
  intro m g m' g' _ hagree
  refine ⟨fun c => G m c,
    (θ_run _ _ _).mono (fun r h c => ⟨(Value.post2 m r h c).trans (result m c), Value.kept_main_arg0 m r h c, Value.kept_main_arg1 m r h c, Value.kept_main_arg2 m r h c⟩) (run_main m g),
    (θ_run _ _ _).mono (fun r h c => ⟨(h c).1.trans ?_, (h c).2⟩) (Cert.Reference6Ideal.Value.run m' g')⟩
  obtain ⟨-, e1, e2⟩ := hagree c
  refine (Cert.Reference6Ideal.Read.val_main_v7_eq _ _).trans ?_
  rw [e1, e2]
  exact funext (reference_value _ _)

end Cert.Up.Da

/-! ### The gradient of the weight, in the blocks of the weight -/

namespace Cert.Up.Dw

open Cert.Kernel7Ideal Cert.Kernel7Ideal.Gen

theorem kernel : Cert.quiescent_Kernel7 := fun m ρ _ => Cert.Kernel7.Gen.frame m ρ
theorem kernelIdeal : Cert.quiescent_Kernel7Ideal := fun m ρ _ => Cert.Kernel7Ideal.Gen.frame m ρ
theorem reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

variable (m : (ℓ : Loc nD τ sig) → Buf (Elt Ideal) ℓ) (c : Dev nD)

/-- The input and the incoming gradient. -/
abbrev argA : S4096x2048.Idx → EReal := m ((c.tc : Thread nD τ).loc main_arg0)
abbrev argC : S4096x8192.Idx → EReal := m ((c.tc : Thread nD τ).loc main_arg2)

/-- The result. -/
abbrev G : S4x2048x2048.Idx → EReal := fun i => prod 4096 (fun i k => cell (argA m c) k i) (cell (argC m c)) (i 1).val ((i 0).val * 2048 + (i 2).val)

/-- Where the blocks of a grid point sit. -/
theorem index : ∀ t : Fin cfg0.N, win0_0.index t = ![t.val % 2, t.val / 2 / 8] ∧ win0_1.index t = ![t.val % 2, t.val / 2 % 8]
    ∧ win0_2.index t = ![t.val / 2 % 8 / 2, t.val / 2 / 8, t.val / 2 % 8 % 2] := by
  decide +kernel

theorem zero (j : S1024x1024.Idx) : k0_pay1 (F := Ideal) j = 0 := by pointwise [k0_pay1]

theorem step (a : Vec Ideal S1024x1024 .f32) (t : Fin cfg0.N) (j : S1024x1024.Idx) :
    k0_pay2 (F := Ideal) a (iblk m c 0 t) (iblk m c 1 t) j
      = a j + part 2048 (t.val % 2) (fun i k => cell (argA m c) k i) (cell (argC m c)) (row 8 (t.val / 2) j) (col 8 (t.val / 2) j) := by
  have e (x y : Vec Ideal S2048x1024 .bf16) : k0_pay2 (F := Ideal) a x y j = a j + ∑ k : Fin 2048, x (ix2 k (j 0)) * y (ix2 k (j 1)) := by
    pointwise [k0_pay2]
  rw [e]
  refine congrArg (a j + ·) (sum_fin _ _ fun k => ?_)
  have p := spot 2048 1024 k.val (j 0).val (index t).1
  have q := spot 2048 1024 k.val (j 1).val (index t).2.1
  exact congrArg₂ (· * ·) (at_cell (argA m c) _ p.1 p.2) (at_cell (argC m c) _ q.1 q.2)

/-- The tile written at the last point of its run. -/
theorem tile (t : Fin cfg0.N) (h : t.val % 2 = 1) (j : S1x1024x1024.Idx) : (outsAt0 m c t.val t.isLt).1 j
    = prod 4096 (fun i k => cell (argA m c) k i) (cell (argC m c)) (row 8 (t.val / 2) (ix2 (j 1) (j 2))) (col 8 (t.val / 2) (ix2 (j 1) (j 2))) :=
  (show (outsAt0 m c t.val t.isLt).1 j = (outsAt0 m c t.val t.isLt).2 (ix2 (j 1) (j 2)) by
    rw [outsAt0_B m c t (by omega) h]; dsimp only; frame_out; pointwise [k0_pay3]).trans
  (accumulated (fun n h => (outsAt0 m c n h).2) 2 2048 _ _ (row 8) (col 8)
    (fun t h j => by rw [outsAt0_A m c t h (by omega)]; dsimp only; frame_out; rw [step, zero])
    (fun t h j => by rw [outsAt0_B m c t h (by omega)]; dsimp only; frame_out; simp only [read_unread_whole]; rw [step])
    t (by omega) _)

theorem result : (dats m 0 c).arrAt 2 cfg0.N = G m c := by
  refine (dats m 0 c).arrAt_eq_of_covers 2 (G m c) (by decide +kernel) fun t hf y => ?_
  refine (congrFun (after0_2 m c t) _).trans ((tile m c t ((flush0_2 t).mp hf) _).trans ?_)
  have e := spot3 1 1024 1024 (y 0).val (y 1).val (y 2).val (index t).2.2
  have y0 : (y 0).val < 1 := (y 0).isLt
  refine congrArg₂ (prod _ _ _) e.2.1.symm (Eq.trans ?_ (congrArg₂ (fun a b => a * 2048 + b) e.1 e.2.2).symm)
  show t.val / 2 % 8 * 1024 + (y 2).val = _
  omega

/-- The reference's product. -/
theorem reference_value (x : S4096x2048.Idx → EReal) (g : S4096x8192.Idx → EReal) (i : S4x2048x2048.Idx) :
    Cert.Reference7Ideal.Read.val_main_v8 (F := Ideal) x g i = prod 4096 (fun i k => cell x k i) (cell g) (i 1).val ((i 0).val * 2048 + (i 2).val) := by
  have h0 : (i 0).val < 4 := (i 0).isLt
  have h2 : (i 2).val < 2048 := (i 2).isLt
  rw [Cert.Reference7Ideal.Read.val_main_v8_apply, Cert.Reference7Ideal.Read.val_main_v7_apply, Cert.Reference7Ideal.Read.val_main_v5_apply,
    Cert.Reference7Ideal.Read.val_main_v4_apply]
  refine sum_fin _ _ fun k => ?_
  rw [mul_comm]
  refine congrArg₂ (· * ·) (at_cell x _ rfl ?_) (at_cell g _ rfl ?_)
  · show (((i 1).val * 4 + (i 0).val) * 2048 + (i 2).val) / 8192 = (i 1).val
    omega
  · show (((i 1).val * 4 + (i 0).val) * 2048 + (i 2).val) % 8192 = _
    omega

theorem algebraic : Cert.algebraic_Kernel7Ideal_Reference7Ideal := by
  intro m g m' g' _ hagree
  refine ⟨fun c => G m c,
    (θ_run _ _ _).mono (fun r h c => ⟨(Value.post2 m r h c).trans (result m c), Value.kept_main_arg0 m r h c, Value.kept_main_arg1 m r h c, Value.kept_main_arg2 m r h c⟩) (run_main m g),
    (θ_run _ _ _).mono (fun r h c => ⟨(h c).1.trans ?_, (h c).2⟩) (Cert.Reference7Ideal.Value.run m' g')⟩
  obtain ⟨e0, -, e2⟩ := hagree c
  refine (Cert.Reference7Ideal.Read.val_main_v8_eq _ _).trans ?_
  rw [e0, e2]
  exact funext (reference_value _ _)

end Cert.Up.Dw

/-! ### The product -/

namespace Cert.Up.Fwd

open Cert.Kernel19Ideal Cert.Kernel19Ideal.Gen

theorem kernel : Cert.quiescent_Kernel19 := fun m ρ _ => Cert.Kernel19.Gen.frame m ρ
theorem kernelIdeal : Cert.quiescent_Kernel19Ideal := fun m ρ _ => Cert.Kernel19Ideal.Gen.frame m ρ
theorem reference : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

variable (m : (ℓ : Loc nD τ sig) → Buf (Elt Ideal) ℓ) (c : Dev nD)

/-- The input and the weight. -/
abbrev argA : S4096x2048.Idx → EReal := m ((c.tc : Thread nD τ).loc main_arg0)
abbrev argW : S2048x8192.Idx → EReal := m ((c.tc : Thread nD τ).loc main_arg1)

/-- The weight in blocks, as the call is handed it. -/
theorem weight : (V m c main_v1 : S4x2048x2048.Idx → EReal)
    = transpose S4x2048x2048 [1, 0, 2] (shapeCast S2048x4x2048 (argW m c) shapeCasts_S2048x8192_S2048x4x2048) transposes_S2048x4x2048_S4x2048x2048_1_0_2 := by
  unfold V
  simp only [hostOps0, List.flatten_cons, List.flatten_nil, List.append_nil, List.cons_append, List.nil_append]
  after_results
  all_goals rfl

/-- The result. -/
abbrev G : S4096x8192.Idx → EReal := fun i => prod 2048 (cell (argA m c)) (cell (argW m c)) (i 0).val (i 1).val

/-- Where the blocks of a grid point sit. -/
theorem index : ∀ t : Fin cfg0.N, win0_0.index t = ![t.val / 8, 0] ∧ win0_1.index t = ![t.val % 8 / 2, 0, t.val % 8 % 2] ∧ win0_2.index t = ![t.val / 8, t.val % 8] := by
  decide +kernel

/-- The tile a point writes. -/
theorem tile (t : Fin cfg0.N) (j : S1024x1024.Idx) :
    out0_2 (F := Ideal) (iblk m c 0 t) (iblk m c 1 t) j = prod 2048 (cell (argA m c)) (cell (argW m c)) (row 8 t.val j) (col 8 t.val j) := by
  have e (x : Vec Ideal S1024x2048 .bf16) (y : Vec Ideal S1x2048x1024 .bf16) : k0_pay1 (F := Ideal) x y j = ∑ k : Fin 2048, x (ix2 (j 0) k) * y (ix3 0 k (j 1)) := by
    pointwise [k0_pay1]
  frame_out
  rw [e]
  refine sum_fin _ _ fun k => ?_
  have p := spot 1024 2048 (j 0).val k.val (index t).1
  have q := spot3 1 2048 1024 0 k.val (j 1).val (index t).2.1
  refine congrArg₂ (· * ·) (at_cell (argA m c) _ p.1 (p.2.trans (by omega)))
    ((congrFun (weight m c) _).trans (blocks_cell (B := 4) (C := 2048) (argW m c) _ _ _ (q.2.1.trans (by omega))
      ((congrArg₂ (fun a b => a * 2048 + b) q.1 q.2.2).trans ?_)))
  show (t.val % 8 / 2 * 1 + 0) * 2048 + (t.val % 8 % 2 * 1024 + (j 1).val) = t.val % 8 * 1024 + (j 1).val
  omega

theorem result : (dats m 0 c).arrAt 2 cfg0.N = G m c := by
  refine (dats m 0 c).arrAt_eq_of_covers 2 (G m c) (by decide +kernel) fun t hf y => ?_
  have e := spot 1024 1024 (y 0).val (y 1).val (index t).2.2
  exact (congrFun (after0_2 m c t) _).trans ((tile m c t _).trans (congrArg₂ (prod _ _ _) e.1.symm e.2.symm))

/-- The reference's product. -/
theorem reference_value (x : S4096x2048.Idx → EReal) (y : S2048x8192.Idx → EReal) (i : S4096x8192.Idx) :
    Cert.Reference19Ideal.Read.val_main_v3 (F := Ideal) x y i = prod 2048 (cell x) (cell y) (i 0).val (i 1).val := by
  rw [Cert.Reference19Ideal.Read.val_main_v3_apply]
  exact (Cert.Reference19Ideal.Read.val_main_v2_apply x y i).trans
    (sum_fin _ _ fun _ => congrArg₂ (· * ·) (at_cell x _ rfl rfl) (at_cell y _ rfl rfl))

theorem algebraic : Cert.algebraic_Kernel19Ideal_Reference19Ideal := by
  intro m g m' g' _ hagree
  refine ⟨fun c => G m c,
    (θ_run _ _ _).mono (fun r h c => ⟨(Value.post2 m r h c).trans (result m c), Value.kept_main_arg0 m r h c, Value.kept_main_arg1 m r h c⟩) (run_main m g),
    (θ_run _ _ _).mono (fun r h c => ⟨(h c).1.trans ?_, (h c).2⟩) (Cert.Reference19Ideal.Value.run m' g')⟩
  obtain ⟨e0, e1⟩ := hagree c
  refine (Cert.Reference19Ideal.Read.val_main_v3_eq _ _).trans ?_
  rw [e0, e1]
  exact funext (reference_value _ _)

end Cert.Up.Fwd

end
-- ==== Proof.Xbc.lean ====
/-
  The projection to the state-space branch: the gradients of its input and of its weight, and the product itself. Each is a product of matrices in
  tiles of 1024 by 1024, the contracted axis in tiles of 2048.
-/
module

public import proofs.«01_k».proof.Defs
public import Idealize.ShloMosaic.Lib.Pipeline.ReadBack
public import proofs.«01_k».proof.Proof.Product
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Read
public import proofs.«01_k».proof.Proof.Gen.Kernel20.Frame
public import proofs.«01_k».proof.Proof.Gen.Kernel20Ideal.Value
public import proofs.«01_k».proof.Proof.Gen.Reference20Ideal.Read

@[expose] public section

noncomputable section

open Idealize.ShloMosaic Idealize.ShloMosaic.TcCoe Idealize.SL.Sem Idealize.ShloMosaic.Pipeline Cert.Product

/-! ### The gradient of the input -/

namespace Cert.Xbc.Da

open Cert.Kernel8Ideal Cert.Kernel8Ideal.Gen

theorem kernel : Cert.quiescent_Kernel8 := fun m ρ _ => Cert.Kernel8.Gen.frame m ρ
theorem kernelIdeal : Cert.quiescent_Kernel8Ideal := fun m ρ _ => Cert.Kernel8Ideal.Gen.frame m ρ
theorem reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

variable (m : (ℓ : Loc nD τ sig) → Buf (Elt Ideal) ℓ) (c : Dev nD)

/-- The incoming gradient and the weight. -/
abbrev argC : S4096x6144.Idx → EReal := m ((c.tc : Thread nD τ).loc main_arg2)
abbrev argW : S2048x6144.Idx → EReal := m ((c.tc : Thread nD τ).loc main_arg1)

/-- The result. -/
abbrev G : S4096x2048.Idx → EReal := fun i => prod 6144 (cell (argC m c)) (fun k j => cell (argW m c) j k) (i 0).val (i 1).val

/-- Where the blocks of a grid point sit. -/
theorem index : ∀ t : Fin cfg0.N, win0_0.index t = ![t.val / 3 / 2, t.val % 3] ∧ win0_1.index t = ![t.val / 3 % 2, t.val % 3] ∧ win0_2.index t = ![t.val / 3 / 2, t.val / 3 % 2] := by
  decide +kernel

theorem zero (j : S1024x1024.Idx) : k0_pay1 (F := Ideal) j = 0 := by pointwise [k0_pay1]

/-- What a point adds to the accumulator. -/
theorem step (a : Vec Ideal S1024x1024 .f32) (t : Fin cfg0.N) (j : S1024x1024.Idx) : k0_pay2 (F := Ideal) a (iblk m c 0 t) (iblk m c 1 t) j
    = a j + part 2048 (t.val % 3) (cell (argC m c)) (fun k j => cell (argW m c) j k) (row 2 (t.val / 3) j) (col 2 (t.val / 3) j) := by
  have e (x : Vec Ideal S1024x2048 .bf16) (y : Vec Ideal S1024x2048 .bf16) : k0_pay2 (F := Ideal) a x y j = a j + ∑ k : Fin 2048, x (ix2 (j 0) k) * y (ix2 (j 1) k) := by
    pointwise [k0_pay2]
  rw [e]
  refine congrArg (a j + ·) (sum_fin _ _ fun k => ?_)
  have p := spot 1024 2048 (j 0).val k.val (index t).1
  have q := spot 1024 2048 (j 1).val k.val (index t).2.1
  exact congrArg₂ (· * ·) (at_cell (argC m c) _ p.1 p.2) (at_cell (argW m c) _ q.1 q.2)

/-- The tile written at the last point of its run. -/
theorem tile (t : Fin cfg0.N) (h : t.val % 3 = 2) (j : S1024x1024.Idx) : (outsAt0 m c t.val t.isLt).1 j
    = prod 6144 (cell (argC m c)) (fun k j => cell (argW m c) j k) (row 2 (t.val / 3) j) (col 2 (t.val / 3) j) :=
  (show (outsAt0 m c t.val t.isLt).1 j = (outsAt0 m c t.val t.isLt).2 j by
    rw [outsAt0_C m c t (by omega) h]; dsimp only; frame_out).trans
  (accumulated (fun n h => (outsAt0 m c n h).2) 3 2048 _ _ (row 2) (col 2)
    (fun t h j => by rw [outsAt0_A m c t h (by omega)]; dsimp only; frame_out; rw [step, zero])
    (fun t h j => by
      by_cases h' : t.val % 3 = 2
      · rw [outsAt0_C m c t h h']; dsimp only; frame_out; simp only [read_unread_whole]; rw [step]
      · rw [outsAt0_B m c t h h']; dsimp only; frame_out; simp only [read_unread_whole]; rw [step])
    t (by omega) j)

theorem result : (dats m 0 c).arrAt 2 cfg0.N = G m c := by
  refine (dats m 0 c).arrAt_eq_of_covers 2 (G m c) (by decide +kernel) fun t hf y => ?_
  have e := spot 1024 1024 (y 0).val (y 1).val (index t).2.2
  exact (congrFun (after0_2 m c t) _).trans ((tile m c t ((flush0_2 t).mp hf) _).trans (congrArg₂ (prod _ _ _) e.1.symm e.2.symm))

/-- The reference's product. -/
theorem reference_value (x : S4096x6144.Idx → EReal) (y : S2048x6144.Idx → EReal) (i : S4096x2048.Idx) :
    Cert.Reference8Ideal.Read.val_main_v5 (F := Ideal) y x i = prod 6144 (cell x) (fun k j => cell y j k) (i 0).val (i 1).val := by
  exact (Cert.Reference8Ideal.Read.val_main_v5_apply y x i).trans (sum_fin _ _ fun _ => congrArg₂ (· * ·) (at_cell x _ rfl rfl) (at_cell y _ rfl rfl))

theorem algebraic : Cert.algebraic_Kernel8Ideal_Reference8Ideal := by
  intro m g m' g' _ hagree
  refine ⟨fun c => G m c,
    (θ_run _ _ _).mono (fun r h c => ⟨(Value.post2 m r h c).trans (result m c), Value.kept_main_arg0 m r h c, Value.kept_main_arg1 m r h c, Value.kept_main_arg2 m r h c⟩) (run_main m g),
    (θ_run _ _ _).mono (fun r h c => ⟨(h c).1.trans ?_, (h c).2⟩) (Cert.Reference8Ideal.Value.run m' g')⟩
  obtain ⟨-, e1, e2⟩ := hagree c
  refine (Cert.Reference8Ideal.Read.val_main_v5_eq _ _).trans ?_
  rw [e1, e2]
  exact funext (reference_value _ _)

end Cert.Xbc.Da

/-! ### The gradient of the weight -/

namespace Cert.Xbc.Dw

open Cert.Kernel9Ideal Cert.Kernel9Ideal.Gen

theorem kernel : Cert.quiescent_Kernel9 := fun m ρ _ => Cert.Kernel9.Gen.frame m ρ
theorem kernelIdeal : Cert.quiescent_Kernel9Ideal := fun m ρ _ => Cert.Kernel9Ideal.Gen.frame m ρ
theorem reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

variable (m : (ℓ : Loc nD τ sig) → Buf (Elt Ideal) ℓ) (c : Dev nD)

/-- The input and the incoming gradient. -/
abbrev argA : S4096x2048.Idx → EReal := m ((c.tc : Thread nD τ).loc main_arg0)
abbrev argC : S4096x6144.Idx → EReal := m ((c.tc : Thread nD τ).loc main_arg2)

/-- The result. -/
abbrev G : S2048x6144.Idx → EReal := fun i => prod 4096 (fun i k => cell (argA m c) k i) (cell (argC m c)) (i 0).val (i 1).val

/-- Where the blocks of a grid point sit. -/
theorem index : ∀ t : Fin cfg0.N, win0_0.index t = ![t.val % 2, t.val / 2 / 6] ∧ win0_1.index t = ![t.val % 2, t.val / 2 % 6] ∧ win0_2.index t = ![t.val / 2 / 6, t.val / 2 % 6] := by
  decide +kernel

theorem zero (j : S1024x1024.Idx) : k0_pay1 (F := Ideal) j = 0 := by pointwise [k0_pay1]

/-- What a point adds to the accumulator. -/
theorem step (a : Vec Ideal S1024x1024 .f32) (t : Fin cfg0.N) (j : S1024x1024.Idx) : k0_pay2 (F := Ideal) a (iblk m c 0 t) (iblk m c 1 t) j
    = a j + part 2048 (t.val % 2) (fun i k => cell (argA m c) k i) (cell (argC m c)) (row 6 (t.val / 2) j) (col 6 (t.val / 2) j) := by
  have e (x : Vec Ideal S2048x1024 .f32) (y : Vec Ideal S2048x1024 .bf16) : k0_pay2 (F := Ideal) a x y j = a j + ∑ k : Fin 2048, x (ix2 k (j 0)) * y (ix2 k (j 1)) := by
    pointwise [k0_pay2]
  rw [e]
  refine congrArg (a j + ·) (sum_fin _ _ fun k => ?_)
  have p := spot 2048 1024 k.val (j 0).val (index t).1
  have q := spot 2048 1024 k.val (j 1).val (index t).2.1
  exact congrArg₂ (· * ·) (at_cell (argA m c) _ p.1 p.2) (at_cell (argC m c) _ q.1 q.2)

/-- The tile written at the last point of its run. -/
theorem tile (t : Fin cfg0.N) (h : t.val % 2 = 1) (j : S1024x1024.Idx) : (outsAt0 m c t.val t.isLt).1 j
    = prod 4096 (fun i k => cell (argA m c) k i) (cell (argC m c)) (row 6 (t.val / 2) j) (col 6 (t.val / 2) j) :=
  (show (outsAt0 m c t.val t.isLt).1 j = (outsAt0 m c t.val t.isLt).2 j by
    rw [outsAt0_B m c t (by omega) h]; dsimp only; frame_out).trans
  (accumulated (fun n h => (outsAt0 m c n h).2) 2 2048 _ _ (row 6) (col 6)
    (fun t h j => by rw [outsAt0_A m c t h (by omega)]; dsimp only; frame_out; rw [step, zero])
    (fun t h j => by rw [outsAt0_B m c t h (by omega)]; dsimp only; frame_out; simp only [read_unread_whole]; rw [step])
    t (by omega) j)

theorem result : (dats m 0 c).arrAt 2 cfg0.N = G m c := by
  refine (dats m 0 c).arrAt_eq_of_covers 2 (G m c) (by decide +kernel) fun t hf y => ?_
  have e := spot 1024 1024 (y 0).val (y 1).val (index t).2.2
  exact (congrFun (after0_2 m c t) _).trans ((tile m c t ((flush0_2 t).mp hf) _).trans (congrArg₂ (prod _ _ _) e.1.symm e.2.symm))

/-- The reference's product. -/
theorem reference_value (x : S4096x2048.Idx → EReal) (y : S4096x6144.Idx → EReal) (i : S2048x6144.Idx) :
    Cert.Reference9Ideal.Read.val_main_v4 (F := Ideal) x y i = prod 4096 (fun i k => cell x k i) (cell y) (i 0).val (i 1).val := by
  rw [Cert.Reference9Ideal.Read.val_main_v4_apply, Cert.Reference9Ideal.Read.val_main_v3_apply]
  refine sum_fin _ _ fun k => ?_
  rw [mul_comm]
  exact congrArg₂ (· * ·) (at_cell x _ rfl rfl) (at_cell y _ rfl rfl)

theorem algebraic : Cert.algebraic_Kernel9Ideal_Reference9Ideal := by
  intro m g m' g' _ hagree
  refine ⟨fun c => G m c,
    (θ_run _ _ _).mono (fun r h c => ⟨(Value.post2 m r h c).trans (result m c), Value.kept_main_arg0 m r h c, Value.kept_main_arg1 m r h c, Value.kept_main_arg2 m r h c⟩) (run_main m g),
    (θ_run _ _ _).mono (fun r h c => ⟨(h c).1.trans ?_, (h c).2⟩) (Cert.Reference9Ideal.Value.run m' g')⟩
  obtain ⟨e0, -, e2⟩ := hagree c
  refine (Cert.Reference9Ideal.Read.val_main_v4_eq _ _).trans ?_
  rw [e0, e2]
  exact funext (reference_value _ _)

end Cert.Xbc.Dw

/-! ### The product -/

namespace Cert.Xbc.Fwd

open Cert.Kernel20Ideal Cert.Kernel20Ideal.Gen

theorem kernel : Cert.quiescent_Kernel20 := fun m ρ _ => Cert.Kernel20.Gen.frame m ρ
theorem kernelIdeal : Cert.quiescent_Kernel20Ideal := fun m ρ _ => Cert.Kernel20Ideal.Gen.frame m ρ
theorem reference : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

variable (m : (ℓ : Loc nD τ sig) → Buf (Elt Ideal) ℓ) (c : Dev nD)

/-- The input and the weight. -/
abbrev argA : S4096x2048.Idx → EReal := m ((c.tc : Thread nD τ).loc main_arg0)
abbrev argW : S2048x6144.Idx → EReal := m ((c.tc : Thread nD τ).loc main_arg1)

/-- The result. -/
abbrev G : S4096x6144.Idx → EReal := fun i => prod 2048 (cell (argA m c)) (cell (argW m c)) (i 0).val (i 1).val

/-- Where the blocks of a grid point sit. -/
theorem index : ∀ t : Fin cfg0.N, win0_0.index t = ![t.val / 6, 0] ∧ win0_1.index t = ![0, t.val % 6] ∧ win0_2.index t = ![t.val / 6, t.val % 6] := by
  decide +kernel

/-- The tile a point writes. -/
theorem tile (t : Fin cfg0.N) (j : S1024x1024.Idx) :
    out0_2 (F := Ideal) (iblk m c 0 t) (iblk m c 1 t) j = prod 2048 (cell (argA m c)) (cell (argW m c)) (row 6 t.val j) (col 6 t.val j) := by
  have e (x : Vec Ideal S1024x2048 .f32) (y : Vec Ideal S2048x1024 .bf16) : k0_pay1 (F := Ideal) x y j = ∑ k : Fin 2048, x (ix2 (j 0) k) * y (ix2 k (j 1)) := by
    pointwise [k0_pay1]
  frame_out
  rw [e]
  refine sum_fin _ _ fun k => ?_
  have p := spot 1024 2048 (j 0).val k.val (index t).1
  have q := spot 2048 1024 k.val (j 1).val (index t).2.1
  exact congrArg₂ (· * ·) (at_cell (argA m c) _ p.1 (p.2.trans (by omega))) (at_cell (argW m c) _ (q.1.trans (by omega)) q.2)

theorem result : (dats m 0 c).arrAt 2 cfg0.N = G m c := by
  refine (dats m 0 c).arrAt_eq_of_covers 2 (G m c) (by decide +kernel) fun t hf y => ?_
  have e := spot 1024 1024 (y 0).val (y 1).val (index t).2.2
  exact (congrFun (after0_2 m c t) _).trans ((tile m c t _).trans (congrArg₂ (prod _ _ _) e.1.symm e.2.symm))

/-- The reference's product. -/
theorem reference_value (x : S4096x2048.Idx → EReal) (y : S2048x6144.Idx → EReal) (i : S4096x6144.Idx) :
    Cert.Reference20Ideal.Read.val_main_v2 (F := Ideal) x y i = prod 2048 (cell x) (cell y) (i 0).val (i 1).val := by
  rw [Cert.Reference20Ideal.Read.val_main_v2_apply]
  exact (Cert.Reference20Ideal.Read.val_main_v1_apply x y i).trans
    (sum_fin _ _ fun _ => congrArg₂ (· * ·) (at_cell x _ rfl rfl) (at_cell y _ rfl rfl))

theorem algebraic : Cert.algebraic_Kernel20Ideal_Reference20Ideal := by
  intro m g m' g' _ hagree
  refine ⟨fun c => G m c,
    (θ_run _ _ _).mono (fun r h c => ⟨(Value.post2 m r h c).trans (result m c), Value.kept_main_arg0 m r h c, Value.kept_main_arg1 m r h c⟩) (run_main m g),
    (θ_run _ _ _).mono (fun r h c => ⟨(h c).1.trans ?_, (h c).2⟩) (Cert.Reference20Ideal.Value.run m' g')⟩
  obtain ⟨e0, e1⟩ := hagree c
  refine (Cert.Reference20Ideal.Read.val_main_v2_eq _ _).trans ?_
  rw [e0, e1]
  exact funext (reference_value _ _)

end Cert.Xbc.Fwd

end
-- ==== Proof.Z.lean ====
/-
  The projection to the state-space branch's gate: the gradients of its input and of its weight, and the product itself. Each is a product of matrices in
  tiles of 1024 by 1024, the contracted axis in tiles of 2048.
-/
module

public import proofs.«01_k».proof.Defs
public import Idealize.ShloMosaic.Lib.Pipeline.ReadBack
public import proofs.«01_k».proof.Proof.Product
public import proofs.«01_k».proof.Proof.Gen.Kernel10.Frame
public import proofs.«01_k».proof.Proof.Gen.Kernel10Ideal.Value
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Read
public import proofs.«01_k».proof.Proof.Gen.Kernel21.Frame
public import proofs.«01_k».proof.Proof.Gen.Kernel21Ideal.Value
public import proofs.«01_k».proof.Proof.Gen.Reference21Ideal.Read

@[expose] public section

noncomputable section

open Idealize.ShloMosaic Idealize.ShloMosaic.TcCoe Idealize.SL.Sem Idealize.ShloMosaic.Pipeline Cert.Product

/-! ### The gradient of the input -/

namespace Cert.Z.Da

open Cert.Kernel10Ideal Cert.Kernel10Ideal.Gen

theorem kernel : Cert.quiescent_Kernel10 := fun m ρ _ => Cert.Kernel10.Gen.frame m ρ
theorem kernelIdeal : Cert.quiescent_Kernel10Ideal := fun m ρ _ => Cert.Kernel10Ideal.Gen.frame m ρ
theorem reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

variable (m : (ℓ : Loc nD τ sig) → Buf (Elt Ideal) ℓ) (c : Dev nD)

/-- The incoming gradient and the weight. -/
abbrev argC : S4096x4096.Idx → EReal := m ((c.tc : Thread nD τ).loc main_arg2)
abbrev argW : S2048x4096.Idx → EReal := m ((c.tc : Thread nD τ).loc main_arg1)

/-- The result. -/
abbrev G : S4096x2048.Idx → EReal := fun i => prod 4096 (cell (argC m c)) (fun k j => cell (argW m c) j k) (i 0).val (i 1).val

/-- Where the blocks of a grid point sit. -/
theorem index : ∀ t : Fin cfg0.N, win0_0.index t = ![t.val / 2 / 2, t.val % 2] ∧ win0_1.index t = ![t.val / 2 % 2, t.val % 2] ∧ win0_2.index t = ![t.val / 2 / 2, t.val / 2 % 2] := by
  decide +kernel

theorem zero (j : S1024x1024.Idx) : k0_pay1 (F := Ideal) j = 0 := by pointwise [k0_pay1]

/-- What a point adds to the accumulator. -/
theorem step (a : Vec Ideal S1024x1024 .f32) (t : Fin cfg0.N) (j : S1024x1024.Idx) : k0_pay2 (F := Ideal) a (iblk m c 0 t) (iblk m c 1 t) j
    = a j + part 2048 (t.val % 2) (cell (argC m c)) (fun k j => cell (argW m c) j k) (row 2 (t.val / 2) j) (col 2 (t.val / 2) j) := by
  have e (x : Vec Ideal S1024x2048 .bf16) (y : Vec Ideal S1024x2048 .bf16) : k0_pay2 (F := Ideal) a x y j = a j + ∑ k : Fin 2048, x (ix2 (j 0) k) * y (ix2 (j 1) k) := by
    pointwise [k0_pay2]
  rw [e]
  refine congrArg (a j + ·) (sum_fin _ _ fun k => ?_)
  have p := spot 1024 2048 (j 0).val k.val (index t).1
  have q := spot 1024 2048 (j 1).val k.val (index t).2.1
  exact congrArg₂ (· * ·) (at_cell (argC m c) _ p.1 p.2) (at_cell (argW m c) _ q.1 q.2)

/-- The tile written at the last point of its run. -/
theorem tile (t : Fin cfg0.N) (h : t.val % 2 = 1) (j : S1024x1024.Idx) : (outsAt0 m c t.val t.isLt).1 j
    = prod 4096 (cell (argC m c)) (fun k j => cell (argW m c) j k) (row 2 (t.val / 2) j) (col 2 (t.val / 2) j) :=
  (show (outsAt0 m c t.val t.isLt).1 j = (outsAt0 m c t.val t.isLt).2 j by
    rw [outsAt0_B m c t (by omega) h]; dsimp only; frame_out).trans
  (accumulated (fun n h => (outsAt0 m c n h).2) 2 2048 _ _ (row 2) (col 2)
    (fun t h j => by rw [outsAt0_A m c t h (by omega)]; dsimp only; frame_out; rw [step, zero])
    (fun t h j => by rw [outsAt0_B m c t h (by omega)]; dsimp only; frame_out; simp only [read_unread_whole]; rw [step])
    t (by omega) j)

theorem result : (dats m 0 c).arrAt 2 cfg0.N = G m c := by
  refine (dats m 0 c).arrAt_eq_of_covers 2 (G m c) (by decide +kernel) fun t hf y => ?_
  have e := spot 1024 1024 (y 0).val (y 1).val (index t).2.2
  exact (congrFun (after0_2 m c t) _).trans ((tile m c t ((flush0_2 t).mp hf) _).trans (congrArg₂ (prod _ _ _) e.1.symm e.2.symm))

/-- The reference's product. -/
theorem reference_value (x : S4096x4096.Idx → EReal) (y : S2048x4096.Idx → EReal) (i : S4096x2048.Idx) :
    Cert.Reference10Ideal.Read.val_main_v5 (F := Ideal) y x i = prod 4096 (cell x) (fun k j => cell y j k) (i 0).val (i 1).val := by
  exact (Cert.Reference10Ideal.Read.val_main_v5_apply y x i).trans (sum_fin _ _ fun _ => congrArg₂ (· * ·) (at_cell x _ rfl rfl) (at_cell y _ rfl rfl))

theorem algebraic : Cert.algebraic_Kernel10Ideal_Reference10Ideal := by
  intro m g m' g' _ hagree
  refine ⟨fun c => G m c,
    (θ_run _ _ _).mono (fun r h c => ⟨(Value.post2 m r h c).trans (result m c), Value.kept_main_arg0 m r h c, Value.kept_main_arg1 m r h c, Value.kept_main_arg2 m r h c⟩) (run_main m g),
    (θ_run _ _ _).mono (fun r h c => ⟨(h c).1.trans ?_, (h c).2⟩) (Cert.Reference10Ideal.Value.run m' g')⟩
  obtain ⟨-, e1, e2⟩ := hagree c
  refine (Cert.Reference10Ideal.Read.val_main_v5_eq _ _).trans ?_
  rw [e1, e2]
  exact funext (reference_value _ _)

end Cert.Z.Da

/-! ### The gradient of the weight -/

namespace Cert.Z.Dw

open Cert.Kernel11Ideal Cert.Kernel11Ideal.Gen

theorem kernel : Cert.quiescent_Kernel11 := fun m ρ _ => Cert.Kernel11.Gen.frame m ρ
theorem kernelIdeal : Cert.quiescent_Kernel11Ideal := fun m ρ _ => Cert.Kernel11Ideal.Gen.frame m ρ
theorem reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

variable (m : (ℓ : Loc nD τ sig) → Buf (Elt Ideal) ℓ) (c : Dev nD)

/-- The input and the incoming gradient. -/
abbrev argA : S4096x2048.Idx → EReal := m ((c.tc : Thread nD τ).loc main_arg0)
abbrev argC : S4096x4096.Idx → EReal := m ((c.tc : Thread nD τ).loc main_arg2)

/-- The result. -/
abbrev G : S2048x4096.Idx → EReal := fun i => prod 4096 (fun i k => cell (argA m c) k i) (cell (argC m c)) (i 0).val (i 1).val

/-- Where the blocks of a grid point sit. -/
theorem index : ∀ t : Fin cfg0.N, win0_0.index t = ![t.val % 2, t.val / 2 / 4] ∧ win0_1.index t = ![t.val % 2, t.val / 2 % 4] ∧ win0_2.index t = ![t.val / 2 / 4, t.val / 2 % 4] := by
  decide +kernel

theorem zero (j : S1024x1024.Idx) : k0_pay1 (F := Ideal) j = 0 := by pointwise [k0_pay1]

/-- What a point adds to the accumulator. -/
theorem step (a : Vec Ideal S1024x1024 .f32) (t : Fin cfg0.N) (j : S1024x1024.Idx) : k0_pay2 (F := Ideal) a (iblk m c 0 t) (iblk m c 1 t) j
    = a j + part 2048 (t.val % 2) (fun i k => cell (argA m c) k i) (cell (argC m c)) (row 4 (t.val / 2) j) (col 4 (t.val / 2) j) := by
  have e (x : Vec Ideal S2048x1024 .f32) (y : Vec Ideal S2048x1024 .bf16) : k0_pay2 (F := Ideal) a x y j = a j + ∑ k : Fin 2048, x (ix2 k (j 0)) * y (ix2 k (j 1)) := by
    pointwise [k0_pay2]
  rw [e]
  refine congrArg (a j + ·) (sum_fin _ _ fun k => ?_)
  have p := spot 2048 1024 k.val (j 0).val (index t).1
  have q := spot 2048 1024 k.val (j 1).val (index t).2.1
  exact congrArg₂ (· * ·) (at_cell (argA m c) _ p.1 p.2) (at_cell (argC m c) _ q.1 q.2)

/-- The tile written at the last point of its run. -/
theorem tile (t : Fin cfg0.N) (h : t.val % 2 = 1) (j : S1024x1024.Idx) : (outsAt0 m c t.val t.isLt).1 j
    = prod 4096 (fun i k => cell (argA m c) k i) (cell (argC m c)) (row 4 (t.val / 2) j) (col 4 (t.val / 2) j) :=
  (show (outsAt0 m c t.val t.isLt).1 j = (outsAt0 m c t.val t.isLt).2 j by
    rw [outsAt0_B m c t (by omega) h]; dsimp only; frame_out).trans
  (accumulated (fun n h => (outsAt0 m c n h).2) 2 2048 _ _ (row 4) (col 4)
    (fun t h j => by rw [outsAt0_A m c t h (by omega)]; dsimp only; frame_out; rw [step, zero])
    (fun t h j => by rw [outsAt0_B m c t h (by omega)]; dsimp only; frame_out; simp only [read_unread_whole]; rw [step])
    t (by omega) j)

theorem result : (dats m 0 c).arrAt 2 cfg0.N = G m c := by
  refine (dats m 0 c).arrAt_eq_of_covers 2 (G m c) (by decide +kernel) fun t hf y => ?_
  have e := spot 1024 1024 (y 0).val (y 1).val (index t).2.2
  exact (congrFun (after0_2 m c t) _).trans ((tile m c t ((flush0_2 t).mp hf) _).trans (congrArg₂ (prod _ _ _) e.1.symm e.2.symm))

/-- The reference's product. -/
theorem reference_value (x : S4096x2048.Idx → EReal) (y : S4096x4096.Idx → EReal) (i : S2048x4096.Idx) :
    Cert.Reference11Ideal.Read.val_main_v4 (F := Ideal) x y i = prod 4096 (fun i k => cell x k i) (cell y) (i 0).val (i 1).val := by
  rw [Cert.Reference11Ideal.Read.val_main_v4_apply, Cert.Reference11Ideal.Read.val_main_v3_apply]
  refine sum_fin _ _ fun k => ?_
  rw [mul_comm]
  exact congrArg₂ (· * ·) (at_cell x _ rfl rfl) (at_cell y _ rfl rfl)

theorem algebraic : Cert.algebraic_Kernel11Ideal_Reference11Ideal := by
  intro m g m' g' _ hagree
  refine ⟨fun c => G m c,
    (θ_run _ _ _).mono (fun r h c => ⟨(Value.post2 m r h c).trans (result m c), Value.kept_main_arg0 m r h c, Value.kept_main_arg1 m r h c, Value.kept_main_arg2 m r h c⟩) (run_main m g),
    (θ_run _ _ _).mono (fun r h c => ⟨(h c).1.trans ?_, (h c).2⟩) (Cert.Reference11Ideal.Value.run m' g')⟩
  obtain ⟨e0, -, e2⟩ := hagree c
  refine (Cert.Reference11Ideal.Read.val_main_v4_eq _ _).trans ?_
  rw [e0, e2]
  exact funext (reference_value _ _)

end Cert.Z.Dw

/-! ### The product -/

namespace Cert.Z.Fwd

open Cert.Kernel21Ideal Cert.Kernel21Ideal.Gen

theorem kernel : Cert.quiescent_Kernel21 := fun m ρ _ => Cert.Kernel21.Gen.frame m ρ
theorem kernelIdeal : Cert.quiescent_Kernel21Ideal := fun m ρ _ => Cert.Kernel21Ideal.Gen.frame m ρ
theorem reference : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

variable (m : (ℓ : Loc nD τ sig) → Buf (Elt Ideal) ℓ) (c : Dev nD)

/-- The input and the weight. -/
abbrev argA : S4096x2048.Idx → EReal := m ((c.tc : Thread nD τ).loc main_arg0)
abbrev argW : S2048x4096.Idx → EReal := m ((c.tc : Thread nD τ).loc main_arg1)

/-- The result. -/
abbrev G : S4096x4096.Idx → EReal := fun i => prod 2048 (cell (argA m c)) (cell (argW m c)) (i 0).val (i 1).val

/-- Where the blocks of a grid point sit. -/
theorem index : ∀ t : Fin cfg0.N, win0_0.index t = ![t.val / 4, 0] ∧ win0_1.index t = ![0, t.val % 4] ∧ win0_2.index t = ![t.val / 4, t.val % 4] := by
  decide +kernel

/-- The tile a point writes. -/
theorem tile (t : Fin cfg0.N) (j : S1024x1024.Idx) :
    out0_2 (F := Ideal) (iblk m c 0 t) (iblk m c 1 t) j = prod 2048 (cell (argA m c)) (cell (argW m c)) (row 4 t.val j) (col 4 t.val j) := by
  have e (x : Vec Ideal S1024x2048 .f32) (y : Vec Ideal S2048x1024 .bf16) : k0_pay1 (F := Ideal) x y j = ∑ k : Fin 2048, x (ix2 (j 0) k) * y (ix2 k (j 1)) := by
    pointwise [k0_pay1]
  frame_out
  rw [e]
  refine sum_fin _ _ fun k => ?_
  have p := spot 1024 2048 (j 0).val k.val (index t).1
  have q := spot 2048 1024 k.val (j 1).val (index t).2.1
  exact congrArg₂ (· * ·) (at_cell (argA m c) _ p.1 (p.2.trans (by omega))) (at_cell (argW m c) _ (q.1.trans (by omega)) q.2)

theorem result : (dats m 0 c).arrAt 2 cfg0.N = G m c := by
  refine (dats m 0 c).arrAt_eq_of_covers 2 (G m c) (by decide +kernel) fun t hf y => ?_
  have e := spot 1024 1024 (y 0).val (y 1).val (index t).2.2
  exact (congrFun (after0_2 m c t) _).trans ((tile m c t _).trans (congrArg₂ (prod _ _ _) e.1.symm e.2.symm))

/-- The reference's product. -/
theorem reference_value (x : S4096x2048.Idx → EReal) (y : S2048x4096.Idx → EReal) (i : S4096x4096.Idx) :
    Cert.Reference21Ideal.Read.val_main_v2 (F := Ideal) x y i = prod 2048 (cell x) (cell y) (i 0).val (i 1).val := by
  rw [Cert.Reference21Ideal.Read.val_main_v2_apply]
  exact (Cert.Reference21Ideal.Read.val_main_v1_apply x y i).trans
    (sum_fin _ _ fun _ => congrArg₂ (· * ·) (at_cell x _ rfl rfl) (at_cell y _ rfl rfl))

theorem algebraic : Cert.algebraic_Kernel21Ideal_Reference21Ideal := by
  intro m g m' g' _ hagree
  refine ⟨fun c => G m c,
    (θ_run _ _ _).mono (fun r h c => ⟨(Value.post2 m r h c).trans (result m c), Value.kept_main_arg0 m r h c, Value.kept_main_arg1 m r h c⟩) (run_main m g),
    (θ_run _ _ _).mono (fun r h c => ⟨(h c).1.trans ?_, (h c).2⟩) (Cert.Reference21Ideal.Value.run m' g')⟩
  obtain ⟨e0, e1⟩ := hagree c
  refine (Cert.Reference21Ideal.Read.val_main_v2_eq _ _).trans ?_
  rw [e0, e1]
  exact funext (reference_value _ _)

end Cert.Z.Fwd

end
-- ==== Proof.SsmOut.lean ====
/-
  The projection out of the state-space branch: the gradients of its input and of its weight, and the product itself. Each is a product of matrices in
  tiles of 1024 by 1024, the contracted axis in tiles of 2048.
-/
module

public import proofs.«01_k».proof.Defs
public import Idealize.ShloMosaic.Lib.Pipeline.ReadBack
public import proofs.«01_k».proof.Proof.Product
public import proofs.«01_k».proof.Proof.Gen.Kernel12.Frame
public import proofs.«01_k».proof.Proof.Gen.Kernel12Ideal.Value
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Read
public import proofs.«01_k».proof.Proof.Gen.Kernel22.Frame
public import proofs.«01_k».proof.Proof.Gen.Kernel22Ideal.Value
public import proofs.«01_k».proof.Proof.Gen.Reference22Ideal.Read

@[expose] public section

noncomputable section

open Idealize.ShloMosaic Idealize.ShloMosaic.TcCoe Idealize.SL.Sem Idealize.ShloMosaic.Pipeline Cert.Product

/-! ### The gradient of the input -/

namespace Cert.SsmOut.Da

open Cert.Kernel12Ideal Cert.Kernel12Ideal.Gen

theorem kernel : Cert.quiescent_Kernel12 := fun m ρ _ => Cert.Kernel12.Gen.frame m ρ
theorem kernelIdeal : Cert.quiescent_Kernel12Ideal := fun m ρ _ => Cert.Kernel12Ideal.Gen.frame m ρ
theorem reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

variable (m : (ℓ : Loc nD τ sig) → Buf (Elt Ideal) ℓ) (c : Dev nD)

/-- The incoming gradient and the weight. -/
abbrev argC : S4096x2048.Idx → EReal := m ((c.tc : Thread nD τ).loc main_arg2)
abbrev argW : S4096x2048.Idx → EReal := m ((c.tc : Thread nD τ).loc main_arg1)

/-- The result. -/
abbrev G : S4096x4096.Idx → EReal := fun i => prod 2048 (cell (argC m c)) (fun k j => cell (argW m c) j k) (i 0).val (i 1).val

/-- Where the blocks of a grid point sit. -/
theorem index : ∀ t : Fin cfg0.N, win0_0.index t = ![t.val / 4, 0] ∧ win0_1.index t = ![t.val % 4, 0] ∧ win0_2.index t = ![t.val / 4, t.val % 4] := by
  decide +kernel

/-- The tile a point writes. -/
theorem tile (t : Fin cfg0.N) (j : S1024x1024.Idx) :
    out0_2 (F := Ideal) (iblk m c 0 t) (iblk m c 1 t) j = prod 2048 (cell (argC m c)) (fun k j => cell (argW m c) j k) (row 4 t.val j) (col 4 t.val j) := by
  have e (x : Vec Ideal S1024x2048 .bf16) (y : Vec Ideal S1024x2048 .bf16) : k0_pay1 (F := Ideal) x y j = ∑ k : Fin 2048, x (ix2 (j 0) k) * y (ix2 (j 1) k) := by
    pointwise [k0_pay1]
  frame_out
  rw [e]
  refine sum_fin _ _ fun k => ?_
  have p := spot 1024 2048 (j 0).val k.val (index t).1
  have q := spot 1024 2048 (j 1).val k.val (index t).2.1
  exact congrArg₂ (· * ·) (at_cell (argC m c) _ p.1 (p.2.trans (by omega))) (at_cell (argW m c) _ q.1 (q.2.trans (by omega)))

theorem result : (dats m 0 c).arrAt 2 cfg0.N = G m c := by
  refine (dats m 0 c).arrAt_eq_of_covers 2 (G m c) (by decide +kernel) fun t hf y => ?_
  have e := spot 1024 1024 (y 0).val (y 1).val (index t).2.2
  exact (congrFun (after0_2 m c t) _).trans ((tile m c t _).trans (congrArg₂ (prod _ _ _) e.1.symm e.2.symm))

/-- The reference's product. -/
theorem reference_value (x : S4096x2048.Idx → EReal) (y : S4096x2048.Idx → EReal) (i : S4096x4096.Idx) :
    Cert.Reference12Ideal.Read.val_main_v7 (F := Ideal) y x i = prod 2048 (cell x) (fun k j => cell y j k) (i 0).val (i 1).val := by
  rw [Cert.Reference12Ideal.Read.val_main_v7_apply]
  exact (Cert.Reference12Ideal.Read.val_main_v6_apply y x i).trans
    (sum_fin _ _ fun _ => congrArg₂ (· * ·) (at_cell x _ rfl rfl) (at_cell y _ rfl rfl))

theorem algebraic : Cert.algebraic_Kernel12Ideal_Reference12Ideal := by
  intro m g m' g' _ hagree
  refine ⟨fun c => G m c,
    (θ_run _ _ _).mono (fun r h c => ⟨(Value.post2 m r h c).trans (result m c), Value.kept_main_arg0 m r h c, Value.kept_main_arg1 m r h c, Value.kept_main_arg2 m r h c⟩) (run_main m g),
    (θ_run _ _ _).mono (fun r h c => ⟨(h c).1.trans ?_, (h c).2⟩) (Cert.Reference12Ideal.Value.run m' g')⟩
  obtain ⟨-, e1, e2⟩ := hagree c
  refine (Cert.Reference12Ideal.Read.val_main_v7_eq _ _).trans ?_
  rw [e1, e2]
  exact funext (reference_value _ _)

end Cert.SsmOut.Da

/-! ### The gradient of the weight -/

namespace Cert.SsmOut.Dw

open Cert.Kernel13Ideal Cert.Kernel13Ideal.Gen

theorem kernel : Cert.quiescent_Kernel13 := fun m ρ _ => Cert.Kernel13.Gen.frame m ρ
theorem kernelIdeal : Cert.quiescent_Kernel13Ideal := fun m ρ _ => Cert.Kernel13Ideal.Gen.frame m ρ
theorem reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

variable (m : (ℓ : Loc nD τ sig) → Buf (Elt Ideal) ℓ) (c : Dev nD)

/-- The input and the incoming gradient. -/
abbrev argA : S4096x4096.Idx → EReal := m ((c.tc : Thread nD τ).loc main_arg0)
abbrev argC : S4096x2048.Idx → EReal := m ((c.tc : Thread nD τ).loc main_arg2)

/-- The result. -/
abbrev G : S4096x2048.Idx → EReal := fun i => prod 4096 (fun i k => cell (argA m c) k i) (cell (argC m c)) (i 0).val (i 1).val

/-- Where the blocks of a grid point sit. -/
theorem index : ∀ t : Fin cfg0.N, win0_0.index t = ![t.val % 2, t.val / 2 / 2] ∧ win0_1.index t = ![t.val % 2, t.val / 2 % 2] ∧ win0_2.index t = ![t.val / 2 / 2, t.val / 2 % 2] := by
  decide +kernel

theorem zero (j : S1024x1024.Idx) : k0_pay1 (F := Ideal) j = 0 := by pointwise [k0_pay1]

/-- What a point adds to the accumulator. -/
theorem step (a : Vec Ideal S1024x1024 .f32) (t : Fin cfg0.N) (j : S1024x1024.Idx) : k0_pay2 (F := Ideal) a (iblk m c 0 t) (iblk m c 1 t) j
    = a j + part 2048 (t.val % 2) (fun i k => cell (argA m c) k i) (cell (argC m c)) (row 2 (t.val / 2) j) (col 2 (t.val / 2) j) := by
  have e (x : Vec Ideal S2048x1024 .bf16) (y : Vec Ideal S2048x1024 .bf16) : k0_pay2 (F := Ideal) a x y j = a j + ∑ k : Fin 2048, x (ix2 k (j 0)) * y (ix2 k (j 1)) := by
    pointwise [k0_pay2]
  rw [e]
  refine congrArg (a j + ·) (sum_fin _ _ fun k => ?_)
  have p := spot 2048 1024 k.val (j 0).val (index t).1
  have q := spot 2048 1024 k.val (j 1).val (index t).2.1
  exact congrArg₂ (· * ·) (at_cell (argA m c) _ p.1 p.2) (at_cell (argC m c) _ q.1 q.2)

/-- The tile written at the last point of its run. -/
theorem tile (t : Fin cfg0.N) (h : t.val % 2 = 1) (j : S1024x1024.Idx) : (outsAt0 m c t.val t.isLt).1 j
    = prod 4096 (fun i k => cell (argA m c) k i) (cell (argC m c)) (row 2 (t.val / 2) j) (col 2 (t.val / 2) j) :=
  (show (outsAt0 m c t.val t.isLt).1 j = (outsAt0 m c t.val t.isLt).2 j by
    rw [outsAt0_B m c t (by omega) h]; dsimp only; frame_out).trans
  (accumulated (fun n h => (outsAt0 m c n h).2) 2 2048 _ _ (row 2) (col 2)
    (fun t h j => by rw [outsAt0_A m c t h (by omega)]; dsimp only; frame_out; rw [step, zero])
    (fun t h j => by rw [outsAt0_B m c t h (by omega)]; dsimp only; frame_out; simp only [read_unread_whole]; rw [step])
    t (by omega) j)

theorem result : (dats m 0 c).arrAt 2 cfg0.N = G m c := by
  refine (dats m 0 c).arrAt_eq_of_covers 2 (G m c) (by decide +kernel) fun t hf y => ?_
  have e := spot 1024 1024 (y 0).val (y 1).val (index t).2.2
  exact (congrFun (after0_2 m c t) _).trans ((tile m c t ((flush0_2 t).mp hf) _).trans (congrArg₂ (prod _ _ _) e.1.symm e.2.symm))

/-- The reference's product. -/
theorem reference_value (x : S4096x4096.Idx → EReal) (y : S4096x2048.Idx → EReal) (i : S4096x2048.Idx) :
    Cert.Reference13Ideal.Read.val_main_v5 (F := Ideal) x y i = prod 4096 (fun i k => cell x k i) (cell y) (i 0).val (i 1).val := by
  rw [Cert.Reference13Ideal.Read.val_main_v5_apply, Cert.Reference13Ideal.Read.val_main_v4_apply]
  refine sum_fin _ _ fun k => ?_
  rw [mul_comm]
  exact congrArg₂ (· * ·) (at_cell x _ rfl rfl) (at_cell y _ rfl rfl)

theorem algebraic : Cert.algebraic_Kernel13Ideal_Reference13Ideal := by
  intro m g m' g' _ hagree
  refine ⟨fun c => G m c,
    (θ_run _ _ _).mono (fun r h c => ⟨(Value.post2 m r h c).trans (result m c), Value.kept_main_arg0 m r h c, Value.kept_main_arg1 m r h c, Value.kept_main_arg2 m r h c⟩) (run_main m g),
    (θ_run _ _ _).mono (fun r h c => ⟨(h c).1.trans ?_, (h c).2⟩) (Cert.Reference13Ideal.Value.run m' g')⟩
  obtain ⟨e0, -, e2⟩ := hagree c
  refine (Cert.Reference13Ideal.Read.val_main_v5_eq _ _).trans ?_
  rw [e0, e2]
  exact funext (reference_value _ _)

end Cert.SsmOut.Dw

/-! ### The product -/

namespace Cert.SsmOut.Fwd

open Cert.Kernel22Ideal Cert.Kernel22Ideal.Gen

theorem kernel : Cert.quiescent_Kernel22 := fun m ρ _ => Cert.Kernel22.Gen.frame m ρ
theorem kernelIdeal : Cert.quiescent_Kernel22Ideal := fun m ρ _ => Cert.Kernel22Ideal.Gen.frame m ρ
theorem reference : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

variable (m : (ℓ : Loc nD τ sig) → Buf (Elt Ideal) ℓ) (c : Dev nD)

/-- The input and the weight. -/
abbrev argA : S4096x4096.Idx → EReal := m ((c.tc : Thread nD τ).loc main_arg0)
abbrev argW : S4096x2048.Idx → EReal := m ((c.tc : Thread nD τ).loc main_arg1)

/-- The result. -/
abbrev G : S4096x2048.Idx → EReal := fun i => prod 4096 (cell (argA m c)) (cell (argW m c)) (i 0).val (i 1).val

/-- Where the blocks of a grid point sit. -/
theorem index : ∀ t : Fin cfg0.N, win0_0.index t = ![t.val / 2 / 2, t.val % 2] ∧ win0_1.index t = ![t.val % 2, t.val / 2 % 2] ∧ win0_2.index t = ![t.val / 2 / 2, t.val / 2 % 2] := by
  decide +kernel

theorem zero (j : S1024x1024.Idx) : k0_pay1 (F := Ideal) j = 0 := by pointwise [k0_pay1]

/-- What a point adds to the accumulator. -/
theorem step (a : Vec Ideal S1024x1024 .f32) (t : Fin cfg0.N) (j : S1024x1024.Idx) : k0_pay2 (F := Ideal) a (iblk m c 0 t) (iblk m c 1 t) j
    = a j + part 2048 (t.val % 2) (cell (argA m c)) (cell (argW m c)) (row 2 (t.val / 2) j) (col 2 (t.val / 2) j) := by
  have e (x : Vec Ideal S1024x2048 .bf16) (y : Vec Ideal S2048x1024 .bf16) : k0_pay2 (F := Ideal) a x y j = a j + ∑ k : Fin 2048, x (ix2 (j 0) k) * y (ix2 k (j 1)) := by
    pointwise [k0_pay2]
  rw [e]
  refine congrArg (a j + ·) (sum_fin _ _ fun k => ?_)
  have p := spot 1024 2048 (j 0).val k.val (index t).1
  have q := spot 2048 1024 k.val (j 1).val (index t).2.1
  exact congrArg₂ (· * ·) (at_cell (argA m c) _ p.1 p.2) (at_cell (argW m c) _ q.1 q.2)

/-- The tile written at the last point of its run. -/
theorem tile (t : Fin cfg0.N) (h : t.val % 2 = 1) (j : S1024x1024.Idx) : (outsAt0 m c t.val t.isLt).1 j
    = prod 4096 (cell (argA m c)) (cell (argW m c)) (row 2 (t.val / 2) j) (col 2 (t.val / 2) j) :=
  (show (outsAt0 m c t.val t.isLt).1 j = (outsAt0 m c t.val t.isLt).2 j by
    rw [outsAt0_B m c t (by omega) h]; dsimp only; frame_out; pointwise [k0_pay3]).trans
  (accumulated (fun n h => (outsAt0 m c n h).2) 2 2048 _ _ (row 2) (col 2)
    (fun t h j => by rw [outsAt0_A m c t h (by omega)]; dsimp only; frame_out; rw [step, zero])
    (fun t h j => by rw [outsAt0_B m c t h (by omega)]; dsimp only; frame_out; simp only [read_unread_whole]; rw [step])
    t (by omega) j)

theorem result : (dats m 0 c).arrAt 2 cfg0.N = G m c := by
  refine (dats m 0 c).arrAt_eq_of_covers 2 (G m c) (by decide +kernel) fun t hf y => ?_
  have e := spot 1024 1024 (y 0).val (y 1).val (index t).2.2
  exact (congrFun (after0_2 m c t) _).trans ((tile m c t ((flush0_2 t).mp hf) _).trans (congrArg₂ (prod _ _ _) e.1.symm e.2.symm))

/-- The reference's product. -/
theorem reference_value (x : S4096x4096.Idx → EReal) (y : S4096x2048.Idx → EReal) (i : S4096x2048.Idx) :
    Cert.Reference22Ideal.Read.val_main_v3 (F := Ideal) x y i = prod 4096 (cell x) (cell y) (i 0).val (i 1).val := by
  rw [Cert.Reference22Ideal.Read.val_main_v3_apply]
  exact (Cert.Reference22Ideal.Read.val_main_v2_apply x y i).trans
    (sum_fin _ _ fun _ => congrArg₂ (· * ·) (at_cell x _ rfl rfl) (at_cell y _ rfl rfl))

theorem algebraic : Cert.algebraic_Kernel22Ideal_Reference22Ideal := by
  intro m g m' g' _ hagree
  refine ⟨fun c => G m c,
    (θ_run _ _ _).mono (fun r h c => ⟨(Value.post2 m r h c).trans (result m c), Value.kept_main_arg0 m r h c, Value.kept_main_arg1 m r h c⟩) (run_main m g),
    (θ_run _ _ _).mono (fun r h c => ⟨(h c).1.trans ?_, (h c).2⟩) (Cert.Reference22Ideal.Value.run m' g')⟩
  obtain ⟨e0, e1⟩ := hagree c
  refine (Cert.Reference22Ideal.Read.val_main_v3_eq _ _).trans ?_
  rw [e0, e1]
  exact funext (reference_value _ _)

end Cert.SsmOut.Fwd

end
-- ==== Proof.Square.lean ====
/-
  The projections from 2048 columns to 2048 columns (out of the attention, out of the mixer and the embedding's gate): the gradients of its input and of its weight, and the product itself. Each is a product of matrices in
  tiles of 1024 by 1024, the contracted axis in tiles of 2048.
-/
module

public import proofs.«01_k».proof.Defs
public import Idealize.ShloMosaic.Lib.Pipeline.ReadBack
public import proofs.«01_k».proof.Proof.Product
public import proofs.«01_k».proof.Proof.Gen.Kernel14.Frame
public import proofs.«01_k».proof.Proof.Gen.Kernel14Ideal.Value
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Read
public import proofs.«01_k».proof.Proof.Gen.Kernel23.Frame
public import proofs.«01_k».proof.Proof.Gen.Kernel23Ideal.Value
public import proofs.«01_k».proof.Proof.Gen.Reference23Ideal.Read

@[expose] public section

noncomputable section

open Idealize.ShloMosaic Idealize.ShloMosaic.TcCoe Idealize.SL.Sem Idealize.ShloMosaic.Pipeline Cert.Product

/-! ### The gradient of the input -/

namespace Cert.Square.Da

open Cert.Kernel14Ideal Cert.Kernel14Ideal.Gen

theorem kernel : Cert.quiescent_Kernel14 := fun m ρ _ => Cert.Kernel14.Gen.frame m ρ
theorem kernelIdeal : Cert.quiescent_Kernel14Ideal := fun m ρ _ => Cert.Kernel14Ideal.Gen.frame m ρ
theorem reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

variable (m : (ℓ : Loc nD τ sig) → Buf (Elt Ideal) ℓ) (c : Dev nD)

/-- The incoming gradient and the weight. -/
abbrev argC : S4096x2048.Idx → EReal := m ((c.tc : Thread nD τ).loc main_arg2)
abbrev argW : S2048x2048.Idx → EReal := m ((c.tc : Thread nD τ).loc main_arg1)

/-- The result. -/
abbrev G : S4096x2048.Idx → EReal := fun i => prod 2048 (cell (argC m c)) (fun k j => cell (argW m c) j k) (i 0).val (i 1).val

/-- Where the blocks of a grid point sit. -/
theorem index : ∀ t : Fin cfg0.N, win0_0.index t = ![t.val / 2, 0] ∧ win0_1.index t = ![t.val % 2, 0] ∧ win0_2.index t = ![t.val / 2, t.val % 2] := by
  decide +kernel

/-- The tile a point writes. -/
theorem tile (t : Fin cfg0.N) (j : S1024x1024.Idx) :
    out0_2 (F := Ideal) (iblk m c 0 t) (iblk m c 1 t) j = prod 2048 (cell (argC m c)) (fun k j => cell (argW m c) j k) (row 2 t.val j) (col 2 t.val j) := by
  have e (x : Vec Ideal S1024x2048 .bf16) (y : Vec Ideal S1024x2048 .bf16) : k0_pay1 (F := Ideal) x y j = ∑ k : Fin 2048, x (ix2 (j 0) k) * y (ix2 (j 1) k) := by
    pointwise [k0_pay1]
  frame_out
  rw [e]
  refine sum_fin _ _ fun k => ?_
  have p := spot 1024 2048 (j 0).val k.val (index t).1
  have q := spot 1024 2048 (j 1).val k.val (index t).2.1
  exact congrArg₂ (· * ·) (at_cell (argC m c) _ p.1 (p.2.trans (by omega))) (at_cell (argW m c) _ q.1 (q.2.trans (by omega)))

theorem result : (dats m 0 c).arrAt 2 cfg0.N = G m c := by
  refine (dats m 0 c).arrAt_eq_of_covers 2 (G m c) (by decide +kernel) fun t hf y => ?_
  have e := spot 1024 1024 (y 0).val (y 1).val (index t).2.2
  exact (congrFun (after0_2 m c t) _).trans ((tile m c t _).trans (congrArg₂ (prod _ _ _) e.1.symm e.2.symm))

/-- The reference's product. -/
theorem reference_value (x : S4096x2048.Idx → EReal) (y : S2048x2048.Idx → EReal) (i : S4096x2048.Idx) :
    Cert.Reference14Ideal.Read.val_main_v7 (F := Ideal) y x i = prod 2048 (cell x) (fun k j => cell y j k) (i 0).val (i 1).val := by
  rw [Cert.Reference14Ideal.Read.val_main_v7_apply]
  exact (Cert.Reference14Ideal.Read.val_main_v6_apply y x i).trans
    (sum_fin _ _ fun _ => congrArg₂ (· * ·) (at_cell x _ rfl rfl) (at_cell y _ rfl rfl))

theorem algebraic : Cert.algebraic_Kernel14Ideal_Reference14Ideal := by
  intro m g m' g' _ hagree
  refine ⟨fun c => G m c,
    (θ_run _ _ _).mono (fun r h c => ⟨(Value.post2 m r h c).trans (result m c), Value.kept_main_arg0 m r h c, Value.kept_main_arg1 m r h c, Value.kept_main_arg2 m r h c⟩) (run_main m g),
    (θ_run _ _ _).mono (fun r h c => ⟨(h c).1.trans ?_, (h c).2⟩) (Cert.Reference14Ideal.Value.run m' g')⟩
  obtain ⟨-, e1, e2⟩ := hagree c
  refine (Cert.Reference14Ideal.Read.val_main_v7_eq _ _).trans ?_
  rw [e1, e2]
  exact funext (reference_value _ _)

end Cert.Square.Da

/-! ### The gradient of the weight -/

namespace Cert.Square.Dw

open Cert.Kernel15Ideal Cert.Kernel15Ideal.Gen

theorem kernel : Cert.quiescent_Kernel15 := fun m ρ _ => Cert.Kernel15.Gen.frame m ρ
theorem kernelIdeal : Cert.quiescent_Kernel15Ideal := fun m ρ _ => Cert.Kernel15Ideal.Gen.frame m ρ
theorem reference : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

variable (m : (ℓ : Loc nD τ sig) → Buf (Elt Ideal) ℓ) (c : Dev nD)

/-- The input and the incoming gradient. -/
abbrev argA : S4096x2048.Idx → EReal := m ((c.tc : Thread nD τ).loc main_arg0)
abbrev argC : S4096x2048.Idx → EReal := m ((c.tc : Thread nD τ).loc main_arg2)

/-- The result. -/
abbrev G : S2048x2048.Idx → EReal := fun i => prod 4096 (fun i k => cell (argA m c) k i) (cell (argC m c)) (i 0).val (i 1).val

/-- Where the blocks of a grid point sit. -/
theorem index : ∀ t : Fin cfg0.N, win0_0.index t = ![t.val % 2, t.val / 2 / 2] ∧ win0_1.index t = ![t.val % 2, t.val / 2 % 2] ∧ win0_2.index t = ![t.val / 2 / 2, t.val / 2 % 2] := by
  decide +kernel

theorem zero (j : S1024x1024.Idx) : k0_pay1 (F := Ideal) j = 0 := by pointwise [k0_pay1]

/-- What a point adds to the accumulator. -/
theorem step (a : Vec Ideal S1024x1024 .f32) (t : Fin cfg0.N) (j : S1024x1024.Idx) : k0_pay2 (F := Ideal) a (iblk m c 0 t) (iblk m c 1 t) j
    = a j + part 2048 (t.val % 2) (fun i k => cell (argA m c) k i) (cell (argC m c)) (row 2 (t.val / 2) j) (col 2 (t.val / 2) j) := by
  have e (x : Vec Ideal S2048x1024 .bf16) (y : Vec Ideal S2048x1024 .bf16) : k0_pay2 (F := Ideal) a x y j = a j + ∑ k : Fin 2048, x (ix2 k (j 0)) * y (ix2 k (j 1)) := by
    pointwise [k0_pay2]
  rw [e]
  refine congrArg (a j + ·) (sum_fin _ _ fun k => ?_)
  have p := spot 2048 1024 k.val (j 0).val (index t).1
  have q := spot 2048 1024 k.val (j 1).val (index t).2.1
  exact congrArg₂ (· * ·) (at_cell (argA m c) _ p.1 p.2) (at_cell (argC m c) _ q.1 q.2)

/-- The tile written at the last point of its run. -/
theorem tile (t : Fin cfg0.N) (h : t.val % 2 = 1) (j : S1024x1024.Idx) : (outsAt0 m c t.val t.isLt).1 j
    = prod 4096 (fun i k => cell (argA m c) k i) (cell (argC m c)) (row 2 (t.val / 2) j) (col 2 (t.val / 2) j) :=
  (show (outsAt0 m c t.val t.isLt).1 j = (outsAt0 m c t.val t.isLt).2 j by
    rw [outsAt0_B m c t (by omega) h]; dsimp only; frame_out).trans
  (accumulated (fun n h => (outsAt0 m c n h).2) 2 2048 _ _ (row 2) (col 2)
    (fun t h j => by rw [outsAt0_A m c t h (by omega)]; dsimp only; frame_out; rw [step, zero])
    (fun t h j => by rw [outsAt0_B m c t h (by omega)]; dsimp only; frame_out; simp only [read_unread_whole]; rw [step])
    t (by omega) j)

theorem result : (dats m 0 c).arrAt 2 cfg0.N = G m c := by
  refine (dats m 0 c).arrAt_eq_of_covers 2 (G m c) (by decide +kernel) fun t hf y => ?_
  have e := spot 1024 1024 (y 0).val (y 1).val (index t).2.2
  exact (congrFun (after0_2 m c t) _).trans ((tile m c t ((flush0_2 t).mp hf) _).trans (congrArg₂ (prod _ _ _) e.1.symm e.2.symm))

/-- The reference's product. -/
theorem reference_value (x : S4096x2048.Idx → EReal) (y : S4096x2048.Idx → EReal) (i : S2048x2048.Idx) :
    Cert.Reference15Ideal.Read.val_main_v5 (F := Ideal) x y i = prod 4096 (fun i k => cell x k i) (cell y) (i 0).val (i 1).val := by
  rw [Cert.Reference15Ideal.Read.val_main_v5_apply, Cert.Reference15Ideal.Read.val_main_v4_apply]
  refine sum_fin _ _ fun k => ?_
  rw [mul_comm]
  exact congrArg₂ (· * ·) (at_cell x _ rfl rfl) (at_cell y _ rfl rfl)

theorem algebraic : Cert.algebraic_Kernel15Ideal_Reference15Ideal := by
  intro m g m' g' _ hagree
  refine ⟨fun c => G m c,
    (θ_run _ _ _).mono (fun r h c => ⟨(Value.post2 m r h c).trans (result m c), Value.kept_main_arg0 m r h c, Value.kept_main_arg1 m r h c, Value.kept_main_arg2 m r h c⟩) (run_main m g),
    (θ_run _ _ _).mono (fun r h c => ⟨(h c).1.trans ?_, (h c).2⟩) (Cert.Reference15Ideal.Value.run m' g')⟩
  obtain ⟨e0, -, e2⟩ := hagree c
  refine (Cert.Reference15Ideal.Read.val_main_v5_eq _ _).trans ?_
  rw [e0, e2]
  exact funext (reference_value _ _)

end Cert.Square.Dw

/-! ### The product -/

namespace Cert.Square.Fwd

open Cert.Kernel23Ideal Cert.Kernel23Ideal.Gen

theorem kernel : Cert.quiescent_Kernel23 := fun m ρ _ => Cert.Kernel23.Gen.frame m ρ
theorem kernelIdeal : Cert.quiescent_Kernel23Ideal := fun m ρ _ => Cert.Kernel23Ideal.Gen.frame m ρ
theorem reference : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

variable (m : (ℓ : Loc nD τ sig) → Buf (Elt Ideal) ℓ) (c : Dev nD)

/-- The input and the weight. -/
abbrev argA : S4096x2048.Idx → EReal := m ((c.tc : Thread nD τ).loc main_arg0)
abbrev argW : S2048x2048.Idx → EReal := m ((c.tc : Thread nD τ).loc main_arg1)

/-- The result. -/
abbrev G : S4096x2048.Idx → EReal := fun i => prod 2048 (cell (argA m c)) (cell (argW m c)) (i 0).val (i 1).val

/-- Where the blocks of a grid point sit. -/
theorem index : ∀ t : Fin cfg0.N, win0_0.index t = ![t.val / 2, 0] ∧ win0_1.index t = ![0, t.val % 2] ∧ win0_2.index t = ![t.val / 2, t.val % 2] := by
  decide +kernel

/-- The tile a point writes. -/
theorem tile (t : Fin cfg0.N) (j : S1024x1024.Idx) :
    out0_2 (F := Ideal) (iblk m c 0 t) (iblk m c 1 t) j = prod 2048 (cell (argA m c)) (cell (argW m c)) (row 2 t.val j) (col 2 t.val j) := by
  have e (x : Vec Ideal S1024x2048 .bf16) (y : Vec Ideal S2048x1024 .bf16) : k0_pay1 (F := Ideal) x y j = ∑ k : Fin 2048, x (ix2 (j 0) k) * y (ix2 k (j 1)) := by
    pointwise [k0_pay1]
  frame_out
  rw [e]
  refine sum_fin _ _ fun k => ?_
  have p := spot 1024 2048 (j 0).val k.val (index t).1
  have q := spot 2048 1024 k.val (j 1).val (index t).2.1
  exact congrArg₂ (· * ·) (at_cell (argA m c) _ p.1 (p.2.trans (by omega))) (at_cell (argW m c) _ (q.1.trans (by omega)) q.2)

theorem result : (dats m 0 c).arrAt 2 cfg0.N = G m c := by
  refine (dats m 0 c).arrAt_eq_of_covers 2 (G m c) (by decide +kernel) fun t hf y => ?_
  have e := spot 1024 1024 (y 0).val (y 1).val (index t).2.2
  exact (congrFun (after0_2 m c t) _).trans ((tile m c t _).trans (congrArg₂ (prod _ _ _) e.1.symm e.2.symm))

/-- The reference's product. -/
theorem reference_value (x : S4096x2048.Idx → EReal) (y : S2048x2048.Idx → EReal) (i : S4096x2048.Idx) :
    Cert.Reference23Ideal.Read.val_main_v3 (F := Ideal) x y i = prod 2048 (cell x) (cell y) (i 0).val (i 1).val := by
  rw [Cert.Reference23Ideal.Read.val_main_v3_apply]
  exact (Cert.Reference23Ideal.Read.val_main_v2_apply x y i).trans
    (sum_fin _ _ fun _ => congrArg₂ (· * ·) (at_cell x _ rfl rfl) (at_cell y _ rfl rfl))

theorem algebraic : Cert.algebraic_Kernel23Ideal_Reference23Ideal := by
  intro m g m' g' _ hagree
  refine ⟨fun c => G m c,
    (θ_run _ _ _).mono (fun r h c => ⟨(Value.post2 m r h c).trans (result m c), Value.kept_main_arg0 m r h c, Value.kept_main_arg1 m r h c⟩) (run_main m g),
    (θ_run _ _ _).mono (fun r h c => ⟨(h c).1.trans ?_, (h c).2⟩) (Cert.Reference23Ideal.Value.run m' g')⟩
  obtain ⟨e0, e1⟩ := hagree c
  refine (Cert.Reference23Ideal.Read.val_main_v3_eq _ _).trans ?_
  rw [e0, e1]
  exact funext (reference_value _ _)

end Cert.Square.Fwd

end
-- ==== Proof.Gate.lean ====
/-
  The projections to the two gates of the mixer: the gradients of its input and of its weight, and the product itself. Each is a product of matrices in
  tiles of 1024 by 1024, the contracted axis in tiles of 2048.
-/
module

public import proofs.«01_k».proof.Defs
public import Idealize.ShloMosaic.Lib.Pipeline.ReadBack
public import proofs.«01_k».proof.Proof.Product
public import proofs.«01_k».proof.Proof.Gen.Kernel16.Frame
public import proofs.«01_k».proof.Proof.Gen.Kernel16Ideal.Value
public import proofs.«01_k».proof.Proof.Gen.Reference16Ideal.Read
public import proofs.«01_k».proof.Proof.Gen.Kernel17.Frame
public import proofs.«01_k».proof.Proof.Gen.Kernel17Ideal.Value
public import proofs.«01_k».proof.Proof.Gen.Reference17Ideal.Read
public import proofs.«01_k».proof.Proof.Gen.Kernel24.Frame
public import proofs.«01_k».proof.Proof.Gen.Kernel24Ideal.Value
public import proofs.«01_k».proof.Proof.Gen.Reference24Ideal.Read

@[expose] public section

noncomputable section

open Idealize.ShloMosaic Idealize.ShloMosaic.TcCoe Idealize.SL.Sem Idealize.ShloMosaic.Pipeline Cert.Product

/-! ### The gradient of the input -/

namespace Cert.Gate.Da

open Cert.Kernel16Ideal Cert.Kernel16Ideal.Gen

theorem kernel : Cert.quiescent_Kernel16 := fun m ρ _ => Cert.Kernel16.Gen.frame m ρ
theorem kernelIdeal : Cert.quiescent_Kernel16Ideal := fun m ρ _ => Cert.Kernel16Ideal.Gen.frame m ρ
theorem reference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

variable (m : (ℓ : Loc nD τ sig) → Buf (Elt Ideal) ℓ) (c : Dev nD)

/-- The incoming gradient and the weight. -/
abbrev argC : S4096x2048.Idx → EReal := m ((c.tc : Thread nD τ).loc main_arg2)
abbrev argW : S2048x2048.Idx → EReal := m ((c.tc : Thread nD τ).loc main_arg1)

/-- The result. -/
abbrev G : S4096x2048.Idx → EReal := fun i => prod 2048 (cell (argC m c)) (fun k j => cell (argW m c) j k) (i 0).val (i 1).val

/-- Where the blocks of a grid point sit. -/
theorem index : ∀ t : Fin cfg0.N, win0_0.index t = ![t.val / 2, 0] ∧ win0_1.index t = ![t.val % 2, 0] ∧ win0_2.index t = ![t.val / 2, t.val % 2] := by
  decide +kernel

/-- The tile a point writes. -/
theorem tile (t : Fin cfg0.N) (j : S1024x1024.Idx) :
    out0_2 (F := Ideal) (iblk m c 0 t) (iblk m c 1 t) j = prod 2048 (cell (argC m c)) (fun k j => cell (argW m c) j k) (row 2 t.val j) (col 2 t.val j) := by
  have e (x : Vec Ideal S1024x2048 .bf16) (y : Vec Ideal S1024x2048 .bf16) : k0_pay1 (F := Ideal) x y j = ∑ k : Fin 2048, x (ix2 (j 0) k) * y (ix2 (j 1) k) := by
    pointwise [k0_pay1]
  frame_out
  rw [e]
  refine sum_fin _ _ fun k => ?_
  have p := spot 1024 2048 (j 0).val k.val (index t).1
  have q := spot 1024 2048 (j 1).val k.val (index t).2.1
  exact congrArg₂ (· * ·) (at_cell (argC m c) _ p.1 (p.2.trans (by omega))) (at_cell (argW m c) _ q.1 (q.2.trans (by omega)))

theorem result : (dats m 0 c).arrAt 2 cfg0.N = G m c := by
  refine (dats m 0 c).arrAt_eq_of_covers 2 (G m c) (by decide +kernel) fun t hf y => ?_
  have e := spot 1024 1024 (y 0).val (y 1).val (index t).2.2
  exact (congrFun (after0_2 m c t) _).trans ((tile m c t _).trans (congrArg₂ (prod _ _ _) e.1.symm e.2.symm))

/-- The reference's product. -/
theorem reference_value (x : S4096x2048.Idx → EReal) (y : S2048x2048.Idx → EReal) (i : S4096x2048.Idx) :
    Cert.Reference16Ideal.Read.val_main_v5 (F := Ideal) y x i = prod 2048 (cell x) (fun k j => cell y j k) (i 0).val (i 1).val := by
  exact (Cert.Reference16Ideal.Read.val_main_v5_apply y x i).trans (sum_fin _ _ fun _ => congrArg₂ (· * ·) (at_cell x _ rfl rfl) (at_cell y _ rfl rfl))

theorem algebraic : Cert.algebraic_Kernel16Ideal_Reference16Ideal := by
  intro m g m' g' _ hagree
  refine ⟨fun c => G m c,
    (θ_run _ _ _).mono (fun r h c => ⟨(Value.post2 m r h c).trans (result m c), Value.kept_main_arg0 m r h c, Value.kept_main_arg1 m r h c, Value.kept_main_arg2 m r h c⟩) (run_main m g),
    (θ_run _ _ _).mono (fun r h c => ⟨(h c).1.trans ?_, (h c).2⟩) (Cert.Reference16Ideal.Value.run m' g')⟩
  obtain ⟨-, e1, e2⟩ := hagree c
  refine (Cert.Reference16Ideal.Read.val_main_v5_eq _ _).trans ?_
  rw [e1, e2]
  exact funext (reference_value _ _)

end Cert.Gate.Da

/-! ### The gradient of the weight -/

namespace Cert.Gate.Dw

open Cert.Kernel17Ideal Cert.Kernel17Ideal.Gen

theorem kernel : Cert.quiescent_Kernel17 := fun m ρ _ => Cert.Kernel17.Gen.frame m ρ
theorem kernelIdeal : Cert.quiescent_Kernel17Ideal := fun m ρ _ => Cert.Kernel17Ideal.Gen.frame m ρ
theorem reference : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

variable (m : (ℓ : Loc nD τ sig) → Buf (Elt Ideal) ℓ) (c : Dev nD)

/-- The input and the incoming gradient. -/
abbrev argA : S4096x2048.Idx → EReal := m ((c.tc : Thread nD τ).loc main_arg0)
abbrev argC : S4096x2048.Idx → EReal := m ((c.tc : Thread nD τ).loc main_arg2)

/-- The result. -/
abbrev G : S2048x2048.Idx → EReal := fun i => prod 4096 (fun i k => cell (argA m c) k i) (cell (argC m c)) (i 0).val (i 1).val

/-- Where the blocks of a grid point sit. -/
theorem index : ∀ t : Fin cfg0.N, win0_0.index t = ![t.val % 2, t.val / 2 / 2] ∧ win0_1.index t = ![t.val % 2, t.val / 2 % 2] ∧ win0_2.index t = ![t.val / 2 / 2, t.val / 2 % 2] := by
  decide +kernel

theorem zero (j : S1024x1024.Idx) : k0_pay1 (F := Ideal) j = 0 := by pointwise [k0_pay1]

/-- What a point adds to the accumulator. -/
theorem step (a : Vec Ideal S1024x1024 .f32) (t : Fin cfg0.N) (j : S1024x1024.Idx) : k0_pay2 (F := Ideal) a (iblk m c 0 t) (iblk m c 1 t) j
    = a j + part 2048 (t.val % 2) (fun i k => cell (argA m c) k i) (cell (argC m c)) (row 2 (t.val / 2) j) (col 2 (t.val / 2) j) := by
  have e (x : Vec Ideal S2048x1024 .f32) (y : Vec Ideal S2048x1024 .bf16) : k0_pay2 (F := Ideal) a x y j = a j + ∑ k : Fin 2048, x (ix2 k (j 0)) * y (ix2 k (j 1)) := by
    pointwise [k0_pay2]
  rw [e]
  refine congrArg (a j + ·) (sum_fin _ _ fun k => ?_)
  have p := spot 2048 1024 k.val (j 0).val (index t).1
  have q := spot 2048 1024 k.val (j 1).val (index t).2.1
  exact congrArg₂ (· * ·) (at_cell (argA m c) _ p.1 p.2) (at_cell (argC m c) _ q.1 q.2)

/-- The tile written at the last point of its run. -/
theorem tile (t : Fin cfg0.N) (h : t.val % 2 = 1) (j : S1024x1024.Idx) : (outsAt0 m c t.val t.isLt).1 j
    = prod 4096 (fun i k => cell (argA m c) k i) (cell (argC m c)) (row 2 (t.val / 2) j) (col 2 (t.val / 2) j) :=
  (show (outsAt0 m c t.val t.isLt).1 j = (outsAt0 m c t.val t.isLt).2 j by
    rw [outsAt0_B m c t (by omega) h]; dsimp only; frame_out).trans
  (accumulated (fun n h => (outsAt0 m c n h).2) 2 2048 _ _ (row 2) (col 2)
    (fun t h j => by rw [outsAt0_A m c t h (by omega)]; dsimp only; frame_out; rw [step, zero])
    (fun t h j => by rw [outsAt0_B m c t h (by omega)]; dsimp only; frame_out; simp only [read_unread_whole]; rw [step])
    t (by omega) j)

theorem result : (dats m 0 c).arrAt 2 cfg0.N = G m c := by
  refine (dats m 0 c).arrAt_eq_of_covers 2 (G m c) (by decide +kernel) fun t hf y => ?_
  have e := spot 1024 1024 (y 0).val (y 1).val (index t).2.2
  exact (congrFun (after0_2 m c t) _).trans ((tile m c t ((flush0_2 t).mp hf) _).trans (congrArg₂ (prod _ _ _) e.1.symm e.2.symm))

/-- The reference's product. -/
theorem reference_value (x : S4096x2048.Idx → EReal) (y : S4096x2048.Idx → EReal) (i : S2048x2048.Idx) :
    Cert.Reference17Ideal.Read.val_main_v4 (F := Ideal) x y i = prod 4096 (fun i k => cell x k i) (cell y) (i 0).val (i 1).val := by
  rw [Cert.Reference17Ideal.Read.val_main_v4_apply, Cert.Reference17Ideal.Read.val_main_v3_apply]
  refine sum_fin _ _ fun k => ?_
  rw [mul_comm]
  exact congrArg₂ (· * ·) (at_cell x _ rfl rfl) (at_cell y _ rfl rfl)

theorem algebraic : Cert.algebraic_Kernel17Ideal_Reference17Ideal := by
  intro m g m' g' _ hagree
  refine ⟨fun c => G m c,
    (θ_run _ _ _).mono (fun r h c => ⟨(Value.post2 m r h c).trans (result m c), Value.kept_main_arg0 m r h c, Value.kept_main_arg1 m r h c, Value.kept_main_arg2 m r h c⟩) (run_main m g),
    (θ_run _ _ _).mono (fun r h c => ⟨(h c).1.trans ?_, (h c).2⟩) (Cert.Reference17Ideal.Value.run m' g')⟩
  obtain ⟨e0, -, e2⟩ := hagree c
  refine (Cert.Reference17Ideal.Read.val_main_v4_eq _ _).trans ?_
  rw [e0, e2]
  exact funext (reference_value _ _)

end Cert.Gate.Dw

/-! ### The product -/

namespace Cert.Gate.Fwd

open Cert.Kernel24Ideal Cert.Kernel24Ideal.Gen

theorem kernel : Cert.quiescent_Kernel24 := fun m ρ _ => Cert.Kernel24.Gen.frame m ρ
theorem kernelIdeal : Cert.quiescent_Kernel24Ideal := fun m ρ _ => Cert.Kernel24Ideal.Gen.frame m ρ
theorem reference : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

variable (m : (ℓ : Loc nD τ sig) → Buf (Elt Ideal) ℓ) (c : Dev nD)

/-- The input and the weight. -/
abbrev argA : S4096x2048.Idx → EReal := m ((c.tc : Thread nD τ).loc main_arg0)
abbrev argW : S2048x2048.Idx → EReal := m ((c.tc : Thread nD τ).loc main_arg1)

/-- The result. -/
abbrev G : S4096x2048.Idx → EReal := fun i => prod 2048 (cell (argA m c)) (cell (argW m c)) (i 0).val (i 1).val

/-- Where the blocks of a grid point sit. -/
theorem index : ∀ t : Fin cfg0.N, win0_0.index t = ![t.val / 2, 0] ∧ win0_1.index t = ![0, t.val % 2] ∧ win0_2.index t = ![t.val / 2, t.val % 2] := by
  decide +kernel

/-- The tile a point writes. -/
theorem tile (t : Fin cfg0.N) (j : S1024x1024.Idx) :
    out0_2 (F := Ideal) (iblk m c 0 t) (iblk m c 1 t) j = prod 2048 (cell (argA m c)) (cell (argW m c)) (row 2 t.val j) (col 2 t.val j) := by
  have e (x : Vec Ideal S1024x2048 .f32) (y : Vec Ideal S2048x1024 .bf16) : k0_pay1 (F := Ideal) x y j = ∑ k : Fin 2048, x (ix2 (j 0) k) * y (ix2 k (j 1)) := by
    pointwise [k0_pay1]
  frame_out
  rw [e]
  refine sum_fin _ _ fun k => ?_
  have p := spot 1024 2048 (j 0).val k.val (index t).1
  have q := spot 2048 1024 k.val (j 1).val (index t).2.1
  exact congrArg₂ (· * ·) (at_cell (argA m c) _ p.1 (p.2.trans (by omega))) (at_cell (argW m c) _ (q.1.trans (by omega)) q.2)

theorem result : (dats m 0 c).arrAt 2 cfg0.N = G m c := by
  refine (dats m 0 c).arrAt_eq_of_covers 2 (G m c) (by decide +kernel) fun t hf y => ?_
  have e := spot 1024 1024 (y 0).val (y 1).val (index t).2.2
  exact (congrFun (after0_2 m c t) _).trans ((tile m c t _).trans (congrArg₂ (prod _ _ _) e.1.symm e.2.symm))

/-- The reference's product. -/
theorem reference_value (x : S4096x2048.Idx → EReal) (y : S2048x2048.Idx → EReal) (i : S4096x2048.Idx) :
    Cert.Reference24Ideal.Read.val_main_v2 (F := Ideal) x y i = prod 2048 (cell x) (cell y) (i 0).val (i 1).val := by
  rw [Cert.Reference24Ideal.Read.val_main_v2_apply]
  exact (Cert.Reference24Ideal.Read.val_main_v1_apply x y i).trans
    (sum_fin _ _ fun _ => congrArg₂ (· * ·) (at_cell x _ rfl rfl) (at_cell y _ rfl rfl))

theorem algebraic : Cert.algebraic_Kernel24Ideal_Reference24Ideal := by
  intro m g m' g' _ hagree
  refine ⟨fun c => G m c,
    (θ_run _ _ _).mono (fun r h c => ⟨(Value.post2 m r h c).trans (result m c), Value.kept_main_arg0 m r h c, Value.kept_main_arg1 m r h c⟩) (run_main m g),
    (θ_run _ _ _).mono (fun r h c => ⟨(h c).1.trans ?_, (h c).2⟩) (Cert.Reference24Ideal.Value.run m' g')⟩
  obtain ⟨e0, e1⟩ := hagree c
  refine (Cert.Reference24Ideal.Read.val_main_v2_eq _ _).trans ?_
  rw [e0, e1]
  exact funext (reference_value _ _)

end Cert.Gate.Fwd

end
-- ==== Proof.Conv.lean ====
/-
  The causal convolution of the state-space branch, four taps along the rows: its gradients and its forward pass, in tiles of
  512 by 512 that also read the 16 rows before the tile or after it.
-/
module

public import proofs.«01_k».proof.Defs
public import Idealize.ShloMosaic.Lib.Pipeline.ReadBack
public import proofs.«01_k».proof.Proof.Product
public import proofs.«01_k».proof.Proof.Gen.Kernel25.Frame
public import proofs.«01_k».proof.Proof.Gen.Kernel25Ideal.Value
public import proofs.«01_k».proof.Proof.Gen.Reference25Ideal.Read
public import proofs.«01_k».proof.Proof.Gen.Kernel26.Frame
public import proofs.«01_k».proof.Proof.Gen.Kernel26Ideal.Value
public import proofs.«01_k».proof.Proof.Gen.Reference26Ideal.Read

@[expose] public section

noncomputable section

open Idealize.ShloMosaic Idealize.ShloMosaic.TcCoe Idealize.SL.Sem Idealize.ShloMosaic.Pipeline Cert.Product

namespace Cert.Conv

/-- The entry `k` rows up, `0` above the first row. -/
def past {A B : ℕ} (x : (⟨2, ![A, B]⟩ : Shape).Idx → EReal) (k r c : ℕ) : EReal := if k ≤ r then cell x (r - k) c else 0

theorem past_add {A B : ℕ} (x : (⟨2, ![A, B]⟩ : Shape).Idx → EReal) {k a r c : ℕ} (h : a + k = r + 16) : past x 16 a c = past x k r c := by
  unfold past
  by_cases hk : k ≤ r
  · rw [if_pos hk, if_pos (by omega)]; exact congrArg (cell x · c) (by omega)
  · rw [if_neg hk, if_neg (by omega)]

/-- An entry of the convolution. -/
def conv {A B : ℕ} (x : (⟨2, ![A, B]⟩ : Shape).Idx → EReal) (w : (⟨2, ![4, B]⟩ : Shape).Idx → EReal) (r c : ℕ) : EReal :=
  past x 3 r c * cell w 0 c + past x 2 r c * cell w 1 c + past x 1 r c * cell w 2 c + past x 0 r c * cell w 3 c

/-- An entry of the gradient of its input. -/
def back {A B : ℕ} (d : (⟨2, ![A, B]⟩ : Shape).Idx → EReal) (w : (⟨2, ![4, B]⟩ : Shape).Idx → EReal) (r c : ℕ) : EReal :=
  cell d (r + 3) c * cell w 0 c + cell d (r + 2) c * cell w 1 c + cell d (r + 1) c * cell w 2 c + cell d r c * cell w 3 c

/-- An entry of the gradient of its taps; the tap and the column are named by one number. -/
def taps {A B : ℕ} (x : (⟨2, ![A, B]⟩ : Shape).Idx → EReal) (i k : ℕ) : EReal := past x (3 - i % 4) k (i / 4)

theorem first : ∀ k : Fin 8, Scalar.cmpi .sgt (BitVec.ofNat 32 k.val) 0#32 = if k.val = 0 then 0#1 else 1#1 := by decide
theorem last : ∀ k : Fin 8, Scalar.cmpi .slt (BitVec.ofNat 32 k.val) 7#32 = if k.val = 7 then 0#1 else 1#1 := by decide

/-- The value that the number of a tap selects among four. -/
theorem choose {a0 a1 a2 a3 z v : EReal} (k : ℕ) (hk : k < 4) (h0 : k = 0 → a0 = v) (h1 : k = 1 → a1 = v) (h2 : k = 2 → a2 = v) (h3 : k = 3 → a3 = v) :
    Scalar.select (IntOp.cmpi .eq (BitVec.ofNat 32 k) 3#32) a3 (Scalar.select (IntOp.cmpi .eq (BitVec.ofNat 32 k) 2#32) a2
      (Scalar.select (IntOp.cmpi .eq (BitVec.ofNat 32 k) 1#32) a1 (Scalar.select (IntOp.cmpi .eq (BitVec.ofNat 32 k) 0#32) a0 z))) = v := by
  obtain rfl | rfl | rfl | rfl : k = 0 ∨ k = 1 ∨ k = 2 ∨ k = 3 := by omega
  exacts [h0 rfl, h1 rfl, h2 rfl, h3 rfl]

/-- A shifted entry times a tap, `0` where the shift leaves the array. -/
theorem shifted {A B n : ℕ} (d : (⟨2, ![A, B]⟩ : Shape).Idx → EReal) (w : EReal) {P : Prop} [Decidable P] (f : P → Fin A) (c : Fin B)
    (h : ∀ p, (f p).val = n) (hP : ¬P → A ≤ n) : (if p : P then d (ix2 (f p) c) * w else 0) = cell d n c.val * w := by
  by_cases p : P
  · rw [dif_pos p]; exact congrArg (· * w) (at_cell d _ (h p) rfl)
  · rw [dif_neg p, cell, dif_neg (by have := hP p; omega), zero_mul]

/-- The one row among four that a row number lies in. -/
theorem pick {v : EReal} (k : ℕ) (hk : k < 4) {a3 : 3 ≤ k ∧ k - 3 < 1 → EReal} {a2 : 2 ≤ k ∧ k - 2 < 1 → EReal} {a1 : 1 ≤ k ∧ k - 1 < 1 → EReal}
    {a0 : k < 1 → EReal} (h3 : k = 3 → ∀ p, a3 p = v) (h2 : k = 2 → ∀ p, a2 p = v) (h1 : k = 1 → ∀ p, a1 p = v) (h0 : k = 0 → ∀ p, a0 p = v) :
    (if p : 3 ≤ k ∧ k - 3 < 1 then a3 p else 0) + (if p : 2 ≤ k ∧ k - 2 < 1 then a2 p else 0) + (if p : 1 ≤ k ∧ k - 1 < 1 then a1 p else 0)
      + (if p : k < 1 then a0 p else 0) = v := by
  obtain rfl | rfl | rfl | rfl : k = 0 ∨ k = 1 ∨ k = 2 ∨ k = 3 := by omega
  · rw [dif_neg (by omega), dif_neg (by omega), dif_neg (by omega), dif_pos (by omega), zero_add, zero_add, zero_add]; exact h0 rfl _
  · rw [dif_neg (by omega), dif_neg (by omega), dif_pos (by omega), dif_neg (by omega), zero_add, zero_add, add_zero]; exact h1 rfl _
  · rw [dif_neg (by omega), dif_pos (by omega), dif_neg (by omega), dif_neg (by omega), zero_add, add_zero, add_zero]; exact h2 rfl _
  · rw [dif_pos (by omega), dif_neg (by omega), dif_neg (by omega), dif_neg (by omega), add_zero, add_zero, add_zero]; exact h3 rfl _

/-- An entry of the array with three zero rows put before it. -/
theorem padded {A B k n : ℕ} (x : (⟨2, ![A, B]⟩ : Shape).Idx → EReal) (r : ℕ) (f : ¬n < 3 → Fin A) (c : Fin B) (hn : n + k = r + 3)
    (h : ∀ p, (f p).val = n - 3) : (if p : n < 3 then 0 else x (ix2 (f p) c)) = past x k r c.val := by
  by_cases p : n < 3
  · rw [dif_pos p, past, if_neg (by omega)]
  · rw [dif_neg p, past, if_pos (by omega)]; exact at_cell x _ ((h p).trans (by omega)) rfl

/-! ### The gradients -/

namespace Bwd

open Cert.Kernel25Ideal Cert.Kernel25Ideal.Gen

theorem kernel : Cert.quiescent_Kernel25 := fun m ρ _ => Cert.Kernel25.Gen.frame m ρ
theorem kernelIdeal : Cert.quiescent_Kernel25Ideal := fun m ρ _ => Cert.Kernel25Ideal.Gen.frame m ρ
theorem reference : Cert.quiescent_Reference25Ideal := fun m ρ _ =>
  (θ_run Cert.Reference25Ideal.defs _ _).mono (fun r h => ⟨fun c => (h c).2.2, sem_eq_zero_of_no_sems (by decide) r.2⟩)
    (Cert.Reference25Ideal.Value.run (F := Ideal) m ρ)

variable (m : (ℓ : Loc nD τ sig) → Buf (Elt Ideal) ℓ) (c : Dev nD)

/-- The input, the taps and the incoming gradient. -/
abbrev argX : S4096x6144.Idx → EReal := m ((c.tc : Thread nD τ).loc main_arg0)
abbrev argW : S4x6144.Idx → EReal := m ((c.tc : Thread nD τ).loc main_arg1)
abbrev argD : S4096x6144.Idx → EReal := m ((c.tc : Thread nD τ).loc main_arg2)

/-- Where the blocks of a grid point sit. -/
theorem index : ∀ t : Fin cfg0.N, win0_0.index t = ![t.val % 8, t.val / 8] ∧ win0_1.index t = ![t.val % 8 * 32 - 1, t.val / 8]
    ∧ win0_2.index t = ![0, t.val / 8] ∧ win0_3.index t = ![t.val % 8, t.val / 8]
    ∧ win0_4.index t = ![min ((t.val % 8 + 1) * 32) 255, t.val / 8] ∧ win0_5.index t = ![t.val % 8, t.val / 8]
    ∧ win0_6.index t = ![0, t.val / 8] := by
  decide +kernel

theorem axis : ∀ t : Fin cfg0.N, ((grid0.coords t) 1).val = t.val % 8 := by decide +kernel

/-- The tile of the input with the 16 rows before it. -/
theorem before (t : Fin cfg0.N) (n : Fin 528) (q : Fin 512) :
    k0_pay2 (F := Ideal) (grid0.coords t) (iblk m c 1 t) (iblk m c 0 t) (ix2 n q)
      = past (argX m c) 16 (t.val % 8 * 512 + n.val) (t.val / 8 * 512 + q.val) := by
  have e (i : grid0.Coords) (p : Vec Ideal S16x512 .bf16) (x : Vec Ideal S512x512 .bf16) : k0_pay2 (F := Ideal) i p x (ix2 n q)
      = if h : n.val < 16 then Scalar.select (Scalar.cmpi .sgt (BitVec.ofNat 32 (i 1).val) 0#32) (p (ix2 ⟨n.val, h⟩ q)) 0
        else x (ix2 ⟨n.val - 16, by omega⟩ q) := by
    pointwise [k0_pay2]
  rw [e, axis, first ⟨t.val % 8, by omega⟩]
  obtain ⟨i0, i1, -⟩ := index t
  split
  · by_cases h8 : t.val % 8 = 0
    · rw [if_pos h8, past, if_neg (by omega)]; rfl
    · rw [if_neg h8, past, if_pos (by omega)]
      have s := spot 16 512 n.val q.val i1
      exact at_cell (argX m c) _ (s.1.trans (by omega)) s.2
  · rw [past, if_pos (by omega)]
    have s := spot 512 512 (n.val - 16) q.val i0
    exact at_cell (argX m c) _ (s.1.trans (by omega)) s.2

/-- The tile of the incoming gradient with the 16 rows after it. -/
theorem after (t : Fin cfg0.N) (n : Fin 528) (q : Fin 512) :
    k0_pay3 (F := Ideal) (grid0.coords t) (iblk m c 3 t) (iblk m c 4 t) (ix2 n q)
      = cell (argD m c) (t.val % 8 * 512 + n.val) (t.val / 8 * 512 + q.val) := by
  have e (i : grid0.Coords) (x : Vec Ideal S512x512 .f32) (p : Vec Ideal S16x512 .f32) : k0_pay3 (F := Ideal) i x p (ix2 n q)
      = if h : n.val < 512 then x (ix2 ⟨n.val, h⟩ q)
        else Scalar.select (Scalar.cmpi .slt (BitVec.ofNat 32 (i 1).val) 7#32) (p (ix2 ⟨n.val - 512, by omega⟩ q)) 0 := by
    pointwise [k0_pay3]
  rw [e, axis, last ⟨t.val % 8, by omega⟩]
  obtain ⟨-, -, -, i3, i4, -⟩ := index t
  split
  · have s := spot 512 512 n.val q.val i3
    exact at_cell (argD m c) _ s.1 s.2
  · by_cases h8 : t.val % 8 = 7
    · rw [if_pos h8, cell, dif_neg (by omega)]; rfl
    · rw [if_neg h8]
      have s := spot 16 512 (n.val - 512) q.val i4
      exact at_cell (argD m c) _ (s.1.trans (by omega)) s.2

/-- A tile of taps, and one of the incoming gradient. -/
theorem tapsAt (t : Fin cfg0.N) (k : Fin 4) (q : Fin 512) :
    (iblk m c 2 t : S4x512.Idx → EReal) (ix2 k q) = cell (argW m c) k.val (t.val / 8 * 512 + q.val) := by
  have s := spot 4 512 k.val q.val (index t).2.2.1
  exact at_cell (argW m c) _ (s.1.trans (by omega)) s.2

theorem gradAt (t : Fin cfg0.N) (n q : Fin 512) :
    (iblk m c 3 t : S512x512.Idx → EReal) (ix2 n q) = cell (argD m c) (t.val % 8 * 512 + n.val) (t.val / 8 * 512 + q.val) := by
  have s := spot 512 512 n.val q.val (index t).2.2.2.1
  exact at_cell (argD m c) _ s.1 s.2

/-- The tile of the input's gradient. -/
theorem dx (t : Fin cfg0.N) (j : S512x512.Idx) :
    k0_pay9 (F := Ideal) (k0_pay3 (grid0.coords t) (iblk m c 3 t) (iblk m c 4 t)) (iblk m c 2 t)
      (k0_pay4 (grid0.coords t) (iblk m c 3 t) (iblk m c 4 t) (iblk m c 2 t)) (k0_pay6 (grid0.coords t) (iblk m c 3 t) (iblk m c 4 t)) (k0_pay7 (iblk m c 2 t)) j
      = back (argD m c) (argW m c) (t.val % 8 * 512 + (j 0).val) (t.val / 8 * 512 + (j 1).val) := by
  have h0 : (j 0).val < 512 := (j 0).isLt
  have a (n : Fin 528) (k : ℕ) (h : n.val = (j 0).val + k) : k0_pay3 (F := Ideal) (grid0.coords t) (iblk m c 3 t) (iblk m c 4 t) (ix2 n (j 1))
      = cell (argD m c) (t.val % 8 * 512 + (j 0).val + k) (t.val / 8 * 512 + (j 1).val) :=
    (after m c t n (j 1)).trans (congrArg (cell (argD m c) · _) (by omega))
  pointwise [k0_pay9, k0_pay4, k0_pay6, k0_pay7]
  exact congrArg₂ (· + ·) (congrArg₂ (· + ·) (congrArg₂ (· + ·)
    (congrArg₂ (· * ·) (a _ 3 (show _ % 528 = _ by omega)) (tapsAt m c t 0 (j 1)))
    (congrArg₂ (· * ·) (a _ 2 (show _ % 528 = _ by omega)) (tapsAt m c t 1 (j 1))))
    (congrArg₂ (· * ·) (a _ 1 (show _ % 528 = _ by omega)) (tapsAt m c t 2 (j 1))))
    (congrArg₂ (· * ·) (a _ 0 rfl) (tapsAt m c t 3 (j 1)))

/-- What a tile adds to the gradient of the taps. -/
theorem dw (t : Fin cfg0.N) (j : S4x512.Idx) :
    k0_pay8 (F := Ideal) (k0_pay2 (grid0.coords t) (iblk m c 1 t) (iblk m c 0 t)) (iblk m c 3 t) (iota .tc S4x512 32 [0] iota_S4x512_d0_w32)
      (k0_pay5 (grid0.coords t) (iblk m c 1 t) (iblk m c 0 t) (iblk m c 3 t)) j
      = part 512 (t.val % 8) (taps (argX m c)) (cell (argD m c)) (4 * (t.val / 8 * 512 + (j 1).val) + (j 0).val) (t.val / 8 * 512 + (j 1).val) := by
  have h0 : (j 0).val < 4 := (j 0).isLt
  have a (k : ℕ) (hk : 3 - (j 0).val = k) (n : Fin 512 → Fin 528) (h : ∀ r, (n r).val + k = r.val + 16) :
      ∑ r, k0_pay2 (F := Ideal) (grid0.coords t) (iblk m c 1 t) (iblk m c 0 t) (ix2 (n r) (j 1)) * (iblk m c 3 t : S512x512.Idx → EReal) (ix2 r (j 1))
        = part 512 (t.val % 8) (taps (argX m c)) (cell (argD m c)) (4 * (t.val / 8 * 512 + (j 1).val) + (j 0).val) (t.val / 8 * 512 + (j 1).val) := by
    refine sum_fin _ _ fun r => congrArg₂ (· * ·) ((before m c t (n r) (j 1)).trans ?_) (gradAt m c t r (j 1))
    rw [taps, Nat.mul_add_mod, Nat.mod_eq_of_lt h0, hk, Nat.mul_add_div (by omega), Nat.div_eq_of_lt h0]
    exact past_add _ (by have := h r; omega)
  pointwise [k0_pay8, k0_pay5]
  exact choose (j 0).val h0 (fun h => a 3 (by omega) _ fun r => (by omega : (16 + r.val + 528 - 3) % 528 + 3 = r.val + 16))
    (fun h => a 2 (by omega) _ fun r => (by omega : (16 + r.val + 528 - 2) % 528 + 2 = r.val + 16))
    (fun h => a 1 (by omega) _ fun r => (by omega : (16 + r.val + 528 - 1) % 528 + 1 = r.val + 16))
    (fun h => a 0 (by omega) _ fun r => Nat.add_comm 16 r.val)

/-- What the points hold. -/
theorem held (t : Fin cfg0.N) (j : S512x512.Idx) : (outsAt0 m c t.val t.isLt).1 j
    = back (argD m c) (argW m c) (t.val % 8 * 512 + (j 0).val) (t.val / 8 * 512 + (j 1).val) := by
  by_cases h : t.val % 8 = 0
  · rw [outsAt0_A m c t h (by omega)]; dsimp only; frame_out; exact dx m c t j
  · rw [outsAt0_B m c t h (by omega)]; dsimp only; frame_out; exact dx m c t j

theorem heldTaps (t : Fin cfg0.N) (h : t.val % 8 = 7) (j : S4x512.Idx) : (outsAt0 m c t.val t.isLt).2 j
    = prod 4096 (taps (argX m c)) (cell (argD m c)) (4 * (t.val / 8 * 512 + (j 1).val) + (j 0).val) (t.val / 8 * 512 + (j 1).val) :=
  accumulated (fun n h => (outsAt0 m c n h).2) 8 512 _ _ (fun q j => 4 * (q * 512 + (j 1).val) + (j 0).val) (fun q j => q * 512 + (j 1).val)
    (fun t h j => by rw [outsAt0_A m c t h (by omega)]; dsimp only; frame_out; rw [zero_add]; exact dw m c t j)
    (fun t h j => by
      rw [outsAt0_B m c t h (by omega)]; dsimp only; frame_out; pointwise [k0_pay1]
      exact congrArg _ (dw m c t j))
    t (by omega) j

/-- The two results. -/
abbrev GX : S4096x6144.Idx → EReal := fun i => back (argD m c) (argW m c) (i 0).val (i 1).val
abbrev GW : S4x6144.Idx → EReal := fun i => prod 4096 (taps (argX m c)) (cell (argD m c)) (4 * (i 1).val + (i 0).val) (i 1).val

theorem result_dx : (dats m 0 c).arrAt 5 cfg0.N = GX m c := by
  refine (dats m 0 c).arrAt_eq_of_covers 5 (GX m c) (by decide +kernel) fun t hf y => ?_
  have e := spot 512 512 (y 0).val (y 1).val (index t).2.2.2.2.2.1
  exact (congrFun (after0_5 m c t) _).trans ((held m c t _).trans (congrArg₂ (back _ _) e.1.symm e.2.symm))

theorem result_dw : (dats m 0 c).arrAt 6 cfg0.N = GW m c := by
  refine (dats m 0 c).arrAt_eq_of_covers 6 (GW m c) (by decide +kernel) fun t hf y => ?_
  have e := spot 4 512 (y 0).val (y 1).val (index t).2.2.2.2.2.2
  refine (congrFun (after0_6 m c t) _).trans ((heldTaps m c t ((flush0_6 t).mp hf) _).trans ?_)
  exact congrArg₂ (fun a b => prod _ _ _ (4 * b + a) b) (e.1.trans (show 0 * 4 + (y 0).val = (y 0).val by omega)).symm e.2.symm

/-- The reference's two gradients. -/
theorem reference_dx (w : S4x6144.Idx → EReal) (d : S4096x6144.Idx → EReal) (i : S4096x6144.Idx) :
    Cert.Reference25Ideal.Read.val_main_v77 (F := Ideal) w d i = back d w (i 0).val (i 1).val := by
  open Cert.Reference25Ideal.Read in
  pointwise [val_main_v77, val_main_v76, val_main_v74, val_main_v63, val_main_v73, val_main_v52, val_main_v62, val_main_v41, val_main_v51, val_main_v37,
    val_main_v46, val_main_v57, val_main_v68, val_main_v31, val_main_v32, val_main_v36, val_main_v45, val_main_v56, val_main_v67, val_main_v27, val_main_v20,
    val_main_v13, val_main_v7, val_main_v26, val_main_v19, val_main_v12, val_main_v6, val_main_v25, val_main_v18, val_main_v11, val_main_v5, val_main_cst_4,
    val_main_cst_8, val_main_cst_12, val_main_cst_16]
  have h0 : (i 0).val < 4096 := (i 0).isLt
  have e (k : Fin 4) : w (ix2 k (i 1)) = cell w k.val (i 1).val := at_cell w _ rfl rfl
  have turn (a b c d : EReal) : a + b + c + d = d + c + b + a := by ac_rfl
  refine (turn _ _ _ _).trans (congrArg₂ (· + ·) (congrArg₂ (· + ·) (congrArg₂ (· + ·)
    ((shifted d _ _ (i 1) (n := (i 0).val + 3) (fun p => Nat.add_comm _ _) (by omega)).trans (congrArg _ (e 0)))
    ((shifted d _ _ (i 1) (n := (i 0).val + 2) (fun p => (by omega : 3 + (i 0).val - 1 = _)) (by omega)).trans (congrArg _ (e 1))))
    ((shifted d _ _ (i 1) (n := (i 0).val + 1) (fun p => (by omega : 3 + (i 0).val - 2 = _)) (by omega)).trans (congrArg _ (e 2))))
    (congrArg₂ (· * ·) (at_cell d _ rfl rfl) (e 3)))

theorem reference_dw (x : S4096x6144.Idx → EReal) (d : S4096x6144.Idx → EReal) (i : S4x6144.Idx) :
    Cert.Reference25Ideal.Read.val_main_v72 (F := Ideal) x d i = prod 4096 (taps x) (cell d) (4 * (i 1).val + (i 0).val) (i 1).val := by
  have h0 : (i 0).val < 4 := (i 0).isLt
  have e (k r : ℕ) (hk : 3 - (i 0).val = k) : taps x (4 * (i 1).val + (i 0).val) r = past x k r (i 1).val := by
    rw [taps, Nat.mul_add_mod, Nat.mod_eq_of_lt h0, hk, Nat.mul_add_div (by omega), Nat.div_eq_of_lt h0, Nat.add_zero]
  have a (k : ℕ) (hk : 3 - (i 0).val = k) (u : Fin 4096 → EReal) (h : ∀ r, u r = past x k r.val (i 1).val) :
      ∑ _z : Fin 1, ∑ r, u r * d (ix2 r (i 1)) = prod 4096 (taps x) (cell d) (4 * (i 1).val + (i 0).val) (i 1).val :=
    (Fin.sum_univ_one _).trans (sum_fin _ _ fun r => congrArg₂ (· * ·) ((h r).trans (e k _ hk).symm) (at_cell d _ rfl rfl))
  open Cert.Reference25Ideal.Read in
  pointwise [val_main_v72, val_main_v61, val_main_v71, val_main_v50, val_main_v60, val_main_v40, val_main_v49, val_main_v39, val_main_v48, val_main_v59,
    val_main_v70, val_main_v38, val_main_v47, val_main_v58, val_main_v69, val_main_v35, val_main_v44, val_main_v55, val_main_v66, val_main_v34, val_main_v43,
    val_main_v54, val_main_v65, val_main_v33, val_main_v42, val_main_v53, val_main_v64, val_main_v32, val_main_v31, val_main_v24, val_main_v17, val_main_v10,
    val_main_v4, val_main_v2, val_main_v1, val_main_v0, val_main_cst, val_main_cst_1, val_main_cst_2, val_main_cst_3, val_main_cst_5, val_main_cst_6,
    val_main_cst_7, val_main_cst_9, val_main_cst_10, val_main_cst_11, val_main_cst_13, val_main_cst_14, val_main_cst_15]
  refine pick (i 0).val h0
    (fun h _ => a 0 (by omega) _ fun r => (at_cell x _ rfl rfl).trans (by rw [past, if_pos (Nat.zero_le _)]; rfl))
    (fun h _ => a 1 (by omega) _ fun r => padded x _ _ (i 1) (by omega) fun _ => rfl)
    (fun h _ => a 2 (by omega) _ fun r => padded x _ _ (i 1) (by omega) fun _ => rfl)
    (fun h _ => (Fin.sum_univ_one _).trans ?_)
  refine (congrArg₂ (· + ·) (sum_fin _ _ fun r => ?_) (sum_fin _ _ fun r => ?_)).trans
    (Finset.sum_range_add (fun k => taps x (4 * (i 1).val + (i 0).val) k * cell d k (i 1).val) 3 4093).symm
  · rw [e 3 _ (by omega), past, if_neg (by omega), zero_mul, zero_mul]
  · have f : past x 3 (3 + r.val) (i 1).val = cell x r.val (i 1).val := by rw [past, if_pos (by omega), Nat.add_sub_cancel_left]
    exact congrArg₂ (· * ·) ((at_cell x _ rfl rfl).trans ((e 3 _ (by omega)).trans f).symm) (at_cell d _ rfl rfl)

theorem algebraic : Cert.algebraic_Kernel25Ideal_Reference25Ideal := by
  intro m g m' g' _ hagree
  refine ⟨fun c => GX m c, fun c => GW m c,
    (θ_run _ _ _).mono (fun r h c => ⟨(Value.post5 m r h c).trans (result_dx m c), (Value.post6 m r h c).trans (result_dw m c),
      Value.kept_main_arg0 m r h c, Value.kept_main_arg1 m r h c, Value.kept_main_arg2 m r h c⟩) (run_main m g),
    (θ_run _ _ _).mono (fun r h c => ⟨(h c).1.trans ?_, (h c).2.1.trans ?_, (h c).2.2⟩) (Cert.Reference25Ideal.Value.run m' g')⟩
  · obtain ⟨-, e1, e2⟩ := hagree c
    refine (Cert.Reference25Ideal.Read.val_main_v77_eq _ _).trans ?_
    rw [e1, e2]
    exact funext (reference_dx _ _)
  · obtain ⟨e0, -, e2⟩ := hagree c
    refine (Cert.Reference25Ideal.Read.val_main_v72_eq _ _).trans ?_
    rw [e0, e2]
    exact funext (reference_dw _ _)

end Bwd

/-! ### The forward pass -/

namespace Fwd

open Cert.Kernel26Ideal Cert.Kernel26Ideal.Gen

theorem kernel : Cert.quiescent_Kernel26 := fun m ρ _ => Cert.Kernel26.Gen.frame m ρ
theorem kernelIdeal : Cert.quiescent_Kernel26Ideal := fun m ρ _ => Cert.Kernel26Ideal.Gen.frame m ρ
theorem reference : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)

variable (m : (ℓ : Loc nD τ sig) → Buf (Elt Ideal) ℓ) (c : Dev nD)

/-- The input and the taps. -/
abbrev argX : S4096x6144.Idx → EReal := m ((c.tc : Thread nD τ).loc main_arg0)
abbrev argW : S4x6144.Idx → EReal := m ((c.tc : Thread nD τ).loc main_arg1)

/-- Where the blocks of a grid point sit. -/
theorem index : ∀ t : Fin cfg0.N, win0_0.index t = ![t.val % 8, t.val / 8] ∧ win0_1.index t = ![t.val % 8 * 32 - 1, t.val / 8]
    ∧ win0_2.index t = ![0, t.val / 8] ∧ win0_3.index t = ![t.val % 8, t.val / 8] := by
  decide +kernel

theorem axis : ∀ t : Fin cfg0.N, ((grid0.coords t) 1).val = t.val % 8 := by decide +kernel

/-- An entry of the tile with the 16 rows before it. -/
def tap (i : grid0.Coords) (p : Vec Ideal S16x512 .bf16) (x : Vec Ideal S512x512 .bf16) (n : ℕ) (hn : n < 528) (q : Fin 512) : EReal :=
  if h : n < 16 then Scalar.select (Scalar.cmpi .sgt (BitVec.ofNat 32 (i 1).val) 0#32) (p (ix2 ⟨n, h⟩ q)) 0 else x (ix2 ⟨n - 16, by omega⟩ q)

theorem before (t : Fin cfg0.N) (n k r : ℕ) (hn : n < 528) (q : Fin 512) (h : n + k = r + 16) (hr : r < 512) :
    tap (grid0.coords t) (iblk m c 1 t) (iblk m c 0 t) n hn q = past (argX m c) k (t.val % 8 * 512 + r) (t.val / 8 * 512 + q.val) := by
  rw [tap, axis, first ⟨t.val % 8, by omega⟩]
  obtain ⟨i0, i1, -⟩ := index t
  split
  · by_cases h8 : t.val % 8 = 0
    · rw [if_pos h8, past, if_neg (by omega)]; rfl
    · rw [if_neg h8, past, if_pos (by omega)]
      have s := spot 16 512 n q.val i1
      exact at_cell (argX m c) _ (s.1.trans (by omega)) s.2
  · rw [past, if_pos (by omega)]
    have s := spot 512 512 (n - 16) q.val i0
    exact at_cell (argX m c) _ (s.1.trans (by omega)) s.2

theorem tapsAt (t : Fin cfg0.N) (k : Fin 4) (q : Fin 512) :
    (iblk m c 2 t : S4x512.Idx → EReal) (ix2 k q) = cell (argW m c) k.val (t.val / 8 * 512 + q.val) := by
  have s := spot 4 512 k.val q.val (index t).2.2.1
  exact at_cell (argW m c) _ (s.1.trans (by omega)) s.2

/-- The tile a point writes. -/
theorem tile (t : Fin cfg0.N) (j : S512x512.Idx) : out0_3 (F := Ideal) (grid0.coords t) (iblk m c 0 t) (iblk m c 1 t) (iblk m c 2 t) j
    = conv (argX m c) (argW m c) (t.val % 8 * 512 + (j 0).val) (t.val / 8 * 512 + (j 1).val) := by
  have h0 : (j 0).val < 512 := (j 0).isLt
  have l (k : ℕ) : (16 + (j 0).val + 528 - k) % 528 < 528 := Nat.mod_lt _ (by omega)
  have e (i : grid0.Coords) (p : Vec Ideal S16x512 .bf16) (x : Vec Ideal S512x512 .bf16) (w : Vec Ideal S4x512 .f32) : k0_pay1 (F := Ideal) i p x w j
      = tap i p x _ (l 3) (j 1) * w (ix2 0 (j 1)) + tap i p x _ (l 2) (j 1) * w (ix2 1 (j 1)) + tap i p x _ (l 1) (j 1) * w (ix2 2 (j 1))
        + x j * w (ix2 3 (j 1)) := by
    pointwise [k0_pay1]
    rfl
  frame_out
  rw [e]
  refine congrArg₂ (· + ·) (congrArg₂ (· + ·) (congrArg₂ (· + ·)
    (congrArg₂ (· * ·) (before m c t _ 3 (j 0).val (l 3) (j 1) (by omega) h0) (tapsAt m c t 0 (j 1)))
    (congrArg₂ (· * ·) (before m c t _ 2 (j 0).val (l 2) (j 1) (by omega) h0) (tapsAt m c t 1 (j 1))))
    (congrArg₂ (· * ·) (before m c t _ 1 (j 0).val (l 1) (j 1) (by omega) h0) (tapsAt m c t 2 (j 1))))
    (congrArg₂ (· * ·) ?_ (tapsAt m c t 3 (j 1)))
  rw [past, if_pos (Nat.zero_le _)]
  have s := spot 512 512 (j 0).val (j 1).val (index t).1
  exact at_cell (argX m c) _ s.1 s.2

/-- The result. -/
abbrev G : S4096x6144.Idx → EReal := fun i => conv (argX m c) (argW m c) (i 0).val (i 1).val

theorem result : (dats m 0 c).arrAt 3 cfg0.N = G m c := by
  refine (dats m 0 c).arrAt_eq_of_covers 3 (G m c) (by decide +kernel) fun t hf y => ?_
  have e := spot 512 512 (y 0).val (y 1).val (index t).2.2.2
  exact (congrFun (after0_3 m c t) _).trans ((tile m c t _).trans (congrArg₂ (conv _ _) e.1.symm e.2.symm))

/-- The reference's convolution. -/
theorem reference_value (x : S4096x6144.Idx → EReal) (w : S4x6144.Idx → EReal) (i : S4096x6144.Idx) :
    Cert.Reference26Ideal.Read.val_main_v29 (F := Ideal) x w i = conv x w (i 0).val (i 1).val := by
  open Cert.Reference26Ideal.Read in
  pointwise [val_main_v29, val_main_v22, val_main_v28, val_main_v15, val_main_v21, val_main_v8, val_main_v14, val_main_v23, val_main_v16, val_main_v9,
    val_main_v3, val_main_v27, val_main_v20, val_main_v13, val_main_v7, val_main_v26, val_main_v19, val_main_v12, val_main_v6, val_main_v25, val_main_v18,
    val_main_v11, val_main_v5, val_main_v24, val_main_v17, val_main_v10, val_main_v4, val_main_v2, val_main_v1, val_main_v0, val_main_cst]
  have e (k : Fin 4) : w (ix2 k (i 1)) = cell w k.val (i 1).val := at_cell w _ rfl rfl
  refine congrArg₂ (· + ·) (congrArg₂ (· + ·) (congrArg₂ (· + ·)
    (congrArg₂ (· * ·) (padded x _ _ (i 1) rfl fun _ => rfl) (e 0))
    (congrArg₂ (· * ·) (padded x _ _ (i 1) (by omega) fun _ => rfl) (e 1)))
    (congrArg₂ (· * ·) (padded x _ _ (i 1) (by omega) fun _ => rfl) (e 2)))
    (congrArg₂ (· * ·) ((at_cell x _ rfl rfl).trans (by rw [past, if_pos (Nat.zero_le _)]; rfl)) (e 3))

theorem algebraic : Cert.algebraic_Kernel26Ideal_Reference26Ideal := by
  intro m g m' g' _ hagree
  refine ⟨fun c => G m c,
    (θ_run _ _ _).mono (fun r h c => ⟨(Value.post3 m r h c).trans (result m c), Value.kept_main_arg0 m r h c, Value.kept_main_arg1 m r h c⟩) (run_main m g),
    (θ_run _ _ _).mono (fun r h c => ⟨(h c).1.trans ?_, (h c).2⟩) (Cert.Reference26Ideal.Value.run m' g')⟩
  obtain ⟨e0, e1⟩ := hagree c
  refine (Cert.Reference26Ideal.Read.val_main_v29_eq _ _).trans ?_
  rw [e0, e1]
  exact funext (reference_value _ _)

end Fwd

end Cert.Conv

end
-- ==== Proof.Cq.lean ====
/-
  The projections to the low ranks of the queries and of the keys and values: the gradients of the weight and of the input, and the product itself, as products of
  matrices in tiles.
-/
module

public import proofs.«01_k».proof.Defs
public import Idealize.ShloMosaic.Lib.Pipeline.ReadBack
public import proofs.«01_k».proof.Proof.Product
public import proofs.«01_k».proof.Proof.Gen.Kernel27.Frame
public import proofs.«01_k».proof.Proof.Gen.Kernel27Ideal.Value
public import proofs.«01_k».proof.Proof.Gen.Reference27Ideal.Read
public import proofs.«01_k».proof.Proof.Gen.Kernel28.Frame
public import proofs.«01_k».proof.Proof.Gen.Kernel28Ideal.Value
public import proofs.«01_k».proof.Proof.Gen.Reference28Ideal.Read
public import proofs.«01_k».proof.Proof.Gen.Kernel29.Frame
public import proofs.«01_k».proof.Proof.Gen.Kernel29Ideal.Value
public import proofs.«01_k».proof.Proof.Gen.Reference29Ideal.Read

@[expose] public section

noncomputable section

open Idealize.ShloMosaic Idealize.ShloMosaic.TcCoe Idealize.SL.Sem Idealize.ShloMosaic.Pipeline Cert.Product

/-! ### The gradient of the input -/

namespace Cert.Cq.Da

open Cert.Kernel27Ideal Cert.Kernel27Ideal.Gen

theorem kernel : Cert.quiescent_Kernel27 := fun m ρ _ => Cert.Kernel27.Gen.frame m ρ
theorem kernelIdeal : Cert.quiescent_Kernel27Ideal := fun m ρ _ => Cert.Kernel27Ideal.Gen.frame m ρ
theorem reference : Cert.quiescent_Reference27Ideal := fun m ρ _ =>
  (θ_run Cert.Reference27Ideal.defs _ _).mono (fun r h => ⟨fun c => (h c).2, sem_eq_zero_of_no_sems (by decide) r.2⟩)
    (Cert.Reference27Ideal.Value.run (F := Ideal) m ρ)

variable (m : (ℓ : Loc nD τ sig) → Buf (Elt Ideal) ℓ) (c : Dev nD)

/-- The incoming gradient and the weight. -/
abbrev argC : S4096x512.Idx → EReal := m ((c.tc : Thread nD τ).loc main_arg2)
abbrev argW : S2048x512.Idx → EReal := m ((c.tc : Thread nD τ).loc main_arg1)

/-- The result. -/
abbrev G : S4096x2048.Idx → EReal := fun i => prod 512 (cell (argC m c)) (fun k j => cell (argW m c) j k) (i 0).val (i 1).val

/-- Where the blocks of a grid point sit. -/
theorem index : ∀ t : Fin cfg0.N, win0_0.index t = ![t.val / 2, 0] ∧ win0_1.index t = ![t.val % 2, 0]
    ∧ win0_2.index t = ![t.val / 2, t.val % 2] := by
  decide +kernel
/-- The tile a point writes. -/
theorem tile (t : Fin cfg0.N) (j : S2048x1024.Idx) :
    out0_2 (F := Ideal) (iblk m c 0 t) (iblk m c 1 t) j = prod 512 (cell (argC m c)) (fun k j => cell (argW m c) j k) (row 2 t.val j) (col 2 t.val j) := by
  have e (x : Vec Ideal S2048x512 .bf16) (y : Vec Ideal S1024x512 .bf16) : k0_pay1 (F := Ideal) x y j = ∑ k : Fin 512, x (ix2 (j 0) k) * y (ix2 (j 1) k) := by
    pointwise [k0_pay1]
  frame_out
  rw [e]
  refine sum_fin _ _ fun k => ?_
  have p := spot 2048 512 (j 0).val k.val (index t).1
  have q := spot 1024 512 (j 1).val k.val (index t).2.1
  exact congrArg₂ (· * ·) (at_cell (argC m c) _ p.1 (p.2.trans (by omega))) (at_cell (argW m c) _ q.1 (q.2.trans (by omega)))

theorem result : (dats m 0 c).arrAt 2 cfg0.N = G m c := by
  refine (dats m 0 c).arrAt_eq_of_covers 2 (G m c) (by decide +kernel) fun t hf y => ?_
  have e := spot 2048 1024 (y 0).val (y 1).val (index t).2.2
  exact (congrFun (after0_2 m c t) _).trans ((tile m c t _).trans (congrArg₂ (prod _ _ _) e.1.symm e.2.symm))

/-- The reference's product. -/
theorem reference_value (x : S4096x512.Idx → EReal) (y : S2048x512.Idx → EReal) (i : S4096x2048.Idx) :
    Cert.Reference27Ideal.Read.val_main_v5 (F := Ideal) y x i = prod 512 (cell x) (fun k j => cell y j k) (i 0).val (i 1).val := by
  exact (Cert.Reference27Ideal.Read.val_main_v5_apply y x i).trans (sum_fin _ _ fun _ => congrArg₂ (· * ·) (at_cell x _ rfl rfl) (at_cell y _ rfl rfl))

theorem algebraic : Cert.algebraic_Kernel27Ideal_Reference27Ideal := by
  intro m g m' g' _ hagree
  refine ⟨fun c => G m c,
    (θ_run _ _ _).mono (fun r h c => ⟨(Value.post2 m r h c).trans (result m c), Value.kept_main_arg0 m r h c, Value.kept_main_arg1 m r h c, Value.kept_main_arg2 m r h c⟩) (run_main m g),
    (θ_run _ _ _).mono (fun r h c => ⟨(h c).1.trans ?_, (h c).2⟩) (Cert.Reference27Ideal.Value.run m' g')⟩
  obtain ⟨-, e1, e2⟩ := hagree c
  refine (Cert.Reference27Ideal.Read.val_main_v5_eq _ _).trans ?_
  rw [e1, e2]
  exact funext (reference_value _ _)

end Cert.Cq.Da

/-! ### The gradient of the weight -/

namespace Cert.Cq.Dw

open Cert.Kernel28Ideal Cert.Kernel28Ideal.Gen

theorem kernel : Cert.quiescent_Kernel28 := fun m ρ _ => Cert.Kernel28.Gen.frame m ρ
theorem kernelIdeal : Cert.quiescent_Kernel28Ideal := fun m ρ _ => Cert.Kernel28Ideal.Gen.frame m ρ
theorem reference : Cert.quiescent_Reference28Ideal := fun m ρ _ =>
  (θ_run Cert.Reference28Ideal.defs _ _).mono (fun r h => ⟨fun c => (h c).2, sem_eq_zero_of_no_sems (by decide) r.2⟩)
    (Cert.Reference28Ideal.Value.run (F := Ideal) m ρ)

variable (m : (ℓ : Loc nD τ sig) → Buf (Elt Ideal) ℓ) (c : Dev nD)

/-- The input and the incoming gradient. -/
abbrev argA : S4096x2048.Idx → EReal := m ((c.tc : Thread nD τ).loc main_arg0)
abbrev argC : S4096x512.Idx → EReal := m ((c.tc : Thread nD τ).loc main_arg2)

/-- The result. -/
abbrev G : S2048x512.Idx → EReal := fun i => prod 4096 (fun i k => cell (argA m c) k i) (cell (argC m c)) (i 0).val (i 1).val

/-- Where the blocks of a grid point sit. -/
theorem index : ∀ t : Fin cfg0.N, win0_0.index t = ![t.val % 2, t.val / 2 / 1] ∧ win0_1.index t = ![t.val % 2, t.val / 2 % 1]
    ∧ win0_2.index t = ![t.val / 2 / 1, t.val / 2 % 1] := by
  decide +kernel
theorem zero (j : S1024x512.Idx) : k0_pay1 (F := Ideal) j = 0 := by pointwise [k0_pay1]

/-- What a point adds to the accumulator. -/
theorem step (a : Vec Ideal S1024x512 .f32) (t : Fin cfg0.N) (j : S1024x512.Idx) : k0_pay2 (F := Ideal) a (iblk m c 0 t) (iblk m c 1 t) j
    = a j + part 2048 (t.val % 2) (fun i k => cell (argA m c) k i) (cell (argC m c)) (row 1 (t.val / 2) j) (col 1 (t.val / 2) j) := by
  have e (x : Vec Ideal S2048x1024 .f32) (y : Vec Ideal S2048x512 .bf16) : k0_pay2 (F := Ideal) a x y j = a j + ∑ k : Fin 2048, x (ix2 k (j 0)) * y (ix2 k (j 1)) := by
    pointwise [k0_pay2]
  rw [e]
  refine congrArg (a j + ·) (sum_fin _ _ fun k => ?_)
  have p := spot 2048 1024 k.val (j 0).val (index t).1
  have q := spot 2048 512 k.val (j 1).val (index t).2.1
  exact congrArg₂ (· * ·) (at_cell (argA m c) _ p.1 p.2) (at_cell (argC m c) _ q.1 q.2)

/-- The tile written at the last point of its run. -/
theorem tile (t : Fin cfg0.N) (h : t.val % 2 = 1) (j : S1024x512.Idx) : (outsAt0 m c t.val t.isLt).1 j
    = prod 4096 (fun i k => cell (argA m c) k i) (cell (argC m c)) (row 1 (t.val / 2) j) (col 1 (t.val / 2) j) :=
  (show (outsAt0 m c t.val t.isLt).1 j = (outsAt0 m c t.val t.isLt).2 j by
    rw [outsAt0_B m c t (by omega) h]; dsimp only; frame_out).trans
  (accumulated (fun n h => (outsAt0 m c n h).2) 2 2048 _ _ (row 1) (col 1)
    (fun t h j => by rw [outsAt0_A m c t h (by omega)]; dsimp only; frame_out; rw [step, zero])
    (fun t h j => by rw [outsAt0_B m c t h (by omega)]; dsimp only; frame_out; simp only [read_unread_whole]; rw [step])
    t (by omega) j)

theorem result : (dats m 0 c).arrAt 2 cfg0.N = G m c := by
  refine (dats m 0 c).arrAt_eq_of_covers 2 (G m c) (by decide +kernel) fun t hf y => ?_
  have e := spot 1024 512 (y 0).val (y 1).val (index t).2.2
  exact (congrFun (after0_2 m c t) _).trans ((tile m c t ((flush0_2 t).mp hf) _).trans (congrArg₂ (prod _ _ _) e.1.symm e.2.symm))

/-- The reference's product. -/
theorem reference_value (x : S4096x2048.Idx → EReal) (y : S4096x512.Idx → EReal) (i : S2048x512.Idx) :
    Cert.Reference28Ideal.Read.val_main_v4 (F := Ideal) x y i = prod 4096 (fun i k => cell x k i) (cell y) (i 0).val (i 1).val := by
  rw [Cert.Reference28Ideal.Read.val_main_v4_apply, Cert.Reference28Ideal.Read.val_main_v3_apply]
  refine sum_fin _ _ fun k => ?_
  rw [mul_comm]
  exact congrArg₂ (· * ·) (at_cell x _ rfl rfl) (at_cell y _ rfl rfl)

theorem algebraic : Cert.algebraic_Kernel28Ideal_Reference28Ideal := by
  intro m g m' g' _ hagree
  refine ⟨fun c => G m c,
    (θ_run _ _ _).mono (fun r h c => ⟨(Value.post2 m r h c).trans (result m c), Value.kept_main_arg0 m r h c, Value.kept_main_arg1 m r h c, Value.kept_main_arg2 m r h c⟩) (run_main m g),
    (θ_run _ _ _).mono (fun r h c => ⟨(h c).1.trans ?_, (h c).2⟩) (Cert.Reference28Ideal.Value.run m' g')⟩
  obtain ⟨e0, -, e2⟩ := hagree c
  refine (Cert.Reference28Ideal.Read.val_main_v4_eq _ _).trans ?_
  rw [e0, e2]
  exact funext (reference_value _ _)

end Cert.Cq.Dw

/-! ### The product -/

namespace Cert.Cq.Fwd

open Cert.Kernel29Ideal Cert.Kernel29Ideal.Gen

theorem kernel : Cert.quiescent_Kernel29 := fun m ρ _ => Cert.Kernel29.Gen.frame m ρ
theorem kernelIdeal : Cert.quiescent_Kernel29Ideal := fun m ρ _ => Cert.Kernel29Ideal.Gen.frame m ρ
theorem reference : Cert.quiescent_Reference29Ideal := fun m ρ _ =>
  (θ_run Cert.Reference29Ideal.defs _ _).mono (fun r h => ⟨fun c => (h c).2, sem_eq_zero_of_no_sems (by decide) r.2⟩)
    (Cert.Reference29Ideal.Value.run (F := Ideal) m ρ)

variable (m : (ℓ : Loc nD τ sig) → Buf (Elt Ideal) ℓ) (c : Dev nD)

/-- The input and the weight. -/
abbrev argA : S4096x2048.Idx → EReal := m ((c.tc : Thread nD τ).loc main_arg0)
abbrev argW : S2048x512.Idx → EReal := m ((c.tc : Thread nD τ).loc main_arg1)

/-- The result. -/
abbrev G : S4096x512.Idx → EReal := fun i => prod 2048 (cell (argA m c)) (cell (argW m c)) (i 0).val (i 1).val

/-- Where the blocks of a grid point sit. -/
theorem index : ∀ t : Fin cfg0.N, win0_0.index t = ![t.val / 1, 0] ∧ win0_1.index t = ![0, t.val % 1]
    ∧ win0_2.index t = ![t.val / 1, t.val % 1] := by
  decide +kernel
/-- The tile a point writes. -/
theorem tile (t : Fin cfg0.N) (j : S1024x512.Idx) :
    out0_2 (F := Ideal) (iblk m c 0 t) (iblk m c 1 t) j = prod 2048 (cell (argA m c)) (cell (argW m c)) (row 1 t.val j) (col 1 t.val j) := by
  have e (x : Vec Ideal S1024x2048 .f32) (y : Vec Ideal S2048x512 .bf16) : k0_pay1 (F := Ideal) x y j = ∑ k : Fin 2048, x (ix2 (j 0) k) * y (ix2 k (j 1)) := by
    pointwise [k0_pay1]
  frame_out
  rw [e]
  refine sum_fin _ _ fun k => ?_
  have p := spot 1024 2048 (j 0).val k.val (index t).1
  have q := spot 2048 512 k.val (j 1).val (index t).2.1
  exact congrArg₂ (· * ·) (at_cell (argA m c) _ p.1 (p.2.trans (by omega))) (at_cell (argW m c) _ (q.1.trans (by omega)) q.2)

theorem result : (dats m 0 c).arrAt 2 cfg0.N = G m c := by
  refine (dats m 0 c).arrAt_eq_of_covers 2 (G m c) (by decide +kernel) fun t hf y => ?_
  have e := spot 1024 512 (y 0).val (y 1).val (index t).2.2
  exact (congrFun (after0_2 m c t) _).trans ((tile m c t _).trans (congrArg₂ (prod _ _ _) e.1.symm e.2.symm))

/-- The reference's product. -/
theorem reference_value (x : S4096x2048.Idx → EReal) (y : S2048x512.Idx → EReal) (i : S4096x512.Idx) :
    Cert.Reference29Ideal.Read.val_main_v2 (F := Ideal) x y i = prod 2048 (cell x) (cell y) (i 0).val (i 1).val := by
  rw [Cert.Reference29Ideal.Read.val_main_v2_apply]
  exact (Cert.Reference29Ideal.Read.val_main_v1_apply x y i).trans (sum_fin _ _ fun _ => congrArg₂ (· * ·) (at_cell x _ rfl rfl) (at_cell y _ rfl rfl))

theorem algebraic : Cert.algebraic_Kernel29Ideal_Reference29Ideal := by
  intro m g m' g' _ hagree
  refine ⟨fun c => G m c,
    (θ_run _ _ _).mono (fun r h c => ⟨(Value.post2 m r h c).trans (result m c), Value.kept_main_arg0 m r h c, Value.kept_main_arg1 m r h c⟩) (run_main m g),
    (θ_run _ _ _).mono (fun r h c => ⟨(h c).1.trans ?_, (h c).2⟩) (Cert.Reference29Ideal.Value.run m' g')⟩
  obtain ⟨e0, e1⟩ := hagree c
  refine (Cert.Reference29Ideal.Read.val_main_v2_eq _ _).trans ?_
  rw [e0, e1]
  exact funext (reference_value _ _)

end Cert.Cq.Fwd

end
-- ==== Proof.Kd.lean ====
/-
  The projection to the keys' rotated part and the time steps: the gradients of its weight and of its input, and the product itself, as products of
  matrices in tiles.
-/
module

public import proofs.«01_k».proof.Defs
public import Idealize.ShloMosaic.Lib.Pipeline.ReadBack
public import proofs.«01_k».proof.Proof.Product
public import proofs.«01_k».proof.Proof.Gen.Kernel30.Frame
public import proofs.«01_k».proof.Proof.Gen.Kernel30Ideal.Value
public import proofs.«01_k».proof.Proof.Gen.Reference30Ideal.Read
public import proofs.«01_k».proof.Proof.Gen.Kernel31.Frame
public import proofs.«01_k».proof.Proof.Gen.Kernel31Ideal.Value
public import proofs.«01_k».proof.Proof.Gen.Reference31Ideal.Read
public import proofs.«01_k».proof.Proof.Gen.Kernel32.Frame
public import proofs.«01_k».proof.Proof.Gen.Kernel32Ideal.Value
public import proofs.«01_k».proof.Proof.Gen.Reference32Ideal.Read

@[expose] public section

noncomputable section

open Idealize.ShloMosaic Idealize.ShloMosaic.TcCoe Idealize.SL.Sem Idealize.ShloMosaic.Pipeline Cert.Product

/-! ### The gradient of the input -/

namespace Cert.Kd.Da

open Cert.Kernel30Ideal Cert.Kernel30Ideal.Gen

theorem kernel : Cert.quiescent_Kernel30 := fun m ρ _ => Cert.Kernel30.Gen.frame m ρ
theorem kernelIdeal : Cert.quiescent_Kernel30Ideal := fun m ρ _ => Cert.Kernel30Ideal.Gen.frame m ρ
theorem reference : Cert.quiescent_Reference30Ideal := fun m ρ _ =>
  (θ_run Cert.Reference30Ideal.defs _ _).mono (fun r h => ⟨fun c => (h c).2, sem_eq_zero_of_no_sems (by decide) r.2⟩)
    (Cert.Reference30Ideal.Value.run (F := Ideal) m ρ)

variable (m : (ℓ : Loc nD τ sig) → Buf (Elt Ideal) ℓ) (c : Dev nD)

/-- The incoming gradient and the weight. -/
abbrev argC : S4096x128.Idx → EReal := m ((c.tc : Thread nD τ).loc main_arg2)
abbrev argW : S2048x128.Idx → EReal := m ((c.tc : Thread nD τ).loc main_arg1)

/-- The result. -/
abbrev G : S4096x2048.Idx → EReal := fun i => prod 128 (cell (argC m c)) (fun k j => cell (argW m c) j k) (i 0).val (i 1).val

/-- Where the blocks of a grid point sit. -/
theorem index : ∀ t : Fin cfg0.N, win0_0.index t = ![t.val / 2, 0] ∧ win0_1.index t = ![t.val % 2, 0]
    ∧ win0_2.index t = ![t.val / 2, t.val % 2] := by
  decide +kernel
/-- The tile a point writes. -/
theorem tile (t : Fin cfg0.N) (j : S2048x1024.Idx) :
    out0_2 (F := Ideal) (iblk m c 0 t) (iblk m c 1 t) j = prod 128 (cell (argC m c)) (fun k j => cell (argW m c) j k) (row 2 t.val j) (col 2 t.val j) := by
  have e (x : Vec Ideal S2048x128 .bf16) (y : Vec Ideal S1024x128 .bf16) : k0_pay1 (F := Ideal) x y j = ∑ k : Fin 128, x (ix2 (j 0) k) * y (ix2 (j 1) k) := by
    pointwise [k0_pay1]
  frame_out
  rw [e]
  refine sum_fin _ _ fun k => ?_
  have p := spot 2048 128 (j 0).val k.val (index t).1
  have q := spot 1024 128 (j 1).val k.val (index t).2.1
  exact congrArg₂ (· * ·) (at_cell (argC m c) _ p.1 (p.2.trans (by omega))) (at_cell (argW m c) _ q.1 (q.2.trans (by omega)))

theorem result : (dats m 0 c).arrAt 2 cfg0.N = G m c := by
  refine (dats m 0 c).arrAt_eq_of_covers 2 (G m c) (by decide +kernel) fun t hf y => ?_
  have e := spot 2048 1024 (y 0).val (y 1).val (index t).2.2
  exact (congrFun (after0_2 m c t) _).trans ((tile m c t _).trans (congrArg₂ (prod _ _ _) e.1.symm e.2.symm))

/-- The reference's product. -/
theorem reference_value (x : S4096x128.Idx → EReal) (y : S2048x128.Idx → EReal) (i : S4096x2048.Idx) :
    Cert.Reference30Ideal.Read.val_main_v5 (F := Ideal) y x i = prod 128 (cell x) (fun k j => cell y j k) (i 0).val (i 1).val := by
  exact (Cert.Reference30Ideal.Read.val_main_v5_apply y x i).trans (sum_fin _ _ fun _ => congrArg₂ (· * ·) (at_cell x _ rfl rfl) (at_cell y _ rfl rfl))

theorem algebraic : Cert.algebraic_Kernel30Ideal_Reference30Ideal := by
  intro m g m' g' _ hagree
  refine ⟨fun c => G m c,
    (θ_run _ _ _).mono (fun r h c => ⟨(Value.post2 m r h c).trans (result m c), Value.kept_main_arg0 m r h c, Value.kept_main_arg1 m r h c, Value.kept_main_arg2 m r h c⟩) (run_main m g),
    (θ_run _ _ _).mono (fun r h c => ⟨(h c).1.trans ?_, (h c).2⟩) (Cert.Reference30Ideal.Value.run m' g')⟩
  obtain ⟨-, e1, e2⟩ := hagree c
  refine (Cert.Reference30Ideal.Read.val_main_v5_eq _ _).trans ?_
  rw [e1, e2]
  exact funext (reference_value _ _)

end Cert.Kd.Da

/-! ### The gradient of the weight -/

namespace Cert.Kd.Dw

open Cert.Kernel31Ideal Cert.Kernel31Ideal.Gen

theorem kernel : Cert.quiescent_Kernel31 := fun m ρ _ => Cert.Kernel31.Gen.frame m ρ
theorem kernelIdeal : Cert.quiescent_Kernel31Ideal := fun m ρ _ => Cert.Kernel31Ideal.Gen.frame m ρ
theorem reference : Cert.quiescent_Reference31Ideal := fun m ρ _ =>
  (θ_run Cert.Reference31Ideal.defs _ _).mono (fun r h => ⟨fun c => (h c).2, sem_eq_zero_of_no_sems (by decide) r.2⟩)
    (Cert.Reference31Ideal.Value.run (F := Ideal) m ρ)

variable (m : (ℓ : Loc nD τ sig) → Buf (Elt Ideal) ℓ) (c : Dev nD)

/-- The input and the incoming gradient. -/
abbrev argA : S4096x2048.Idx → EReal := m ((c.tc : Thread nD τ).loc main_arg0)
abbrev argC : S4096x128.Idx → EReal := m ((c.tc : Thread nD τ).loc main_arg2)

/-- The result. -/
abbrev G : S2048x128.Idx → EReal := fun i => prod 4096 (fun i k => cell (argA m c) k i) (cell (argC m c)) (i 0).val (i 1).val

/-- Where the blocks of a grid point sit. -/
theorem index : ∀ t : Fin cfg0.N, win0_0.index t = ![t.val % 2, t.val / 2 / 1] ∧ win0_1.index t = ![t.val % 2, t.val / 2 % 1]
    ∧ win0_2.index t = ![t.val / 2 / 1, t.val / 2 % 1] := by
  decide +kernel
theorem zero (j : S1024x128.Idx) : k0_pay1 (F := Ideal) j = 0 := by pointwise [k0_pay1]

/-- What a point adds to the accumulator. -/
theorem step (a : Vec Ideal S1024x128 .f32) (t : Fin cfg0.N) (j : S1024x128.Idx) : k0_pay2 (F := Ideal) a (iblk m c 0 t) (iblk m c 1 t) j
    = a j + part 2048 (t.val % 2) (fun i k => cell (argA m c) k i) (cell (argC m c)) (row 1 (t.val / 2) j) (col 1 (t.val / 2) j) := by
  have e (x : Vec Ideal S2048x1024 .f32) (y : Vec Ideal S2048x128 .bf16) : k0_pay2 (F := Ideal) a x y j = a j + ∑ k : Fin 2048, x (ix2 k (j 0)) * y (ix2 k (j 1)) := by
    pointwise [k0_pay2]
  rw [e]
  refine congrArg (a j + ·) (sum_fin _ _ fun k => ?_)
  have p := spot 2048 1024 k.val (j 0).val (index t).1
  have q := spot 2048 128 k.val (j 1).val (index t).2.1
  exact congrArg₂ (· * ·) (at_cell (argA m c) _ p.1 p.2) (at_cell (argC m c) _ q.1 q.2)

/-- The tile written at the last point of its run. -/
theorem tile (t : Fin cfg0.N) (h : t.val % 2 = 1) (j : S1024x128.Idx) : (outsAt0 m c t.val t.isLt).1 j
    = prod 4096 (fun i k => cell (argA m c) k i) (cell (argC m c)) (row 1 (t.val / 2) j) (col 1 (t.val / 2) j) :=
  (show (outsAt0 m c t.val t.isLt).1 j = (outsAt0 m c t.val t.isLt).2 j by
    rw [outsAt0_B m c t (by omega) h]; dsimp only; frame_out).trans
  (accumulated (fun n h => (outsAt0 m c n h).2) 2 2048 _ _ (row 1) (col 1)
    (fun t h j => by rw [outsAt0_A m c t h (by omega)]; dsimp only; frame_out; rw [step, zero])
    (fun t h j => by rw [outsAt0_B m c t h (by omega)]; dsimp only; frame_out; simp only [read_unread_whole]; rw [step])
    t (by omega) j)

theorem result : (dats m 0 c).arrAt 2 cfg0.N = G m c := by
  refine (dats m 0 c).arrAt_eq_of_covers 2 (G m c) (by decide +kernel) fun t hf y => ?_
  have e := spot 1024 128 (y 0).val (y 1).val (index t).2.2
  exact (congrFun (after0_2 m c t) _).trans ((tile m c t ((flush0_2 t).mp hf) _).trans (congrArg₂ (prod _ _ _) e.1.symm e.2.symm))

/-- The reference's product. -/
theorem reference_value (x : S4096x2048.Idx → EReal) (y : S4096x128.Idx → EReal) (i : S2048x128.Idx) :
    Cert.Reference31Ideal.Read.val_main_v4 (F := Ideal) x y i = prod 4096 (fun i k => cell x k i) (cell y) (i 0).val (i 1).val := by
  rw [Cert.Reference31Ideal.Read.val_main_v4_apply, Cert.Reference31Ideal.Read.val_main_v3_apply]
  refine sum_fin _ _ fun k => ?_
  rw [mul_comm]
  exact congrArg₂ (· * ·) (at_cell x _ rfl rfl) (at_cell y _ rfl rfl)

theorem algebraic : Cert.algebraic_Kernel31Ideal_Reference31Ideal := by
  intro m g m' g' _ hagree
  refine ⟨fun c => G m c,
    (θ_run _ _ _).mono (fun r h c => ⟨(Value.post2 m r h c).trans (result m c), Value.kept_main_arg0 m r h c, Value.kept_main_arg1 m r h c, Value.kept_main_arg2 m r h c⟩) (run_main m g),
    (θ_run _ _ _).mono (fun r h c => ⟨(h c).1.trans ?_, (h c).2⟩) (Cert.Reference31Ideal.Value.run m' g')⟩
  obtain ⟨e0, -, e2⟩ := hagree c
  refine (Cert.Reference31Ideal.Read.val_main_v4_eq _ _).trans ?_
  rw [e0, e2]
  exact funext (reference_value _ _)

end Cert.Kd.Dw

/-! ### The product -/

namespace Cert.Kd.Fwd

open Cert.Kernel32Ideal Cert.Kernel32Ideal.Gen

theorem kernel : Cert.quiescent_Kernel32 := fun m ρ _ => Cert.Kernel32.Gen.frame m ρ
theorem kernelIdeal : Cert.quiescent_Kernel32Ideal := fun m ρ _ => Cert.Kernel32Ideal.Gen.frame m ρ
theorem reference : Cert.quiescent_Reference32Ideal := fun m ρ _ =>
  (θ_run Cert.Reference32Ideal.defs _ _).mono (fun r h => ⟨fun c => (h c).2, sem_eq_zero_of_no_sems (by decide) r.2⟩)
    (Cert.Reference32Ideal.Value.run (F := Ideal) m ρ)

variable (m : (ℓ : Loc nD τ sig) → Buf (Elt Ideal) ℓ) (c : Dev nD)

/-- The input and the weight. -/
abbrev argA : S4096x2048.Idx → EReal := m ((c.tc : Thread nD τ).loc main_arg0)
abbrev argW : S2048x128.Idx → EReal := m ((c.tc : Thread nD τ).loc main_arg1)

/-- The result. -/
abbrev G : S4096x128.Idx → EReal := fun i => prod 2048 (cell (argA m c)) (cell (argW m c)) (i 0).val (i 1).val

/-- Where the blocks of a grid point sit. -/
theorem index : ∀ t : Fin cfg0.N, win0_0.index t = ![t.val / 1, 0] ∧ win0_1.index t = ![0, t.val % 1]
    ∧ win0_2.index t = ![t.val / 1, t.val % 1] := by
  decide +kernel
/-- The tile a point writes. -/
theorem tile (t : Fin cfg0.N) (j : S1024x128.Idx) :
    out0_2 (F := Ideal) (iblk m c 0 t) (iblk m c 1 t) j = prod 2048 (cell (argA m c)) (cell (argW m c)) (row 1 t.val j) (col 1 t.val j) := by
  have e (x : Vec Ideal S1024x2048 .f32) (y : Vec Ideal S2048x128 .bf16) : k0_pay1 (F := Ideal) x y j = ∑ k : Fin 2048, x (ix2 (j 0) k) * y (ix2 k (j 1)) := by
    pointwise [k0_pay1]
  frame_out
  rw [e]
  refine sum_fin _ _ fun k => ?_
  have p := spot 1024 2048 (j 0).val k.val (index t).1
  have q := spot 2048 128 k.val (j 1).val (index t).2.1
  exact congrArg₂ (· * ·) (at_cell (argA m c) _ p.1 (p.2.trans (by omega))) (at_cell (argW m c) _ (q.1.trans (by omega)) q.2)

theorem result : (dats m 0 c).arrAt 2 cfg0.N = G m c := by
  refine (dats m 0 c).arrAt_eq_of_covers 2 (G m c) (by decide +kernel) fun t hf y => ?_
  have e := spot 1024 128 (y 0).val (y 1).val (index t).2.2
  exact (congrFun (after0_2 m c t) _).trans ((tile m c t _).trans (congrArg₂ (prod _ _ _) e.1.symm e.2.symm))

/-- The reference's product. -/
theorem reference_value (x : S4096x2048.Idx → EReal) (y : S2048x128.Idx → EReal) (i : S4096x128.Idx) :
    Cert.Reference32Ideal.Read.val_main_v2 (F := Ideal) x y i = prod 2048 (cell x) (cell y) (i 0).val (i 1).val := by
  rw [Cert.Reference32Ideal.Read.val_main_v2_apply]
  exact (Cert.Reference32Ideal.Read.val_main_v1_apply x y i).trans (sum_fin _ _ fun _ => congrArg₂ (· * ·) (at_cell x _ rfl rfl) (at_cell y _ rfl rfl))

theorem algebraic : Cert.algebraic_Kernel32Ideal_Reference32Ideal := by
  intro m g m' g' _ hagree
  refine ⟨fun c => G m c,
    (θ_run _ _ _).mono (fun r h c => ⟨(Value.post2 m r h c).trans (result m c), Value.kept_main_arg0 m r h c, Value.kept_main_arg1 m r h c⟩) (run_main m g),
    (θ_run _ _ _).mono (fun r h c => ⟨(h c).1.trans ?_, (h c).2⟩) (Cert.Reference32Ideal.Value.run m' g')⟩
  obtain ⟨e0, e1⟩ := hagree c
  refine (Cert.Reference32Ideal.Read.val_main_v2_eq _ _).trans ?_
  rw [e0, e1]
  exact funext (reference_value _ _)

end Cert.Kd.Fwd

end
-- ==== Proof.Uq.lean ====
/-
  The projection from the low rank to the queries: the gradients of its weight and of its input, and the product itself, as products of
  matrices in tiles, the weight and its gradient in four blocks of columns.
-/
module

public import proofs.«01_k».proof.Defs
public import Idealize.ShloMosaic.Lib.Pipeline.ReadBack
public import proofs.«01_k».proof.Proof.Product
public import proofs.«01_k».proof.Proof.Gen.Kernel33.Frame
public import proofs.«01_k».proof.Proof.Gen.Kernel33Ideal.Value
public import proofs.«01_k».proof.Proof.Gen.Reference33Ideal.Read
public import proofs.«01_k».proof.Proof.Gen.Kernel34.Frame
public import proofs.«01_k».proof.Proof.Gen.Kernel34Ideal.Value
public import proofs.«01_k».proof.Proof.Gen.Reference34Ideal.Read
public import proofs.«01_k».proof.Proof.Gen.Kernel35.Frame
public import proofs.«01_k».proof.Proof.Gen.Kernel35Ideal.Value
public import proofs.«01_k».proof.Proof.Gen.Reference35Ideal.Read

@[expose] public section

noncomputable section

open Idealize.ShloMosaic Idealize.ShloMosaic.TcCoe Idealize.SL.Sem Idealize.ShloMosaic.Pipeline Cert.Product

/-! ### The gradient of the input -/

namespace Cert.Uq.Da

open Cert.Kernel33Ideal Cert.Kernel33Ideal.Gen

theorem kernel : Cert.quiescent_Kernel33 := fun m ρ _ => Cert.Kernel33.Gen.frame m ρ
theorem kernelIdeal : Cert.quiescent_Kernel33Ideal := fun m ρ _ => Cert.Kernel33Ideal.Gen.frame m ρ
theorem reference : Cert.quiescent_Reference33Ideal := fun m ρ _ =>
  (θ_run Cert.Reference33Ideal.defs _ _).mono (fun r h => ⟨fun c => (h c).2, sem_eq_zero_of_no_sems (by decide) r.2⟩)
    (Cert.Reference33Ideal.Value.run (F := Ideal) m ρ)

variable (m : (ℓ : Loc nD τ sig) → Buf (Elt Ideal) ℓ) (c : Dev nD)

/-- The weight and the incoming gradient. -/
abbrev argW : S512x3072.Idx → EReal := m ((c.tc : Thread nD τ).loc main_arg1)
abbrev argC : S4096x3072.Idx → EReal := m ((c.tc : Thread nD τ).loc main_arg2)

/-- The weight in blocks, as the call is handed it. -/
theorem weight : (V m c main_v1 : S4x512x768.Idx → EReal)
    = transpose S4x512x768 [1, 0, 2] (shapeCast S512x4x768 (argW m c) shapeCasts_S512x3072_S512x4x768) transposes_S512x4x768_S4x512x768_1_0_2 := by
  unfold V
  simp only [hostOps0, List.flatten_cons, List.flatten_nil, List.append_nil, List.cons_append, List.nil_append]
  after_results
  all_goals rfl

/-- The result. -/
abbrev G : S4096x512.Idx → EReal := fun i => prod 3072 (cell (argC m c)) (fun k j => cell (argW m c) j k) (i 0).val (i 1).val

/-- Where the blocks of a grid point sit. -/
theorem index : ∀ t : Fin cfg0.N, win0_0.index t = ![t.val / 4 / 1, t.val % 4] ∧ win0_1.index t = ![t.val % 4, t.val / 4 % 1, 0]
    ∧ win0_2.index t = ![t.val / 4 / 1, t.val / 4 % 1] := by
  decide +kernel

theorem zero (j : S1024x512.Idx) : k0_pay1 (F := Ideal) j = 0 := by pointwise [k0_pay1]

theorem step (a : Vec Ideal S1024x512 .f32) (t : Fin cfg0.N) (j : S1024x512.Idx) :
    k0_pay2 (F := Ideal) a (iblk m c 0 t) (iblk m c 1 t) j
      = a j + part 768 (t.val % 4) (cell (argC m c)) (fun k j => cell (argW m c) j k) (row 1 (t.val / 4) j) (col 1 (t.val / 4) j) := by
  have e (x : Vec Ideal S1024x768 .bf16) (y : Vec Ideal S1x512x768 .bf16) :
      k0_pay2 (F := Ideal) a x y j = a j + ∑ k : Fin 768, x (ix2 (j 0) k) * y (ix3 0 (j 1) k) := by
    pointwise [k0_pay2]
  rw [e]
  refine congrArg (a j + ·) (sum_fin _ _ fun k => ?_)
  have p := spot 1024 768 (j 0).val k.val (index t).1
  have q := spot3 1 512 768 0 (j 1).val k.val (index t).2.1
  exact congrArg₂ (· * ·) (at_cell (argC m c) _ p.1 p.2)
    ((congrFun (weight m c) _).trans (blocks_cell (B := 4) (C := 768) (argW m c) _ _ _ q.2.1
      ((congrArg₂ (fun a b => a * 768 + b) q.1 q.2.2).trans (by omega))))

/-- The tile written at the last point of its run. -/
theorem tile (t : Fin cfg0.N) (h : t.val % 4 = 3) (j : S1024x512.Idx) : (outsAt0 m c t.val t.isLt).1 j
    = prod 3072 (cell (argC m c)) (fun k j => cell (argW m c) j k) (row 1 (t.val / 4) j) (col 1 (t.val / 4) j) :=
  (show (outsAt0 m c t.val t.isLt).1 j = (outsAt0 m c t.val t.isLt).2 j by
    rw [outsAt0_C m c t (by omega) h]; dsimp only; frame_out; pointwise [k0_pay3]).trans
  (accumulated (fun n h => (outsAt0 m c n h).2) 4 768 _ _ (row 1) (col 1)
    (fun t h j => by rw [outsAt0_A m c t h (by omega)]; dsimp only; frame_out; rw [step, zero])
    (fun t h j => by
      by_cases h' : t.val % 4 = 3
      · rw [outsAt0_C m c t h h']; dsimp only; frame_out; simp only [read_unread_whole]; rw [step]
      · rw [outsAt0_B m c t h h']; dsimp only; frame_out; simp only [read_unread_whole]; rw [step])
    t (by omega) j)

theorem result : (dats m 0 c).arrAt 2 cfg0.N = G m c := by
  refine (dats m 0 c).arrAt_eq_of_covers 2 (G m c) (by decide +kernel) fun t hf y => ?_
  have e := spot 1024 512 (y 0).val (y 1).val (index t).2.2
  exact (congrFun (after0_2 m c t) _).trans ((tile m c t ((flush0_2 t).mp hf) _).trans (congrArg₂ (prod _ _ _) e.1.symm e.2.symm))

/-- The reference's product. -/
theorem reference_value (w : S512x3072.Idx → EReal) (g : S4096x3072.Idx → EReal) (i : S4096x512.Idx) :
    Cert.Reference33Ideal.Read.val_main_v7 (F := Ideal) w g i = prod 3072 (cell g) (fun k j => cell w j k) (i 0).val (i 1).val := by
  rw [Cert.Reference33Ideal.Read.val_main_v7_apply]
  refine (Cert.Reference33Ideal.Read.val_main_v6_apply w g i).trans (sum_fin _ _ fun k => ?_)
  exact congrArg₂ (· * ·) (at_cell g _ rfl rfl) (at_cell w _ rfl rfl)

theorem algebraic : Cert.algebraic_Kernel33Ideal_Reference33Ideal := by
  intro m g m' g' _ hagree
  refine ⟨fun c => G m c,
    (θ_run _ _ _).mono (fun r h c => ⟨(Value.post2 m r h c).trans (result m c), Value.kept_main_arg0 m r h c, Value.kept_main_arg1 m r h c, Value.kept_main_arg2 m r h c⟩) (run_main m g),
    (θ_run _ _ _).mono (fun r h c => ⟨(h c).1.trans ?_, (h c).2⟩) (Cert.Reference33Ideal.Value.run m' g')⟩
  obtain ⟨-, e1, e2⟩ := hagree c
  refine (Cert.Reference33Ideal.Read.val_main_v7_eq _ _).trans ?_
  rw [e1, e2]
  exact funext (reference_value _ _)

end Cert.Uq.Da

/-! ### The gradient of the weight -/

namespace Cert.Uq.Dw

open Cert.Kernel34Ideal Cert.Kernel34Ideal.Gen

theorem kernel : Cert.quiescent_Kernel34 := fun m ρ _ => Cert.Kernel34.Gen.frame m ρ
theorem kernelIdeal : Cert.quiescent_Kernel34Ideal := fun m ρ _ => Cert.Kernel34Ideal.Gen.frame m ρ
theorem reference : Cert.quiescent_Reference34Ideal := fun m ρ _ =>
  (θ_run Cert.Reference34Ideal.defs _ _).mono (fun r h => ⟨fun c => (h c).2, sem_eq_zero_of_no_sems (by decide) r.2⟩)
    (Cert.Reference34Ideal.Value.run (F := Ideal) m ρ)

variable (m : (ℓ : Loc nD τ sig) → Buf (Elt Ideal) ℓ) (c : Dev nD)

/-- The input and the incoming gradient. -/
abbrev argA : S4096x512.Idx → EReal := m ((c.tc : Thread nD τ).loc main_arg0)
abbrev argC : S4096x3072.Idx → EReal := m ((c.tc : Thread nD τ).loc main_arg2)

/-- The result. -/
abbrev G : S4x512x768.Idx → EReal := fun i => prod 4096 (fun i k => cell (argA m c) k i) (cell (argC m c)) (i 1).val ((i 0).val * 768 + (i 2).val)

/-- Where the blocks of a grid point sit. -/
theorem index : ∀ t : Fin cfg0.N, win0_0.index t = ![t.val % 2, t.val / 2 / 4] ∧ win0_1.index t = ![t.val % 2, t.val / 2 % 4]
    ∧ win0_2.index t = ![t.val / 2 % 4, t.val / 2 / 4, 0] := by
  decide +kernel

theorem zero (j : S512x768.Idx) : k0_pay1 (F := Ideal) j = 0 := by pointwise [k0_pay1]

theorem step (a : Vec Ideal S512x768 .f32) (t : Fin cfg0.N) (j : S512x768.Idx) :
    k0_pay2 (F := Ideal) a (iblk m c 0 t) (iblk m c 1 t) j
      = a j + part 2048 (t.val % 2) (fun i k => cell (argA m c) k i) (cell (argC m c)) (row 4 (t.val / 2) j) (col 4 (t.val / 2) j) := by
  have e (x : Vec Ideal S2048x512 .bf16) (y : Vec Ideal S2048x768 .bf16) : k0_pay2 (F := Ideal) a x y j = a j + ∑ k : Fin 2048, x (ix2 k (j 0)) * y (ix2 k (j 1)) := by
    pointwise [k0_pay2]
  rw [e]
  refine congrArg (a j + ·) (sum_fin _ _ fun k => ?_)
  have p := spot 2048 512 k.val (j 0).val (index t).1
  have q := spot 2048 768 k.val (j 1).val (index t).2.1
  exact congrArg₂ (· * ·) (at_cell (argA m c) _ p.1 p.2) (at_cell (argC m c) _ q.1 q.2)

/-- The tile written at the last point of its run. -/
theorem tile (t : Fin cfg0.N) (h : t.val % 2 = 1) (j : S1x512x768.Idx) : (outsAt0 m c t.val t.isLt).1 j
    = prod 4096 (fun i k => cell (argA m c) k i) (cell (argC m c)) (row 4 (t.val / 2) (ix2 (j 1) (j 2))) (col 4 (t.val / 2) (ix2 (j 1) (j 2))) :=
  (show (outsAt0 m c t.val t.isLt).1 j = (outsAt0 m c t.val t.isLt).2 (ix2 (j 1) (j 2)) by
    rw [outsAt0_B m c t (by omega) h]; dsimp only; frame_out; pointwise [k0_pay3]).trans
  (accumulated (fun n h => (outsAt0 m c n h).2) 2 2048 _ _ (row 4) (col 4)
    (fun t h j => by rw [outsAt0_A m c t h (by omega)]; dsimp only; frame_out; rw [step, zero])
    (fun t h j => by rw [outsAt0_B m c t h (by omega)]; dsimp only; frame_out; simp only [read_unread_whole]; rw [step])
    t (by omega) _)

theorem result : (dats m 0 c).arrAt 2 cfg0.N = G m c := by
  refine (dats m 0 c).arrAt_eq_of_covers 2 (G m c) (by decide +kernel) fun t hf y => ?_
  refine (congrFun (after0_2 m c t) _).trans ((tile m c t ((flush0_2 t).mp hf) _).trans ?_)
  have e := spot3 1 512 768 (y 0).val (y 1).val (y 2).val (index t).2.2
  have y0 : (y 0).val < 1 := (y 0).isLt
  refine congrArg₂ (prod _ _ _) e.2.1.symm (Eq.trans ?_ (congrArg₂ (fun a b => a * 768 + b) e.1 e.2.2).symm)
  show t.val / 2 % 4 * 768 + (y 2).val = _
  omega

/-- The reference's product. -/
theorem reference_value (x : S4096x512.Idx → EReal) (g : S4096x3072.Idx → EReal) (i : S4x512x768.Idx) :
    Cert.Reference34Ideal.Read.val_main_v8 (F := Ideal) x g i = prod 4096 (fun i k => cell x k i) (cell g) (i 1).val ((i 0).val * 768 + (i 2).val) := by
  have h0 : (i 0).val < 4 := (i 0).isLt
  have h2 : (i 2).val < 768 := (i 2).isLt
  rw [Cert.Reference34Ideal.Read.val_main_v8_apply, Cert.Reference34Ideal.Read.val_main_v7_apply, Cert.Reference34Ideal.Read.val_main_v5_apply,
    Cert.Reference34Ideal.Read.val_main_v4_apply]
  refine sum_fin _ _ fun k => ?_
  rw [mul_comm]
  refine congrArg₂ (· * ·) (at_cell x _ rfl ?_) (at_cell g _ rfl ?_)
  · show (((i 1).val * 4 + (i 0).val) * 768 + (i 2).val) / 3072 = (i 1).val
    omega
  · show (((i 1).val * 4 + (i 0).val) * 768 + (i 2).val) % 3072 = _
    omega

theorem algebraic : Cert.algebraic_Kernel34Ideal_Reference34Ideal := by
  intro m g m' g' _ hagree
  refine ⟨fun c => G m c,
    (θ_run _ _ _).mono (fun r h c => ⟨(Value.post2 m r h c).trans (result m c), Value.kept_main_arg0 m r h c, Value.kept_main_arg1 m r h c, Value.kept_main_arg2 m r h c⟩) (run_main m g),
    (θ_run _ _ _).mono (fun r h c => ⟨(h c).1.trans ?_, (h c).2⟩) (Cert.Reference34Ideal.Value.run m' g')⟩
  obtain ⟨e0, -, e2⟩ := hagree c
  refine (Cert.Reference34Ideal.Read.val_main_v8_eq _ _).trans ?_
  rw [e0, e2]
  exact funext (reference_value _ _)

end Cert.Uq.Dw

/-! ### The product -/

namespace Cert.Uq.Fwd

open Cert.Kernel35Ideal Cert.Kernel35Ideal.Gen

theorem kernel : Cert.quiescent_Kernel35 := fun m ρ _ => Cert.Kernel35.Gen.frame m ρ
theorem kernelIdeal : Cert.quiescent_Kernel35Ideal := fun m ρ _ => Cert.Kernel35Ideal.Gen.frame m ρ
theorem reference : Cert.quiescent_Reference35Ideal := fun m ρ _ =>
  (θ_run Cert.Reference35Ideal.defs _ _).mono (fun r h => ⟨fun c => (h c).2, sem_eq_zero_of_no_sems (by decide) r.2⟩)
    (Cert.Reference35Ideal.Value.run (F := Ideal) m ρ)

variable (m : (ℓ : Loc nD τ sig) → Buf (Elt Ideal) ℓ) (c : Dev nD)

/-- The input and the weight. -/
abbrev argA : S4096x512.Idx → EReal := m ((c.tc : Thread nD τ).loc main_arg0)
abbrev argW : S512x3072.Idx → EReal := m ((c.tc : Thread nD τ).loc main_arg1)

/-- The weight in blocks, as the call is handed it. -/
theorem weight : (V m c main_v1 : S4x512x768.Idx → EReal)
    = transpose S4x512x768 [1, 0, 2] (shapeCast S512x4x768 (argW m c) shapeCasts_S512x3072_S512x4x768) transposes_S512x4x768_S4x512x768_1_0_2 := by
  unfold V
  simp only [hostOps0, List.flatten_cons, List.flatten_nil, List.append_nil, List.cons_append, List.nil_append]
  after_results
  all_goals rfl

/-- The result. -/
abbrev G : S4096x3072.Idx → EReal := fun i => prod 512 (cell (argA m c)) (cell (argW m c)) (i 0).val (i 1).val

/-- Where the blocks of a grid point sit. -/
theorem index : ∀ t : Fin cfg0.N, win0_0.index t = ![t.val / 4, 0] ∧ win0_1.index t = ![t.val % 4, 0, 0] ∧ win0_2.index t = ![t.val / 4, t.val % 4] := by
  decide +kernel

/-- The tile a point writes. -/
theorem tile (t : Fin cfg0.N) (j : S2048x768.Idx) :
    out0_2 (F := Ideal) (iblk m c 0 t) (iblk m c 1 t) j = prod 512 (cell (argA m c)) (cell (argW m c)) (row 4 t.val j) (col 4 t.val j) := by
  have e (x : Vec Ideal S2048x512 .bf16) (y : Vec Ideal S1x512x768 .bf16) : k0_pay1 (F := Ideal) x y j = ∑ k : Fin 512, x (ix2 (j 0) k) * y (ix3 0 k (j 1)) := by
    pointwise [k0_pay1]
  frame_out
  rw [e]
  refine sum_fin _ _ fun k => ?_
  have p := spot 2048 512 (j 0).val k.val (index t).1
  have q := spot3 1 512 768 0 k.val (j 1).val (index t).2.1
  refine congrArg₂ (· * ·) (at_cell (argA m c) _ p.1 (p.2.trans (by omega)))
    ((congrFun (weight m c) _).trans (blocks_cell (B := 4) (C := 768) (argW m c) _ _ _ (q.2.1.trans (by omega))
      ((congrArg₂ (fun a b => a * 768 + b) q.1 q.2.2).trans ?_)))
  show (t.val % 4 * 1 + 0) * 768 + (0 * 768 + (j 1).val) = t.val % 4 * 768 + (j 1).val
  omega

theorem result : (dats m 0 c).arrAt 2 cfg0.N = G m c := by
  refine (dats m 0 c).arrAt_eq_of_covers 2 (G m c) (by decide +kernel) fun t hf y => ?_
  have e := spot 2048 768 (y 0).val (y 1).val (index t).2.2
  exact (congrFun (after0_2 m c t) _).trans ((tile m c t _).trans (congrArg₂ (prod _ _ _) e.1.symm e.2.symm))

/-- The reference's product. -/
theorem reference_value (x : S4096x512.Idx → EReal) (y : S512x3072.Idx → EReal) (i : S4096x3072.Idx) :
    Cert.Reference35Ideal.Read.val_main_v3 (F := Ideal) x y i = prod 512 (cell x) (cell y) (i 0).val (i 1).val := by
  rw [Cert.Reference35Ideal.Read.val_main_v3_apply]
  exact (Cert.Reference35Ideal.Read.val_main_v2_apply x y i).trans
    (sum_fin _ _ fun _ => congrArg₂ (· * ·) (at_cell x _ rfl rfl) (at_cell y _ rfl rfl))

theorem algebraic : Cert.algebraic_Kernel35Ideal_Reference35Ideal := by
  intro m g m' g' _ hagree
  refine ⟨fun c => G m c,
    (θ_run _ _ _).mono (fun r h c => ⟨(Value.post2 m r h c).trans (result m c), Value.kept_main_arg0 m r h c, Value.kept_main_arg1 m r h c⟩) (run_main m g),
    (θ_run _ _ _).mono (fun r h c => ⟨(h c).1.trans ?_, (h c).2⟩) (Cert.Reference35Ideal.Value.run m' g')⟩
  obtain ⟨e0, e1⟩ := hagree c
  refine (Cert.Reference35Ideal.Read.val_main_v3_eq _ _).trans ?_
  rw [e0, e1]
  exact funext (reference_value _ _)

end Cert.Uq.Fwd

end
-- ==== Proof.Ukv.lean ====
/-
  The projection from the low rank to the keys and values: the gradients of its weight and of its input, and the product itself, as products of
  matrices in tiles, the weight and its gradient in four blocks of columns.
-/
module

public import proofs.«01_k».proof.Defs
public import Idealize.ShloMosaic.Lib.Pipeline.ReadBack
public import proofs.«01_k».proof.Proof.Product
public import proofs.«01_k».proof.Proof.Gen.Kernel36.Frame
public import proofs.«01_k».proof.Proof.Gen.Kernel36Ideal.Value
public import proofs.«01_k».proof.Proof.Gen.Reference36Ideal.Read
public import proofs.«01_k».proof.Proof.Gen.Kernel37.Frame
public import proofs.«01_k».proof.Proof.Gen.Kernel37Ideal.Value
public import proofs.«01_k».proof.Proof.Gen.Reference37Ideal.Read
public import proofs.«01_k».proof.Proof.Gen.Kernel38.Frame
public import proofs.«01_k».proof.Proof.Gen.Kernel38Ideal.Value
public import proofs.«01_k».proof.Proof.Gen.Reference38Ideal.Read

@[expose] public section

noncomputable section

open Idealize.ShloMosaic Idealize.ShloMosaic.TcCoe Idealize.SL.Sem Idealize.ShloMosaic.Pipeline Cert.Product

/-! ### The gradient of the input -/

namespace Cert.Ukv.Da

open Cert.Kernel36Ideal Cert.Kernel36Ideal.Gen

theorem kernel : Cert.quiescent_Kernel36 := fun m ρ _ => Cert.Kernel36.Gen.frame m ρ
theorem kernelIdeal : Cert.quiescent_Kernel36Ideal := fun m ρ _ => Cert.Kernel36Ideal.Gen.frame m ρ
theorem reference : Cert.quiescent_Reference36Ideal := fun m ρ _ =>
  (θ_run Cert.Reference36Ideal.defs _ _).mono (fun r h => ⟨fun c => (h c).2, sem_eq_zero_of_no_sems (by decide) r.2⟩)
    (Cert.Reference36Ideal.Value.run (F := Ideal) m ρ)

variable (m : (ℓ : Loc nD τ sig) → Buf (Elt Ideal) ℓ) (c : Dev nD)

/-- The weight and the incoming gradient. -/
abbrev argW : S512x4096.Idx → EReal := m ((c.tc : Thread nD τ).loc main_arg1)
abbrev argC : S4096x4096.Idx → EReal := m ((c.tc : Thread nD τ).loc main_arg2)

/-- The weight in blocks, as the call is handed it. -/
theorem weight : (V m c main_v1 : S4x512x1024.Idx → EReal)
    = transpose S4x512x1024 [1, 0, 2] (shapeCast S512x4x1024 (argW m c) shapeCasts_S512x4096_S512x4x1024) transposes_S512x4x1024_S4x512x1024_1_0_2 := by
  unfold V
  simp only [hostOps0, List.flatten_cons, List.flatten_nil, List.append_nil, List.cons_append, List.nil_append]
  after_results
  all_goals rfl

/-- The result. -/
abbrev G : S4096x512.Idx → EReal := fun i => prod 4096 (cell (argC m c)) (fun k j => cell (argW m c) j k) (i 0).val (i 1).val

/-- Where the blocks of a grid point sit. -/
theorem index : ∀ t : Fin cfg0.N, win0_0.index t = ![t.val / 4 / 1, t.val % 4] ∧ win0_1.index t = ![t.val % 4, t.val / 4 % 1, 0]
    ∧ win0_2.index t = ![t.val / 4 / 1, t.val / 4 % 1] := by
  decide +kernel

theorem zero (j : S1024x512.Idx) : k0_pay1 (F := Ideal) j = 0 := by pointwise [k0_pay1]

theorem step (a : Vec Ideal S1024x512 .f32) (t : Fin cfg0.N) (j : S1024x512.Idx) :
    k0_pay2 (F := Ideal) a (iblk m c 0 t) (iblk m c 1 t) j
      = a j + part 1024 (t.val % 4) (cell (argC m c)) (fun k j => cell (argW m c) j k) (row 1 (t.val / 4) j) (col 1 (t.val / 4) j) := by
  have e (x : Vec Ideal S1024x1024 .bf16) (y : Vec Ideal S1x512x1024 .bf16) :
      k0_pay2 (F := Ideal) a x y j = a j + ∑ k : Fin 1024, x (ix2 (j 0) k) * y (ix3 0 (j 1) k) := by
    pointwise [k0_pay2]
  rw [e]
  refine congrArg (a j + ·) (sum_fin _ _ fun k => ?_)
  have p := spot 1024 1024 (j 0).val k.val (index t).1
  have q := spot3 1 512 1024 0 (j 1).val k.val (index t).2.1
  exact congrArg₂ (· * ·) (at_cell (argC m c) _ p.1 p.2)
    ((congrFun (weight m c) _).trans (blocks_cell (B := 4) (C := 1024) (argW m c) _ _ _ q.2.1
      ((congrArg₂ (fun a b => a * 1024 + b) q.1 q.2.2).trans (by omega))))

/-- The tile written at the last point of its run. -/
theorem tile (t : Fin cfg0.N) (h : t.val % 4 = 3) (j : S1024x512.Idx) : (outsAt0 m c t.val t.isLt).1 j
    = prod 4096 (cell (argC m c)) (fun k j => cell (argW m c) j k) (row 1 (t.val / 4) j) (col 1 (t.val / 4) j) :=
  (show (outsAt0 m c t.val t.isLt).1 j = (outsAt0 m c t.val t.isLt).2 j by
    rw [outsAt0_C m c t (by omega) h]; dsimp only; frame_out; pointwise [k0_pay3]).trans
  (accumulated (fun n h => (outsAt0 m c n h).2) 4 1024 _ _ (row 1) (col 1)
    (fun t h j => by rw [outsAt0_A m c t h (by omega)]; dsimp only; frame_out; rw [step, zero])
    (fun t h j => by
      by_cases h' : t.val % 4 = 3
      · rw [outsAt0_C m c t h h']; dsimp only; frame_out; simp only [read_unread_whole]; rw [step]
      · rw [outsAt0_B m c t h h']; dsimp only; frame_out; simp only [read_unread_whole]; rw [step])
    t (by omega) j)

theorem result : (dats m 0 c).arrAt 2 cfg0.N = G m c := by
  refine (dats m 0 c).arrAt_eq_of_covers 2 (G m c) (by decide +kernel) fun t hf y => ?_
  have e := spot 1024 512 (y 0).val (y 1).val (index t).2.2
  exact (congrFun (after0_2 m c t) _).trans ((tile m c t ((flush0_2 t).mp hf) _).trans (congrArg₂ (prod _ _ _) e.1.symm e.2.symm))

/-- The reference's product. -/
theorem reference_value (w : S512x4096.Idx → EReal) (g : S4096x4096.Idx → EReal) (i : S4096x512.Idx) :
    Cert.Reference36Ideal.Read.val_main_v7 (F := Ideal) w g i = prod 4096 (cell g) (fun k j => cell w j k) (i 0).val (i 1).val := by
  rw [Cert.Reference36Ideal.Read.val_main_v7_apply]
  refine (Cert.Reference36Ideal.Read.val_main_v6_apply w g i).trans (sum_fin _ _ fun k => ?_)
  exact congrArg₂ (· * ·) (at_cell g _ rfl rfl) (at_cell w _ rfl rfl)

theorem algebraic : Cert.algebraic_Kernel36Ideal_Reference36Ideal := by
  intro m g m' g' _ hagree
  refine ⟨fun c => G m c,
    (θ_run _ _ _).mono (fun r h c => ⟨(Value.post2 m r h c).trans (result m c), Value.kept_main_arg0 m r h c, Value.kept_main_arg1 m r h c, Value.kept_main_arg2 m r h c⟩) (run_main m g),
    (θ_run _ _ _).mono (fun r h c => ⟨(h c).1.trans ?_, (h c).2⟩) (Cert.Reference36Ideal.Value.run m' g')⟩
  obtain ⟨-, e1, e2⟩ := hagree c
  refine (Cert.Reference36Ideal.Read.val_main_v7_eq _ _).trans ?_
  rw [e1, e2]
  exact funext (reference_value _ _)

end Cert.Ukv.Da

/-! ### The gradient of the weight -/

namespace Cert.Ukv.Dw

open Cert.Kernel37Ideal Cert.Kernel37Ideal.Gen

theorem kernel : Cert.quiescent_Kernel37 := fun m ρ _ => Cert.Kernel37.Gen.frame m ρ
theorem kernelIdeal : Cert.quiescent_Kernel37Ideal := fun m ρ _ => Cert.Kernel37Ideal.Gen.frame m ρ
theorem reference : Cert.quiescent_Reference37Ideal := fun m ρ _ =>
  (θ_run Cert.Reference37Ideal.defs _ _).mono (fun r h => ⟨fun c => (h c).2, sem_eq_zero_of_no_sems (by decide) r.2⟩)
    (Cert.Reference37Ideal.Value.run (F := Ideal) m ρ)

variable (m : (ℓ : Loc nD τ sig) → Buf (Elt Ideal) ℓ) (c : Dev nD)

/-- The input and the incoming gradient. -/
abbrev argA : S4096x512.Idx → EReal := m ((c.tc : Thread nD τ).loc main_arg0)
abbrev argC : S4096x4096.Idx → EReal := m ((c.tc : Thread nD τ).loc main_arg2)

/-- The result. -/
abbrev G : S4x512x1024.Idx → EReal := fun i => prod 4096 (fun i k => cell (argA m c) k i) (cell (argC m c)) (i 1).val ((i 0).val * 1024 + (i 2).val)

/-- Where the blocks of a grid point sit. -/
theorem index : ∀ t : Fin cfg0.N, win0_0.index t = ![t.val % 2, t.val / 2 / 4] ∧ win0_1.index t = ![t.val % 2, t.val / 2 % 4]
    ∧ win0_2.index t = ![t.val / 2 % 4, t.val / 2 / 4, 0] := by
  decide +kernel

theorem zero (j : S512x1024.Idx) : k0_pay1 (F := Ideal) j = 0 := by pointwise [k0_pay1]

theorem step (a : Vec Ideal S512x1024 .f32) (t : Fin cfg0.N) (j : S512x1024.Idx) :
    k0_pay2 (F := Ideal) a (iblk m c 0 t) (iblk m c 1 t) j
      = a j + part 2048 (t.val % 2) (fun i k => cell (argA m c) k i) (cell (argC m c)) (row 4 (t.val / 2) j) (col 4 (t.val / 2) j) := by
  have e (x : Vec Ideal S2048x512 .bf16) (y : Vec Ideal S2048x1024 .bf16) : k0_pay2 (F := Ideal) a x y j = a j + ∑ k : Fin 2048, x (ix2 k (j 0)) * y (ix2 k (j 1)) := by
    pointwise [k0_pay2]
  rw [e]
  refine congrArg (a j + ·) (sum_fin _ _ fun k => ?_)
  have p := spot 2048 512 k.val (j 0).val (index t).1
  have q := spot 2048 1024 k.val (j 1).val (index t).2.1
  exact congrArg₂ (· * ·) (at_cell (argA m c) _ p.1 p.2) (at_cell (argC m c) _ q.1 q.2)

/-- The tile written at the last point of its run. -/
theorem tile (t : Fin cfg0.N) (h : t.val % 2 = 1) (j : S1x512x1024.Idx) : (outsAt0 m c t.val t.isLt).1 j
    = prod 4096 (fun i k => cell (argA m c) k i) (cell (argC m c)) (row 4 (t.val / 2) (ix2 (j 1) (j 2))) (col 4 (t.val / 2) (ix2 (j 1) (j 2))) :=
  (show (outsAt0 m c t.val t.isLt).1 j = (outsAt0 m c t.val t.isLt).2 (ix2 (j 1) (j 2)) by
    rw [outsAt0_B m c t (by omega) h]; dsimp only; frame_out; pointwise [k0_pay3]).trans
  (accumulated (fun n h => (outsAt0 m c n h).2) 2 2048 _ _ (row 4) (col 4)
    (fun t h j => by rw [outsAt0_A m c t h (by omega)]; dsimp only; frame_out; rw [step, zero])
    (fun t h j => by rw [outsAt0_B m c t h (by omega)]; dsimp only; frame_out; simp only [read_unread_whole]; rw [step])
    t (by omega) _)

theorem result : (dats m 0 c).arrAt 2 cfg0.N = G m c := by
  refine (dats m 0 c).arrAt_eq_of_covers 2 (G m c) (by decide +kernel) fun t hf y => ?_
  refine (congrFun (after0_2 m c t) _).trans ((tile m c t ((flush0_2 t).mp hf) _).trans ?_)
  have e := spot3 1 512 1024 (y 0).val (y 1).val (y 2).val (index t).2.2
  have y0 : (y 0).val < 1 := (y 0).isLt
  refine congrArg₂ (prod _ _ _) e.2.1.symm (Eq.trans ?_ (congrArg₂ (fun a b => a * 1024 + b) e.1 e.2.2).symm)
  show t.val / 2 % 4 * 1024 + (y 2).val = _
  omega

/-- The reference's product. -/
theorem reference_value (x : S4096x512.Idx → EReal) (g : S4096x4096.Idx → EReal) (i : S4x512x1024.Idx) :
    Cert.Reference37Ideal.Read.val_main_v8 (F := Ideal) x g i = prod 4096 (fun i k => cell x k i) (cell g) (i 1).val ((i 0).val * 1024 + (i 2).val) := by
  have h0 : (i 0).val < 4 := (i 0).isLt
  have h2 : (i 2).val < 1024 := (i 2).isLt
  rw [Cert.Reference37Ideal.Read.val_main_v8_apply, Cert.Reference37Ideal.Read.val_main_v7_apply, Cert.Reference37Ideal.Read.val_main_v5_apply,
    Cert.Reference37Ideal.Read.val_main_v4_apply]
  refine sum_fin _ _ fun k => ?_
  rw [mul_comm]
  refine congrArg₂ (· * ·) (at_cell x _ rfl ?_) (at_cell g _ rfl ?_)
  · show (((i 1).val * 4 + (i 0).val) * 1024 + (i 2).val) / 4096 = (i 1).val
    omega
  · show (((i 1).val * 4 + (i 0).val) * 1024 + (i 2).val) % 4096 = _
    omega

theorem algebraic : Cert.algebraic_Kernel37Ideal_Reference37Ideal := by
  intro m g m' g' _ hagree
  refine ⟨fun c => G m c,
    (θ_run _ _ _).mono (fun r h c => ⟨(Value.post2 m r h c).trans (result m c), Value.kept_main_arg0 m r h c, Value.kept_main_arg1 m r h c, Value.kept_main_arg2 m r h c⟩) (run_main m g),
    (θ_run _ _ _).mono (fun r h c => ⟨(h c).1.trans ?_, (h c).2⟩) (Cert.Reference37Ideal.Value.run m' g')⟩
  obtain ⟨e0, -, e2⟩ := hagree c
  refine (Cert.Reference37Ideal.Read.val_main_v8_eq _ _).trans ?_
  rw [e0, e2]
  exact funext (reference_value _ _)

end Cert.Ukv.Dw

/-! ### The product -/

namespace Cert.Ukv.Fwd

open Cert.Kernel38Ideal Cert.Kernel38Ideal.Gen

theorem kernel : Cert.quiescent_Kernel38 := fun m ρ _ => Cert.Kernel38.Gen.frame m ρ
theorem kernelIdeal : Cert.quiescent_Kernel38Ideal := fun m ρ _ => Cert.Kernel38Ideal.Gen.frame m ρ
theorem reference : Cert.quiescent_Reference38Ideal := fun m ρ _ =>
  (θ_run Cert.Reference38Ideal.defs _ _).mono (fun r h => ⟨fun c => (h c).2, sem_eq_zero_of_no_sems (by decide) r.2⟩)
    (Cert.Reference38Ideal.Value.run (F := Ideal) m ρ)

variable (m : (ℓ : Loc nD τ sig) → Buf (Elt Ideal) ℓ) (c : Dev nD)

/-- The input and the weight. -/
abbrev argA : S4096x512.Idx → EReal := m ((c.tc : Thread nD τ).loc main_arg0)
abbrev argW : S512x4096.Idx → EReal := m ((c.tc : Thread nD τ).loc main_arg1)

/-- The weight in blocks, as the call is handed it. -/
theorem weight : (V m c main_v1 : S4x512x1024.Idx → EReal)
    = transpose S4x512x1024 [1, 0, 2] (shapeCast S512x4x1024 (argW m c) shapeCasts_S512x4096_S512x4x1024) transposes_S512x4x1024_S4x512x1024_1_0_2 := by
  unfold V
  simp only [hostOps0, List.flatten_cons, List.flatten_nil, List.append_nil, List.cons_append, List.nil_append]
  after_results
  all_goals rfl

/-- The result. -/
abbrev G : S4096x4096.Idx → EReal := fun i => prod 512 (cell (argA m c)) (cell (argW m c)) (i 0).val (i 1).val

/-- Where the blocks of a grid point sit. -/
theorem index : ∀ t : Fin cfg0.N, win0_0.index t = ![t.val / 4, 0] ∧ win0_1.index t = ![t.val % 4, 0, 0] ∧ win0_2.index t = ![t.val / 4, t.val % 4] := by
  decide +kernel

/-- The tile a point writes. -/
theorem tile (t : Fin cfg0.N) (j : S2048x1024.Idx) :
    out0_2 (F := Ideal) (iblk m c 0 t) (iblk m c 1 t) j = prod 512 (cell (argA m c)) (cell (argW m c)) (row 4 t.val j) (col 4 t.val j) := by
  have e (x : Vec Ideal S2048x512 .bf16) (y : Vec Ideal S1x512x1024 .bf16) : k0_pay1 (F := Ideal) x y j = ∑ k : Fin 512, x (ix2 (j 0) k) * y (ix3 0 k (j 1)) := by
    pointwise [k0_pay1]
  frame_out
  rw [e]
  refine sum_fin _ _ fun k => ?_
  have p := spot 2048 512 (j 0).val k.val (index t).1
  have q := spot3 1 512 1024 0 k.val (j 1).val (index t).2.1
  refine congrArg₂ (· * ·) (at_cell (argA m c) _ p.1 (p.2.trans (by omega)))
    ((congrFun (weight m c) _).trans (blocks_cell (B := 4) (C := 1024) (argW m c) _ _ _ (q.2.1.trans (by omega))
      ((congrArg₂ (fun a b => a * 1024 + b) q.1 q.2.2).trans ?_)))
  show (t.val % 4 * 1 + 0) * 1024 + (0 * 1024 + (j 1).val) = t.val % 4 * 1024 + (j 1).val
  omega

theorem result : (dats m 0 c).arrAt 2 cfg0.N = G m c := by
  refine (dats m 0 c).arrAt_eq_of_covers 2 (G m c) (by decide +kernel) fun t hf y => ?_
  have e := spot 2048 1024 (y 0).val (y 1).val (index t).2.2
  exact (congrFun (after0_2 m c t) _).trans ((tile m c t _).trans (congrArg₂ (prod _ _ _) e.1.symm e.2.symm))

/-- The reference's product. -/
theorem reference_value (x : S4096x512.Idx → EReal) (y : S512x4096.Idx → EReal) (i : S4096x4096.Idx) :
    Cert.Reference38Ideal.Read.val_main_v3 (F := Ideal) x y i = prod 512 (cell x) (cell y) (i 0).val (i 1).val := by
  rw [Cert.Reference38Ideal.Read.val_main_v3_apply]
  exact (Cert.Reference38Ideal.Read.val_main_v2_apply x y i).trans
    (sum_fin _ _ fun _ => congrArg₂ (· * ·) (at_cell x _ rfl rfl) (at_cell y _ rfl rfl))

theorem algebraic : Cert.algebraic_Kernel38Ideal_Reference38Ideal := by
  intro m g m' g' _ hagree
  refine ⟨fun c => G m c,
    (θ_run _ _ _).mono (fun r h c => ⟨(Value.post2 m r h c).trans (result m c), Value.kept_main_arg0 m r h c, Value.kept_main_arg1 m r h c⟩) (run_main m g),
    (θ_run _ _ _).mono (fun r h c => ⟨(h c).1.trans ?_, (h c).2⟩) (Cert.Reference38Ideal.Value.run m' g')⟩
  obtain ⟨e0, e1⟩ := hagree c
  refine (Cert.Reference38Ideal.Read.val_main_v3_eq _ _).trans ?_
  rw [e0, e1]
  exact funext (reference_value _ _)

end Cert.Ukv.Fwd

end
-- ==== Proof.Ple.lean ====
/-
  The projection of the layer's embedding: the gradient of its weight, and the product itself, as products of
  matrices in tiles, the weight and its gradient in four blocks of columns.
-/
module

public import proofs.«01_k».proof.Defs
public import Idealize.ShloMosaic.Lib.Pipeline.ReadBack
public import proofs.«01_k».proof.Proof.Product
public import proofs.«01_k».proof.Proof.Gen.Kernel39.Frame
public import proofs.«01_k».proof.Proof.Gen.Kernel39Ideal.Value
public import proofs.«01_k».proof.Proof.Gen.Reference39Ideal.Read
public import proofs.«01_k».proof.Proof.Gen.Kernel40.Frame
public import proofs.«01_k».proof.Proof.Gen.Kernel40Ideal.Value
public import proofs.«01_k».proof.Proof.Gen.Reference40Ideal.Read

@[expose] public section

noncomputable section

open Idealize.ShloMosaic Idealize.ShloMosaic.TcCoe Idealize.SL.Sem Idealize.ShloMosaic.Pipeline Cert.Product

/-! ### The gradient of the weight -/

namespace Cert.Ple.Dw

open Cert.Kernel39Ideal Cert.Kernel39Ideal.Gen

theorem kernel : Cert.quiescent_Kernel39 := fun m ρ _ => Cert.Kernel39.Gen.frame m ρ
theorem kernelIdeal : Cert.quiescent_Kernel39Ideal := fun m ρ _ => Cert.Kernel39Ideal.Gen.frame m ρ
theorem reference : Cert.quiescent_Reference39Ideal := fun m ρ _ =>
  (θ_run Cert.Reference39Ideal.defs _ _).mono (fun r h => ⟨fun c => (h c).2, sem_eq_zero_of_no_sems (by decide) r.2⟩)
    (Cert.Reference39Ideal.Value.run (F := Ideal) m ρ)

variable (m : (ℓ : Loc nD τ sig) → Buf (Elt Ideal) ℓ) (c : Dev nD)

/-- The input and the incoming gradient. -/
abbrev argA : S4096x256.Idx → EReal := m ((c.tc : Thread nD τ).loc main_arg0)
abbrev argC : S4096x2048.Idx → EReal := m ((c.tc : Thread nD τ).loc main_arg2)

/-- The result. -/
abbrev G : S4x256x512.Idx → EReal := fun i => prod 4096 (fun i k => cell (argA m c) k i) (cell (argC m c)) (i 1).val ((i 0).val * 512 + (i 2).val)

/-- Where the blocks of a grid point sit. -/
theorem index : ∀ t : Fin cfg0.N, win0_0.index t = ![t.val % 2, t.val / 2 / 4] ∧ win0_1.index t = ![t.val % 2, t.val / 2 % 4]
    ∧ win0_2.index t = ![t.val / 2 % 4, t.val / 2 / 4, 0] := by
  decide +kernel

theorem zero (j : S256x512.Idx) : k0_pay1 (F := Ideal) j = 0 := by pointwise [k0_pay1]

theorem step (a : Vec Ideal S256x512 .f32) (t : Fin cfg0.N) (j : S256x512.Idx) :
    k0_pay2 (F := Ideal) a (iblk m c 0 t) (iblk m c 1 t) j
      = a j + part 2048 (t.val % 2) (fun i k => cell (argA m c) k i) (cell (argC m c)) (row 4 (t.val / 2) j) (col 4 (t.val / 2) j) := by
  have e (x : Vec Ideal S2048x256 .f32) (y : Vec Ideal S2048x512 .bf16) : k0_pay2 (F := Ideal) a x y j = a j + ∑ k : Fin 2048, x (ix2 k (j 0)) * y (ix2 k (j 1)) := by
    pointwise [k0_pay2]
  rw [e]
  refine congrArg (a j + ·) (sum_fin _ _ fun k => ?_)
  have p := spot 2048 256 k.val (j 0).val (index t).1
  have q := spot 2048 512 k.val (j 1).val (index t).2.1
  exact congrArg₂ (· * ·) (at_cell (argA m c) _ p.1 p.2) (at_cell (argC m c) _ q.1 q.2)

/-- The tile written at the last point of its run. -/
theorem tile (t : Fin cfg0.N) (h : t.val % 2 = 1) (j : S1x256x512.Idx) : (outsAt0 m c t.val t.isLt).1 j
    = prod 4096 (fun i k => cell (argA m c) k i) (cell (argC m c)) (row 4 (t.val / 2) (ix2 (j 1) (j 2))) (col 4 (t.val / 2) (ix2 (j 1) (j 2))) :=
  (show (outsAt0 m c t.val t.isLt).1 j = (outsAt0 m c t.val t.isLt).2 (ix2 (j 1) (j 2)) by
    rw [outsAt0_B m c t (by omega) h]; dsimp only; frame_out; pointwise [k0_pay3]).trans
  (accumulated (fun n h => (outsAt0 m c n h).2) 2 2048 _ _ (row 4) (col 4)
    (fun t h j => by rw [outsAt0_A m c t h (by omega)]; dsimp only; frame_out; rw [step, zero])
    (fun t h j => by rw [outsAt0_B m c t h (by omega)]; dsimp only; frame_out; simp only [read_unread_whole]; rw [step])
    t (by omega) _)

theorem result : (dats m 0 c).arrAt 2 cfg0.N = G m c := by
  refine (dats m 0 c).arrAt_eq_of_covers 2 (G m c) (by decide +kernel) fun t hf y => ?_
  refine (congrFun (after0_2 m c t) _).trans ((tile m c t ((flush0_2 t).mp hf) _).trans ?_)
  have e := spot3 1 256 512 (y 0).val (y 1).val (y 2).val (index t).2.2
  have y0 : (y 0).val < 1 := (y 0).isLt
  refine congrArg₂ (prod _ _ _) e.2.1.symm (Eq.trans ?_ (congrArg₂ (fun a b => a * 512 + b) e.1 e.2.2).symm)
  show t.val / 2 % 4 * 512 + (y 2).val = _
  omega

/-- The reference's product. -/
theorem reference_value (x : S4096x256.Idx → EReal) (g : S4096x2048.Idx → EReal) (i : S4x256x512.Idx) :
    Cert.Reference39Ideal.Read.val_main_v7 (F := Ideal) x g i = prod 4096 (fun i k => cell x k i) (cell g) (i 1).val ((i 0).val * 512 + (i 2).val) := by
  have h0 : (i 0).val < 4 := (i 0).isLt
  have h2 : (i 2).val < 512 := (i 2).isLt
  rw [Cert.Reference39Ideal.Read.val_main_v7_apply, Cert.Reference39Ideal.Read.val_main_v6_apply, Cert.Reference39Ideal.Read.val_main_v4_apply,
    Cert.Reference39Ideal.Read.val_main_v3_apply]
  refine sum_fin _ _ fun k => ?_
  rw [mul_comm]
  refine congrArg₂ (· * ·) (at_cell x _ rfl ?_) (at_cell g _ rfl ?_)
  · show (((i 1).val * 4 + (i 0).val) * 512 + (i 2).val) / 2048 = (i 1).val
    omega
  · show (((i 1).val * 4 + (i 0).val) * 512 + (i 2).val) % 2048 = _
    omega

theorem algebraic : Cert.algebraic_Kernel39Ideal_Reference39Ideal := by
  intro m g m' g' _ hagree
  refine ⟨fun c => G m c,
    (θ_run _ _ _).mono (fun r h c => ⟨(Value.post2 m r h c).trans (result m c), Value.kept_main_arg0 m r h c, Value.kept_main_arg1 m r h c, Value.kept_main_arg2 m r h c⟩) (run_main m g),
    (θ_run _ _ _).mono (fun r h c => ⟨(h c).1.trans ?_, (h c).2⟩) (Cert.Reference39Ideal.Value.run m' g')⟩
  obtain ⟨e0, -, e2⟩ := hagree c
  refine (Cert.Reference39Ideal.Read.val_main_v7_eq _ _).trans ?_
  rw [e0, e2]
  exact funext (reference_value _ _)

end Cert.Ple.Dw

/-! ### The product -/

namespace Cert.Ple.Fwd

open Cert.Kernel40Ideal Cert.Kernel40Ideal.Gen

theorem kernel : Cert.quiescent_Kernel40 := fun m ρ _ => Cert.Kernel40.Gen.frame m ρ
theorem kernelIdeal : Cert.quiescent_Kernel40Ideal := fun m ρ _ => Cert.Kernel40Ideal.Gen.frame m ρ
theorem reference : Cert.quiescent_Reference40Ideal := fun m ρ _ =>
  (θ_run Cert.Reference40Ideal.defs _ _).mono (fun r h => ⟨fun c => (h c).2, sem_eq_zero_of_no_sems (by decide) r.2⟩)
    (Cert.Reference40Ideal.Value.run (F := Ideal) m ρ)

variable (m : (ℓ : Loc nD τ sig) → Buf (Elt Ideal) ℓ) (c : Dev nD)

/-- The input and the weight. -/
abbrev argA : S4096x256.Idx → EReal := m ((c.tc : Thread nD τ).loc main_arg0)
abbrev argW : S256x2048.Idx → EReal := m ((c.tc : Thread nD τ).loc main_arg1)

/-- The weight in blocks, as the call is handed it. -/
theorem weight : (V m c main_v1 : S4x256x512.Idx → EReal)
    = transpose S4x256x512 [1, 0, 2] (shapeCast S256x4x512 (argW m c) shapeCasts_S256x2048_S256x4x512) transposes_S256x4x512_S4x256x512_1_0_2 := by
  unfold V
  simp only [hostOps0, List.flatten_cons, List.flatten_nil, List.append_nil, List.cons_append, List.nil_append]
  after_results
  all_goals rfl

/-- The result. -/
abbrev G : S4096x2048.Idx → EReal := fun i => prod 256 (cell (argA m c)) (cell (argW m c)) (i 0).val (i 1).val

/-- Where the blocks of a grid point sit. -/
theorem index : ∀ t : Fin cfg0.N, win0_0.index t = ![t.val / 4, 0] ∧ win0_1.index t = ![t.val % 4, 0, 0] ∧ win0_2.index t = ![t.val / 4, t.val % 4] := by
  decide +kernel

/-- The tile a point writes. -/
theorem tile (t : Fin cfg0.N) (j : S2048x512.Idx) :
    out0_2 (F := Ideal) (iblk m c 0 t) (iblk m c 1 t) j = prod 256 (cell (argA m c)) (cell (argW m c)) (row 4 t.val j) (col 4 t.val j) := by
  have e (x : Vec Ideal S2048x256 .f32) (y : Vec Ideal S1x256x512 .bf16) : k0_pay1 (F := Ideal) x y j = ∑ k : Fin 256, x (ix2 (j 0) k) * y (ix3 0 k (j 1)) := by
    pointwise [k0_pay1]
  frame_out
  rw [e]
  refine sum_fin _ _ fun k => ?_
  have p := spot 2048 256 (j 0).val k.val (index t).1
  have q := spot3 1 256 512 0 k.val (j 1).val (index t).2.1
  refine congrArg₂ (· * ·) (at_cell (argA m c) _ p.1 (p.2.trans (by omega)))
    ((congrFun (weight m c) _).trans (blocks_cell (B := 4) (C := 512) (argW m c) _ _ _ (q.2.1.trans (by omega))
      ((congrArg₂ (fun a b => a * 512 + b) q.1 q.2.2).trans ?_)))
  show (t.val % 4 * 1 + 0) * 512 + (0 * 512 + (j 1).val) = t.val % 4 * 512 + (j 1).val
  omega

theorem result : (dats m 0 c).arrAt 2 cfg0.N = G m c := by
  refine (dats m 0 c).arrAt_eq_of_covers 2 (G m c) (by decide +kernel) fun t hf y => ?_
  have e := spot 2048 512 (y 0).val (y 1).val (index t).2.2
  exact (congrFun (after0_2 m c t) _).trans ((tile m c t _).trans (congrArg₂ (prod _ _ _) e.1.symm e.2.symm))

/-- The reference's product. -/
theorem reference_value (x : S4096x256.Idx → EReal) (y : S256x2048.Idx → EReal) (i : S4096x2048.Idx) :
    Cert.Reference40Ideal.Read.val_main_v2 (F := Ideal) x y i = prod 256 (cell x) (cell y) (i 0).val (i 1).val := by
  rw [Cert.Reference40Ideal.Read.val_main_v2_apply]
  exact (Cert.Reference40Ideal.Read.val_main_v1_apply x y i).trans
    (sum_fin _ _ fun _ => congrArg₂ (· * ·) (at_cell x _ rfl rfl) (at_cell y _ rfl rfl))

theorem algebraic : Cert.algebraic_Kernel40Ideal_Reference40Ideal := by
  intro m g m' g' _ hagree
  refine ⟨fun c => G m c,
    (θ_run _ _ _).mono (fun r h c => ⟨(Value.post2 m r h c).trans (result m c), Value.kept_main_arg0 m r h c, Value.kept_main_arg1 m r h c⟩) (run_main m g),
    (θ_run _ _ _).mono (fun r h c => ⟨(h c).1.trans ?_, (h c).2⟩) (Cert.Reference40Ideal.Value.run m' g')⟩
  obtain ⟨e0, e1⟩ := hagree c
  refine (Cert.Reference40Ideal.Read.val_main_v2_eq _ _).trans ?_
  rw [e0, e1]
  exact funext (reference_value _ _)

end Cert.Ple.Fwd

end
-- ==== Proof.Gates.lean ====
/-
  The gradients of three maps that act on each element by itself: the sum of the two branches under their gates, the square of
  the positive part, and the embedding's addend under its gate. Each is computed in tiles of 256 rows.
-/
module

public import proofs.«01_k».proof.Defs
public import Idealize.ShloMosaic.Lib.Pipeline.ReadBack
public import proofs.«01_k».proof.Proof.Product
public import proofs.«01_k».proof.Proof.Gen.Kernel42.Frame
public import proofs.«01_k».proof.Proof.Gen.Kernel42Ideal.Value
public import proofs.«01_k».proof.Proof.Gen.Reference42Ideal.Read
public import proofs.«01_k».proof.Proof.Gen.Kernel43.Frame
public import proofs.«01_k».proof.Proof.Gen.Kernel43Ideal.Value
public import proofs.«01_k».proof.Proof.Gen.Reference43Ideal.Read
public import proofs.«01_k».proof.Proof.Gen.Kernel44.Frame
public import proofs.«01_k».proof.Proof.Gen.Kernel44Ideal.Value
public import proofs.«01_k».proof.Proof.Gen.Reference44Ideal.Read

@[expose] public section

noncomputable section

open Idealize.ShloMosaic Idealize.ShloMosaic.TcCoe Idealize.SL.Sem Idealize.ShloMosaic.Pipeline Cert.Product

namespace Cert.Gates

/-- The gradient of a gate under a sigmoid, given the incoming gradient and what the gate multiplies. -/
def ofGate (g d y : EReal) : EReal := d * y * (Ideal.logistic g * (1 - Ideal.logistic g))

/-- The gradient of what such a gate multiplies. -/
def ofValue (g d : EReal) : EReal := Ideal.logistic g * d

/-- The gradient of twice half the square of the positive part, as the doubled positive part times a step; the step's value at
zero is multiplied by zero. -/
def ofSquare (u d two : EReal) : EReal := if 0 < u then d * (two * max u 0) else 0

theorem step_square (u d two half : EReal) : d * (two * max u 0) * (if 0 < u then 1 else if u = 0 then half else 0) = ofSquare u d two := by
  unfold ofSquare
  by_cases h : 0 < u
  · rw [if_pos h, if_pos h, mul_one]
  · rw [if_neg h, if_neg h, max_eq_right (not_lt.mp h), mul_zero, mul_zero, zero_mul]

/-! ### The two branches under their gates -/

namespace Merge

open Cert.Kernel42Ideal Cert.Kernel42Ideal.Gen

theorem kernel : Cert.quiescent_Kernel42 := fun m ρ _ => Cert.Kernel42.Gen.frame m ρ
theorem kernelIdeal : Cert.quiescent_Kernel42Ideal := fun m ρ _ => Cert.Kernel42Ideal.Gen.frame m ρ
theorem reference : Cert.quiescent_Reference42Ideal := fun m ρ _ =>
  (θ_run Cert.Reference42Ideal.defs _ _).mono (fun r h => ⟨fun c => (h c).2.2.2.2, sem_eq_zero_of_no_sems (by decide) r.2⟩)
    (Cert.Reference42Ideal.Value.run (F := Ideal) m ρ)

variable (m : (ℓ : Loc nD τ sig) → Buf (Elt Ideal) ℓ) (c : Dev nD)

/-- The two gates, the two branches and the incoming gradient. -/
abbrev argGA : S4096x2048.Idx → EReal := m ((c.tc : Thread nD τ).loc main_arg0)
abbrev argGB : S4096x2048.Idx → EReal := m ((c.tc : Thread nD τ).loc main_arg1)
abbrev argYA : S4096x2048.Idx → EReal := m ((c.tc : Thread nD τ).loc main_arg2)
abbrev argYB : S4096x2048.Idx → EReal := m ((c.tc : Thread nD τ).loc main_arg3)
abbrev argD : S4096x2048.Idx → EReal := m ((c.tc : Thread nD τ).loc main_arg4)

/-- Where the blocks of a grid point sit. -/
theorem index : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0] := by
  decide +kernel

/-- Elements of the blocks. -/
theorem ga (t : Fin cfg0.N) (j : S256x2048.Idx) : (iblk m c 0 t : S256x2048.Idx → EReal) j = cell (argGA m c) (t.val * 256 + (j 0).val) (j 1).val := by
  have s := spot 256 2048 (j 0).val (j 1).val (index t).1
  exact at_cell (argGA m c) _ s.1 (s.2.trans (by omega))

theorem gb (t : Fin cfg0.N) (j : S256x2048.Idx) : (iblk m c 1 t : S256x2048.Idx → EReal) j = cell (argGB m c) (t.val * 256 + (j 0).val) (j 1).val := by
  have s := spot 256 2048 (j 0).val (j 1).val (index t).2.1
  exact at_cell (argGB m c) _ s.1 (s.2.trans (by omega))

theorem ya (t : Fin cfg0.N) (j : S256x2048.Idx) : (iblk m c 2 t : S256x2048.Idx → EReal) j = cell (argYA m c) (t.val * 256 + (j 0).val) (j 1).val := by
  have s := spot 256 2048 (j 0).val (j 1).val (index t).2.2.1
  exact at_cell (argYA m c) _ s.1 (s.2.trans (by omega))

theorem yb (t : Fin cfg0.N) (j : S256x2048.Idx) : (iblk m c 3 t : S256x2048.Idx → EReal) j = cell (argYB m c) (t.val * 256 + (j 0).val) (j 1).val := by
  have s := spot 256 2048 (j 0).val (j 1).val (index t).2.2.2.1
  exact at_cell (argYB m c) _ s.1 (s.2.trans (by omega))

theorem d (t : Fin cfg0.N) (j : S256x2048.Idx) : (iblk m c 4 t : S256x2048.Idx → EReal) j = cell (argD m c) (t.val * 256 + (j 0).val) (j 1).val := by
  have s := spot 256 2048 (j 0).val (j 1).val (index t).2.2.2.2.1
  exact at_cell (argD m c) _ s.1 (s.2.trans (by omega))

/-- The tiles a point writes. -/
theorem tile5 (t : Fin cfg0.N) (j : S256x2048.Idx) : out0_5 (F := Ideal) (iblk m c 0 t) (iblk m c 1 t) (iblk m c 2 t) (iblk m c 3 t) (iblk m c 4 t) j
    = (fun a b => ofGate (cell (argGA m c) a b) (cell (argD m c) a b) (cell (argYA m c) a b)) (t.val * 256 + (j 0).val) (j 1).val := by
  have e (x y z : Vec Ideal S256x2048 .bf16) : k0_pay7 (F := Ideal) x y z j = ofGate (x j) (z j) (y j) := by
    pointwise [k0_pay7, k0_pay3, k0_pay2, k0_pay1]
    rfl
  frame_out
  rw [e, ga, ya, d]

theorem tile6 (t : Fin cfg0.N) (j : S256x2048.Idx) : out0_6 (F := Ideal) (iblk m c 0 t) (iblk m c 1 t) (iblk m c 2 t) (iblk m c 3 t) (iblk m c 4 t) j
    = (fun a b => ofGate (cell (argGB m c) a b) (cell (argD m c) a b) (cell (argYB m c) a b)) (t.val * 256 + (j 0).val) (j 1).val := by
  have e (x y z : Vec Ideal S256x2048 .bf16) : k0_pay5 (F := Ideal) x y z j = ofGate (x j) (z j) (y j) := by
    pointwise [k0_pay5, k0_pay3, k0_pay2, k0_pay1]
    rfl
  frame_out
  rw [e, gb, yb, d]

theorem tile7 (t : Fin cfg0.N) (j : S256x2048.Idx) : out0_7 (F := Ideal) (iblk m c 0 t) (iblk m c 1 t) (iblk m c 2 t) (iblk m c 3 t) (iblk m c 4 t) j
    = (fun a b => ofValue (cell (argGA m c) a b) (cell (argD m c) a b)) (t.val * 256 + (j 0).val) (j 1).val := by
  have e (x z : Vec Ideal S256x2048 .bf16) : k0_pay6 (F := Ideal) x z j = ofValue (x j) (z j) := by
    pointwise [k0_pay6, k0_pay3, k0_pay2, k0_pay1]
    rfl
  frame_out
  rw [e, ga, d]

theorem tile8 (t : Fin cfg0.N) (j : S256x2048.Idx) : out0_8 (F := Ideal) (iblk m c 0 t) (iblk m c 1 t) (iblk m c 2 t) (iblk m c 3 t) (iblk m c 4 t) j
    = (fun a b => ofValue (cell (argGB m c) a b) (cell (argD m c) a b)) (t.val * 256 + (j 0).val) (j 1).val := by
  have e (x z : Vec Ideal S256x2048 .bf16) : k0_pay4 (F := Ideal) x z j = ofValue (x j) (z j) := by
    pointwise [k0_pay4, k0_pay3, k0_pay2, k0_pay1]
    rfl
  frame_out
  rw [e, gb, d]

/-- The four results. -/
abbrev G5 : S4096x2048.Idx → EReal := fun i => (fun a b => ofGate (cell (argGA m c) a b) (cell (argD m c) a b) (cell (argYA m c) a b)) (i 0).val (i 1).val
abbrev G6 : S4096x2048.Idx → EReal := fun i => (fun a b => ofGate (cell (argGB m c) a b) (cell (argD m c) a b) (cell (argYB m c) a b)) (i 0).val (i 1).val
abbrev G7 : S4096x2048.Idx → EReal := fun i => (fun a b => ofValue (cell (argGA m c) a b) (cell (argD m c) a b)) (i 0).val (i 1).val
abbrev G8 : S4096x2048.Idx → EReal := fun i => (fun a b => ofValue (cell (argGB m c) a b) (cell (argD m c) a b)) (i 0).val (i 1).val

theorem result5 : (dats m 0 c).arrAt 5 cfg0.N = G5 m c := by
  refine (dats m 0 c).arrAt_eq_of_covers 5 (G5 m c) (by decide +kernel) fun t hf y => ?_
  have e := spot 256 2048 (y 0).val (y 1).val (index t).2.2.2.2.2.1
  exact (congrFun (after0_5 m c t) _).trans ((tile5 m c t _).trans (congrArg₂ (fun a b => ofGate (cell (argGA m c) a b) (cell (argD m c) a b) (cell (argYA m c) a b)) e.1.symm (e.2.trans (show 0 * 2048 + (y 1).val = (y 1).val by omega)).symm))

theorem result6 : (dats m 0 c).arrAt 6 cfg0.N = G6 m c := by
  refine (dats m 0 c).arrAt_eq_of_covers 6 (G6 m c) (by decide +kernel) fun t hf y => ?_
  have e := spot 256 2048 (y 0).val (y 1).val (index t).2.2.2.2.2.2.1
  exact (congrFun (after0_6 m c t) _).trans ((tile6 m c t _).trans (congrArg₂ (fun a b => ofGate (cell (argGB m c) a b) (cell (argD m c) a b) (cell (argYB m c) a b)) e.1.symm (e.2.trans (show 0 * 2048 + (y 1).val = (y 1).val by omega)).symm))

theorem result7 : (dats m 0 c).arrAt 7 cfg0.N = G7 m c := by
  refine (dats m 0 c).arrAt_eq_of_covers 7 (G7 m c) (by decide +kernel) fun t hf y => ?_
  have e := spot 256 2048 (y 0).val (y 1).val (index t).2.2.2.2.2.2.2.1
  exact (congrFun (after0_7 m c t) _).trans ((tile7 m c t _).trans (congrArg₂ (fun a b => ofValue (cell (argGA m c) a b) (cell (argD m c) a b)) e.1.symm (e.2.trans (show 0 * 2048 + (y 1).val = (y 1).val by omega)).symm))

theorem result8 : (dats m 0 c).arrAt 8 cfg0.N = G8 m c := by
  refine (dats m 0 c).arrAt_eq_of_covers 8 (G8 m c) (by decide +kernel) fun t hf y => ?_
  have e := spot 256 2048 (y 0).val (y 1).val (index t).2.2.2.2.2.2.2.2
  exact (congrFun (after0_8 m c t) _).trans ((tile8 m c t _).trans (congrArg₂ (fun a b => ofValue (cell (argGB m c) a b) (cell (argD m c) a b)) e.1.symm (e.2.trans (show 0 * 2048 + (y 1).val = (y 1).val by omega)).symm))

/-- The reference's gradients. -/
theorem reference_v32 (g y d : S4096x2048.Idx → EReal) (i : S4096x2048.Idx) : Cert.Reference42Ideal.Read.val_main_v32 (F := Ideal) g y d i
    = (fun a b => ofGate (cell g a b) (cell d a b) (cell y a b)) (i 0).val (i 1).val := by
  dsimp only
  rw [← at_cell g i rfl rfl, ← at_cell y i rfl rfl, ← at_cell d i rfl rfl]
  open Cert.Reference42Ideal.Read in
  pointwise [val_main_v0, val_main_v1, val_main_v2, val_main_v3, val_main_v4, val_main_v5, val_main_cst, val_main_v6, val_main_v7, val_main_cst_0,
      val_main_v8, val_main_v9, val_main_cst_1, val_main_v10, val_main_v11, val_main_v12, val_main_v13, val_main_v14, val_main_v15, val_main_cst_2,
      val_main_v16, val_main_v17, val_main_cst_3, val_main_v18, val_main_v19, val_main_cst_4, val_main_v20, val_main_v21, val_main_v22, val_main_v23,
      val_main_v24, val_main_v25, val_main_v26, val_main_v27, val_main_v28, val_main_v29, val_main_v30, val_main_v31, val_main_v32, val_main_v33,
      val_main_v34, val_main_v35]
  rfl

theorem reference_v33 (g y d : S4096x2048.Idx → EReal) (i : S4096x2048.Idx) : Cert.Reference42Ideal.Read.val_main_v33 (F := Ideal) g y d i
    = (fun a b => ofGate (cell g a b) (cell d a b) (cell y a b)) (i 0).val (i 1).val := by
  dsimp only
  rw [← at_cell g i rfl rfl, ← at_cell y i rfl rfl, ← at_cell d i rfl rfl]
  open Cert.Reference42Ideal.Read in
  pointwise [val_main_v0, val_main_v1, val_main_v2, val_main_v3, val_main_v4, val_main_v5, val_main_cst, val_main_v6, val_main_v7, val_main_cst_0,
      val_main_v8, val_main_v9, val_main_cst_1, val_main_v10, val_main_v11, val_main_v12, val_main_v13, val_main_v14, val_main_v15, val_main_cst_2,
      val_main_v16, val_main_v17, val_main_cst_3, val_main_v18, val_main_v19, val_main_cst_4, val_main_v20, val_main_v21, val_main_v22, val_main_v23,
      val_main_v24, val_main_v25, val_main_v26, val_main_v27, val_main_v28, val_main_v29, val_main_v30, val_main_v31, val_main_v32, val_main_v33,
      val_main_v34, val_main_v35]
  rfl

theorem reference_v34 (g d : S4096x2048.Idx → EReal) (i : S4096x2048.Idx) : Cert.Reference42Ideal.Read.val_main_v34 (F := Ideal) g d i
    = (fun a b => ofValue (cell g a b) (cell d a b)) (i 0).val (i 1).val := by
  dsimp only
  rw [← at_cell g i rfl rfl, ← at_cell d i rfl rfl]
  open Cert.Reference42Ideal.Read in
  pointwise [val_main_v0, val_main_v1, val_main_v2, val_main_v3, val_main_v4, val_main_v5, val_main_cst, val_main_v6, val_main_v7, val_main_cst_0,
      val_main_v8, val_main_v9, val_main_cst_1, val_main_v10, val_main_v11, val_main_v12, val_main_v13, val_main_v14, val_main_v15, val_main_cst_2,
      val_main_v16, val_main_v17, val_main_cst_3, val_main_v18, val_main_v19, val_main_cst_4, val_main_v20, val_main_v21, val_main_v22, val_main_v23,
      val_main_v24, val_main_v25, val_main_v26, val_main_v27, val_main_v28, val_main_v29, val_main_v30, val_main_v31, val_main_v32, val_main_v33,
      val_main_v34, val_main_v35]
  rfl

theorem reference_v35 (g d : S4096x2048.Idx → EReal) (i : S4096x2048.Idx) : Cert.Reference42Ideal.Read.val_main_v35 (F := Ideal) g d i
    = (fun a b => ofValue (cell g a b) (cell d a b)) (i 0).val (i 1).val := by
  dsimp only
  rw [← at_cell g i rfl rfl, ← at_cell d i rfl rfl]
  open Cert.Reference42Ideal.Read in
  pointwise [val_main_v0, val_main_v1, val_main_v2, val_main_v3, val_main_v4, val_main_v5, val_main_cst, val_main_v6, val_main_v7, val_main_cst_0,
      val_main_v8, val_main_v9, val_main_cst_1, val_main_v10, val_main_v11, val_main_v12, val_main_v13, val_main_v14, val_main_v15, val_main_cst_2,
      val_main_v16, val_main_v17, val_main_cst_3, val_main_v18, val_main_v19, val_main_cst_4, val_main_v20, val_main_v21, val_main_v22, val_main_v23,
      val_main_v24, val_main_v25, val_main_v26, val_main_v27, val_main_v28, val_main_v29, val_main_v30, val_main_v31, val_main_v32, val_main_v33,
      val_main_v34, val_main_v35]
  rfl

theorem algebraic : Cert.algebraic_Kernel42Ideal_Reference42Ideal := by
  intro m g m' g' _ hagree
  refine ⟨fun c => G5 m c, fun c => G6 m c, fun c => G7 m c, fun c => G8 m c,
    (θ_run _ _ _).mono (fun r h c => ⟨(Value.post5 m r h c).trans (result5 m c), (Value.post6 m r h c).trans (result6 m c), (Value.post7 m r h c).trans (result7 m c), (Value.post8 m r h c).trans (result8 m c),
      Value.kept_main_arg0 m r h c, Value.kept_main_arg1 m r h c, Value.kept_main_arg2 m r h c, Value.kept_main_arg3 m r h c, Value.kept_main_arg4 m r h c⟩) (run_main m g),
    (θ_run _ _ _).mono (fun r h c => ⟨(h c).1.trans ?_, (h c).2.1.trans ?_, (h c).2.2.1.trans ?_, (h c).2.2.2.1.trans ?_, (h c).2.2.2.2⟩) (Cert.Reference42Ideal.Value.run m' g')⟩
  · obtain ⟨e0, -, e2, -, e4⟩ := hagree c
    refine (Cert.Reference42Ideal.Read.val_main_v32_eq _ _ _).trans ?_
    rw [e0, e2, e4]
    exact funext (reference_v32 _ _ _)
  · obtain ⟨-, e1, -, e3, e4⟩ := hagree c
    refine (Cert.Reference42Ideal.Read.val_main_v33_eq _ _ _).trans ?_
    rw [e1, e3, e4]
    exact funext (reference_v33 _ _ _)
  · obtain ⟨e0, -, -, -, e4⟩ := hagree c
    refine (Cert.Reference42Ideal.Read.val_main_v34_eq _ _).trans ?_
    rw [e0, e4]
    exact funext (reference_v34 _ _)
  · obtain ⟨-, e1, -, -, e4⟩ := hagree c
    refine (Cert.Reference42Ideal.Read.val_main_v35_eq _ _).trans ?_
    rw [e1, e4]
    exact funext (reference_v35 _ _)

end Merge

/-! ### The square of the positive part -/

namespace Relu2

open Cert.Kernel43Ideal Cert.Kernel43Ideal.Gen

theorem kernel : Cert.quiescent_Kernel43 := fun m ρ _ => Cert.Kernel43.Gen.frame m ρ
theorem kernelIdeal : Cert.quiescent_Kernel43Ideal := fun m ρ _ => Cert.Kernel43Ideal.Gen.frame m ρ
theorem reference : Cert.quiescent_Reference43Ideal := fun m ρ _ =>
  (θ_run Cert.Reference43Ideal.defs _ _).mono (fun r h => ⟨fun c => (h c).2, sem_eq_zero_of_no_sems (by decide) r.2⟩)
    (Cert.Reference43Ideal.Value.run (F := Ideal) m ρ)

variable (m : (ℓ : Loc nD τ sig) → Buf (Elt Ideal) ℓ) (c : Dev nD)

/-- The input and the incoming gradient. -/
abbrev argU : S4096x8192.Idx → EReal := m ((c.tc : Thread nD τ).loc main_arg0)
abbrev argD : S4096x8192.Idx → EReal := m ((c.tc : Thread nD τ).loc main_arg1)

/-- Where the blocks of a grid point sit. -/
theorem index : ∀ t : Fin cfg0.N, win0_0.index t = ![t.val, 0]
    ∧ win0_1.index t = ![t.val, 0]
    ∧ win0_2.index t = ![t.val, 0] := by
  decide +kernel

/-- Elements of the blocks. -/
theorem u (t : Fin cfg0.N) (j : S256x8192.Idx) : (iblk m c 0 t : S256x8192.Idx → EReal) j = cell (argU m c) (t.val * 256 + (j 0).val) (j 1).val := by
  have s := spot 256 8192 (j 0).val (j 1).val (index t).1
  exact at_cell (argU m c) _ s.1 (s.2.trans (by omega))

theorem d (t : Fin cfg0.N) (j : S256x8192.Idx) : (iblk m c 1 t : S256x8192.Idx → EReal) j = cell (argD m c) (t.val * 256 + (j 0).val) (j 1).val := by
  have s := spot 256 8192 (j 0).val (j 1).val (index t).2.1
  exact at_cell (argD m c) _ s.1 (s.2.trans (by omega))

/-- The tile a point writes. -/
theorem tile (t : Fin cfg0.N) (j : S256x8192.Idx) : out0_2 (F := Ideal) (iblk m c 0 t) (iblk m c 1 t) j
    = (fun a b => ofSquare (cell (argU m c) a b) (cell (argD m c) a b) (Ideal.ofBits .f32 1073741824#32)) (t.val * 256 + (j 0).val) (j 1).val := by
  have e (x z : Vec Ideal S256x8192 .bf16) : k0_pay1 (F := Ideal) x z j = ofSquare (x j) (z j) (Ideal.ofBits .f32 1073741824#32) := by
    refine Eq.trans ?_ (step_square _ _ _ (Ideal.ofBits .f32 1056964608#32))
    pointwise [k0_pay1]
  frame_out
  rw [e, u, d]

/-- The result. -/
abbrev G : S4096x8192.Idx → EReal := fun i => (fun a b => ofSquare (cell (argU m c) a b) (cell (argD m c) a b) (Ideal.ofBits .f32 1073741824#32)) (i 0).val (i 1).val

theorem result : (dats m 0 c).arrAt 2 cfg0.N = G m c := by
  refine (dats m 0 c).arrAt_eq_of_covers 2 (G m c) (by decide +kernel) fun t hf y => ?_
  have e := spot 256 8192 (y 0).val (y 1).val (index t).2.2
  exact (congrFun (after0_2 m c t) _).trans ((tile m c t _).trans (congrArg₂ (fun a b => ofSquare (cell (argU m c) a b) (cell (argD m c) a b) (Ideal.ofBits .f32 1073741824#32)) e.1.symm (e.2.trans (show 0 * 8192 + (y 1).val = (y 1).val by omega)).symm))

/-- The reference's gradient. -/
theorem reference_value (x d : S4096x8192.Idx → EReal) (i : S4096x8192.Idx) : Cert.Reference43Ideal.Read.val_main_v12 (F := Ideal) x d i
    = (fun a b => ofSquare (cell x a b) (cell d a b) (Ideal.ofBits .f32 1073741824#32)) (i 0).val (i 1).val := by
  dsimp only
  rw [← at_cell x i rfl rfl, ← at_cell d i rfl rfl]
  open Cert.Reference43Ideal.Read in
  pointwise [val_main_v0, val_main_call0_cst, val_main_call0_v0, val_main_v1, val_main_cst, val_main_v2, val_main_v3, val_main_cst_0, val_main_v4,
      val_main_v5, val_main_cst_1, val_main_v6, val_main_v7, val_main_v8, val_main_v9, val_main_cst_2, val_main_v10, val_main_v11, val_main_v12]
  rfl

theorem algebraic : Cert.algebraic_Kernel43Ideal_Reference43Ideal := by
  intro m g m' g' _ hagree
  refine ⟨fun c => G m c,
    (θ_run _ _ _).mono (fun r h c => ⟨(Value.post2 m r h c).trans (result m c),
      Value.kept_main_arg0 m r h c, Value.kept_main_arg1 m r h c⟩) (run_main m g),
    (θ_run _ _ _).mono (fun r h c => ⟨(h c).1.trans ?_, (h c).2⟩) (Cert.Reference43Ideal.Value.run m' g')⟩
  obtain ⟨e0, e1⟩ := hagree c
  refine (Cert.Reference43Ideal.Read.val_main_v12_eq _ _).trans ?_
  rw [e0, e1]
  exact funext (reference_value _ _)

end Relu2

/-! ### The embedding's addend under its gate -/

namespace PleAdd

open Cert.Kernel44Ideal Cert.Kernel44Ideal.Gen

theorem kernel : Cert.quiescent_Kernel44 := fun m ρ _ => Cert.Kernel44.Gen.frame m ρ
theorem kernelIdeal : Cert.quiescent_Kernel44Ideal := fun m ρ _ => Cert.Kernel44Ideal.Gen.frame m ρ
theorem reference : Cert.quiescent_Reference44Ideal := fun m ρ _ =>
  (θ_run Cert.Reference44Ideal.defs _ _).mono (fun r h => ⟨fun c => (h c).2.2.2, sem_eq_zero_of_no_sems (by decide) r.2⟩)
    (Cert.Reference44Ideal.Value.run (F := Ideal) m ρ)

variable (m : (ℓ : Loc nD τ sig) → Buf (Elt Ideal) ℓ) (c : Dev nD)

/-- The input, the addend, its gate and the incoming gradient. -/
abbrev argX : S4096x2048.Idx → EReal := m ((c.tc : Thread nD τ).loc main_arg0)
abbrev argE : S4096x2048.Idx → EReal := m ((c.tc : Thread nD τ).loc main_arg1)
abbrev argG : S4096x2048.Idx → EReal := m ((c.tc : Thread nD τ).loc main_arg2)
abbrev argD : S4096x2048.Idx → EReal := m ((c.tc : Thread nD τ).loc main_arg3)

/-- Where the blocks of a grid point sit. -/
theorem index : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] := by
  decide +kernel

/-- Elements of the blocks. -/
theorem e (t : Fin cfg0.N) (j : S256x2048.Idx) : (iblk m c 1 t : S256x2048.Idx → EReal) j = cell (argE m c) (t.val * 256 + (j 0).val) (j 1).val := by
  have s := spot 256 2048 (j 0).val (j 1).val (index t).2.1
  exact at_cell (argE m c) _ s.1 (s.2.trans (by omega))

theorem g (t : Fin cfg0.N) (j : S256x2048.Idx) : (iblk m c 2 t : S256x2048.Idx → EReal) j = cell (argG m c) (t.val * 256 + (j 0).val) (j 1).val := by
  have s := spot 256 2048 (j 0).val (j 1).val (index t).2.2.1
  exact at_cell (argG m c) _ s.1 (s.2.trans (by omega))

theorem d (t : Fin cfg0.N) (j : S256x2048.Idx) : (iblk m c 3 t : S256x2048.Idx → EReal) j = cell (argD m c) (t.val * 256 + (j 0).val) (j 1).val := by
  have s := spot 256 2048 (j 0).val (j 1).val (index t).2.2.2.1
  exact at_cell (argD m c) _ s.1 (s.2.trans (by omega))

/-- The tiles a point writes. -/
theorem tile4 (t : Fin cfg0.N) (j : S256x2048.Idx) : out0_4 (F := Ideal) (iblk m c 0 t) (iblk m c 1 t) (iblk m c 2 t) (iblk m c 3 t) j
    = cell (argD m c) (t.val * 256 + (j 0).val) (j 1).val := by
  frame_out
  exact d m c t j

theorem tile5 (t : Fin cfg0.N) (j : S256x2048.Idx) : out0_5 (F := Ideal) (iblk m c 0 t) (iblk m c 1 t) (iblk m c 2 t) (iblk m c 3 t) j
    = (fun a b => ofValue (cell (argG m c) a b) (cell (argD m c) a b)) (t.val * 256 + (j 0).val) (j 1).val := by
  have h (x : Vec Ideal S256x2048 .bf16) (z : Vec Ideal S256x2048 .f32) : k0_pay4 (F := Ideal) x z j = ofValue (x j) (z j) := by
    refine Eq.trans ?_ (mul_comm _ _)
    pointwise [k0_pay4, k0_pay2, k0_pay1]
  frame_out
  rw [h, g, d]

theorem tile6 (t : Fin cfg0.N) (j : S256x2048.Idx) : out0_6 (F := Ideal) (iblk m c 0 t) (iblk m c 1 t) (iblk m c 2 t) (iblk m c 3 t) j
    = (fun a b => ofGate (cell (argG m c) a b) (cell (argD m c) a b) (cell (argE m c) a b)) (t.val * 256 + (j 0).val) (j 1).val := by
  have h (x y : Vec Ideal S256x2048 .bf16) (z : Vec Ideal S256x2048 .f32) : k0_pay3 (F := Ideal) x y z j = ofGate (y j) (z j) (x j) := by
    refine Eq.trans ?_ (congrArg (· * _) (mul_comm _ _))
    pointwise [k0_pay3, k0_pay2, k0_pay1]
  frame_out
  rw [h, e, g, d]

/-- The three results. -/
abbrev G4 : S4096x2048.Idx → EReal := fun i => (cell (argD m c)) (i 0).val (i 1).val
abbrev G5 : S4096x2048.Idx → EReal := fun i => (fun a b => ofValue (cell (argG m c) a b) (cell (argD m c) a b)) (i 0).val (i 1).val
abbrev G6 : S4096x2048.Idx → EReal := fun i => (fun a b => ofGate (cell (argG m c) a b) (cell (argD m c) a b) (cell (argE m c) a b)) (i 0).val (i 1).val

theorem result4 : (dats m 0 c).arrAt 4 cfg0.N = G4 m c := by
  refine (dats m 0 c).arrAt_eq_of_covers 4 (G4 m c) (by decide +kernel) fun t hf y => ?_
  have e := spot 256 2048 (y 0).val (y 1).val (index t).2.2.2.2.1
  exact (congrFun (after0_4 m c t) _).trans ((tile4 m c t _).trans (congrArg₂ (cell (argD m c)) e.1.symm (e.2.trans (show 0 * 2048 + (y 1).val = (y 1).val by omega)).symm))

theorem result5 : (dats m 0 c).arrAt 5 cfg0.N = G5 m c := by
  refine (dats m 0 c).arrAt_eq_of_covers 5 (G5 m c) (by decide +kernel) fun t hf y => ?_
  have e := spot 256 2048 (y 0).val (y 1).val (index t).2.2.2.2.2.1
  exact (congrFun (after0_5 m c t) _).trans ((tile5 m c t _).trans (congrArg₂ (fun a b => ofValue (cell (argG m c) a b) (cell (argD m c) a b)) e.1.symm (e.2.trans (show 0 * 2048 + (y 1).val = (y 1).val by omega)).symm))

theorem result6 : (dats m 0 c).arrAt 6 cfg0.N = G6 m c := by
  refine (dats m 0 c).arrAt_eq_of_covers 6 (G6 m c) (by decide +kernel) fun t hf y => ?_
  have e := spot 256 2048 (y 0).val (y 1).val (index t).2.2.2.2.2.2
  exact (congrFun (after0_6 m c t) _).trans ((tile6 m c t _).trans (congrArg₂ (fun a b => ofGate (cell (argG m c) a b) (cell (argD m c) a b) (cell (argE m c) a b)) e.1.symm (e.2.trans (show 0 * 2048 + (y 1).val = (y 1).val by omega)).symm))

/-- The reference's gradients. -/
theorem reference_v17 (g d : S4096x2048.Idx → EReal) (i : S4096x2048.Idx) : Cert.Reference44Ideal.Read.val_main_v17 (F := Ideal) g d i
    = (fun a b => ofValue (cell g a b) (cell d a b)) (i 0).val (i 1).val := by
  dsimp only
  rw [← at_cell g i rfl rfl, ← at_cell d i rfl rfl]
  refine Eq.trans ?_ (mul_comm _ _)
  open Cert.Reference44Ideal.Read in
  pointwise [val_main_v0, val_main_v1, val_main_v2, val_main_v3, val_main_cst, val_main_v4, val_main_v5, val_main_cst_0, val_main_v6, val_main_v7,
      val_main_cst_1, val_main_v8, val_main_v9, val_main_v10, val_main_v11, val_main_v12, val_main_v13, val_main_v14, val_main_v15, val_main_v16,
      val_main_v17, val_main_v18]
  rfl

theorem reference_v18 (e g d : S4096x2048.Idx → EReal) (i : S4096x2048.Idx) : Cert.Reference44Ideal.Read.val_main_v18 (F := Ideal) e g d i
    = (fun a b => ofGate (cell g a b) (cell d a b) (cell e a b)) (i 0).val (i 1).val := by
  dsimp only
  rw [← at_cell g i rfl rfl, ← at_cell d i rfl rfl, ← at_cell e i rfl rfl]
  refine Eq.trans ?_ (congrArg (· * _) (mul_comm _ _))
  open Cert.Reference44Ideal.Read in
  pointwise [val_main_v0, val_main_v1, val_main_v2, val_main_v3, val_main_cst, val_main_v4, val_main_v5, val_main_cst_0, val_main_v6, val_main_v7,
      val_main_cst_1, val_main_v8, val_main_v9, val_main_v10, val_main_v11, val_main_v12, val_main_v13, val_main_v14, val_main_v15, val_main_v16,
      val_main_v17, val_main_v18]
  rfl

theorem algebraic : Cert.algebraic_Kernel44Ideal_Reference44Ideal := by
  intro m g m' g' _ hagree
  refine ⟨fun c => G4 m c, fun c => G5 m c, fun c => G6 m c,
    (θ_run _ _ _).mono (fun r h c => ⟨(Value.post4 m r h c).trans (result4 m c), (Value.post5 m r h c).trans (result5 m c), (Value.post6 m r h c).trans (result6 m c),
      Value.kept_main_arg0 m r h c, Value.kept_main_arg1 m r h c, Value.kept_main_arg2 m r h c, Value.kept_main_arg3 m r h c⟩) (run_main m g),
    (θ_run _ _ _).mono (fun r h c => ⟨(h c).1.trans ?_, (h c).2.1.trans ?_, (h c).2.2.1.trans ?_, (h c).2.2.2⟩) (Cert.Reference44Ideal.Value.run m' g')⟩
  · obtain ⟨-, -, -, e3⟩ := hagree c
    exact e3.trans (funext fun i => at_cell (argD m c) i rfl rfl)
  · obtain ⟨-, -, e2, e3⟩ := hagree c
    refine (Cert.Reference44Ideal.Read.val_main_v17_eq _ _).trans ?_
    rw [e2, e3]
    exact funext (reference_v17 _ _)
  · obtain ⟨-, e1, e2, e3⟩ := hagree c
    refine (Cert.Reference44Ideal.Read.val_main_v18_eq _ _ _).trans ?_
    rw [e1, e2, e3]
    exact funext (reference_v18 _ _ _)

end PleAdd

end Cert.Gates

end
-- ==== Proof.Rows.lean ====
/-
  The gradients of two maps along the rows, each with a vector that all rows share: the normalisation by the root of the mean
  square, and the activation after a bias. Each is computed in tiles of 256 rows; the vector's gradient is added up over the tiles.
-/
module

public import proofs.«01_k».proof.Defs
public import Idealize.ShloMosaic.Lib.Pipeline.ReadBack
public import proofs.«01_k».proof.Proof.Product
public import proofs.«01_k».proof.Proof.Gen.Kernel41.Frame
public import proofs.«01_k».proof.Proof.Gen.Kernel41Ideal.Value
public import proofs.«01_k».proof.Proof.Gen.Reference41Ideal.Read
public import proofs.«01_k».proof.Proof.Gen.Kernel45.Frame
public import proofs.«01_k».proof.Proof.Gen.Kernel45Ideal.Value
public import proofs.«01_k».proof.Proof.Gen.Reference45Ideal.Read

@[expose] public section

noncomputable section

open Idealize.ShloMosaic Idealize.ShloMosaic.TcCoe Idealize.SL.Sem Idealize.ShloMosaic.Pipeline Cert.Product

namespace Cert.Rows

/-- The entry `b` of a vector, `0` outside. -/
def cell1 {B : ℕ} (w : (⟨1, ![B]⟩ : Shape).Idx → EReal) (b : ℕ) : EReal := if h : b < B then w (ix1 ⟨b, h⟩) else 0

theorem at_cell1 {B : ℕ} (w : (⟨1, ![B]⟩ : Shape).Idx → EReal) (q : Fin B) : w (ix1 q) = cell1 w q.val := by
  rw [cell1, dif_pos q.isLt]

/-- The row `a` of an array. -/
def line {A B : ℕ} (x : (⟨2, ![A, B]⟩ : Shape).Idx → EReal) (a : ℕ) : Fin B → EReal := fun k => cell x a k.val

/-- The mean square of a row with the small constant added. -/
def meanSq (x : Fin 2048 → EReal) : EReal := Ideal.div (∑ k, x k * x k) (Ideal.ofBits .f32 1157627904#32) + Ideal.ofBits .f32 897988541#32

/-- What an element of the row takes part in the gradient through the mean square. -/
def through (x d w : Fin 2048 → EReal) : EReal :=
  ∑ _z : Fin 1, Ideal.div ((∑ k, x k * (d k * w k)) * (Ideal.ofBits .f32 3204448256#32 * Ideal.div (Ideal.rsqrt (meanSq x)) (meanSq x)))
    (Ideal.ofBits .f32 1157627904#32)

/-- An element `(u, v, s)` of the gradient of the normalisation, with the rows it lies in. -/
def ofNorm (x d w : Fin 2048 → EReal) (u v s : EReal) : EReal := v * s * Ideal.rsqrt (meanSq x) + u * through x d w + through x d w * u

theorem ofNorm_congr {x x' d d' w w' : Fin 2048 → EReal} {u u' v v' s s' : EReal} (hx : x = x') (hd : d = d') (hw : w = w') (hu : u = u') (hv : v = v')
    (hs : s = s') : ofNorm x d w u v s = ofNorm x' d' w' u' v' s' := by
  subst hx hd hw hu hv hs; rfl

/-- The gradient of the activation at `s`. -/
def ofSilu (s d : EReal) : EReal := s * d * (Ideal.logistic s * (1 - Ideal.logistic s)) + d * Ideal.logistic s

/-! ### The normalisation -/

namespace Norm

open Cert.Kernel41Ideal Cert.Kernel41Ideal.Gen

theorem kernel : Cert.quiescent_Kernel41 := fun m ρ _ => Cert.Kernel41.Gen.frame m ρ
theorem kernelIdeal : Cert.quiescent_Kernel41Ideal := fun m ρ _ => Cert.Kernel41Ideal.Gen.frame m ρ
theorem reference : Cert.quiescent_Reference41Ideal := fun m ρ _ =>
  (θ_run Cert.Reference41Ideal.defs _ _).mono (fun r h => ⟨fun c => (h c).2.2, sem_eq_zero_of_no_sems (by decide) r.2⟩)
    (Cert.Reference41Ideal.Value.run (F := Ideal) m ρ)

variable (m : (ℓ : Loc nD τ sig) → Buf (Elt Ideal) ℓ) (c : Dev nD)

/-- The input, the shared vector and the incoming gradient. -/
abbrev argX : S4096x2048.Idx → EReal := m ((c.tc : Thread nD τ).loc main_arg0)
abbrev argW : S2048.Idx → EReal := m ((c.tc : Thread nD τ).loc main_arg1)
abbrev argD : S4096x2048.Idx → EReal := m ((c.tc : Thread nD τ).loc main_arg2)

/-- The shared vector as one row, as the call is handed it. -/
theorem vector : (V m c main_v0 : S1x2048.Idx → EReal) = broadcastInDim S1x2048 ![1] bcast_S2048_S1x2048_1 (argW m c) := by
  unfold V
  simp only [hostOps0, List.flatten_cons, List.flatten_nil, List.append_nil, List.cons_append, List.nil_append]
  after_results
  all_goals rfl

/-- Where the blocks of a grid point sit. -/
theorem index : ∀ t : Fin cfg0.N, win0_0.index t = ![t.val % 16, 0] ∧ win0_1.index t = ![t.val % 16, 0] ∧ win0_2.index t = ![0, 0]
    ∧ win0_3.index t = ![t.val % 16, 0] ∧ win0_4.index t = ![0, 0] := by
  decide +kernel

/-- Elements of the blocks. -/
theorem xAt (t : Fin cfg0.N) (j : S256x2048.Idx) : (iblk m c 0 t : S256x2048.Idx → EReal) j = cell (argX m c) (t.val % 16 * 256 + (j 0).val) (j 1).val := by
  have s := spot 256 2048 (j 0).val (j 1).val (index t).1
  exact at_cell (argX m c) _ s.1 (s.2.trans (by omega))

theorem dAt (t : Fin cfg0.N) (j : S256x2048.Idx) : (iblk m c 1 t : S256x2048.Idx → EReal) j = cell (argD m c) (t.val % 16 * 256 + (j 0).val) (j 1).val := by
  have s := spot 256 2048 (j 0).val (j 1).val (index t).2.1
  exact at_cell (argD m c) _ s.1 (s.2.trans (by omega))

theorem wAt (t : Fin cfg0.N) (q : Fin 2048) : (iblk m c 2 t : S1x2048.Idx → EReal) (ix2 0 q) = cell1 (argW m c) q.val := by
  have s := spot 1 2048 0 q.val (index t).2.2.1
  have h (v : S2048.Idx → EReal) (i : S1x2048.Idx) : (broadcastInDim S1x2048 ![1] bcast_S2048_S1x2048_1 v : S1x2048.Idx → EReal) i = v (ix1 (i 1)) := by
    pointwise []
  refine (congrFun (vector m c) _).trans ((h _ _).trans ((at_cell1 (argW m c) _).trans (congrArg (cell1 (argW m c)) ?_)))
  exact s.2.trans (by omega)

/-- The functions of a row and a column that the two results are made of. -/
def dx (a b : ℕ) : EReal :=
  ofNorm (line (argX m c) a) (line (argD m c) a) (fun k => cell1 (argW m c) k.val) (cell (argX m c) a b) (cell (argD m c) a b) (cell1 (argW m c) b)
def scaled (b a : ℕ) : EReal := cell (argX m c) a b * Ideal.rsqrt (meanSq (line (argX m c) a))

/-- The tile of the input's gradient, and what a tile adds to the vector's. -/
theorem tile (t : Fin cfg0.N) (j : S256x2048.Idx) : k0_pay6 (F := Ideal) (iblk m c 0 t) (iblk m c 1 t) (iblk m c 2 t) j
    = dx m c (t.val % 16 * 256 + (j 0).val) (j 1).val := by
  have e (x : Vec Ideal S256x2048 .f32) (d : Vec Ideal S256x2048 .bf16) (w : Vec Ideal S1x2048 .f32) : k0_pay6 (F := Ideal) x d w j
      = ofNorm (fun k => x (ix2 (j 0) k)) (fun k => d (ix2 (j 0) k)) (fun k => w (ix2 0 k)) (x j) (d j) (w (ix2 0 (j 1))) := by
    pointwise [k0_pay6, k0_pay5, k0_pay4, k0_pay3, k0_pay2]
    rfl
  exact (e _ _ _).trans (ofNorm_congr (funext fun k => xAt m c t (ix2 (j 0) k)) (funext fun k => dAt m c t (ix2 (j 0) k)) (funext fun k => wAt m c t k)
    (xAt m c t j) (dAt m c t j) (wAt m c t (j 1)))

theorem adds (t : Fin cfg0.N) (j : S1x2048.Idx) : k0_pay5 (F := Ideal) (iblk m c 0 t) (iblk m c 1 t) j
    = part 256 (t.val % 16) (scaled m c) (cell (argD m c)) (j 1).val (j 1).val := by
  have e (x : Vec Ideal S256x2048 .f32) (d : Vec Ideal S256x2048 .bf16) : k0_pay5 (F := Ideal) x d j
      = ∑ r : Fin 256, x (ix2 r (j 1)) * Ideal.rsqrt (meanSq fun k => x (ix2 r k)) * d (ix2 r (j 1)) := by
    pointwise [k0_pay6, k0_pay5, k0_pay4, k0_pay3, k0_pay2]
    rfl
  rw [e]
  refine sum_fin _ _ fun r => congrArg₂ (· * ·) (congrArg₂ (fun u v => u * Ideal.rsqrt (meanSq v)) (xAt m c t (ix2 r (j 1))) ?_) (dAt m c t (ix2 r (j 1)))
  exact funext fun k => xAt m c t (ix2 r k)

/-- What the points hold. -/
theorem held (t : Fin cfg0.N) (j : S256x2048.Idx) : (outsAt0 m c t.val t.isLt).1 j = dx m c (t.val % 16 * 256 + (j 0).val) (j 1).val := by
  have hN := lt_of_lt_of_eq t.isLt N_0
  by_cases h : t.val % 16 = 0
  · rw [outsAt0_A m c t h (by omega)]; dsimp only; frame_out; exact tile m c t j
  · rw [outsAt0_B m c t h (by omega)]; dsimp only; frame_out; exact tile m c t j

theorem heldVector (t : Fin cfg0.N) (h : t.val % 16 = 15) (j : S1x2048.Idx) : (outsAt0 m c t.val t.isLt).2 j
    = prod 4096 (scaled m c) (cell (argD m c)) (j 1).val (j 1).val :=
  accumulated (fun n h => (outsAt0 m c n h).2) 16 256 _ _ (fun _ j => (j 1).val) (fun _ j => (j 1).val)
    (fun t h j => by
      have hN := lt_of_lt_of_eq t.isLt N_0
      rw [outsAt0_A m c t h (by omega)]; dsimp only; frame_out; rw [zero_add]; exact adds m c t j)
    (fun t h j => by
      rw [outsAt0_B m c t h (by omega)]; dsimp only; frame_out; pointwise [k0_pay1]; exact congrArg _ (adds m c t j))
    t (by omega) j

/-- The two results. -/
abbrev GX : S4096x2048.Idx → EReal := fun i => dx m c (i 0).val (i 1).val
abbrev GW : S1x2048.Idx → EReal := fun i => prod 4096 (scaled m c) (cell (argD m c)) (i 1).val (i 1).val

theorem result_dx : (dats m 0 c).arrAt 3 cfg0.N = GX m c := by
  refine (dats m 0 c).arrAt_eq_of_covers 3 (GX m c) (by decide +kernel) fun t hf y => ?_
  have e := spot 256 2048 (y 0).val (y 1).val (index t).2.2.2.1
  exact (congrFun (after0_3 m c t) _).trans ((held m c t _).trans (congrArg₂ (dx m c) e.1.symm (e.2.trans (show 0 * 2048 + (y 1).val = (y 1).val by omega)).symm))

theorem result_dw : (dats m 0 c).arrAt 4 cfg0.N = GW m c := by
  refine (dats m 0 c).arrAt_eq_of_covers 4 (GW m c) (by decide +kernel) fun t hf y => ?_
  have e := spot 1 2048 (y 0).val (y 1).val (index t).2.2.2.2
  refine (congrFun (after0_4 m c t) _).trans ((heldVector m c t ((flush0_4 t).mp hf) _).trans ?_)
  exact congrArg (fun b => prod 4096 (scaled m c) (cell (argD m c)) b b) (e.2.trans (show 0 * 2048 + (y 1).val = (y 1).val by omega)).symm

/-- The reference's two gradients. -/
theorem reference_dx (x : S4096x2048.Idx → EReal) (w : S2048.Idx → EReal) (d : S4096x2048.Idx → EReal) (i : S4096x2048.Idx) :
    Cert.Reference41Ideal.Read.val_main_v36 (F := Ideal) x w d i = ofNorm (line x (i 0).val) (line d (i 0).val) (fun k => cell1 w k.val)
      (cell x (i 0).val (i 1).val) (cell d (i 0).val (i 1).val) (cell1 w (i 1).val) := by
  have lx : line x (i 0).val = fun k => x (ix2 (i 0) k) := funext fun k => (at_cell x (ix2 (i 0) k) rfl rfl).symm
  have ld : line d (i 0).val = fun k => d (ix2 (i 0) k) := funext fun k => (at_cell d (ix2 (i 0) k) rfl rfl).symm
  rw [lx, ld, ← at_cell x i rfl rfl, ← at_cell d i rfl rfl, ← at_cell1 w (i 1), funext fun k => (at_cell1 w k).symm]
  open Cert.Reference41Ideal.Read in
  pointwise [val_main_v0, val_main_cst, val_main_v1, val_main_v2, val_main_cst_0, val_main_v3, val_main_v4, val_main_cst_1, val_main_v5, val_main_v6,
      val_main_v7, val_main_v8, val_main_cst_2, val_main_v9, val_main_v10, val_main_v11, val_main_v12, val_main_v13, val_main_v14, val_main_v15,
      val_main_v16, val_main_v17, val_main_cst_3, val_main_v18, val_main_v19, val_main_v20, val_main_v21, val_main_cst_4, val_main_v22, val_main_v23,
      val_main_cst_5, val_main_v24, val_main_v25, val_main_v26, val_main_v27, val_main_v28, val_main_cst_6, val_main_v29, val_main_v30,
      val_main_cst_7, val_main_v31, val_main_v32, val_main_v33, val_main_v34, val_main_v35, val_main_v36, val_main_v37]
  rfl

theorem reference_dw (x d : S4096x2048.Idx → EReal) (i : S1x2048.Idx) : Cert.Reference41Ideal.Read.val_main_v37 (F := Ideal) x d i
    = prod 4096 (fun b a => cell x a b * Ideal.rsqrt (meanSq (line x a))) (cell d) (i 1).val (i 1).val := by
  have e : ∑ _z : Fin 1, ∑ r : Fin 4096, x (ix2 r (i 1)) * Ideal.rsqrt (meanSq fun k => x (ix2 r k)) * d (ix2 r (i 1))
      = prod 4096 (fun b a => cell x a b * Ideal.rsqrt (meanSq (line x a))) (cell d) (i 1).val (i 1).val := by
    refine (Fin.sum_univ_one _).trans (sum_fin _ _ fun r => congrArg₂ (· * ·) (congrArg₂ (fun u v => u * Ideal.rsqrt (meanSq v)) (at_cell x _ rfl rfl) ?_)
      (at_cell d _ rfl rfl))
    exact funext fun k => at_cell x _ rfl rfl
  refine Eq.trans ?_ e
  open Cert.Reference41Ideal.Read in
  pointwise [val_main_v0, val_main_cst, val_main_v1, val_main_v2, val_main_cst_0, val_main_v3, val_main_v4, val_main_cst_1, val_main_v5, val_main_v6,
      val_main_v7, val_main_v8, val_main_cst_2, val_main_v9, val_main_v10, val_main_v11, val_main_v12, val_main_v13, val_main_v14, val_main_v15,
      val_main_v16, val_main_v17, val_main_cst_3, val_main_v18, val_main_v19, val_main_v20, val_main_v21, val_main_cst_4, val_main_v22, val_main_v23,
      val_main_cst_5, val_main_v24, val_main_v25, val_main_v26, val_main_v27, val_main_v28, val_main_cst_6, val_main_v29, val_main_v30,
      val_main_cst_7, val_main_v31, val_main_v32, val_main_v33, val_main_v34, val_main_v35, val_main_v36, val_main_v37]
  rfl

theorem algebraic : Cert.algebraic_Kernel41Ideal_Reference41Ideal := by
  intro m g m' g' _ hagree
  refine ⟨fun c => GX m c, fun c => GW m c,
    (θ_run _ _ _).mono (fun r h c => ⟨(Value.post3 m r h c).trans (result_dx m c), (Value.post4 m r h c).trans (result_dw m c),
      Value.kept_main_arg0 m r h c, Value.kept_main_arg1 m r h c, Value.kept_main_arg2 m r h c⟩) (run_main m g),
    (θ_run _ _ _).mono (fun r h c => ⟨(h c).1.trans ?_, (h c).2.1.trans ?_, (h c).2.2⟩) (Cert.Reference41Ideal.Value.run m' g')⟩
  · obtain ⟨e0, e1, e2⟩ := hagree c
    refine (Cert.Reference41Ideal.Read.val_main_v36_eq _ _ _).trans ?_
    rw [e0, e1, e2]
    exact funext (reference_dx _ _ _)
  · obtain ⟨e0, -, e2⟩ := hagree c
    refine (Cert.Reference41Ideal.Read.val_main_v37_eq _ _).trans ?_
    rw [e0, e2]
    exact funext (reference_dw _ _)

end Norm

/-! ### The activation after a bias -/

namespace Silu

open Cert.Kernel45Ideal Cert.Kernel45Ideal.Gen

theorem kernel : Cert.quiescent_Kernel45 := fun m ρ _ => Cert.Kernel45.Gen.frame m ρ
theorem kernelIdeal : Cert.quiescent_Kernel45Ideal := fun m ρ _ => Cert.Kernel45Ideal.Gen.frame m ρ
theorem reference : Cert.quiescent_Reference45Ideal := fun m ρ _ =>
  (θ_run Cert.Reference45Ideal.defs _ _).mono (fun r h => ⟨fun c => (h c).2.2, sem_eq_zero_of_no_sems (by decide) r.2⟩)
    (Cert.Reference45Ideal.Value.run (F := Ideal) m ρ)

variable (m : (ℓ : Loc nD τ sig) → Buf (Elt Ideal) ℓ) (c : Dev nD)

/-- The input, the shared vector and the incoming gradient. -/
abbrev argX : S4096x6144.Idx → EReal := m ((c.tc : Thread nD τ).loc main_arg0)
abbrev argW : S6144.Idx → EReal := m ((c.tc : Thread nD τ).loc main_arg1)
abbrev argD : S4096x6144.Idx → EReal := m ((c.tc : Thread nD τ).loc main_arg2)

/-- The shared vector as one row, as the call is handed it. -/
theorem vector : (V m c main_v0 : S1x6144.Idx → EReal) = broadcastInDim S1x6144 ![1] bcast_S6144_S1x6144_1 (argW m c) := by
  unfold V
  simp only [hostOps0, List.flatten_cons, List.flatten_nil, List.append_nil, List.cons_append, List.nil_append]
  after_results
  all_goals rfl

/-- Where the blocks of a grid point sit. -/
theorem index : ∀ t : Fin cfg0.N, win0_0.index t = ![t.val % 16, 0] ∧ win0_1.index t = ![t.val % 16, 0] ∧ win0_2.index t = ![0, 0]
    ∧ win0_3.index t = ![t.val % 16, 0] ∧ win0_4.index t = ![0, 0] := by
  decide +kernel

/-- Elements of the blocks. -/
theorem xAt (t : Fin cfg0.N) (j : S256x6144.Idx) : (iblk m c 0 t : S256x6144.Idx → EReal) j = cell (argX m c) (t.val % 16 * 256 + (j 0).val) (j 1).val := by
  have s := spot 256 6144 (j 0).val (j 1).val (index t).1
  exact at_cell (argX m c) _ s.1 (s.2.trans (by omega))

theorem dAt (t : Fin cfg0.N) (j : S256x6144.Idx) : (iblk m c 1 t : S256x6144.Idx → EReal) j = cell (argD m c) (t.val % 16 * 256 + (j 0).val) (j 1).val := by
  have s := spot 256 6144 (j 0).val (j 1).val (index t).2.1
  exact at_cell (argD m c) _ s.1 (s.2.trans (by omega))

theorem wAt (t : Fin cfg0.N) (q : Fin 6144) : (iblk m c 2 t : S1x6144.Idx → EReal) (ix2 0 q) = cell1 (argW m c) q.val := by
  have s := spot 1 6144 0 q.val (index t).2.2.1
  have h (v : S6144.Idx → EReal) (i : S1x6144.Idx) : (broadcastInDim S1x6144 ![1] bcast_S6144_S1x6144_1 v : S1x6144.Idx → EReal) i = v (ix1 (i 1)) := by
    pointwise []
  refine (congrFun (vector m c) _).trans ((h _ _).trans ((at_cell1 (argW m c) _).trans (congrArg (cell1 (argW m c)) ?_)))
  exact s.2.trans (by omega)

/-- The function of a row and a column that the two results are made of. -/
def dx (a b : ℕ) : EReal := ofSilu (cell (argX m c) a b + cell1 (argW m c) b) (cell (argD m c) a b)

/-- The tile of the input's gradient, and what a tile adds to the vector's. -/
theorem tile (t : Fin cfg0.N) (j : S256x6144.Idx) : k0_pay5 (F := Ideal) (iblk m c 0 t) (iblk m c 1 t) (iblk m c 2 t) j
    = dx m c (t.val % 16 * 256 + (j 0).val) (j 1).val := by
  have e (x d : Vec Ideal S256x6144 .f32) (w : Vec Ideal S1x6144 .f32) : k0_pay5 (F := Ideal) x d w j
      = ofSilu (x j + w (ix2 0 (j 1))) (d j) := by
    pointwise [k0_pay1, k0_pay2, k0_pay3, k0_pay4, k0_pay5, k0_pay6, k0_pay7]
    rfl
  exact (e _ _ _).trans (congrArg₂ ofSilu (congrArg₂ (· + ·) (xAt m c t j) (wAt m c t (j 1))) (dAt m c t j))

theorem adds (t : Fin cfg0.N) (j : S1x6144.Idx) : k0_pay6 (F := Ideal) (iblk m c 0 t) (iblk m c 1 t) (iblk m c 2 t) j
    = part 256 (t.val % 16) (fun b a => dx m c a b) (fun _ _ => 1) (j 1).val (j 1).val := by
  have e (x d : Vec Ideal S256x6144 .f32) (w : Vec Ideal S1x6144 .f32) : k0_pay6 (F := Ideal) x d w j
      = ∑ r : Fin 256, ofSilu (x (ix2 r (j 1)) + w (ix2 0 (j 1))) (d (ix2 r (j 1))) := by
    unfold ofSilu
    refine Eq.trans ?_ Finset.sum_add_distrib.symm
    pointwise [k0_pay1, k0_pay2, k0_pay3, k0_pay4, k0_pay5, k0_pay6, k0_pay7]
  refine (e _ _ _).trans (sum_fin _ _ fun r => Eq.trans ?_ (mul_one _).symm)
  exact congrArg₂ ofSilu (congrArg₂ (· + ·) (xAt m c t (ix2 r (j 1))) (wAt m c t (j 1))) (dAt m c t (ix2 r (j 1)))

theorem again (x d : Vec Ideal S256x6144 .f32) (w : Vec Ideal S1x6144 .f32) (a : Vec Ideal S1x6144 .f32) (j : S1x6144.Idx) :
    k0_pay7 (F := Ideal) x d w a j = a j + k0_pay6 x d w j := by
  pointwise [k0_pay1, k0_pay2, k0_pay3, k0_pay4, k0_pay5, k0_pay6, k0_pay7]

/-- What the points hold. -/
theorem held (t : Fin cfg0.N) (j : S256x6144.Idx) : (outsAt0 m c t.val t.isLt).1 j = dx m c (t.val % 16 * 256 + (j 0).val) (j 1).val := by
  have hN := lt_of_lt_of_eq t.isLt N_0
  by_cases h : t.val % 16 = 0
  · rw [outsAt0_A m c t h (by omega)]; dsimp only; frame_out; exact tile m c t j
  · rw [outsAt0_B m c t h (by omega)]; dsimp only; frame_out; exact tile m c t j

theorem heldVector (t : Fin cfg0.N) (h : t.val % 16 = 15) (j : S1x6144.Idx) : (outsAt0 m c t.val t.isLt).2 j
    = prod 4096 (fun b a => dx m c a b) (fun _ _ => 1) (j 1).val (j 1).val :=
  accumulated (fun n h => (outsAt0 m c n h).2) 16 256 _ _ (fun _ j => (j 1).val) (fun _ j => (j 1).val)
    (fun t h j => by
      have hN := lt_of_lt_of_eq t.isLt N_0
      rw [outsAt0_A m c t h (by omega)]; dsimp only; frame_out; rw [zero_add]; exact adds m c t j)
    (fun t h j => by
      rw [outsAt0_B m c t h (by omega)]; dsimp only; frame_out; exact (again _ _ _ _ _).trans (congrArg _ (adds m c t j)))
    t (by omega) j

/-- The two results. -/
abbrev GX : S4096x6144.Idx → EReal := fun i => dx m c (i 0).val (i 1).val
abbrev GW : S1x6144.Idx → EReal := fun i => prod 4096 (fun b a => dx m c a b) (fun _ _ => 1) (i 1).val (i 1).val

theorem result_dx : (dats m 0 c).arrAt 3 cfg0.N = GX m c := by
  refine (dats m 0 c).arrAt_eq_of_covers 3 (GX m c) (by decide +kernel) fun t hf y => ?_
  have e := spot 256 6144 (y 0).val (y 1).val (index t).2.2.2.1
  exact (congrFun (after0_3 m c t) _).trans ((held m c t _).trans (congrArg₂ (dx m c) e.1.symm (e.2.trans (show 0 * 6144 + (y 1).val = (y 1).val by omega)).symm))

theorem result_dw : (dats m 0 c).arrAt 4 cfg0.N = GW m c := by
  refine (dats m 0 c).arrAt_eq_of_covers 4 (GW m c) (by decide +kernel) fun t hf y => ?_
  have e := spot 1 6144 (y 0).val (y 1).val (index t).2.2.2.2
  refine (congrFun (after0_4 m c t) _).trans ((heldVector m c t ((flush0_4 t).mp hf) _).trans ?_)
  exact congrArg (fun b => prod 4096 (fun b a => dx m c a b) (fun _ _ => 1) b b) (e.2.trans (show 0 * 6144 + (y 1).val = (y 1).val by omega)).symm

/-- The reference's two gradients. -/
theorem reference_dx (x : S4096x6144.Idx → EReal) (w : S6144.Idx → EReal) (d : S4096x6144.Idx → EReal) (i : S4096x6144.Idx) :
    Cert.Reference45Ideal.Read.val_main_v4 (F := Ideal) x w d i = ofSilu (cell x (i 0).val (i 1).val + cell1 w (i 1).val) (cell d (i 0).val (i 1).val) := by
  rw [← at_cell x i rfl rfl, ← at_cell d i rfl rfl, ← at_cell1 w (i 1)]
  refine Eq.trans ?_ (add_comm _ _)
  open Cert.Reference45Ideal.Read in
  pointwise [val_main_v0, val_main_v1, val_main_v2, val_main_call0_v0, val_main_call0_v1, val_main_call0_cst, val_main_call0_v2, val_main_call0_v3,
      val_main_call0_cst_0, val_main_call0_v4, val_main_v3_2, val_main_call0_cst_1, val_main_call0_v6, val_main_call0_v7, val_main_v3_1,
      val_main_v3_0, val_main_call1_v0, val_main_call1_v1, val_main_call1_v2, val_main_v4, val_main_cst, val_main_v5, val_main_v6, val_main_cst_0,
      val_main_v7, val_main_v8]
  rfl

theorem reference_dw (x : S4096x6144.Idx → EReal) (w : S6144.Idx → EReal) (d : S4096x6144.Idx → EReal) (i : S1x6144.Idx) : Cert.Reference45Ideal.Read.val_main_v8 (F := Ideal) x w d i
    = prod 4096 (fun b a => ofSilu (cell x a b + cell1 w b) (cell d a b)) (fun _ _ => 1) (i 1).val (i 1).val := by
  have e : ∑ _z : Fin 1, ∑ r : Fin 4096, (d (ix2 r (i 1)) * Ideal.logistic (x (ix2 r (i 1)) + w (ix1 (i 1)))
        + (x (ix2 r (i 1)) + w (ix1 (i 1))) * d (ix2 r (i 1)) * (Ideal.logistic (x (ix2 r (i 1)) + w (ix1 (i 1))) * (1 - Ideal.logistic (x (ix2 r (i 1)) + w (ix1 (i 1))))))
      = prod 4096 (fun b a => ofSilu (cell x a b + cell1 w b) (cell d a b)) (fun _ _ => 1) (i 1).val (i 1).val := by
    refine (Fin.sum_univ_one _).trans (sum_fin _ _ fun r => (add_comm _ _).trans (Eq.trans ?_ (mul_one _).symm))
    rw [at_cell1 w (i 1)]
    exact congrArg₂ (fun u v => ofSilu (u + cell1 w (i 1).val) v) (at_cell x (ix2 r (i 1)) rfl rfl) (at_cell d (ix2 r (i 1)) rfl rfl)
  refine Eq.trans ?_ e
  open Cert.Reference45Ideal.Read in
  pointwise [val_main_v0, val_main_v1, val_main_v2, val_main_call0_v0, val_main_call0_v1, val_main_call0_cst, val_main_call0_v2, val_main_call0_v3,
      val_main_call0_cst_0, val_main_call0_v4, val_main_v3_2, val_main_call0_cst_1, val_main_call0_v6, val_main_call0_v7, val_main_v3_1,
      val_main_v3_0, val_main_call1_v0, val_main_call1_v1, val_main_call1_v2, val_main_v4, val_main_cst, val_main_v5, val_main_v6, val_main_cst_0,
      val_main_v7, val_main_v8]
  rfl

theorem algebraic : Cert.algebraic_Kernel45Ideal_Reference45Ideal := by
  intro m g m' g' _ hagree
  refine ⟨fun c => GX m c, fun c => GW m c,
    (θ_run _ _ _).mono (fun r h c => ⟨(Value.post3 m r h c).trans (result_dx m c), (Value.post4 m r h c).trans (result_dw m c),
      Value.kept_main_arg0 m r h c, Value.kept_main_arg1 m r h c, Value.kept_main_arg2 m r h c⟩) (run_main m g),
    (θ_run _ _ _).mono (fun r h c => ⟨(h c).1.trans ?_, (h c).2.1.trans ?_, (h c).2.2⟩) (Cert.Reference45Ideal.Value.run m' g')⟩
  · obtain ⟨e0, e1, e2⟩ := hagree c
    refine (Cert.Reference45Ideal.Read.val_main_v4_eq _ _ _).trans ?_
    rw [e0, e1, e2]
    exact funext (reference_dx _ _ _)
  · obtain ⟨e0, e1, e2⟩ := hagree c
    refine (Cert.Reference45Ideal.Read.val_main_v8_eq _ _ _).trans ?_
    rw [e0, e1, e2]
    exact funext (reference_dw _ _ _)

end Silu

end Cert.Rows

end
-- ==== Proof.lean ====
/-
  The certificate: the frames of the calls, the named constants of the attention's, and what each call computes.
-/
module

public import proofs.«01_k».proof.Defs
public import proofs.«01_k».proof.Proof.Frames
public import proofs.«01_k».proof.Proof.DqValue
public import proofs.«01_k».proof.Proof.DkvValue
public import proofs.«01_k».proof.Proof.FwdValue
public import proofs.«01_k».proof.Proof.Down
public import proofs.«01_k».proof.Proof.Up
public import proofs.«01_k».proof.Proof.Xbc
public import proofs.«01_k».proof.Proof.Z
public import proofs.«01_k».proof.Proof.SsmOut
public import proofs.«01_k».proof.Proof.Square
public import proofs.«01_k».proof.Proof.Gate
public import proofs.«01_k».proof.Proof.Conv
public import proofs.«01_k».proof.Proof.Cq
public import proofs.«01_k».proof.Proof.Kd
public import proofs.«01_k».proof.Proof.Uq
public import proofs.«01_k».proof.Proof.Ukv
public import proofs.«01_k».proof.Proof.Ple
public import proofs.«01_k».proof.Proof.Gates
public import proofs.«01_k».proof.Proof.Rows

@[expose] public section

noncomputable section

namespace Cert.Proof

/-- All claims of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.Kernel39.Gen.facts, Cert.Kernel39Ideal.Gen.facts, Cert.Reference39Ideal.Gen.facts,
    Cert.Kernel40.Gen.facts, Cert.Kernel40Ideal.Gen.facts, Cert.Reference40Ideal.Gen.facts,
    Cert.Kernel41.Gen.facts, Cert.Kernel41Ideal.Gen.facts, Cert.Reference41Ideal.Gen.facts,
    Cert.Kernel42.Gen.facts, Cert.Kernel42Ideal.Gen.facts, Cert.Reference42Ideal.Gen.facts,
    Cert.Kernel43.Gen.facts, Cert.Kernel43Ideal.Gen.facts, Cert.Reference43Ideal.Gen.facts,
    Cert.Kernel44.Gen.facts, Cert.Kernel44Ideal.Gen.facts, Cert.Reference44Ideal.Gen.facts,
    Cert.Kernel45.Gen.facts, Cert.Kernel45Ideal.Gen.facts, Cert.Reference45Ideal.Gen.facts,
    Frames.facts_finite4, Frames.facts_finite3,
    Frames.kernel, Frames.kernelIdeal, Frames.kernelIdeal_pre, Frames.reference, Frames.reference_pre,
    Frames.kernel2, Frames.kernel2Ideal, Frames.kernel2Ideal_pre, Frames.reference2, Frames.reference2_pre,
    Frames.kernel3, Frames.kernel3Ideal, Frames.kernel3Ideal_pre, Frames.reference3, Frames.reference3_pre,
    Down.Da.kernel, Down.Da.kernelIdeal, Down.Da.reference,
    Down.Dw.kernel, Down.Dw.kernelIdeal, Down.Dw.reference,
    Up.Da.kernel, Up.Da.kernelIdeal, Up.Da.reference,
    Up.Dw.kernel, Up.Dw.kernelIdeal, Up.Dw.reference,
    Xbc.Da.kernel, Xbc.Da.kernelIdeal, Xbc.Da.reference,
    Xbc.Dw.kernel, Xbc.Dw.kernelIdeal, Xbc.Dw.reference,
    Z.Da.kernel, Z.Da.kernelIdeal, Z.Da.reference,
    Z.Dw.kernel, Z.Dw.kernelIdeal, Z.Dw.reference,
    SsmOut.Da.kernel, SsmOut.Da.kernelIdeal, SsmOut.Da.reference,
    SsmOut.Dw.kernel, SsmOut.Dw.kernelIdeal, SsmOut.Dw.reference,
    Square.Da.kernel, Square.Da.kernelIdeal, Square.Da.reference,
    Square.Dw.kernel, Square.Dw.kernelIdeal, Square.Dw.reference,
    Gate.Da.kernel, Gate.Da.kernelIdeal, Gate.Da.reference,
    Gate.Dw.kernel, Gate.Dw.kernelIdeal, Gate.Dw.reference,
    Down.Fwd.kernel, Down.Fwd.kernelIdeal, Down.Fwd.reference,
    Up.Fwd.kernel, Up.Fwd.kernelIdeal, Up.Fwd.reference,
    Xbc.Fwd.kernel, Xbc.Fwd.kernelIdeal, Xbc.Fwd.reference,
    Z.Fwd.kernel, Z.Fwd.kernelIdeal, Z.Fwd.reference,
    SsmOut.Fwd.kernel, SsmOut.Fwd.kernelIdeal, SsmOut.Fwd.reference,
    Square.Fwd.kernel, Square.Fwd.kernelIdeal, Square.Fwd.reference,
    Gate.Fwd.kernel, Gate.Fwd.kernelIdeal, Gate.Fwd.reference,
    Conv.Bwd.kernel, Conv.Bwd.kernelIdeal, Conv.Bwd.reference,
    Conv.Fwd.kernel, Conv.Fwd.kernelIdeal, Conv.Fwd.reference,
    Cq.Da.kernel, Cq.Da.kernelIdeal, Cq.Da.reference,
    Cq.Dw.kernel, Cq.Dw.kernelIdeal, Cq.Dw.reference,
    Cq.Fwd.kernel, Cq.Fwd.kernelIdeal, Cq.Fwd.reference,
    Kd.Da.kernel, Kd.Da.kernelIdeal, Kd.Da.reference,
    Kd.Dw.kernel, Kd.Dw.kernelIdeal, Kd.Dw.reference,
    Kd.Fwd.kernel, Kd.Fwd.kernelIdeal, Kd.Fwd.reference,
    Uq.Da.kernel, Uq.Da.kernelIdeal, Uq.Da.reference,
    Uq.Dw.kernel, Uq.Dw.kernelIdeal, Uq.Dw.reference,
    Uq.Fwd.kernel, Uq.Fwd.kernelIdeal, Uq.Fwd.reference,
    Ukv.Da.kernel, Ukv.Da.kernelIdeal, Ukv.Da.reference,
    Ukv.Dw.kernel, Ukv.Dw.kernelIdeal, Ukv.Dw.reference,
    Ukv.Fwd.kernel, Ukv.Fwd.kernelIdeal, Ukv.Fwd.reference,
    Ple.Dw.kernel, Ple.Dw.kernelIdeal, Ple.Dw.reference,
    Ple.Fwd.kernel, Ple.Fwd.kernelIdeal, Ple.Fwd.reference,
    Rows.Norm.kernel, Rows.Norm.kernelIdeal, Rows.Norm.reference,
    Gates.Merge.kernel, Gates.Merge.kernelIdeal, Gates.Merge.reference,
    Gates.Relu2.kernel, Gates.Relu2.kernelIdeal, Gates.Relu2.reference,
    Gates.PleAdd.kernel, Gates.PleAdd.kernelIdeal, Gates.PleAdd.reference,
    Rows.Silu.kernel, Rows.Silu.kernelIdeal, Rows.Silu.reference,
    Frames.preserves, DqValue.algebraic, Frames.preserves2, DkvValue.algebraic, Frames.preserves3, FwdValue.algebraic,
    trivial, Down.Da.algebraic,
    trivial, Down.Dw.algebraic,
    trivial, Up.Da.algebraic,
    trivial, Up.Dw.algebraic,
    trivial, Xbc.Da.algebraic,
    trivial, Xbc.Dw.algebraic,
    trivial, Z.Da.algebraic,
    trivial, Z.Dw.algebraic,
    trivial, SsmOut.Da.algebraic,
    trivial, SsmOut.Dw.algebraic,
    trivial, Square.Da.algebraic,
    trivial, Square.Dw.algebraic,
    trivial, Gate.Da.algebraic,
    trivial, Gate.Dw.algebraic,
    trivial, Down.Fwd.algebraic,
    trivial, Up.Fwd.algebraic,
    trivial, Xbc.Fwd.algebraic,
    trivial, Z.Fwd.algebraic,
    trivial, SsmOut.Fwd.algebraic,
    trivial, Square.Fwd.algebraic,
    trivial, Gate.Fwd.algebraic,
    trivial, Conv.Bwd.algebraic,
    trivial, Conv.Fwd.algebraic,
    trivial, Cq.Da.algebraic,
    trivial, Cq.Dw.algebraic,
    trivial, Cq.Fwd.algebraic,
    trivial, Kd.Da.algebraic,
    trivial, Kd.Dw.algebraic,
    trivial, Kd.Fwd.algebraic,
    trivial, Uq.Da.algebraic,
    trivial, Uq.Dw.algebraic,
    trivial, Uq.Fwd.algebraic,
    trivial, Ukv.Da.algebraic,
    trivial, Ukv.Dw.algebraic,
    trivial, Ukv.Fwd.algebraic,
    trivial, Ple.Dw.algebraic,
    trivial, Ple.Fwd.algebraic,
    trivial, Rows.Norm.algebraic,
    trivial, Gates.Merge.algebraic,
    trivial, Gates.Relu2.algebraic,
    trivial, Gates.PleAdd.algebraic,
    trivial, Rows.Silu.algebraic⟩

end Cert.Proof

end
